-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_image [hPre_finite_image : Cert.Pre_finite_image.Facts] (m : (ℓ : Loc Cert.KernelIdeal.nD Cert.KernelIdeal.τ Cert.KernelIdeal.sig) → Buf (Elt Ideal) ℓ) : Prop :=
  ∀ c : Dev Cert.KernelIdeal.nD,
    (Cert.Pre_finite_image.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_image [hPre_finite_image : Cert.Pre_finite_image.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_image.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_image [hKernelIdeal : Cert.KernelIdeal.Facts] [hPre_finite_image : Cert.Pre_finite_image.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_image m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_image [hReferenceIdeal : Cert.ReferenceIdeal.Facts] [hPre_finite_image : Cert.Pre_finite_image.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_image m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_image [hKernelIdeal : Cert.KernelIdeal.Facts] [hReferenceIdeal : Cert.ReferenceIdeal.Facts] [hPre_finite_image : Cert.Pre_finite_image.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_image m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v232)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v232) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_image : Cert.Pre_finite_image.Facts),
    quiescent_Kernel (hKernel := hKernel)
    ∧ quiescent_KernelIdeal (hKernelIdeal := hKernelIdeal)
    ∧ quiescent_KernelIdeal_pre_finite_image (hKernelIdeal := hKernelIdeal) (hPre_finite_image := hPre_finite_image)
    ∧ quiescent_ReferenceIdeal (hReferenceIdeal := hReferenceIdeal)
    ∧ quiescent_ReferenceIdeal_pre_finite_image (hReferenceIdeal := hReferenceIdeal) (hPre_finite_image := hPre_finite_image)
    ∧ preserves_Kernel_KernelIdeal
    ∧ algebraic_KernelIdeal_ReferenceIdeal_pre_finite_image (hKernelIdeal := hKernelIdeal) (hReferenceIdeal := hReferenceIdeal) (hPre_finite_image := hPre_finite_image)
-- ==== Pre_finite_image.lean ====
abbrev S64x3x512x512 : Shape := ⟨4, ![64, 3, 512, 512]⟩
abbrev S16x1x3 : Shape := ⟨3, ![16, 1, 3]⟩
abbrev S16 : Shape := ⟨1, ![16]⟩
abbrev S32x16x3 : Shape := ⟨3, ![32, 16, 3]⟩
abbrev S32 : Shape := ⟨1, ![32]⟩
abbrev S64x32x3 : Shape := ⟨3, ![64, 32, 3]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S16x1x3 .f32) (main_arg2 : FVec F S16 .f32) (main_arg3 : FVec F S32x16x3 .f32) (main_arg4 : FVec F S32 .f32) (main_arg5 : FVec F S64x32x3 .f32) (main_arg6 : FVec F S64 .f32) (main_arg7 : FVec F S1x64 .f32) (main_arg8 : FVec F S1 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S16x1x3 : Shape := ⟨3, ![16, 1, 3]⟩
abbrev S16 : Shape := ⟨1, ![16]⟩
abbrev S32x16x3 : Shape := ⟨3, ![32, 16, 3]⟩
abbrev S32 : Shape := ⟨1, ![32]⟩
abbrev S64x32x3 : Shape := ⟨3, ![64, 32, 3]⟩
abbrev S64 : Shape := ⟨1, ![64]⟩
abbrev S1x64 : Shape := ⟨2, ![1, 64]⟩
abbrev S1 : Shape := ⟨1, ![1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S512x256 : Shape := ⟨2, ![512, 256]⟩
abbrev S128x256 : Shape := ⟨2, ![128, 256]⟩
abbrev S12256 : Shape := ⟨1, ![12256]⟩
abbrev S8192x1 : Shape := ⟨2, ![8192, 1]⟩
abbrev S4096x1 : Shape := ⟨2, ![4096, 1]⟩
abbrev S64x256x256 : Shape := ⟨3, ![64, 256, 256]⟩
abbrev S1x3x512x512 : Shape := ⟨4, ![1, 3, 512, 512]⟩
abbrev S1x256x256 : Shape := ⟨3, ![1, 256, 256]⟩
abbrev S1x1x512x512 : Shape := ⟨4, ![1, 1, 512, 512]⟩
abbrev S512x512 : Shape := ⟨2, ![512, 512]⟩
abbrev S1x128x256 : Shape := ⟨3, ![1, 128, 256]⟩
abbrev S64x512 : Shape := ⟨2, ![64, 512]⟩
abbrev S64x256 : Shape := ⟨2, ![64, 256]⟩
abbrev S512 : Shape := ⟨1, ![512]⟩
abbrev S1x64x256 : Shape := ⟨3, ![1, 64, 256]⟩
abbrev S1x16 : Shape := ⟨2, ![1, 16]⟩
abbrev S1x512 : Shape := ⟨2, ![1, 512]⟩
abbrev S256x4096 : Shape := ⟨2, ![256, 4096]⟩
abbrev S48 : Shape := ⟨1, ![48]⟩
abbrev S12256x1 : Shape := ⟨2, ![12256, 1]⟩
abbrev S12256x2 : Shape := ⟨2, ![12256, 2]⟩
abbrev S16x256 : Shape := ⟨2, ![16, 256]⟩
abbrev S4096 : Shape := ⟨1, ![4096]⟩
abbrev S1x4096 : Shape := ⟨2, ![1, 4096]⟩
abbrev S64x4096 : Shape := ⟨2, ![64, 4096]⟩
abbrev S64x1 : Shape := ⟨2, ![64, 1]⟩
abbrev S64x16x128x2 : Shape := ⟨4, ![64, 16, 128, 2]⟩
abbrev S64x128x2x16 : Shape := ⟨4, ![64, 128, 2, 16]⟩
abbrev S8192x32 : Shape := ⟨2, ![8192, 32]⟩
abbrev S8194x32 : Shape := ⟨2, ![8194, 32]⟩
abbrev S32x16x1 : Shape := ⟨3, ![32, 16, 1]⟩
abbrev S32x16 : Shape := ⟨2, ![32, 16]⟩
abbrev S16x32 : Shape := ⟨2, ![16, 32]⟩
abbrev S1x32 : Shape := ⟨2, ![1, 32]⟩
abbrev S8192x16 : Shape := ⟨2, ![8192, 16]⟩
abbrev S64x64x2x32 : Shape := ⟨4, ![64, 64, 2, 32]⟩
abbrev S4096x64 : Shape := ⟨2, ![4096, 64]⟩
abbrev S4098x64 : Shape := ⟨2, ![4098, 64]⟩
abbrev S64x32x1 : Shape := ⟨3, ![64, 32, 1]⟩
abbrev S64x32 : Shape := ⟨2, ![64, 32]⟩
abbrev S32x64 : Shape := ⟨2, ![32, 64]⟩
abbrev S1x1 : Shape := ⟨2, ![1, 1]⟩
abbrev S4096x32 : Shape := ⟨2, ![4096, 32]⟩

abbrev nBuf : Table → Nat
  | .hbm => 334
  | .local .tc .vmem => 37
  | .local .scVector .vmem => 5
  | _ => 0

abbrev hbmTy0_0 (i : Nat) : BufTy := match i % 128 with
  | 0 => ⟨S64x3x512x512, .f32⟩
  | 1 => ⟨S16x1x3, .f32⟩
  | 2 => ⟨S16, .f32⟩
  | 3 => ⟨S32x16x3, .f32⟩
  | 4 => ⟨S32, .f32⟩
  | 5 => ⟨S64x32x3, .f32⟩
  | 6 => ⟨S64, .f32⟩
  | 7 => ⟨S1x64, .f32⟩
  | 8 => ⟨S1, .f32⟩
  | 9 => ⟨S256, .i32⟩
  | 10 => ⟨S256, .i32⟩
  | 11 => ⟨S256, .i32⟩
  | 12 => ⟨S256, .i32⟩
  | 13 => ⟨S256x1, .i32⟩
  | 14 => ⟨S256, .i32⟩
  | 15 => ⟨S1x256, .i32⟩
  | 16 => ⟨S256x256, .i32⟩
  | 17 => ⟨S256x256, .i32⟩
  | 18 => ⟨S256x256, .i32⟩
  | 19 => ⟨S_, .i32⟩
  | 20 => ⟨S256x256, .i32⟩
  | 21 => ⟨S_, .i32⟩
  | 22 => ⟨S256x256, .i32⟩
  | 23 => ⟨S256x256, .i32⟩
  | 24 => ⟨S256x256, .i32⟩
  | 25 => ⟨S256x256, .i1⟩
  | 26 => ⟨S256x256, .i32⟩
  | 27 => ⟨S_, .i32⟩
  | 28 => ⟨S256x256, .i32⟩
  | 29 => ⟨S256x256, .i32⟩
  | 30 => ⟨S256x256, .i32⟩
  | 31 => ⟨S256x256, .i1⟩
  | 32 => ⟨S256x256, .i32⟩
  | 33 => ⟨S_, .i32⟩
  | 34 => ⟨S256x256, .i32⟩
  | 35 => ⟨S256x256, .i32⟩
  | 36 => ⟨S256x256, .i32⟩
  | 37 => ⟨S256x256, .i1⟩
  | 38 => ⟨S256x256, .i32⟩
  | 39 => ⟨S_, .i32⟩
  | 40 => ⟨S256x256, .i32⟩
  | 41 => ⟨S256x256, .i32⟩
  | 42 => ⟨S256x256, .i32⟩
  | 43 => ⟨S256x256, .i1⟩
  | 44 => ⟨S256x256, .i32⟩
  | 45 => ⟨S_, .i32⟩
  | 46 => ⟨S256x256, .i32⟩
  | 47 => ⟨S256x256, .i32⟩
  | 48 => ⟨S256x256, .i32⟩
  | 49 => ⟨S256x256, .i1⟩
  | 50 => ⟨S256x256, .i32⟩
  | 51 => ⟨S_, .i32⟩
  | 52 => ⟨S256x256, .i32⟩
  | 53 => ⟨S256x256, .i32⟩
  | 54 => ⟨S256x256, .i32⟩
  | 55 => ⟨S256x256, .i1⟩
  | 56 => ⟨S256x256, .i32⟩
  | 57 => ⟨S_, .i32⟩
  | 58 => ⟨S256x256, .i32⟩
  | 59 => ⟨S256x256, .i32⟩
  | 60 => ⟨S256x256, .i32⟩
  | 61 => ⟨S256x256, .i1⟩
  | 62 => ⟨S256x256, .i32⟩
  | 63 => ⟨S_, .i32⟩
  | 64 => ⟨S256x256, .i32⟩
  | 65 => ⟨S256x256, .i32⟩
  | 66 => ⟨S256x256, .i32⟩
  | 67 => ⟨S256x256, .i1⟩
  | 68 => ⟨S256x256, .i32⟩
  | 69 => ⟨S_, .i32⟩
  | 70 => ⟨S256x256, .i32⟩
  | 71 => ⟨S256x256, .i32⟩
  | 72 => ⟨S256x256, .i32⟩
  | 73 => ⟨S256x256, .i1⟩
  | 74 => ⟨S256x256, .i32⟩
  | 75 => ⟨S256, .f32⟩
  | 76 => ⟨S_, .f32⟩
  | 77 => ⟨S256, .f32⟩
  | 78 => ⟨S256, .f32⟩
  | 79 => ⟨S1x256, .f32⟩
  | 80 => ⟨S_, .f32⟩
  | 81 => ⟨S_, .f32⟩
  | 82 => ⟨S_, .f32⟩
  | 83 => ⟨S512x256, .i32⟩
  | 84 => ⟨S1x256, .i32⟩
  | 85 => ⟨S512x256, .i32⟩
  | 86 => ⟨S512x256, .i32⟩
  | 87 => ⟨S_, .i32⟩
  | 88 => ⟨S512x256, .i32⟩
  | 89 => ⟨S512x256, .i32⟩
  | 90 => ⟨S_, .f32⟩
  | 91 => ⟨S_, .f32⟩
  | 92 => ⟨S_, .f32⟩
  | 93 => ⟨S_, .f32⟩
  | 94 => ⟨S512x256, .f32⟩
  | 95 => ⟨S512x256, .f32⟩
  | 96 => ⟨S512x256, .f32⟩
  | 97 => ⟨S512x256, .f32⟩
  | 98 => ⟨S_, .f32⟩
  | 99 => ⟨S512x256, .f32⟩
  | 100 => ⟨S512x256, .f32⟩
  | 101 => ⟨S512x256, .f32⟩
  | 102 => ⟨S512x256, .f32⟩
  | 103 => ⟨S_, .f32⟩
  | 104 => ⟨S512x256, .f32⟩
  | 105 => ⟨S512x256, .f32⟩
  | 106 => ⟨S256x256, .i32⟩
  | 107 => ⟨S256x256, .i32⟩
  | 108 => ⟨S256x256, .i32⟩
  | 109 => ⟨S_, .i32⟩
  | 110 => ⟨S256x256, .i32⟩
  | 111 => ⟨S256x256, .i32⟩
  | 112 => ⟨S_, .f32⟩
  | 113 => ⟨S_, .f32⟩
  | 114 => ⟨S_, .f32⟩
  | 115 => ⟨S_, .f32⟩
  | 116 => ⟨S256x256, .f32⟩
  | 117 => ⟨S256x256, .f32⟩
  | 118 => ⟨S256x256, .f32⟩
  | 119 => ⟨S256x256, .f32⟩
  | 120 => ⟨S_, .f32⟩
  | 121 => ⟨S256x256, .f32⟩
  | 122 => ⟨S256x256, .f32⟩
  | 123 => ⟨S256x256, .f32⟩
  | 124 => ⟨S256x256, .f32⟩
  | 125 => ⟨S_, .f32⟩
  | 126 => ⟨S256x256, .f32⟩
  | 127 => ⟨S256x256, .f32⟩
  | _ => ⟨S64x3x512x512, .f32⟩

abbrev hbmTy0_1 (i : Nat) : BufTy := match i % 128 with
  | 0 => ⟨S256x256, .i32⟩
  | 1 => ⟨S256x256, .f32⟩
  | 2 => ⟨S_, .f32⟩
  | 3 => ⟨S_, .f32⟩
  | 4 => ⟨S256x256, .f32⟩
  | 5 => ⟨S256x256, .f32⟩
  | 6 => ⟨S_, .f32⟩
  | 7 => ⟨S256x256, .f32⟩
  | 8 => ⟨S256x256, .f32⟩
  | 9 => ⟨S256x256, .f32⟩
  | 10 => ⟨S_, .f32⟩
  | 11 => ⟨S_, .f32⟩
  | 12 => ⟨S256x256, .f32⟩
  | 13 => ⟨S256x256, .f32⟩
  | 14 => ⟨S_, .f32⟩
  | 15 => ⟨S256x256, .f32⟩
  | 16 => ⟨S256x256, .f32⟩
  | 17 => ⟨S256x256, .f32⟩
  | 18 => ⟨S256x256, .f32⟩
  | 19 => ⟨S_, .i32⟩
  | 20 => ⟨S256, .i32⟩
  | 21 => ⟨S256, .i1⟩
  | 22 => ⟨S_, .f32⟩
  | 23 => ⟨S_, .f32⟩
  | 24 => ⟨S256, .f32⟩
  | 25 => ⟨S256, .f32⟩
  | 26 => ⟨S256, .f32⟩
  | 27 => ⟨S1x256, .f32⟩
  | 28 => ⟨S128x256, .i32⟩
  | 29 => ⟨S128x256, .i32⟩
  | 30 => ⟨S128x256, .i1⟩
  | 31 => ⟨S_, .i32⟩
  | 32 => ⟨S128x256, .i32⟩
  | 33 => ⟨S128x256, .i1⟩
  | 34 => ⟨S_, .i32⟩
  | 35 => ⟨S128x256, .i32⟩
  | 36 => ⟨S128x256, .i32⟩
  | 37 => ⟨S128x256, .i1⟩
  | 38 => ⟨S128x256, .i1⟩
  | 39 => ⟨S128x256, .i1⟩
  | 40 => ⟨S_, .f32⟩
  | 41 => ⟨S_, .f32⟩
  | 42 => ⟨S128x256, .f32⟩
  | 43 => ⟨S128x256, .f32⟩
  | 44 => ⟨S128x256, .f32⟩
  | 45 => ⟨S128x256, .i1⟩
  | 46 => ⟨S_, .i32⟩
  | 47 => ⟨S128x256, .i32⟩
  | 48 => ⟨S128x256, .i32⟩
  | 49 => ⟨S128x256, .i1⟩
  | 50 => ⟨S128x256, .i1⟩
  | 51 => ⟨S_, .f32⟩
  | 52 => ⟨S_, .f32⟩
  | 53 => ⟨S128x256, .f32⟩
  | 54 => ⟨S128x256, .f32⟩
  | 55 => ⟨S128x256, .f32⟩
  | 56 => ⟨S12256, .i32⟩
  | 57 => ⟨S_, .i32⟩
  | 58 => ⟨S12256, .i32⟩
  | 59 => ⟨S12256, .i32⟩
  | 60 => ⟨S_, .i32⟩
  | 61 => ⟨S12256, .i32⟩
  | 62 => ⟨S12256, .i32⟩
  | 63 => ⟨S_, .i32⟩
  | 64 => ⟨S12256, .i32⟩
  | 65 => ⟨S12256, .i32⟩
  | 66 => ⟨S_, .i32⟩
  | 67 => ⟨S12256, .i32⟩
  | 68 => ⟨S12256, .i32⟩
  | 69 => ⟨S_, .i32⟩
  | 70 => ⟨S12256, .i32⟩
  | 71 => ⟨S12256, .i32⟩
  | 72 => ⟨S12256, .i32⟩
  | 73 => ⟨S_, .i32⟩
  | 74 => ⟨S12256, .i32⟩
  | 75 => ⟨S12256, .i32⟩
  | 76 => ⟨S_, .i32⟩
  | 77 => ⟨S12256, .i32⟩
  | 78 => ⟨S12256, .i32⟩
  | 79 => ⟨S12256, .i32⟩
  | 80 => ⟨S_, .i32⟩
  | 81 => ⟨S12256, .i32⟩
  | 82 => ⟨S12256, .i32⟩
  | 83 => ⟨S12256, .i32⟩
  | 84 => ⟨S8192x1, .i32⟩
  | 85 => ⟨S_, .i32⟩
  | 86 => ⟨S8192x1, .i32⟩
  | 87 => ⟨S8192x1, .i32⟩
  | 88 => ⟨S_, .i32⟩
  | 89 => ⟨S8192x1, .i32⟩
  | 90 => ⟨S8192x1, .i1⟩
  | 91 => ⟨S_, .f32⟩
  | 92 => ⟨S_, .f32⟩
  | 93 => ⟨S8192x1, .f32⟩
  | 94 => ⟨S8192x1, .f32⟩
  | 95 => ⟨S8192x1, .f32⟩
  | 96 => ⟨S_, .i32⟩
  | 97 => ⟨S8192x1, .i32⟩
  | 98 => ⟨S8192x1, .i1⟩
  | 99 => ⟨S_, .f32⟩
  | 100 => ⟨S_, .f32⟩
  | 101 => ⟨S8192x1, .f32⟩
  | 102 => ⟨S8192x1, .f32⟩
  | 103 => ⟨S8192x1, .f32⟩
  | 104 => ⟨S4096x1, .i32⟩
  | 105 => ⟨S_, .i32⟩
  | 106 => ⟨S4096x1, .i32⟩
  | 107 => ⟨S4096x1, .i32⟩
  | 108 => ⟨S_, .i32⟩
  | 109 => ⟨S4096x1, .i32⟩
  | 110 => ⟨S4096x1, .i1⟩
  | 111 => ⟨S_, .f32⟩
  | 112 => ⟨S_, .f32⟩
  | 113 => ⟨S4096x1, .f32⟩
  | 114 => ⟨S4096x1, .f32⟩
  | 115 => ⟨S4096x1, .f32⟩
  | 116 => ⟨S_, .i32⟩
  | 117 => ⟨S4096x1, .i32⟩
  | 118 => ⟨S4096x1, .i1⟩
  | 119 => ⟨S_, .f32⟩
  | 120 => ⟨S_, .f32⟩
  | 121 => ⟨S4096x1, .f32⟩
  | 122 => ⟨S4096x1, .f32⟩
  | 123 => ⟨S4096x1, .f32⟩
  | 124 => ⟨S64x256x256, .f32⟩
  | 125 => ⟨S64x512, .f32⟩
  | 126 => ⟨S_, .f32⟩
  | 127 => ⟨S256x4096, .f32⟩
  | _ => ⟨S64x3x512x512, .f32⟩

abbrev hbmTy0_2 (i : Nat) : BufTy := match i % 128 with
  | 0 => ⟨S48, .f32⟩
  | 1 => ⟨S_, .i32⟩
  | 2 => ⟨S12256, .i32⟩
  | 3 => ⟨S12256, .i1⟩
  | 4 => ⟨S_, .i32⟩
  | 5 => ⟨S12256, .i32⟩
  | 6 => ⟨S12256, .i32⟩
  | 7 => ⟨S12256, .i32⟩
  | 8 => ⟨S12256x1, .i32⟩
  | 9 => ⟨S12256, .f32⟩
  | 10 => ⟨S_, .i32⟩
  | 11 => ⟨S12256, .i32⟩
  | 12 => ⟨S12256, .i1⟩
  | 13 => ⟨S_, .i32⟩
  | 14 => ⟨S12256, .i32⟩
  | 15 => ⟨S12256, .i32⟩
  | 16 => ⟨S12256, .i32⟩
  | 17 => ⟨S_, .i32⟩
  | 18 => ⟨S12256, .i32⟩
  | 19 => ⟨S12256, .i1⟩
  | 20 => ⟨S_, .i32⟩
  | 21 => ⟨S12256, .i32⟩
  | 22 => ⟨S12256, .i32⟩
  | 23 => ⟨S12256, .i32⟩
  | 24 => ⟨S12256x1, .i32⟩
  | 25 => ⟨S12256x1, .i32⟩
  | 26 => ⟨S12256x2, .i32⟩
  | 27 => ⟨S256x4096, .f32⟩
  | 28 => ⟨S16x256, .f32⟩
  | 29 => ⟨S4096, .f32⟩
  | 30 => ⟨S1x4096, .f32⟩
  | 31 => ⟨S64x4096, .f32⟩
  | 32 => ⟨S64x16x128x2, .f32⟩
  | 33 => ⟨S64x128x2x16, .f32⟩
  | 34 => ⟨S8192x32, .f32⟩
  | 35 => ⟨S_, .i32⟩
  | 36 => ⟨S_, .f32⟩
  | 37 => ⟨S8194x32, .f32⟩
  | 38 => ⟨S32x16x1, .f32⟩
  | 39 => ⟨S32x16, .f32⟩
  | 40 => ⟨S16x32, .f32⟩
  | 41 => ⟨S32x16x1, .f32⟩
  | 42 => ⟨S32x16, .f32⟩
  | 43 => ⟨S16x32, .f32⟩
  | 44 => ⟨S32x16x1, .f32⟩
  | 45 => ⟨S32x16, .f32⟩
  | 46 => ⟨S16x32, .f32⟩
  | 47 => ⟨S1x32, .f32⟩
  | 48 => ⟨S8192x32, .f32⟩
  | 49 => ⟨S64x64x2x32, .f32⟩
  | 50 => ⟨S4096x64, .f32⟩
  | 51 => ⟨S_, .i32⟩
  | 52 => ⟨S_, .f32⟩
  | 53 => ⟨S4098x64, .f32⟩
  | 54 => ⟨S64x32x1, .f32⟩
  | 55 => ⟨S64x32, .f32⟩
  | 56 => ⟨S32x64, .f32⟩
  | 57 => ⟨S64x32x1, .f32⟩
  | 58 => ⟨S64x32, .f32⟩
  | 59 => ⟨S32x64, .f32⟩
  | 60 => ⟨S64x32x1, .f32⟩
  | 61 => ⟨S64x32, .f32⟩
  | 62 => ⟨S32x64, .f32⟩
  | 63 => ⟨S1x64, .f32⟩
  | 64 => ⟨S64x4096, .i32⟩
  | 65 => ⟨S_, .i32⟩
  | 66 => ⟨S64x4096, .i32⟩
  | 67 => ⟨S64x4096, .i32⟩
  | 68 => ⟨S64x4096, .i32⟩
  | 69 => ⟨S64x4096, .i1⟩
  | 70 => ⟨S_, .f32⟩
  | 71 => ⟨S_, .f32⟩
  | 72 => ⟨S64x4096, .f32⟩
  | 73 => ⟨S64x4096, .f32⟩
  | 74 => ⟨S64x4096, .f32⟩
  | 75 => ⟨S64x1, .f32⟩
  | 76 => ⟨S1x1, .f32⟩
  | 77 => ⟨S64x1, .f32⟩
  | _ => ⟨S64x3x512x512, .f32⟩

abbrev hbmTy (i : Nat) : BufTy := match i / 128 with
  | 0 => hbmTy0_0 i
  | 1 => hbmTy0_1 i
  | 2 => hbmTy0_2 i
  | _ => ⟨S64x3x512x512, .f32⟩

abbrev bufTy : (tb : Table) → Fin (nBuf tb) → BufTy
  | .hbm, ⟨i, _⟩ => hbmTy i
  | .local .tc .vmem, ⟨0, _⟩ => ⟨S1x3x512x512, .f32⟩
  | .local .tc .vmem, ⟨1, _⟩ => ⟨S1x3x512x512, .f32⟩
  | .local .tc .vmem, ⟨2, _⟩ => ⟨S512x256, .f32⟩
  | .local .tc .vmem, ⟨3, _⟩ => ⟨S512x256, .f32⟩
  | .local .tc .vmem, ⟨4, _⟩ => ⟨S256x256, .f32⟩
  | .local .tc .vmem, ⟨5, _⟩ => ⟨S256x256, .f32⟩
  | .local .tc .vmem, ⟨6, _⟩ => ⟨S256x256, .f32⟩
  | .local .tc .vmem, ⟨7, _⟩ => ⟨S256x256, .f32⟩
  | .local .tc .vmem, ⟨8, _⟩ => ⟨S1x256, .f32⟩
  | .local .tc .vmem, ⟨9, _⟩ => ⟨S128x256, .f32⟩
  | .local .tc .vmem, ⟨10, _⟩ => ⟨S128x256, .f32⟩
  | .local .tc .vmem, ⟨11, _⟩ => ⟨S1x256x256, .f32⟩
  | .local .tc .vmem, ⟨12, _⟩ => ⟨S1x256x256, .f32⟩
  | .local .tc .vmem, ⟨13, _⟩ => ⟨S64x512, .f32⟩
  | .local .tc .vmem, ⟨14, _⟩ => ⟨S1x256, .f32⟩
  | .local .tc .vmem, ⟨15, _⟩ => ⟨S256x4096, .f32⟩
  | .local .tc .vmem, ⟨16, _⟩ => ⟨S1x4096, .f32⟩
  | .local .tc .vmem, ⟨17, _⟩ => ⟨S64x4096, .f32⟩
  | .local .tc .vmem, ⟨18, _⟩ => ⟨S8194x32, .f32⟩
  | .local .tc .vmem, ⟨19, _⟩ => ⟨S16x32, .f32⟩
  | .local .tc .vmem, ⟨20, _⟩ => ⟨S16x32, .f32⟩
  | .local .tc .vmem, ⟨21, _⟩ => ⟨S16x32, .f32⟩
  | .local .tc .vmem, ⟨22, _⟩ => ⟨S1x32, .f32⟩
  | .local .tc .vmem, ⟨23, _⟩ => ⟨S8192x1, .f32⟩
  | .local .tc .vmem, ⟨24, _⟩ => ⟨S8192x1, .f32⟩
  | .local .tc .vmem, ⟨25, _⟩ => ⟨S8192x32, .f32⟩
  | .local .tc .vmem, ⟨26, _⟩ => ⟨S4098x64, .f32⟩
  | .local .tc .vmem, ⟨27, _⟩ => ⟨S32x64, .f32⟩
  | .local .tc .vmem, ⟨28, _⟩ => ⟨S32x64, .f32⟩
  | .local .tc .vmem, ⟨29, _⟩ => ⟨S32x64, .f32⟩
  | .local .tc .vmem, ⟨30, _⟩ => ⟨S1x64, .f32⟩
  | .local .tc .vmem, ⟨31, _⟩ => ⟨S4096x1, .f32⟩
  | .local .tc .vmem, ⟨32, _⟩ => ⟨S4096x1, .f32⟩
  | .local .tc .vmem, ⟨33, _⟩ => ⟨S64x4096, .f32⟩
  | .local .tc .vmem, ⟨34, _⟩ => ⟨S64x1, .f32⟩
  | .local .tc .vmem, ⟨35, _⟩ => ⟨S1x1, .f32⟩
  | .local .tc .vmem, ⟨36, _⟩ => ⟨S64x1, .f32⟩
  | .local .scVector .vmem, ⟨0, _⟩ => ⟨S64x256, .i32⟩
  | .local .scVector .vmem, ⟨1, _⟩ => ⟨S64x256, .f32⟩
  | .local .scVector .vmem, ⟨2, _⟩ => ⟨S64x256, .f32⟩
  | .local .scVector .vmem, ⟨3, _⟩ => ⟨S512, .f32⟩
  | .local .scVector .vmem, ⟨4, _⟩ => ⟨S512, .f32⟩
  | _, _ => ⟨S64x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTables nBuf rfl bufTy 4 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_cst_13 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_14 : Ref sig .tc := ⟨.hbm, 87, rfl⟩
abbrev main_v62 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_19 : Ref sig .tc := ⟨.hbm, 109, rfl⟩
abbrev main_v79 : Ref sig .tc := ⟨.hbm, 110, rfl⟩
abbrev main_v80 : Ref sig .tc := ⟨.hbm, 111, rfl⟩
abbrev main_cst_20 : Ref sig .tc := ⟨.hbm, 112, rfl⟩
abbrev main_v81 : Ref sig .tc := ⟨.hbm, 113, rfl⟩
abbrev main_cst_21 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_22 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_23 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_25 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_26 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_27 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_28 : Ref sig .tc := ⟨.hbm, 147, rfl⟩
abbrev main_v108 : Ref sig .tc := ⟨.hbm, 148, rfl⟩
abbrev main_v109 : Ref sig .tc := ⟨.hbm, 149, rfl⟩
abbrev main_cst_29 : Ref sig .tc := ⟨.hbm, 150, rfl⟩
abbrev main_cst_30 : Ref sig .tc := ⟨.hbm, 151, rfl⟩
abbrev main_call9_v0 : Ref sig .tc := ⟨.hbm, 152, rfl⟩
abbrev main_call9_v1 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_31 : Ref sig .tc := ⟨.hbm, 159, rfl⟩
abbrev main_v115 : Ref sig .tc := ⟨.hbm, 160, rfl⟩
abbrev main_v116 : Ref sig .tc := ⟨.hbm, 161, rfl⟩
abbrev main_c_32 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_33 : Ref sig .tc := ⟨.hbm, 168, rfl⟩
abbrev main_cst_34 : Ref sig .tc := ⟨.hbm, 169, rfl⟩
abbrev main_call10_v0 : Ref sig .tc := ⟨.hbm, 170, rfl⟩
abbrev main_call10_v1 : Ref sig .tc := ⟨.hbm, 171, rfl⟩
abbrev main_v122 : Ref sig .tc := ⟨.hbm, 172, rfl⟩
abbrev main_v123 : Ref sig .tc := ⟨.hbm, 173, rfl⟩
abbrev main_c_35 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_36 : Ref sig .tc := ⟨.hbm, 179, rfl⟩
abbrev main_cst_37 : Ref sig .tc := ⟨.hbm, 180, rfl⟩
abbrev main_call11_v0 : Ref sig .tc := ⟨.hbm, 181, rfl⟩
abbrev main_call11_v1 : Ref sig .tc := ⟨.hbm, 182, rfl⟩
abbrev main_v128 : Ref sig .tc := ⟨.hbm, 183, rfl⟩
abbrev main_v129 : Ref sig .tc := ⟨.hbm, 184, rfl⟩
abbrev main_c_38 : Ref sig .tc := ⟨.hbm, 185, rfl⟩
abbrev main_v130 : Ref sig .tc := ⟨.hbm, 186, rfl⟩
abbrev main_v131 : Ref sig .tc := ⟨.hbm, 187, rfl⟩
abbrev main_c_39 : Ref sig .tc := ⟨.hbm, 188, rfl⟩
abbrev main_v132 : Ref sig .tc := ⟨.hbm, 189, rfl⟩
abbrev main_v133 : Ref sig .tc := ⟨.hbm, 190, rfl⟩
abbrev main_c_40 : Ref sig .tc := ⟨.hbm, 191, rfl⟩
abbrev main_v134 : Ref sig .tc := ⟨.hbm, 192, rfl⟩
abbrev main_v135 : Ref sig .tc := ⟨.hbm, 193, rfl⟩
abbrev main_c_41 : Ref sig .tc := ⟨.hbm, 194, rfl⟩
abbrev main_v136 : Ref sig .tc := ⟨.hbm, 195, rfl⟩
abbrev main_v137 : Ref sig .tc := ⟨.hbm, 196, rfl⟩
abbrev main_c_42 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_c_43 : Ref sig .tc := ⟨.hbm, 201, rfl⟩
abbrev main_v141 : Ref sig .tc := ⟨.hbm, 202, rfl⟩
abbrev main_v142 : Ref sig .tc := ⟨.hbm, 203, rfl⟩
abbrev main_c_44 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_c_45 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_c_46 : Ref sig .tc := ⟨.hbm, 213, rfl⟩
abbrev main_v150 : Ref sig .tc := ⟨.hbm, 214, rfl⟩
abbrev main_v151 : Ref sig .tc := ⟨.hbm, 215, rfl⟩
abbrev main_c_47 : Ref sig .tc := ⟨.hbm, 216, rfl⟩
abbrev main_v152 : Ref sig .tc := ⟨.hbm, 217, rfl⟩
abbrev main_v153 : Ref sig .tc := ⟨.hbm, 218, rfl⟩
abbrev main_cst_48 : Ref sig .tc := ⟨.hbm, 219, rfl⟩
abbrev main_cst_49 : Ref sig .tc := ⟨.hbm, 220, rfl⟩
abbrev main_call12_v0 : Ref sig .tc := ⟨.hbm, 221, rfl⟩
abbrev main_call12_v1 : Ref sig .tc := ⟨.hbm, 222, rfl⟩
abbrev main_v154 : Ref sig .tc := ⟨.hbm, 223, rfl⟩
abbrev main_c_50 : Ref sig .tc := ⟨.hbm, 224, rfl⟩
abbrev main_v155 : Ref sig .tc := ⟨.hbm, 225, rfl⟩
abbrev main_v156 : Ref sig .tc := ⟨.hbm, 226, rfl⟩
abbrev main_cst_51 : Ref sig .tc := ⟨.hbm, 227, rfl⟩
abbrev main_cst_52 : Ref sig .tc := ⟨.hbm, 228, rfl⟩
abbrev main_call13_v0 : Ref sig .tc := ⟨.hbm, 229, rfl⟩
abbrev main_call13_v1 : Ref sig .tc := ⟨.hbm, 230, rfl⟩
abbrev main_v157 : Ref sig .tc := ⟨.hbm, 231, rfl⟩
abbrev main_v158 : Ref sig .tc := ⟨.hbm, 232, rfl⟩
abbrev main_c_53 : Ref sig .tc := ⟨.hbm, 233, rfl⟩
abbrev main_v159 : Ref sig .tc := ⟨.hbm, 234, rfl⟩
abbrev main_v160 : Ref sig .tc := ⟨.hbm, 235, rfl⟩
abbrev main_c_54 : Ref sig .tc := ⟨.hbm, 236, rfl⟩
abbrev main_v161 : Ref sig .tc := ⟨.hbm, 237, rfl⟩
abbrev main_v162 : Ref sig .tc := ⟨.hbm, 238, rfl⟩
abbrev main_cst_55 : Ref sig .tc := ⟨.hbm, 239, rfl⟩
abbrev main_cst_56 : Ref sig .tc := ⟨.hbm, 240, rfl⟩
abbrev main_call14_v0 : Ref sig .tc := ⟨.hbm, 241, rfl⟩
abbrev main_call14_v1 : Ref sig .tc := ⟨.hbm, 242, rfl⟩
abbrev main_v163 : Ref sig .tc := ⟨.hbm, 243, rfl⟩
abbrev main_c_57 : Ref sig .tc := ⟨.hbm, 244, rfl⟩
abbrev main_v164 : Ref sig .tc := ⟨.hbm, 245, rfl⟩
abbrev main_v165 : Ref sig .tc := ⟨.hbm, 246, rfl⟩
abbrev main_cst_58 : Ref sig .tc := ⟨.hbm, 247, rfl⟩
abbrev main_cst_59 : Ref sig .tc := ⟨.hbm, 248, rfl⟩
abbrev main_call15_v0 : Ref sig .tc := ⟨.hbm, 249, rfl⟩
abbrev main_call15_v1 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_cst_60 : Ref sig .tc := ⟨.hbm, 254, rfl⟩
abbrev main_v169 : Ref sig .tc := ⟨.hbm, 255, rfl⟩
abbrev main_v170 : Ref sig .tc := ⟨.hbm, 256, rfl⟩
abbrev main_c_61 : Ref sig .tc := ⟨.hbm, 257, rfl⟩
abbrev main_v171 : Ref sig .tc := ⟨.hbm, 258, rfl⟩
abbrev main_v172 : Ref sig .tc := ⟨.hbm, 259, rfl⟩
abbrev main_c_62 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_c_63 : Ref sig .tc := ⟨.hbm, 266, rfl⟩
abbrev main_v178 : Ref sig .tc := ⟨.hbm, 267, rfl⟩
abbrev main_v179 : Ref sig .tc := ⟨.hbm, 268, rfl⟩
abbrev main_c_64 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_c_65 : Ref sig .tc := ⟨.hbm, 273, rfl⟩
abbrev main_v183 : Ref sig .tc := ⟨.hbm, 274, rfl⟩
abbrev main_v184 : Ref sig .tc := ⟨.hbm, 275, rfl⟩
abbrev main_c_66 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_c_67 : Ref sig .tc := ⟨.hbm, 291, rfl⟩
abbrev main_call16_v0 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_c_68 : Ref sig .tc := ⟨.hbm, 307, rfl⟩
abbrev main_call17_v0 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_v224 : Ref sig .tc := ⟨.hbm, 320, rfl⟩
abbrev main_c_69 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_cst_70 : Ref sig .tc := ⟨.hbm, 326, rfl⟩
abbrev main_cst_71 : Ref sig .tc := ⟨.hbm, 327, rfl⟩
abbrev main_call18_v0 : Ref sig .tc := ⟨.hbm, 328, rfl⟩
abbrev main_call18_v1 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v167_scv : Ref sig .scVector := ⟨.hbm, 252, rfl⟩
abbrev main_v52_scv : Ref sig .scVector := ⟨.hbm, 74, rfl⟩
abbrev main_v168_scv : Ref sig .scVector := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg7_0 : Ref sig .tc := ⟨.vmem, 33, rfl⟩
abbrev cc4_stg8_0 : Ref sig .tc := ⟨.vmem, 34, rfl⟩
abbrev cc4_stg9_0 : Ref sig .tc := ⟨.vmem, 35, rfl⟩
abbrev cc4_stg10_0 : Ref sig .tc := ⟨.vmem, 36, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc4_sem0_0 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem8_0 : DmaSem sig := 39
abbrev cc4_sem9_0 : DmaSem sig := 40
abbrev cc4_sem10_0 : DmaSem sig := 41
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![2, 16], ![false, false]⟩

@[reducible] def k1_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k1_off1 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c16_i32 : BitVec 32 := 16#32
  let v8 : BitVec 32 := Scalar.muli arg10 c16_i32
  let v9 : Index := Scalar.indexCast v8
  ![v9.toNat]
@[reducible] def k1_t2_loop : Scf.Loop 32 :=
  let c0_i32_4 : BitVec 32 := 0#32
  let c4_i32 : BitVec 32 := 4#32
  let v5 : BitVec 32 := Scalar.addi c0_i32_4 c4_i32
  let c1_i32_5 : BitVec 32 := 1#32
  ⟨c0_i32_4, v5, c1_i32_5⟩
def k1_off2 (k1_t2 : Fin k1_t2_loop.trips) : Fin 2 → Nat :=
  let c0_i32_4 : BitVec 32 := 0#32
  let c1_i32_5 : BitVec 32 := 1#32
  let arg10 : BitVec 32 := Scf.iv c0_i32_4 c1_i32_5 k1_t2
  let c64_i32 : BitVec 32 := 64#32
  let v8 : BitVec 32 := Scalar.muli arg10 c64_i32
  let c0_i32_16_r0 : BitVec 32 := 0#32
  ![v8.toNat, 0]
def k1_off3 (i : grid1.Coords) (k1_t2 : Fin k1_t2_loop.trips) (c0_i32_9 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v9 : BitVec 32 := Scalar.addi v2 c0_i32_9
  let c0_i32_4 : BitVec 32 := 0#32
  let c1_i32_5 : BitVec 32 := 1#32
  let arg10 : BitVec 32 := Scf.iv c0_i32_4 c1_i32_5 k1_t2
  let c64_i32 : BitVec 32 := 64#32
  let v8 : BitVec 32 := Scalar.muli arg10 c64_i32
  let c0_i32_16_r1 : BitVec 32 := 0#32
  ![v9.toNat, v8.toNat, 0]
@[reducible] def k1_t3_loop : Scf.Loop 32 :=
  let c0_i32_12 : BitVec 32 := 0#32
  let c64_i32_13 : BitVec 32 := 64#32
  let v11 : BitVec 32 := Scalar.addi c0_i32_12 c64_i32_13
  let c1_i32_14 : BitVec 32 := 1#32
  ⟨c0_i32_12, v11, c1_i32_14⟩
def k1_off4 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v12 : Index := Scalar.indexCast arg11
  let c0 : Index := 0#32
  ![v12.toNat, 0]
def k1_off5 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v16 : Index := Scalar.indexCast arg11
  let c0_17 : Index := 0#32
  ![v16.toNat, 0]

def k1_chk1 (v13 : IVec S16 32) : Prop :=
  (∀ a x, ((![v13] : Fin 1 → IVec S16 32) a x).toNat < S512.size a) ∧
  (∀ a x, ((![v13] : Fin 1 → IVec S16 32) a x).toNat < S512.size a)
theorem k1_idx1_inb : ∀ (v13 : IVec S16 32) (k1_hw1 : k1_chk1 v13), ∀ a x, ((![v13] : Fin 1 → IVec S16 32) a x).toNat < S512.size a := fun v13 k1_hw1 => k1_hw1.1
theorem k1_idx2_inb : ∀ (v13 : IVec S16 32) (k1_hw1 : k1_chk1 v13), ∀ a x, ((![v13] : Fin 1 → IVec S16 32) a x).toNat < S512.size a := fun v13 k1_hw1 => k1_hw1.2
def k1_off6 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v18 : Index := Scalar.indexCast arg11
  let c16 : Index := 16#32
  ![v18.toNat, 16]
def k1_off7 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v22 : Index := Scalar.indexCast arg11
  let c16_19 : Index := 16#32
  ![v22.toNat, 16]

def k1_chk2 (v19 : IVec S16 32) : Prop :=
  (∀ a x, ((![v19] : Fin 1 → IVec S16 32) a x).toNat < S512.size a) ∧
  (∀ a x, ((![v19] : Fin 1 → IVec S16 32) a x).toNat < S512.size a)
theorem k1_idx3_inb : ∀ (v19 : IVec S16 32) (k1_hw2 : k1_chk2 v19), ∀ a x, ((![v19] : Fin 1 → IVec S16 32) a x).toNat < S512.size a := fun v19 k1_hw2 => k1_hw2.1
theorem k1_idx4_inb : ∀ (v19 : IVec S16 32) (k1_hw2 : k1_chk2 v19), ∀ a x, ((![v19] : Fin 1 → IVec S16 32) a x).toNat < S512.size a := fun v19 k1_hw2 => k1_hw2.2
def k1_off8 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v24 : Index := Scalar.indexCast arg11
  let c32 : Index := 32#32
  ![v24.toNat, 32]
def k1_off9 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v28 : Index := Scalar.indexCast arg11
  let c32_21 : Index := 32#32
  ![v28.toNat, 32]

def k1_chk3 (v25 : IVec S16 32) : Prop :=
  (∀ a x, ((![v25] : Fin 1 → IVec S16 32) a x).toNat < S512.size a) ∧
  (∀ a x, ((![v25] : Fin 1 → IVec S16 32) a x).toNat < S512.size a)
theorem k1_idx5_inb : ∀ (v25 : IVec S16 32) (k1_hw3 : k1_chk3 v25), ∀ a x, ((![v25] : Fin 1 → IVec S16 32) a x).toNat < S512.size a := fun v25 k1_hw3 => k1_hw3.1
theorem k1_idx6_inb : ∀ (v25 : IVec S16 32) (k1_hw3 : k1_chk3 v25), ∀ a x, ((![v25] : Fin 1 → IVec S16 32) a x).toNat < S512.size a := fun v25 k1_hw3 => k1_hw3.2
def k1_off10 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v30 : Index := Scalar.indexCast arg11
  let c48 : Index := 48#32
  ![v30.toNat, 48]
def k1_off11 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v34 : Index := Scalar.indexCast arg11
  let c48_23 : Index := 48#32
  ![v34.toNat, 48]

def k1_chk4 (v31 : IVec S16 32) : Prop :=
  (∀ a x, ((![v31] : Fin 1 → IVec S16 32) a x).toNat < S512.size a) ∧
  (∀ a x, ((![v31] : Fin 1 → IVec S16 32) a x).toNat < S512.size a)
theorem k1_idx7_inb : ∀ (v31 : IVec S16 32) (k1_hw4 : k1_chk4 v31), ∀ a x, ((![v31] : Fin 1 → IVec S16 32) a x).toNat < S512.size a := fun v31 k1_hw4 => k1_hw4.1
theorem k1_idx8_inb : ∀ (v31 : IVec S16 32) (k1_hw4 : k1_chk4 v31), ∀ a x, ((![v31] : Fin 1 → IVec S16 32) a x).toNat < S512.size a := fun v31 k1_hw4 => k1_hw4.2
def k1_off12 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v36 : Index := Scalar.indexCast arg11
  let c64 : Index := 64#32
  ![v36.toNat, 64]
def k1_off13 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v40 : Index := Scalar.indexCast arg11
  let c64_25 : Index := 64#32
  ![v40.toNat, 64]

def k1_chk5 (v37 : IVec S16 32) : Prop :=
  (∀ a x, ((![v37] : Fin 1 → IVec S16 32) a x).toNat < S512.size a) ∧
  (∀ a x, ((![v37] : Fin 1 → IVec S16 32) a x).toNat < S512.size a)
theorem k1_idx9_inb : ∀ (v37 : IVec S16 32) (k1_hw5 : k1_chk5 v37), ∀ a x, ((![v37] : Fin 1 → IVec S16 32) a x).toNat < S512.size a := fun v37 k1_hw5 => k1_hw5.1
theorem k1_idx10_inb : ∀ (v37 : IVec S16 32) (k1_hw5 : k1_chk5 v37), ∀ a x, ((![v37] : Fin 1 → IVec S16 32) a x).toNat < S512.size a := fun v37 k1_hw5 => k1_hw5.2
def k1_off14 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v42 : Index := Scalar.indexCast arg11
  let c80 : Index := 80#32
  ![v42.toNat, 80]
def k1_off15 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v46 : Index := Scalar.indexCast arg11
  let c80_27 : Index := 80#32
  ![v46.toNat, 80]

def k1_chk6 (v43 : IVec S16 32) : Prop :=
  (∀ a x, ((![v43] : Fin 1 → IVec S16 32) a x).toNat < S512.size a) ∧
  (∀ a x, ((![v43] : Fin 1 → IVec S16 32) a x).toNat < S512.size a)
theorem k1_idx11_inb : ∀ (v43 : IVec S16 32) (k1_hw6 : k1_chk6 v43), ∀ a x, ((![v43] : Fin 1 → IVec S16 32) a x).toNat < S512.size a := fun v43 k1_hw6 => k1_hw6.1
theorem k1_idx12_inb : ∀ (v43 : IVec S16 32) (k1_hw6 : k1_chk6 v43), ∀ a x, ((![v43] : Fin 1 → IVec S16 32) a x).toNat < S512.size a := fun v43 k1_hw6 => k1_hw6.2
def k1_off16 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v48 : Index := Scalar.indexCast arg11
  let c96 : Index := 96#32
  ![v48.toNat, 96]
def k1_off17 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v52 : Index := Scalar.indexCast arg11
  let c96_29 : Index := 96#32
  ![v52.toNat, 96]

def k1_chk7 (v49 : IVec S16 32) : Prop :=
  (∀ a x, ((![v49] : Fin 1 → IVec S16 32) a x).toNat < S512.size a) ∧
  (∀ a x, ((![v49] : Fin 1 → IVec S16 32) a x).toNat < S512.size a)
theorem k1_idx13_inb : ∀ (v49 : IVec S16 32) (k1_hw7 : k1_chk7 v49), ∀ a x, ((![v49] : Fin 1 → IVec S16 32) a x).toNat < S512.size a := fun v49 k1_hw7 => k1_hw7.1
theorem k1_idx14_inb : ∀ (v49 : IVec S16 32) (k1_hw7 : k1_chk7 v49), ∀ a x, ((![v49] : Fin 1 → IVec S16 32) a x).toNat < S512.size a := fun v49 k1_hw7 => k1_hw7.2
def k1_off18 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v54 : Index := Scalar.indexCast arg11
  let c112 : Index := 112#32
  ![v54.toNat, 112]
def k1_off19 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v58 : Index := Scalar.indexCast arg11
  let c112_31 : Index := 112#32
  ![v58.toNat, 112]

def k1_chk8 (v55 : IVec S16 32) : Prop :=
  (∀ a x, ((![v55] : Fin 1 → IVec S16 32) a x).toNat < S512.size a) ∧
  (∀ a x, ((![v55] : Fin 1 → IVec S16 32) a x).toNat < S512.size a)
theorem k1_idx15_inb : ∀ (v55 : IVec S16 32) (k1_hw8 : k1_chk8 v55), ∀ a x, ((![v55] : Fin 1 → IVec S16 32) a x).toNat < S512.size a := fun v55 k1_hw8 => k1_hw8.1
theorem k1_idx16_inb : ∀ (v55 : IVec S16 32) (k1_hw8 : k1_chk8 v55), ∀ a x, ((![v55] : Fin 1 → IVec S16 32) a x).toNat < S512.size a := fun v55 k1_hw8 => k1_hw8.2
def k1_off20 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v60 : Index := Scalar.indexCast arg11
  let c128 : Index := 128#32
  ![v60.toNat, 128]
def k1_off21 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v64 : Index := Scalar.indexCast arg11
  let c128_33 : Index := 128#32
  ![v64.toNat, 128]

def k1_chk9 (v61 : IVec S16 32) : Prop :=
  (∀ a x, ((![v61] : Fin 1 → IVec S16 32) a x).toNat < S512.size a) ∧
  (∀ a x, ((![v61] : Fin 1 → IVec S16 32) a x).toNat < S512.size a)
theorem k1_idx17_inb : ∀ (v61 : IVec S16 32) (k1_hw9 : k1_chk9 v61), ∀ a x, ((![v61] : Fin 1 → IVec S16 32) a x).toNat < S512.size a := fun v61 k1_hw9 => k1_hw9.1
theorem k1_idx18_inb : ∀ (v61 : IVec S16 32) (k1_hw9 : k1_chk9 v61), ∀ a x, ((![v61] : Fin 1 → IVec S16 32) a x).toNat < S512.size a := fun v61 k1_hw9 => k1_hw9.2
def k1_off22 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v66 : Index := Scalar.indexCast arg11
  let c144 : Index := 144#32
  ![v66.toNat, 144]
def k1_off23 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v70 : Index := Scalar.indexCast arg11
  let c144_35 : Index := 144#32
  ![v70.toNat, 144]

def k1_chk10 (v67 : IVec S16 32) : Prop :=
  (∀ a x, ((![v67] : Fin 1 → IVec S16 32) a x).toNat < S512.size a) ∧
  (∀ a x, ((![v67] : Fin 1 → IVec S16 32) a x).toNat < S512.size a)
theorem k1_idx19_inb : ∀ (v67 : IVec S16 32) (k1_hw10 : k1_chk10 v67), ∀ a x, ((![v67] : Fin 1 → IVec S16 32) a x).toNat < S512.size a := fun v67 k1_hw10 => k1_hw10.1
theorem k1_idx20_inb : ∀ (v67 : IVec S16 32) (k1_hw10 : k1_chk10 v67), ∀ a x, ((![v67] : Fin 1 → IVec S16 32) a x).toNat < S512.size a := fun v67 k1_hw10 => k1_hw10.2
def k1_off24 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v72 : Index := Scalar.indexCast arg11
  let c160 : Index := 160#32
  ![v72.toNat, 160]
def k1_off25 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v76 : Index := Scalar.indexCast arg11
  let c160_37 : Index := 160#32
  ![v76.toNat, 160]

def k1_chk11 (v73 : IVec S16 32) : Prop :=
  (∀ a x, ((![v73] : Fin 1 → IVec S16 32) a x).toNat < S512.size a) ∧
  (∀ a x, ((![v73] : Fin 1 → IVec S16 32) a x).toNat < S512.size a)
theorem k1_idx21_inb : ∀ (v73 : IVec S16 32) (k1_hw11 : k1_chk11 v73), ∀ a x, ((![v73] : Fin 1 → IVec S16 32) a x).toNat < S512.size a := fun v73 k1_hw11 => k1_hw11.1
theorem k1_idx22_inb : ∀ (v73 : IVec S16 32) (k1_hw11 : k1_chk11 v73), ∀ a x, ((![v73] : Fin 1 → IVec S16 32) a x).toNat < S512.size a := fun v73 k1_hw11 => k1_hw11.2
def k1_off26 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v78 : Index := Scalar.indexCast arg11
  let c176 : Index := 176#32
  ![v78.toNat, 176]
def k1_off27 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v82 : Index := Scalar.indexCast arg11
  let c176_39 : Index := 176#32
  ![v82.toNat, 176]

def k1_chk12 (v79 : IVec S16 32) : Prop :=
  (∀ a x, ((![v79] : Fin 1 → IVec S16 32) a x).toNat < S512.size a) ∧
  (∀ a x, ((![v79] : Fin 1 → IVec S16 32) a x).toNat < S512.size a)
theorem k1_idx23_inb : ∀ (v79 : IVec S16 32) (k1_hw12 : k1_chk12 v79), ∀ a x, ((![v79] : Fin 1 → IVec S16 32) a x).toNat < S512.size a := fun v79 k1_hw12 => k1_hw12.1
theorem k1_idx24_inb : ∀ (v79 : IVec S16 32) (k1_hw12 : k1_chk12 v79), ∀ a x, ((![v79] : Fin 1 → IVec S16 32) a x).toNat < S512.size a := fun v79 k1_hw12 => k1_hw12.2
def k1_off28 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v84 : Index := Scalar.indexCast arg11
  let c192 : Index := 192#32
  ![v84.toNat, 192]
def k1_off29 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v88 : Index := Scalar.indexCast arg11
  let c192_41 : Index := 192#32
  ![v88.toNat, 192]

def k1_chk13 (v85 : IVec S16 32) : Prop :=
  (∀ a x, ((![v85] : Fin 1 → IVec S16 32) a x).toNat < S512.size a) ∧
  (∀ a x, ((![v85] : Fin 1 → IVec S16 32) a x).toNat < S512.size a)
theorem k1_idx25_inb : ∀ (v85 : IVec S16 32) (k1_hw13 : k1_chk13 v85), ∀ a x, ((![v85] : Fin 1 → IVec S16 32) a x).toNat < S512.size a := fun v85 k1_hw13 => k1_hw13.1
theorem k1_idx26_inb : ∀ (v85 : IVec S16 32) (k1_hw13 : k1_chk13 v85), ∀ a x, ((![v85] : Fin 1 → IVec S16 32) a x).toNat < S512.size a := fun v85 k1_hw13 => k1_hw13.2
def k1_off30 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v90 : Index := Scalar.indexCast arg11
  let c208 : Index := 208#32
  ![v90.toNat, 208]
def k1_off31 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v94 : Index := Scalar.indexCast arg11
  let c208_43 : Index := 208#32
  ![v94.toNat, 208]

def k1_chk14 (v91 : IVec S16 32) : Prop :=
  (∀ a x, ((![v91] : Fin 1 → IVec S16 32) a x).toNat < S512.size a) ∧
  (∀ a x, ((![v91] : Fin 1 → IVec S16 32) a x).toNat < S512.size a)
theorem k1_idx27_inb : ∀ (v91 : IVec S16 32) (k1_hw14 : k1_chk14 v91), ∀ a x, ((![v91] : Fin 1 → IVec S16 32) a x).toNat < S512.size a := fun v91 k1_hw14 => k1_hw14.1
theorem k1_idx28_inb : ∀ (v91 : IVec S16 32) (k1_hw14 : k1_chk14 v91), ∀ a x, ((![v91] : Fin 1 → IVec S16 32) a x).toNat < S512.size a := fun v91 k1_hw14 => k1_hw14.2
def k1_off32 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v96 : Index := Scalar.indexCast arg11
  let c224 : Index := 224#32
  ![v96.toNat, 224]
def k1_off33 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v100 : Index := Scalar.indexCast arg11
  let c224_45 : Index := 224#32
  ![v100.toNat, 224]

def k1_chk15 (v97 : IVec S16 32) : Prop :=
  (∀ a x, ((![v97] : Fin 1 → IVec S16 32) a x).toNat < S512.size a) ∧
  (∀ a x, ((![v97] : Fin 1 → IVec S16 32) a x).toNat < S512.size a)
theorem k1_idx29_inb : ∀ (v97 : IVec S16 32) (k1_hw15 : k1_chk15 v97), ∀ a x, ((![v97] : Fin 1 → IVec S16 32) a x).toNat < S512.size a := fun v97 k1_hw15 => k1_hw15.1
theorem k1_idx30_inb : ∀ (v97 : IVec S16 32) (k1_hw15 : k1_chk15 v97), ∀ a x, ((![v97] : Fin 1 → IVec S16 32) a x).toNat < S512.size a := fun v97 k1_hw15 => k1_hw15.2
def k1_off34 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v102 : Index := Scalar.indexCast arg11
  let c240 : Index := 240#32
  ![v102.toNat, 240]
def k1_off35 (k1_t3 : Fin k1_t3_loop.trips) : Fin 2 → Nat :=
  let c0_i32_12 : BitVec 32 := 0#32
  let c1_i32_14 : BitVec 32 := 1#32
  let arg11 : BitVec 32 := Scf.iv c0_i32_12 c1_i32_14 k1_t3
  let v106 : Index := Scalar.indexCast arg11
  let c240_47 : Index := 240#32
  ![v106.toNat, 240]

def k1_chk16 (v103 : IVec S16 32) : Prop :=
  (∀ a x, ((![v103] : Fin 1 → IVec S16 32) a x).toNat < S512.size a) ∧
  (∀ a x, ((![v103] : Fin 1 → IVec S16 32) a x).toNat < S512.size a)
theorem k1_idx31_inb : ∀ (v103 : IVec S16 32) (k1_hw16 : k1_chk16 v103), ∀ a x, ((![v103] : Fin 1 → IVec S16 32) a x).toNat < S512.size a := fun v103 k1_hw16 => k1_hw16.1
theorem k1_idx32_inb : ∀ (v103 : IVec S16 32) (k1_hw16 : k1_chk16 v103), ∀ a x, ((![v103] : Fin 1 → IVec S16 32) a x).toNat < S512.size a := fun v103 k1_hw16 => k1_hw16.2
def k1_off36 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v6 : BitVec 32 := Scalar.addi v2 c0_i32_7
  let c0_i32_9_r3 : BitVec 32 := 0#32
  ![v6.toNat, 0]
abbrev grid2 : Pipeline.Grid := .none

abbrev stage2_0 : Fin 1 → Memref sig .tc .vmem S64x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x4096 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := .none

abbrev stage3_0 : Fin 1 → Memref sig .tc .vmem S8194x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S16x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S16x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S8192x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S8192x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S8192x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev grid4 : Pipeline.Grid := .none

abbrev stage4_0 : Fin 1 → Memref sig .tc .vmem S4098x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S32x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S32x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S4096x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S4096x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S64x4096 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S64x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S64x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x3x512x512 : Shape := ⟨4, ![64, 3, 512, 512]⟩
abbrev S16x1x3 : Shape := ⟨3, ![16, 1, 3]⟩
abbrev S16 : Shape := ⟨1, ![16]⟩
abbrev S32x16x3 : Shape := ⟨3, ![32, 16, 3]⟩
abbrev S32 : Shape := ⟨1, ![32]⟩
abbrev S64x32x3 : Shape := ⟨3, ![64, 32, 3]⟩
abbrev S64 : Shape := ⟨1, ![64]⟩
abbrev S1x64 : Shape := ⟨2, ![1, 64]⟩
abbrev S1 : Shape := ⟨1, ![1]⟩
abbrev S363 : Shape := ⟨1, ![363]⟩
abbrev S64x1x512x512 : Shape := ⟨4, ![64, 1, 512, 512]⟩
abbrev S64x512x512 : Shape := ⟨3, ![64, 512, 512]⟩
abbrev S_ : Shape := ⟨0, ![]⟩
abbrev S512x512 : Shape := ⟨2, ![512, 512]⟩
abbrev S64x256x512 : Shape := ⟨3, ![64, 256, 512]⟩
abbrev S64x512x256 : Shape := ⟨3, ![64, 512, 256]⟩
abbrev S262144 : Shape := ⟨1, ![262144]⟩
abbrev S64x262144 : Shape := ⟨2, ![64, 262144]⟩
abbrev S262144x1 : Shape := ⟨2, ![262144, 1]⟩
abbrev S64x363 : Shape := ⟨2, ![64, 363]⟩
abbrev S1x363 : Shape := ⟨2, ![1, 363]⟩
abbrev S64x256 : Shape := ⟨2, ![64, 256]⟩
abbrev S64x1x256 : Shape := ⟨3, ![64, 1, 256]⟩
abbrev S64x1x1 : Shape := ⟨3, ![64, 1, 1]⟩
abbrev S64x1x258 : Shape := ⟨3, ![64, 1, 258]⟩
abbrev S16x1x1 : Shape := ⟨3, ![16, 1, 1]⟩
abbrev S16x1 : Shape := ⟨2, ![16, 1]⟩
abbrev S16x64x256 : Shape := ⟨3, ![16, 64, 256]⟩
abbrev S64x16x256 : Shape := ⟨3, ![64, 16, 256]⟩
abbrev S1x16x1 : Shape := ⟨3, ![1, 16, 1]⟩
abbrev S64x16x128 : Shape := ⟨3, ![64, 16, 128]⟩
abbrev S64x16x130 : Shape := ⟨3, ![64, 16, 130]⟩
abbrev S32x16x1 : Shape := ⟨3, ![32, 16, 1]⟩
abbrev S32x16 : Shape := ⟨2, ![32, 16]⟩
abbrev S32x64x128 : Shape := ⟨3, ![32, 64, 128]⟩
abbrev S64x32x128 : Shape := ⟨3, ![64, 32, 128]⟩
abbrev S1x32x1 : Shape := ⟨3, ![1, 32, 1]⟩
abbrev S64x32x64 : Shape := ⟨3, ![64, 32, 64]⟩
abbrev S64x32x66 : Shape := ⟨3, ![64, 32, 66]⟩
abbrev S64x32x1 : Shape := ⟨3, ![64, 32, 1]⟩
abbrev S64x32 : Shape := ⟨2, ![64, 32]⟩
abbrev S64x64x64 : Shape := ⟨3, ![64, 64, 64]⟩
abbrev S1x64x1 : Shape := ⟨3, ![1, 64, 1]⟩
abbrev S64x64 : Shape := ⟨2, ![64, 64]⟩
abbrev S64x1 : Shape := ⟨2, ![64, 1]⟩
abbrev S1x1 : Shape := ⟨2, ![1, 1]⟩

abbrev nBuf : Space → Nat
  | .hbm => 241
  | .vmem => 0
  | .smem => 0
  | _ => 0

abbrev hbmTy0_0 (i : Nat) : BufTy := match i % 128 with
  | 0 => ⟨S64x3x512x512, .f32⟩
  | 1 => ⟨S16x1x3, .f32⟩
  | 2 => ⟨S16, .f32⟩
  | 3 => ⟨S32x16x3, .f32⟩
  | 4 => ⟨S32, .f32⟩
  | 5 => ⟨S64x32x3, .f32⟩
  | 6 => ⟨S64, .f32⟩
  | 7 => ⟨S1x64, .f32⟩
  | 8 => ⟨S1, .f32⟩
  | 9 => ⟨S363, .i32⟩
  | 10 => ⟨S64x1x512x512, .f32⟩
  | 11 => ⟨S64x512x512, .f32⟩
  | 12 => ⟨S_, .f32⟩
  | 13 => ⟨S64x512x512, .f32⟩
  | 14 => ⟨S64x512x512, .f32⟩
  | 15 => ⟨S64x1x512x512, .f32⟩
  | 16 => ⟨S64x512x512, .f32⟩
  | 17 => ⟨S_, .f32⟩
  | 18 => ⟨S64x512x512, .f32⟩
  | 19 => ⟨S64x512x512, .f32⟩
  | 20 => ⟨S64x512x512, .f32⟩
  | 21 => ⟨S64x1x512x512, .f32⟩
  | 22 => ⟨S64x512x512, .f32⟩
  | 23 => ⟨S_, .f32⟩
  | 24 => ⟨S64x512x512, .f32⟩
  | 25 => ⟨S64x512x512, .f32⟩
  | 26 => ⟨S64x512x512, .f32⟩
  | 27 => ⟨S512x512, .i32⟩
  | 28 => ⟨S512x512, .i32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S512x512, .i32⟩
  | 37 => ⟨S_, .i32⟩
  | 38 => ⟨S512x512, .i32⟩
  | 39 => ⟨S512x512, .i32⟩
  | 40 => ⟨S512x512, .f32⟩
  | 41 => ⟨S512x512, .f32⟩
  | 42 => ⟨S512x512, .f32⟩
  | 43 => ⟨S512x512, .f32⟩
  | 44 => ⟨S512x512, .f32⟩
  | 45 => ⟨S512x512, .f32⟩
  | 46 => ⟨S64x512x512, .f32⟩
  | 47 => ⟨S64x512x512, .f32⟩
  | 48 => ⟨S64x512x512, .f32⟩
  | 49 => ⟨S64x512x512, .f32⟩
  | 50 => ⟨S64x512x512, .f32⟩
  | 51 => ⟨S64x512x512, .f32⟩
  | 52 => ⟨S64x512x512, .f32⟩
  | 53 => ⟨S_, .f32⟩
  | 54 => ⟨S64x512x512, .f32⟩
  | 55 => ⟨S64x512x512, .f32⟩
  | 56 => ⟨S64x512x512, .f32⟩
  | 57 => ⟨S64x512x512, .f32⟩
  | 58 => ⟨S64x512x512, .f32⟩
  | 59 => ⟨S64x512x512, .f32⟩
  | 60 => ⟨S64x512x512, .f32⟩
  | 61 => ⟨S_, .f32⟩
  | 62 => ⟨S64x512x512, .f32⟩
  | 63 => ⟨S64x512x512, .f32⟩
  | 64 => ⟨S64x256x512, .f32⟩
  | 65 => ⟨S64x256x512, .f32⟩
  | 66 => ⟨S64x512x512, .f32⟩
  | 67 => ⟨S64x512x256, .f32⟩
  | 68 => ⟨S64x512x256, .f32⟩
  | 69 => ⟨S64x512x512, .f32⟩
  | 70 => ⟨S64x256x512, .f32⟩
  | 71 => ⟨S64x256x512, .f32⟩
  | 72 => ⟨S64x512x512, .f32⟩
  | 73 => ⟨S64x512x256, .f32⟩
  | 74 => ⟨S64x512x256, .f32⟩
  | 75 => ⟨S64x512x512, .f32⟩
  | 76 => ⟨S64x512x512, .f32⟩
  | 77 => ⟨S64x512x512, .f32⟩
  | 78 => ⟨S64x512x512, .f32⟩
  | 79 => ⟨S64x512x512, .f32⟩
  | 80 => ⟨S_, .i32⟩
  | 81 => ⟨S512x512, .i32⟩
  | 82 => ⟨S512x512, .i32⟩
  | 83 => ⟨S_, .i32⟩
  | 84 => ⟨S512x512, .i32⟩
  | 85 => ⟨S512x512, .i32⟩
  | 86 => ⟨S512x512, .i32⟩
  | 87 => ⟨S_, .i32⟩
  | 88 => ⟨S512x512, .i32⟩
  | 89 => ⟨S512x512, .i32⟩
  | 90 => ⟨S_, .i32⟩
  | 91 => ⟨S512x512, .i32⟩
  | 92 => ⟨S512x512, .i32⟩
  | 93 => ⟨S512x512, .i32⟩
  | 94 => ⟨S512x512, .i32⟩
  | 95 => ⟨S512x512, .f32⟩
  | 96 => ⟨S512x512, .f32⟩
  | 97 => ⟨S512x512, .i32⟩
  | 98 => ⟨S262144, .i32⟩
  | 99 => ⟨S363, .f32⟩
  | 100 => ⟨S64x262144, .f32⟩
  | 101 => ⟨S_, .f32⟩
  | 102 => ⟨S363, .f32⟩
  | 103 => ⟨S262144x1, .i32⟩
  | 104 => ⟨S64x363, .f32⟩
  | 105 => ⟨S64x363, .f32⟩
  | 106 => ⟨S1x363, .f32⟩
  | 107 => ⟨S_, .f32⟩
  | 108 => ⟨S1x363, .f32⟩
  | 109 => ⟨S1x363, .i1⟩
  | 110 => ⟨S1x363, .f32⟩
  | 111 => ⟨S64x363, .f32⟩
  | 112 => ⟨S64x363, .f32⟩
  | 113 => ⟨S_, .f32⟩
  | 114 => ⟨S64x363, .f32⟩
  | 115 => ⟨S64x363, .i1⟩
  | 116 => ⟨S64x363, .f32⟩
  | 117 => ⟨S64x256, .f32⟩
  | 118 => ⟨S64x1x256, .f32⟩
  | 119 => ⟨S64x1x256, .f32⟩
  | 120 => ⟨S_, .f32⟩
  | 121 => ⟨S64, .f32⟩
  | 122 => ⟨S64x1x1, .f32⟩
  | 123 => ⟨S_, .f32⟩
  | 124 => ⟨S64, .f32⟩
  | 125 => ⟨S64x1x1, .f32⟩
  | 126 => ⟨S64x1x1, .f32⟩
  | 127 => ⟨S_, .f32⟩
  | _ => ⟨S64x3x512x512, .f32⟩

abbrev hbmTy0_1 (i : Nat) : BufTy := match i % 128 with
  | 0 => ⟨S64x1x1, .f32⟩
  | 1 => ⟨S64x1x1, .i1⟩
  | 2 => ⟨S64x1x256, .f32⟩
  | 3 => ⟨S64x1x256, .f32⟩
  | 4 => ⟨S64x1x256, .f32⟩
  | 5 => ⟨S64x1x256, .f32⟩
  | 6 => ⟨S_, .f32⟩
  | 7 => ⟨S64x1x256, .f32⟩
  | 8 => ⟨S64x1x256, .i1⟩
  | 9 => ⟨S64x1x256, .f32⟩
  | 10 => ⟨S_, .i32⟩
  | 11 => ⟨S_, .f32⟩
  | 12 => ⟨S64x1x258, .f32⟩
  | 13 => ⟨S64x1x256, .f32⟩
  | 14 => ⟨S16x1x1, .f32⟩
  | 15 => ⟨S16x1, .f32⟩
  | 16 => ⟨S16x64x256, .f32⟩
  | 17 => ⟨S64x16x256, .f32⟩
  | 18 => ⟨S_, .f32⟩
  | 19 => ⟨S64x16x256, .f32⟩
  | 20 => ⟨S64x16x256, .f32⟩
  | 21 => ⟨S64x1x256, .f32⟩
  | 22 => ⟨S16x1x1, .f32⟩
  | 23 => ⟨S16x1, .f32⟩
  | 24 => ⟨S16x64x256, .f32⟩
  | 25 => ⟨S64x16x256, .f32⟩
  | 26 => ⟨S64x16x256, .f32⟩
  | 27 => ⟨S64x1x256, .f32⟩
  | 28 => ⟨S16x1x1, .f32⟩
  | 29 => ⟨S16x1, .f32⟩
  | 30 => ⟨S16x64x256, .f32⟩
  | 31 => ⟨S64x16x256, .f32⟩
  | 32 => ⟨S64x16x256, .f32⟩
  | 33 => ⟨S1x16x1, .f32⟩
  | 34 => ⟨S64x16x256, .f32⟩
  | 35 => ⟨S64x16x256, .f32⟩
  | 36 => ⟨S_, .f32⟩
  | 37 => ⟨S64x16x256, .f32⟩
  | 38 => ⟨S64x16x256, .f32⟩
  | 39 => ⟨S_, .f32⟩
  | 40 => ⟨S_, .f32⟩
  | 41 => ⟨S64x16x128, .f32⟩
  | 42 => ⟨S_, .i32⟩
  | 43 => ⟨S_, .f32⟩
  | 44 => ⟨S64x16x130, .f32⟩
  | 45 => ⟨S64x16x128, .f32⟩
  | 46 => ⟨S32x16x1, .f32⟩
  | 47 => ⟨S32x16, .f32⟩
  | 48 => ⟨S32x64x128, .f32⟩
  | 49 => ⟨S64x32x128, .f32⟩
  | 50 => ⟨S_, .f32⟩
  | 51 => ⟨S64x32x128, .f32⟩
  | 52 => ⟨S64x32x128, .f32⟩
  | 53 => ⟨S64x16x128, .f32⟩
  | 54 => ⟨S32x16x1, .f32⟩
  | 55 => ⟨S32x16, .f32⟩
  | 56 => ⟨S32x64x128, .f32⟩
  | 57 => ⟨S64x32x128, .f32⟩
  | 58 => ⟨S64x32x128, .f32⟩
  | 59 => ⟨S64x16x128, .f32⟩
  | 60 => ⟨S32x16x1, .f32⟩
  | 61 => ⟨S32x16, .f32⟩
  | 62 => ⟨S32x64x128, .f32⟩
  | 63 => ⟨S64x32x128, .f32⟩
  | 64 => ⟨S64x32x128, .f32⟩
  | 65 => ⟨S1x32x1, .f32⟩
  | 66 => ⟨S64x32x128, .f32⟩
  | 67 => ⟨S64x32x128, .f32⟩
  | 68 => ⟨S_, .f32⟩
  | 69 => ⟨S64x32x128, .f32⟩
  | 70 => ⟨S64x32x128, .f32⟩
  | 71 => ⟨S_, .f32⟩
  | 72 => ⟨S_, .f32⟩
  | 73 => ⟨S64x32x64, .f32⟩
  | 74 => ⟨S_, .i32⟩
  | 75 => ⟨S_, .f32⟩
  | 76 => ⟨S64x32x66, .f32⟩
  | 77 => ⟨S64x32x64, .f32⟩
  | 78 => ⟨S64x32x1, .f32⟩
  | 79 => ⟨S64x32, .f32⟩
  | 80 => ⟨S64x64x64, .f32⟩
  | 81 => ⟨S64x64x64, .f32⟩
  | 82 => ⟨S_, .f32⟩
  | 83 => ⟨S64x64x64, .f32⟩
  | 84 => ⟨S64x64x64, .f32⟩
  | 85 => ⟨S64x32x64, .f32⟩
  | 86 => ⟨S64x32x1, .f32⟩
  | 87 => ⟨S64x32, .f32⟩
  | 88 => ⟨S64x64x64, .f32⟩
  | 89 => ⟨S64x64x64, .f32⟩
  | 90 => ⟨S64x64x64, .f32⟩
  | 91 => ⟨S64x32x64, .f32⟩
  | 92 => ⟨S64x32x1, .f32⟩
  | 93 => ⟨S64x32, .f32⟩
  | 94 => ⟨S64x64x64, .f32⟩
  | 95 => ⟨S64x64x64, .f32⟩
  | 96 => ⟨S64x64x64, .f32⟩
  | 97 => ⟨S1x64x1, .f32⟩
  | 98 => ⟨S64x64x64, .f32⟩
  | 99 => ⟨S64x64x64, .f32⟩
  | 100 => ⟨S_, .f32⟩
  | 101 => ⟨S64x64x64, .f32⟩
  | 102 => ⟨S64x64x64, .f32⟩
  | 103 => ⟨S_, .f32⟩
  | 104 => ⟨S64x64, .f32⟩
  | 105 => ⟨S_, .f32⟩
  | 106 => ⟨S64x64, .f32⟩
  | 107 => ⟨S64x64, .f32⟩
  | 108 => ⟨S64x1, .f32⟩
  | 109 => ⟨S64x1, .f32⟩
  | 110 => ⟨S1x1, .f32⟩
  | 111 => ⟨S64x1, .f32⟩
  | 112 => ⟨S64x1, .f32⟩
  | _ => ⟨S64x3x512x512, .f32⟩

abbrev hbmTy (i : Nat) : BufTy := match i / 128 with
  | 0 => hbmTy0_0 i
  | 1 => hbmTy0_1 i
  | _ => ⟨S64x3x512x512, .f32⟩

abbrev bufTy : (tb : Table) → Fin (tcTables nBuf tb) → BufTy
  | .hbm, ⟨i, _⟩ => hbmTy i
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_11 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_15 : Ref sig .tc := ⟨.hbm, 113, rfl⟩
abbrev main_v77 : Ref sig .tc := ⟨.hbm, 114, rfl⟩
abbrev main_call2_v0 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_19 : Ref sig .tc := ⟨.hbm, 134, rfl⟩
abbrev main_v93 : Ref sig .tc := ⟨.hbm, 135, rfl⟩
abbrev main_call3_v0 : Ref sig .tc := ⟨.hbm, 136, rfl⟩
abbrev main_v94 : Ref sig .tc := ⟨.hbm, 137, rfl⟩
abbrev main_c_20 : Ref sig .tc := ⟨.hbm, 138, rfl⟩
abbrev main_call4_v0 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_21 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_22 : Ref sig .tc := ⟨.hbm, 164, rfl⟩
abbrev main_v118 : Ref sig .tc := ⟨.hbm, 165, rfl⟩
abbrev main_v119 : Ref sig .tc := ⟨.hbm, 166, rfl⟩
abbrev main_cst_23 : Ref sig .tc := ⟨.hbm, 167, rfl⟩
abbrev main_v120 : Ref sig .tc := ⟨.hbm, 168, rfl⟩
abbrev main_v121 : Ref sig .tc := ⟨.hbm, 169, rfl⟩
abbrev main_c_24 : Ref sig .tc := ⟨.hbm, 170, rfl⟩
abbrev main_call5_v0 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_25 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_26 : Ref sig .tc := ⟨.hbm, 196, rfl⟩
abbrev main_v145 : Ref sig .tc := ⟨.hbm, 197, rfl⟩
abbrev main_v146 : Ref sig .tc := ⟨.hbm, 198, rfl⟩
abbrev main_cst_27 : Ref sig .tc := ⟨.hbm, 199, rfl⟩
abbrev main_v147 : Ref sig .tc := ⟨.hbm, 200, rfl⟩
abbrev main_v148 : Ref sig .tc := ⟨.hbm, 201, rfl⟩
abbrev main_c_28 : Ref sig .tc := ⟨.hbm, 202, rfl⟩
abbrev main_call6_v0 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_29 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst_30 : Ref sig .tc := ⟨.hbm, 228, rfl⟩
abbrev main_v172 : Ref sig .tc := ⟨.hbm, 229, rfl⟩
abbrev main_v173 : Ref sig .tc := ⟨.hbm, 230, rfl⟩
abbrev main_cst_31 : Ref sig .tc := ⟨.hbm, 231, rfl⟩
abbrev main_v174 : Ref sig .tc := ⟨.hbm, 232, rfl⟩
abbrev main_cst_32 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩

abbrev nD : Nat := 1
abbrev τ : Topo := Topo.v7x

variable {F : FTy → Type} [FloatOps F]
-- ==== Proof.Hist.lean ====
/-
  The histogram a vector subcore keeps, as a plain recursion. `accN M R n` is the table after the first `n`
  pixels: pixel `p` adds the magnitude `M p` onto entry `R p`. One indexed store with addition of sixteen lanes
  that hold pixels `p, …, p + 15` takes the table from `accN M R p` to `accN M R (p + 16)` — in the very order
  of the lanes, so the statement holds of any float instance.
-/
module

public import Idealize.ShloMosaic.PureOps
public import proofs.«01_k».proof.KernelIdeal

@[expose] public section

noncomputable section

namespace Cert.Proof.Hist

open Idealize.ShloMosaic Cert.KernelIdeal

variable {F : FTy → Type} [FloatOps F]

/-- The table after the first `n` pixels, from a table of zeros. -/
def accN (M : ℕ → F .f32) (R : ℕ → ℕ) : ℕ → ℕ → F .f32
  | 0 => fun _ => Scalar.ofBits .f32 0x00000000#32
  | n + 1 => fun j => if j = R n then Elt.idxAdd (F := F) .f32 (accN M R n j) (M n) else accN M R n j

/-- The table after `n` pixels as the contents of a histogram buffer. -/
def histBuf (M : ℕ → F .f32) (R : ℕ → ℕ) (n : ℕ) : Vec F S512 .f32 := fun j => accN M R n (j 0).val

/-- The lane `k` of a sixteen-lane vector. -/
def lane (k : Fin 16) : S16.Idx := Shape.ofLane (d := ![16]) k

theorem lane_val (k : Fin 16) : ((lane k) 0).val = k.val := rfl

/-- A fold over the lanes that advances a counter by one at each lane advances it by their number. -/
theorem foldl_finRange_advance {α : Type} (n : ℕ) (f : α → Fin n → α) (T : ℕ → α)
    (h : ∀ k : Fin n, f (T k.val) k = T (k.val + 1)) : (List.finRange n).foldl f (T 0) = T n := by
  induction n with
  | zero => rfl
  | succ n ih =>
    rw [List.finRange_succ_last, List.foldl_append, List.foldl_map]
    rw [ih (fun a k => f a k.castSucc) (fun k => h k.castSucc)]
    exact h (Fin.last n)

/-- Sixteen lanes of indexed addition are sixteen steps of the recursion. -/
theorem storeIdx_accN (M : ℕ → F .f32) (R : ℕ → ℕ) (p : ℕ) (v : IVec S16 32) (w : Vec F S16 .f32)
    (h : ∀ a x, ((![v] : Fin 1 → IVec S16 32) a x).toNat < S512.size a)
    (hv : ∀ k : Fin 16, (v (lane k)).toNat = R (p + k.val)) (hw : ∀ k : Fin 16, w (lane k) = M (p + k.val)) :
    storeIdx (F := F) (s := S512) (e := .f32) (histBuf M R p) ![v] w (fun _ => 1#1) true h = histBuf M R (p + 16) := by
  unfold storeIdx
  refine foldl_finRange_advance 16 _ (fun k => histBuf M R (p + k)) fun k => ?_
  have hi : (idxAt (s := S512) ![v] h (lane k) 0).val = R (p + k.val) := hv k
  funext j
  have e1 : (∀ a, (j a).val = (idxAt (s := S512) ![v] h (lane k) a).val) ↔ (j 0).val = R (p + k.val) := by
    constructor
    · intro hh; rw [hh 0, hi]
    · intro hh a; obtain rfl : a = 0 := Subsingleton.elim _ _; rw [hh, hi]
  have hw' : w (Shape.ofLane (d := ![16]) k) = M (p + k.val) := hw k
  rw [if_pos (show ((fun _ => 1#1 : IVec S16 1) (Shape.ofLane (d := ![16]) k)) = 1 from rfl)]
  have hs : histBuf M R (p + (k.val + 1)) j
      = if (j 0).val = R (p + k.val) then Elt.idxAdd (F := F) .f32 (accN M R (p + k.val) (j 0).val) (M (p + k.val)) else accN M R (p + k.val) (j 0).val := rfl
  refine Eq.trans ?_ hs.symm
  by_cases hj : (j 0).val = R (p + k.val)
  · refine (if_pos (e1.mpr hj)).trans (Eq.trans ?_ (if_pos hj).symm)
    rw [if_pos rfl, hw']
    show Elt.idxAdd (F := F) .f32 (accN M R (p + k.val) (idxAt (s := S512) ![v] h (lane k) 0).val) _ = _
    rw [hi, hj]
  · exact (if_neg fun e => hj (e1.mp e)).trans (if_neg hj).symm

end Cert.Proof.Hist

end
-- ==== Proof.Setup.lean ====
/-
  The set-up of the launch: the program as the launch theorem sees it, the resource algebra of its
  proof, and names for the buffers of the histogram kernel as a vector subcore addresses them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.Tactic
public import proofs.«01_k».proof.Proof.Gen.KernelIdeal
public import proofs.«01_k».proof.Proof.Gen.KernelIdeal.Skeleton
public import proofs.«01_k».proof.Proof.Hist

@[expose] public section

noncomputable section

namespace Cert.Proof.Ring

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## The resource algebra: the handshakes' rounds, the pipelines' rounds, and the transfers' counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

/-- Propositions of the proof. -/
abbrev PP (F : FTy → Type) := sProp (MT nD τ sig (HIx 1) (Elt F) ℕ UU ℕ)

abbrev EH : Emb UH (MT nD τ sig (HIx 1) (Elt F) ℕ UU ℕ) := embL

/-- The rounds of the pipelines on the TensorCore. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

/-! ## The buffers -/

/-- The magnitudes, the radius map and the ring sums, as locations of device `d`. -/
abbrev magLoc (d : Dev nD) : Loc nD τ sig := (SparseCore.T d).loc main_v167
abbrev radLoc (d : Dev nD) : Loc nD τ sig := (SparseCore.T d).loc main_v52
abbrev sumLoc (d : Dev nD) : Loc nD τ sig := (SparseCore.T d).loc main_v168

abbrev magV : Memref sig .scVector .hbm S64x256x256 .f32 := Memref.whole main_v167_scv
abbrev radV : Memref sig .scVector .hbm S256x256 .i32 := Memref.whole main_v52_scv
abbrev sumV : Memref sig .scVector .hbm S64x512 .f32 := Memref.whole main_v168_scv
/-- A task's scratch: the chunk of radii, the chunks of the two images, the two histograms. -/
abbrev sI : Memref sig .scVector .vmem S64x256 .i32 := Memref.whole cc1_scratch0
abbrev sA : Memref sig .scVector .vmem S64x256 .f32 := Memref.whole cc1_scratch1
abbrev sB : Memref sig .scVector .vmem S64x256 .f32 := Memref.whole cc1_scratch2
abbrev hA : Memref sig .scVector .vmem S512 .f32 := Memref.whole cc1_scratch3
abbrev hB : Memref sig .scVector .vmem S512 .f32 := Memref.whole cc1_scratch4

/-- The SparseCore and the vector subcore of the task at coordinates `L`, and its thread. -/
abbrev cV (L : grid1.Coords) : Fin τ.nSC := (L 0).castLE hcore1
abbrev jV (L : grid1.Coords) : Fin τ.nSub := (L 1).castLE hsub1
abbrev tV (d : Dev nD) (L : grid1.Coords) : Thread nD τ := V d (cV L) (jV L)

theorem bound_zero : grid1.bound 0 = 2 := rfl
theorem bound_one : grid1.bound 1 = 16 := rfl
theorem L0_lt (L : grid1.Coords) : (L 0).val < 2 := (L 0).isLt
theorem L1_lt (L : grid1.Coords) : (L 1).val < 16 := (L 1).isLt

/-- The image the task at `L` adds up in its histogram `r`. -/
def img (L : grid1.Coords) (r : Fin 2) : Fin 64 :=
  ⟨4 * (L 1).val + 2 * (L 0).val + r.val, by have := L0_lt L; have := L1_lt L; have := r.isLt; omega⟩

/-! ## Pixels in row-major order -/

/-- The radii in row-major order. -/
def radSeq (Rf : S256x256.Idx → BitVec 32) (p : ℕ) : BitVec 32 :=
  Rf (fun | 0 => ⟨p / 256 % 256, Nat.mod_lt _ (by decide)⟩ | 1 => ⟨p % 256, Nat.mod_lt _ (by decide)⟩)

/-- The magnitudes of image `n` in row-major order. -/
def magSeq (Mf : S64x256x256.Idx → F .f32) (n : Fin 64) (p : ℕ) : F .f32 :=
  Mf (fun | 0 => n | 1 => ⟨p / 256 % 256, Nat.mod_lt _ (by decide)⟩ | 2 => ⟨p % 256, Nat.mod_lt _ (by decide)⟩)

/-- Rows `64 k, …, 64 k + 63` of a sequence of pixels, as a chunk buffer. -/
def chunk {α : Type} (M : ℕ → α) (k : ℕ) : S64x256.Idx → α := fun j => M ((64 * k + (j 0).val) * 256 + (j 1).val)

/-- The ring sums: of image `i 0`, entry `i 1` of the histogram of all its pixels. -/
def ringSums [FloatOps F] (Mf : S64x256x256.Idx → F .f32) (Rf : S256x256.Idx → BitVec 32) : S64x512.Idx → F .f32 :=
  fun i => Hist.accN (magSeq Mf (i 0)) (fun p => (radSeq Rf p).toNat) 65536 (i 1).val

end Cert.Proof.Ring

end
-- ==== Proof.Steps.lean ====
/-
  The steps of the histogram loop: sixteen radii loaded and checked, sixteen magnitudes of each of the two images
  loaded and added into the two histograms at those radii.
-/
module

public import proofs.«01_k».proof.Proof.Setup

@[expose] public section

noncomputable section

namespace Cert.Proof.Ring

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Hist

variable {F : FTy → Type} [FloatOps F]

local notation "𝕄" => MT nD τ sig (HIx 1) (Elt F) ℕ UU ℕ

/-- The sixteen elements a chunk holds at row `t`, columns `c, …, c + 15`. -/
theorem chunk_lane {α : Type} (M : ℕ → α) (kk t c : ℕ) (o : Fin 2 → ℕ) (ho : o = ![t, c])
    (inb : ∀ a, o a + S1x16.size a ≤ S64x256.size a) (k : Fin 16) :
    shapeCast S16 (fun x => chunk M kk ((Rect.unit (s := S64x256) o S1x16.size inb).toLoadRect.idx x)) shapeCasts_S1x16_S16 (lane k)
      = M ((64 * kk + t) * 256 + c + k.val) := by
  subst ho
  obtain ⟨y, hy⟩ : ∃ y : S1x16.Idx, y = Shape.reshapeEquiv (s := S1x16) (s' := S16) shapeCasts_S1x16_S16 (lane k) := ⟨_, rfl⟩
  have h0 : (y 0).val = 0 := by have h : (y 0).val < 1 := (y 0).isLt; omega
  have h1 : (y 1).val = k.val := by
    have h := Shape.rowMajor_reshapeEquiv (s := S1x16) (s' := S16) shapeCasts_S1x16_S16 (lane k)
    rw [← hy, Shape.rowMajor_val_two, Shape.rowMajor_val_one, h0, Nat.zero_mul, Nat.zero_add] at h
    exact h
  unfold shapeCast
  rw [← hy]
  unfold chunk
  simp only [LoadRect.idx_apply]
  congr 1
  simp [h0, h1]
  omega

section
variable (d : Dev nD) (L : grid1.Coords)

/-- Holding a chunk of radii: sixteen are loaded, -/
theorem wp_ldI {α : Type} {Q : α → sProp 𝕄} (M : ℕ → BitVec 32) (kk t c : ℕ) (o : Fin 2 → ℕ) (ho : o = ![t, c])
    (inb : ∀ a, o a + S1x16.size a ≤ S64x256.size a) {hl : (sI : Memref sig .scVector .vmem S64x256 .i32).view.LoadsAt (Rect.unit (s := S64x256) o S1x16.size inb).toLoadRect}
    {k : Vec F S1x16 .i32 → Prog (TpuEff nD τ sig (Elt F) Λ₀ (tV d L).2) α} :
    ((tV d L).loc cc1_scratch0 ↦{fullShare} chunk M kk : sProp 𝕄)
      ⊢ iprop((∀ w : Vec F S1x16 .i32, ⌜∀ x : Fin 16, shapeCast S16 w shapeCasts_S1x16_S16 (lane x) = M ((64 * kk + t) * 256 + c + x.val)⌝
            -∗ ((tV d L).loc cc1_scratch0 ↦{fullShare} chunk M kk) -∗ wp frame (wpE (defs₀ (F := F)) 𝒱₀ (tV d L) none) Set.univ (k w) Q)
        -∗ wp frame (wpE (defs₀ (F := F)) 𝒱₀ (tV d L) none) Set.univ
            (.op (.load sI (Rect.unit (s := S64x256) o S1x16.size inb).toLoadRect hl) k) Q) := by
  iintro H Hk
  iapply (wp_load 𝒱₀ (tV d L) none Set.univ (m := (sI : Memref sig .scVector .vmem S64x256 .i32)) (S := Finset.univ) (Finset.subset_univ _)) $$ H
  iintro H
  iapply Hk $$ %_ %(chunk_lane M kk t c o ho inb) H

theorem wp_ldA {α : Type} {Q : α → sProp 𝕄} (M : ℕ → F .f32) (kk t c : ℕ) (o : Fin 2 → ℕ) (ho : o = ![t, c])
    (inb : ∀ a, o a + S1x16.size a ≤ S64x256.size a) {hl : (sA : Memref sig .scVector .vmem S64x256 .f32).view.LoadsAt (Rect.unit (s := S64x256) o S1x16.size inb).toLoadRect}
    {k : Vec F S1x16 .f32 → Prog (TpuEff nD τ sig (Elt F) Λ₀ (tV d L).2) α} :
    ((tV d L).loc cc1_scratch1 ↦{fullShare} chunk M kk : sProp 𝕄)
      ⊢ iprop((∀ w : Vec F S1x16 .f32, ⌜∀ x : Fin 16, shapeCast S16 w shapeCasts_S1x16_S16 (lane x) = M ((64 * kk + t) * 256 + c + x.val)⌝
            -∗ ((tV d L).loc cc1_scratch1 ↦{fullShare} chunk M kk) -∗ wp frame (wpE (defs₀ (F := F)) 𝒱₀ (tV d L) none) Set.univ (k w) Q)
        -∗ wp frame (wpE (defs₀ (F := F)) 𝒱₀ (tV d L) none) Set.univ
            (.op (.load sA (Rect.unit (s := S64x256) o S1x16.size inb).toLoadRect hl) k) Q) := by
  iintro H Hk
  iapply (wp_load 𝒱₀ (tV d L) none Set.univ (m := (sA : Memref sig .scVector .vmem S64x256 .f32)) (S := Finset.univ) (Finset.subset_univ _)) $$ H
  iintro H
  iapply Hk $$ %_ %(chunk_lane M kk t c o ho inb) H

theorem wp_ldB {α : Type} {Q : α → sProp 𝕄} (M : ℕ → F .f32) (kk t c : ℕ) (o : Fin 2 → ℕ) (ho : o = ![t, c])
    (inb : ∀ a, o a + S1x16.size a ≤ S64x256.size a) {hl : (sB : Memref sig .scVector .vmem S64x256 .f32).view.LoadsAt (Rect.unit (s := S64x256) o S1x16.size inb).toLoadRect}
    {k : Vec F S1x16 .f32 → Prog (TpuEff nD τ sig (Elt F) Λ₀ (tV d L).2) α} :
    ((tV d L).loc cc1_scratch2 ↦{fullShare} chunk M kk : sProp 𝕄)
      ⊢ iprop((∀ w : Vec F S1x16 .f32, ⌜∀ x : Fin 16, shapeCast S16 w shapeCasts_S1x16_S16 (lane x) = M ((64 * kk + t) * 256 + c + x.val)⌝
            -∗ ((tV d L).loc cc1_scratch2 ↦{fullShare} chunk M kk) -∗ wp frame (wpE (defs₀ (F := F)) 𝒱₀ (tV d L) none) Set.univ (k w) Q)
        -∗ wp frame (wpE (defs₀ (F := F)) 𝒱₀ (tV d L) none) Set.univ
            (.op (.load sB (Rect.unit (s := S64x256) o S1x16.size inb).toLoadRect hl) k) Q) := by
  iintro H Hk
  iapply (wp_load 𝒱₀ (tV d L) none Set.univ (m := (sB : Memref sig .scVector .vmem S64x256 .f32)) (S := Finset.univ) (Finset.subset_univ _)) $$ H
  iintro H
  iapply Hk $$ %_ %(chunk_lane M kk t c o ho inb) H

omit [FloatOps F] in
theorem pts_hA (f : Buf (Elt F) ((tV d L).loc cc1_scratch3)) :
    (((hA : Memref sig .scVector .vmem S512 .f32).access (.whole S512)).loc (tV d L) ↦[((hA : Memref sig .scVector .vmem S512 .f32).access (.whole S512)).set]{fullShare} f : sProp 𝕄)
      = (tV d L).loc cc1_scratch3 ↦{fullShare} f := by
  rw [show ((hA : Memref sig .scVector .vmem S512 .f32).access (.whole S512)).set = Finset.univ from Memref.set_access_whole (cc1_scratch3 : Ref sig .scVector)]
omit [FloatOps F] in
theorem pts_hB (f : Buf (Elt F) ((tV d L).loc cc1_scratch4)) :
    (((hB : Memref sig .scVector .vmem S512 .f32).access (.whole S512)).loc (tV d L) ↦[((hB : Memref sig .scVector .vmem S512 .f32).access (.whole S512)).set]{fullShare} f : sProp 𝕄)
      = (tV d L).loc cc1_scratch4 ↦{fullShare} f := by
  rw [show ((hB : Memref sig .scVector .vmem S512 .f32).access (.whole S512)).set = Finset.univ from Memref.set_access_whole (cc1_scratch4 : Ref sig .scVector)]

omit [FloatOps F] in
theorem access_whole_read {b : Ref sig .scVector} (f : b.ty.Contents (Elt F)) :
    ((Memref.whole b).access (.whole b.ty.shape)).read (Elt F) f = f := by
  funext x
  show f ((Rect.whole b.ty.shape).emb x) = f x
  rw [Rect.emb_whole_apply]
omit [FloatOps F] in
theorem access_whole_write {b : Ref sig .scVector} (f w : b.ty.Contents (Elt F)) :
    ((Memref.whole b).access (.whole b.ty.shape)).write (Elt F) f w Finset.univ = w := by
  have h := View.read_write_univ (v := (Memref.whole b).access (.whole b.ty.shape)) (Val := Elt F) f w
  rw [access_whole_read] at h
  exact h

/-- Holding a histogram: sixteen magnitudes are added into it. -/
theorem wp_histA {α : Type} {Q : α → sProp 𝕄} (M : ℕ → F .f32) (R : ℕ → ℕ) (p p' : ℕ) (hp : p' = p + 16) (v : IVec S16 32) (w : Vec F S16 .f32)
    (hv : ∀ k : Fin 16, (v (lane k)).toNat = R (p + k.val)) (hw : ∀ k : Fin 16, w (lane k) = M (p + k.val))
    {h : ∀ a x, ((![v] : Fin 1 → IVec S16 32) a x).toNat < S512.size a} {hs : ((hA : Memref sig .scVector .vmem S512 .f32).access (.whole S512)).Stores Finset.univ}
    {k : PUnit → Prog (TpuEff nD τ sig (Elt F) Λ₀ (tV d L).2) α} :
    ((tV d L).loc cc1_scratch3 ↦{fullShare} histBuf M R p : sProp 𝕄)
      ⊢ iprop((((tV d L).loc cc1_scratch3 ↦{fullShare} histBuf M R p') -∗ wp frame (wpE (defs₀ (F := F)) 𝒱₀ (tV d L) none) Set.univ (k ⟨⟩) Q)
        -∗ wp frame (wpE (defs₀ (F := F)) 𝒱₀ (tV d L) none) Set.univ
            (SparseCore.vectorStoreIdx hA ![v] w (fun _ => 1#1) true h hs >>= k) Q) := by
  subst hp
  iintro H Hk
  ihave H' := (Entails.of_eq (pts_hA (F := F) d L _).symm) $$ H
  iapply (SparseCore.wp_vectorStoreIdx 𝒱₀ (tV d L) none Set.univ (base := (hA : Memref sig .scVector .vmem S512 .f32))) $$ H'
  iintro H'
  ihave H := (Entails.of_eq (pts_hA (F := F) d L _)) $$ H'
  rw [show ((hA : Memref sig .scVector .vmem S512 .f32).access (.whole S512)).read (Elt F) (histBuf M R p) = histBuf M R p
      from access_whole_read (b := cc1_scratch3) _,
    storeIdx_accN M R p v w h hv hw,
    show ((hA : Memref sig .scVector .vmem S512 .f32).access (.whole S512)).write (Elt F) (histBuf M R p) (histBuf M R (p + 16)) Finset.univ = histBuf M R (p + 16)
      from access_whole_write (b := cc1_scratch3) _ _]
  iapply Hk; iexact H

theorem wp_histB {α : Type} {Q : α → sProp 𝕄} (M : ℕ → F .f32) (R : ℕ → ℕ) (p p' : ℕ) (hp : p' = p + 16) (v : IVec S16 32) (w : Vec F S16 .f32)
    (hv : ∀ k : Fin 16, (v (lane k)).toNat = R (p + k.val)) (hw : ∀ k : Fin 16, w (lane k) = M (p + k.val))
    {h : ∀ a x, ((![v] : Fin 1 → IVec S16 32) a x).toNat < S512.size a} {hs : ((hB : Memref sig .scVector .vmem S512 .f32).access (.whole S512)).Stores Finset.univ}
    {k : PUnit → Prog (TpuEff nD τ sig (Elt F) Λ₀ (tV d L).2) α} :
    ((tV d L).loc cc1_scratch4 ↦{fullShare} histBuf M R p : sProp 𝕄)
      ⊢ iprop((((tV d L).loc cc1_scratch4 ↦{fullShare} histBuf M R p') -∗ wp frame (wpE (defs₀ (F := F)) 𝒱₀ (tV d L) none) Set.univ (k ⟨⟩) Q)
        -∗ wp frame (wpE (defs₀ (F := F)) 𝒱₀ (tV d L) none) Set.univ
            (SparseCore.vectorStoreIdx hB ![v] w (fun _ => 1#1) true h hs >>= k) Q) := by
  subst hp
  iintro H Hk
  ihave H' := (Entails.of_eq (pts_hB (F := F) d L _).symm) $$ H
  iapply (SparseCore.wp_vectorStoreIdx 𝒱₀ (tV d L) none Set.univ (base := (hB : Memref sig .scVector .vmem S512 .f32))) $$ H'
  iintro H'
  ihave H := (Entails.of_eq (pts_hB (F := F) d L _)) $$ H'
  rw [show ((hB : Memref sig .scVector .vmem S512 .f32).access (.whole S512)).read (Elt F) (histBuf M R p) = histBuf M R p
      from access_whole_read (b := cc1_scratch4) _,
    storeIdx_accN M R p v w h hv hw,
    show ((hB : Memref sig .scVector .vmem S512 .f32).access (.whole S512)).write (Elt F) (histBuf M R p) (histBuf M R (p + 16)) Finset.univ = histBuf M R (p + 16)
      from access_whole_write (b := cc1_scratch4) _ _]
  iapply Hk; iexact H

end

end Cert.Proof.Ring

end
-- ==== Proof.Parts.lean ====
/-
  One row of a chunk: sixteen groups of sixteen pixels, in the four parts the loop's body is printed in. Each part but the
  last step of its last group adds four groups into both histograms.
-/
module

public import proofs.«01_k».proof.Proof.Steps

@[expose] public section

noncomputable section

namespace Cert.Proof.Ring

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Hist

variable {F : FTy → Type} [FloatOps F]

local notation "𝕄" => MT nD τ sig (HIx 1) (Elt F) ℕ UU ℕ

section
variable (d : Dev nD) (L : grid1.Coords)

/-- The tile's five buffers: the chunk `kk` of the radii and of the two images, and the two histograms after `pA` and `pB` pixels. -/
def bufs (Rs : ℕ → BitVec 32) (MA MB : ℕ → F .f32) (kk pA pB : ℕ) : sProp 𝕄 :=
  iprop(((tV d L).loc cc1_scratch0 ↦{fullShare} chunk Rs kk) ∗ ((tV d L).loc cc1_scratch1 ↦{fullShare} chunk MA kk)
    ∗ ((tV d L).loc cc1_scratch2 ↦{fullShare} chunk MB kk)
    ∗ ((tV d L).loc cc1_scratch3 ↦{fullShare} histBuf MA (fun p => (Rs p).toNat) pA)
    ∗ ((tV d L).loc cc1_scratch4 ↦{fullShare} histBuf MB (fun p => (Rs p).toNat) pB))

omit [FloatOps F] in
theorem of_pure_sep {φ : Prop} {A B : sProp 𝕄} (h : φ → A ⊢ B) : iprop(⌜φ⌝ ∗ A) ⊢ B := by
  iintro ⟨%hφ, H⟩
  iapply (h hφ) $$ H

/-- Every radius lies within the histogram, as the check of a group states it. -/
theorem lanes_lt (Rs : ℕ → BitVec 32) (hR : ∀ p, (Rs p).toNat < 512) (v : IVec S16 32) (p : ℕ)
    (hv : ∀ x : Fin 16, v (lane x) = Rs (p + x.val)) : ∀ a x, ((![v] : Fin 1 → IVec S16 32) a x).toNat < S512.size a := by
  intro a x
  obtain rfl : a = 0 := Subsingleton.elim _ _
  have hx : x = lane ⟨(x 0).val, (x 0).isLt⟩ := by funext a; obtain rfl : a = 0 := Subsingleton.elim _ _; rfl
  show (v x).toNat < 512
  rw [hx, hv]; exact hR _

/-- A group's steps up to the load for the second histogram. -/
theorem wp_group {α : Type} {Q : α → sProp 𝕄} (Rs : ℕ → BitVec 32) (MA MB : ℕ → F .f32) (hR : ∀ p, (Rs p).toNat < 512) (kk t c pA pB : ℕ)
    (hA : pA = (64 * kk + t) * 256 + c)
    {o1 o2 o3 : Fin 2 → ℕ} (h1 : o1 = ![t, c]) (h2 : o2 = ![t, c]) (h3 : o3 = ![t, c])
    {i1 : ∀ a, o1 a + S1x16.size a ≤ S64x256.size a} {i2 : ∀ a, o2 a + S1x16.size a ≤ S64x256.size a} {i3 : ∀ a, o3 a + S1x16.size a ≤ S64x256.size a}
    (P : IVec S16 32 → Prop) (dec : ∀ v, Decidable (P v)) (hP : ∀ v, (∀ a x, ((![v] : Fin 1 → IVec S16 32) a x).toNat < S512.size a) → P v)
    (h : ∀ v, P v → ∀ a x, ((![v] : Fin 1 → IVec S16 32) a x).toNat < S512.size a)
    {l1 : (sI : Memref sig .scVector .vmem S64x256 .i32).view.LoadsAt (Rect.unit (s := S64x256) o1 S1x16.size i1).toLoadRect}
    {l2 : (sA : Memref sig .scVector .vmem S64x256 .f32).view.LoadsAt (Rect.unit (s := S64x256) o2 S1x16.size i2).toLoadRect}
    {l3 : (sB : Memref sig .scVector .vmem S64x256 .f32).view.LoadsAt (Rect.unit (s := S64x256) o3 S1x16.size i3).toLoadRect}
    {hs : ((Ring.hA : Memref sig .scVector .vmem S512 .f32).access (.whole S512)).Stores Finset.univ}
    {k : (w : Vec F S1x16 .i32) → PLift (P (shapeCast S16 w shapeCasts_S1x16_S16)) → Vec F S1x16 .f32 → Prog (TpuEff nD τ sig (Elt F) Λ₀ (tV d L).2) α} :
    (bufs d L Rs MA MB kk pA pB : sProp 𝕄)
      ⊢ iprop((∀ w hw b, ⌜(∀ x : Fin 16, shapeCast S16 w shapeCasts_S1x16_S16 (lane x) = Rs ((64 * kk + t) * 256 + c + x.val))
              ∧ (∀ x : Fin 16, shapeCast S16 b shapeCasts_S1x16_S16 (lane x) = MB ((64 * kk + t) * 256 + c + x.val))⌝
            -∗ bufs d L Rs MA MB kk (pA + 16) pB -∗ wp frame (wpE (defs₀ (F := F)) 𝒱₀ (tV d L) none) Set.univ (k w hw b) Q)
        -∗ wp frame (wpE (defs₀ (F := F)) 𝒱₀ (tV d L) none) Set.univ
            (.op (.load sI (Rect.unit (s := S64x256) o1 S1x16.size i1).toLoadRect l1) fun w =>
              .op (.assume (P (shapeCast S16 w shapeCasts_S1x16_S16)) (dec _)) fun hw =>
              .op (.load sA (Rect.unit (s := S64x256) o2 S1x16.size i2).toLoadRect l2) fun a =>
              SparseCore.vectorStoreIdx Ring.hA ![shapeCast S16 w shapeCasts_S1x16_S16] (shapeCast S16 a shapeCasts_S1x16_S16) (fun _ => 1#1) true (h _ hw.down) hs >>= fun _ =>
              .op (.load sB (Rect.unit (s := S64x256) o3 S1x16.size i3).toLoadRect l3) fun b => k w hw b) Q) := by
  unfold bufs
  iintro ⟨HI, HA, HB, H0, H1⟩ Hk
  iapply (wp_ldI d L Rs kk t c o1 h1 i1) $$ HI
  iintro %w %hw HI
  rw [wp_assume_of _ _ _ _ (hP _ (lanes_lt Rs hR _ _ hw))]
  iapply (wp_ldA d L MA kk t c o2 h2 i2) $$ HA
  iintro %a %ha HA
  iapply (wp_histA d L MA (fun p => (Rs p).toNat) pA (pA + 16) rfl _ _ (fun x => by rw [hw, hA]) (fun x => by rw [ha, hA])) $$ H0
  iintro H0
  iapply (wp_ldB d L MB kk t c o3 h3 i3) $$ HB
  iintro %b %hb HB
  iapply Hk $$ %w %_ %b %(And.intro hw hb)
  isplitl [HI]; iexact HI
  isplitl [HA]; iexact HA
  isplitl [HB]; iexact HB
  isplitl [H0]; iexact H0
  iexact H1

/-- A group's last step. -/
theorem wp_second {α : Type} {Q : α → sProp 𝕄} (Rs : ℕ → BitVec 32) (MA MB : ℕ → F .f32) (kk pA pB : ℕ) (v : IVec S16 32) (w : Vec F S16 .f32)
    (hv : ∀ x : Fin 16, v (lane x) = Rs (pB + x.val)) (hw : ∀ x : Fin 16, w (lane x) = MB (pB + x.val))
    {h : ∀ a x, ((![v] : Fin 1 → IVec S16 32) a x).toNat < S512.size a} {hs : ((hB : Memref sig .scVector .vmem S512 .f32).access (.whole S512)).Stores Finset.univ}
    {k : PUnit → Prog (TpuEff nD τ sig (Elt F) Λ₀ (tV d L).2) α} :
    (bufs d L Rs MA MB kk pA pB : sProp 𝕄)
      ⊢ iprop((bufs d L Rs MA MB kk pA (pB + 16) -∗ wp frame (wpE (defs₀ (F := F)) 𝒱₀ (tV d L) none) Set.univ (k ⟨⟩) Q)
        -∗ wp frame (wpE (defs₀ (F := F)) 𝒱₀ (tV d L) none) Set.univ
            (SparseCore.vectorStoreIdx hB ![v] w (fun _ => 1#1) true h hs >>= k) Q) := by
  unfold bufs
  iintro ⟨HI, HA, HB, H0, H1⟩ Hk
  iapply (wp_histB d L MB (fun p => (Rs p).toNat) pB (pB + 16) rfl v w (fun x => by rw [hv]) hw) $$ H1
  iintro H1
  iapply Hk
  isplitl [HI]; iexact HI
  isplitl [HA]; iexact HA
  isplitl [HB]; iexact HB
  isplitl [H0]; iexact H0
  iexact H1

theorem part1_wp (Rs : ℕ → BitVec 32) (MA MB : ℕ → F .f32) (hR : ∀ p, (Rs p).toNat < 512) (kk : ℕ) (t : Fin k1_t3_loop.trips) :
    (bufs d L Rs MA MB kk ((64 * kk + t.val) * 256 + 0) ((64 * kk + t.val) * 256 + 0) : sProp 𝕄)
      ⊢ wp frame (wpE (defs₀ (F := F)) 𝒱₀ (tV d L) none) Set.univ
          (k1_part1 L magV (Memref.isWhole_whole main_v167_scv) radV (Memref.isWhole_whole main_v52_scv) sumV (Memref.isWhole_whole main_v168_scv) sI (Memref.isWhole_whole cc1_scratch0) sA (Memref.isWhole_whole cc1_scratch1) sB (Memref.isWhole_whole cc1_scratch2) hA (Memref.isWhole_whole cc1_scratch3) hB (Memref.isWhole_whole cc1_scratch4) cc1_scoped0 cc1_scoped1 cc1_scoped2 cc1_scoped3 cc1_scoped4 0#32 1#32 t)
          (fun r => iprop(⌜(∀ x : Fin 16, r.2.1 (lane x) = Rs ((64 * kk + t.val) * 256 + 48 + x.val)) ∧ (∀ x : Fin 16, r.2.2.2 (lane x) = MB ((64 * kk + t.val) * 256 + 48 + x.val))⌝
            ∗ bufs d L Rs MA MB kk ((64 * kk + t.val) * 256 + 64) ((64 * kk + t.val) * 256 + 48))) := by
  rw [k1_part1_eq_skeleton]
  unfold k1_part1_skel
  simp only [Prog.lift, Prog.bind_op, Prog.bind_ret, Prog.pure_eq_ret]
  iintro H
  iapply (wp_group d L Rs MA MB hR kk t.val 0 ((64 * kk + t.val) * 256 + 0) ((64 * kk + t.val) * 256 + 0) rfl
    (k1_off4_eq t) (k1_off4_eq t) (k1_off5_eq t) k1_chk1 k1_chk1.dec (fun _ h => ⟨h, h⟩) k1_idx1_inb) $$ H
  iintro %w0 %c0 %b0 %h0 H
  iapply (wp_second d L Rs MA MB kk _ _ _ _ h0.1 h0.2) $$ H
  iintro H
  iapply (wp_group d L Rs MA MB hR kk t.val 16 ((64 * kk + t.val) * 256 + 16) ((64 * kk + t.val) * 256 + 16) rfl
    (k1_off6_eq t) (k1_off6_eq t) (k1_off7_eq t) k1_chk2 k1_chk2.dec (fun _ h => ⟨h, h⟩) k1_idx3_inb) $$ H
  iintro %w1 %c1 %b1 %h1 H
  iapply (wp_second d L Rs MA MB kk _ _ _ _ h1.1 h1.2) $$ H
  iintro H
  iapply (wp_group d L Rs MA MB hR kk t.val 32 ((64 * kk + t.val) * 256 + 32) ((64 * kk + t.val) * 256 + 32) rfl
    (k1_off8_eq t) (k1_off8_eq t) (k1_off9_eq t) k1_chk3 k1_chk3.dec (fun _ h => ⟨h, h⟩) k1_idx5_inb) $$ H
  iintro %w2 %c2 %b2 %h2 H
  iapply (wp_second d L Rs MA MB kk _ _ _ _ h2.1 h2.2) $$ H
  iintro H
  iapply (wp_group d L Rs MA MB hR kk t.val 48 ((64 * kk + t.val) * 256 + 48) ((64 * kk + t.val) * 256 + 48) rfl
    (k1_off10_eq t) (k1_off10_eq t) (k1_off11_eq t) k1_chk4 k1_chk4.dec (fun _ h => ⟨h, h⟩) k1_idx7_inb) $$ H
  iintro %w3 %c3 %b3 %h3 H
  rw [wp_ret]
  imodintro
  isplitr [H]
  · ipureintro; exact h3
  · iexact H

theorem part2_wp (Rs : ℕ → BitVec 32) (MA MB : ℕ → F .f32) (hR : ∀ p, (Rs p).toNat < 512) (kk : ℕ) (t : Fin k1_t3_loop.trips) (a : BitVec 32) (v : Vec F S16 .i32) (hc : k1_chk4 v) (b : Vec F S16 .f32)
    (hv : ∀ x : Fin 16, v (lane x) = Rs ((64 * kk + t.val) * 256 + 48 + x.val)) (hb : ∀ x : Fin 16, b (lane x) = MB ((64 * kk + t.val) * 256 + 48 + x.val)) :
    (bufs d L Rs MA MB kk ((64 * kk + t.val) * 256 + 64) ((64 * kk + t.val) * 256 + 48) : sProp 𝕄)
      ⊢ wp frame (wpE (defs₀ (F := F)) 𝒱₀ (tV d L) none) Set.univ
          (k1_part2 L magV (Memref.isWhole_whole main_v167_scv) radV (Memref.isWhole_whole main_v52_scv) sumV (Memref.isWhole_whole main_v168_scv) sI (Memref.isWhole_whole cc1_scratch0) sA (Memref.isWhole_whole cc1_scratch1) sB (Memref.isWhole_whole cc1_scratch2) hA (Memref.isWhole_whole cc1_scratch3) hB (Memref.isWhole_whole cc1_scratch4) cc1_scoped0 cc1_scoped1 cc1_scoped2 cc1_scoped3 cc1_scoped4 t a v hc b)
          (fun r => iprop(⌜(∀ x : Fin 16, r.1 (lane x) = Rs ((64 * kk + t.val) * 256 + 112 + x.val)) ∧ (∀ x : Fin 16, r.2.2 (lane x) = MB ((64 * kk + t.val) * 256 + 112 + x.val))⌝
            ∗ bufs d L Rs MA MB kk ((64 * kk + t.val) * 256 + 128) ((64 * kk + t.val) * 256 + 112))) := by
  rw [k1_part2_eq_skeleton]
  unfold k1_part2_skel
  simp only [Prog.lift, Prog.bind_op, Prog.bind_ret, Prog.pure_eq_ret]
  iintro H
  iapply (wp_second d L Rs MA MB kk _ _ v b hv hb) $$ H
  iintro H
  iapply (wp_group d L Rs MA MB hR kk t.val 64 ((64 * kk + t.val) * 256 + 64) ((64 * kk + t.val) * 256 + 64) rfl
    (k1_off12_eq t) (k1_off12_eq t) (k1_off13_eq t) k1_chk5 k1_chk5.dec (fun _ h => ⟨h, h⟩) k1_idx9_inb) $$ H
  iintro %w4 %c4 %b4 %h4 H
  iapply (wp_second d L Rs MA MB kk _ _ _ _ h4.1 h4.2) $$ H
  iintro H
  iapply (wp_group d L Rs MA MB hR kk t.val 80 ((64 * kk + t.val) * 256 + 80) ((64 * kk + t.val) * 256 + 80) rfl
    (k1_off14_eq t) (k1_off14_eq t) (k1_off15_eq t) k1_chk6 k1_chk6.dec (fun _ h => ⟨h, h⟩) k1_idx11_inb) $$ H
  iintro %w5 %c5 %b5 %h5 H
  iapply (wp_second d L Rs MA MB kk _ _ _ _ h5.1 h5.2) $$ H
  iintro H
  iapply (wp_group d L Rs MA MB hR kk t.val 96 ((64 * kk + t.val) * 256 + 96) ((64 * kk + t.val) * 256 + 96) rfl
    (k1_off16_eq t) (k1_off16_eq t) (k1_off17_eq t) k1_chk7 k1_chk7.dec (fun _ h => ⟨h, h⟩) k1_idx13_inb) $$ H
  iintro %w6 %c6 %b6 %h6 H
  iapply (wp_second d L Rs MA MB kk _ _ _ _ h6.1 h6.2) $$ H
  iintro H
  iapply (wp_group d L Rs MA MB hR kk t.val 112 ((64 * kk + t.val) * 256 + 112) ((64 * kk + t.val) * 256 + 112) rfl
    (k1_off18_eq t) (k1_off18_eq t) (k1_off19_eq t) k1_chk8 k1_chk8.dec (fun _ h => ⟨h, h⟩) k1_idx15_inb) $$ H
  iintro %w7 %c7 %b7 %h7 H
  rw [wp_ret]
  imodintro
  isplitr [H]
  · ipureintro; exact h7
  · iexact H

theorem part3_wp (Rs : ℕ → BitVec 32) (MA MB : ℕ → F .f32) (hR : ∀ p, (Rs p).toNat < 512) (kk : ℕ) (t : Fin k1_t3_loop.trips) (a : BitVec 32) (v : Vec F S16 .i32) (hc : k1_chk8 v) (b : Vec F S16 .f32)
    (hv : ∀ x : Fin 16, v (lane x) = Rs ((64 * kk + t.val) * 256 + 112 + x.val)) (hb : ∀ x : Fin 16, b (lane x) = MB ((64 * kk + t.val) * 256 + 112 + x.val)) :
    (bufs d L Rs MA MB kk ((64 * kk + t.val) * 256 + 128) ((64 * kk + t.val) * 256 + 112) : sProp 𝕄)
      ⊢ wp frame (wpE (defs₀ (F := F)) 𝒱₀ (tV d L) none) Set.univ
          (k1_part3 L magV (Memref.isWhole_whole main_v167_scv) radV (Memref.isWhole_whole main_v52_scv) sumV (Memref.isWhole_whole main_v168_scv) sI (Memref.isWhole_whole cc1_scratch0) sA (Memref.isWhole_whole cc1_scratch1) sB (Memref.isWhole_whole cc1_scratch2) hA (Memref.isWhole_whole cc1_scratch3) hB (Memref.isWhole_whole cc1_scratch4) cc1_scoped0 cc1_scoped1 cc1_scoped2 cc1_scoped3 cc1_scoped4 t a v hc b)
          (fun r => iprop(⌜(∀ x : Fin 16, r.1 (lane x) = Rs ((64 * kk + t.val) * 256 + 176 + x.val)) ∧ (∀ x : Fin 16, r.2.2 (lane x) = MB ((64 * kk + t.val) * 256 + 176 + x.val))⌝
            ∗ bufs d L Rs MA MB kk ((64 * kk + t.val) * 256 + 192) ((64 * kk + t.val) * 256 + 176))) := by
  rw [k1_part3_eq_skeleton]
  unfold k1_part3_skel
  simp only [Prog.lift, Prog.bind_op, Prog.bind_ret, Prog.pure_eq_ret]
  iintro H
  iapply (wp_second d L Rs MA MB kk _ _ v b hv hb) $$ H
  iintro H
  iapply (wp_group d L Rs MA MB hR kk t.val 128 ((64 * kk + t.val) * 256 + 128) ((64 * kk + t.val) * 256 + 128) rfl
    (k1_off20_eq t) (k1_off20_eq t) (k1_off21_eq t) k1_chk9 k1_chk9.dec (fun _ h => ⟨h, h⟩) k1_idx17_inb) $$ H
  iintro %w8 %c8 %b8 %h8 H
  iapply (wp_second d L Rs MA MB kk _ _ _ _ h8.1 h8.2) $$ H
  iintro H
  iapply (wp_group d L Rs MA MB hR kk t.val 144 ((64 * kk + t.val) * 256 + 144) ((64 * kk + t.val) * 256 + 144) rfl
    (k1_off22_eq t) (k1_off22_eq t) (k1_off23_eq t) k1_chk10 k1_chk10.dec (fun _ h => ⟨h, h⟩) k1_idx19_inb) $$ H
  iintro %w9 %c9 %b9 %h9 H
  iapply (wp_second d L Rs MA MB kk _ _ _ _ h9.1 h9.2) $$ H
  iintro H
  iapply (wp_group d L Rs MA MB hR kk t.val 160 ((64 * kk + t.val) * 256 + 160) ((64 * kk + t.val) * 256 + 160) rfl
    (k1_off24_eq t) (k1_off24_eq t) (k1_off25_eq t) k1_chk11 k1_chk11.dec (fun _ h => ⟨h, h⟩) k1_idx21_inb) $$ H
  iintro %w10 %c10 %b10 %h10 H
  iapply (wp_second d L Rs MA MB kk _ _ _ _ h10.1 h10.2) $$ H
  iintro H
  iapply (wp_group d L Rs MA MB hR kk t.val 176 ((64 * kk + t.val) * 256 + 176) ((64 * kk + t.val) * 256 + 176) rfl
    (k1_off26_eq t) (k1_off26_eq t) (k1_off27_eq t) k1_chk12 k1_chk12.dec (fun _ h => ⟨h, h⟩) k1_idx23_inb) $$ H
  iintro %w11 %c11 %b11 %h11 H
  rw [wp_ret]
  imodintro
  isplitr [H]
  · ipureintro; exact h11
  · iexact H

theorem part4_wp (Rs : ℕ → BitVec 32) (MA MB : ℕ → F .f32) (hR : ∀ p, (Rs p).toNat < 512) (kk : ℕ) (t : Fin k1_t3_loop.trips) (a : BitVec 32) (v : Vec F S16 .i32) (hc : k1_chk12 v) (b : Vec F S16 .f32)
    (hv : ∀ x : Fin 16, v (lane x) = Rs ((64 * kk + t.val) * 256 + 176 + x.val)) (hb : ∀ x : Fin 16, b (lane x) = MB ((64 * kk + t.val) * 256 + 176 + x.val)) :
    (bufs d L Rs MA MB kk ((64 * kk + t.val) * 256 + 192) ((64 * kk + t.val) * 256 + 176) : sProp 𝕄)
      ⊢ wp frame (wpE (defs₀ (F := F)) 𝒱₀ (tV d L) none) Set.univ
          (k1_part4 L magV (Memref.isWhole_whole main_v167_scv) radV (Memref.isWhole_whole main_v52_scv) sumV (Memref.isWhole_whole main_v168_scv) sI (Memref.isWhole_whole cc1_scratch0) sA (Memref.isWhole_whole cc1_scratch1) sB (Memref.isWhole_whole cc1_scratch2) hA (Memref.isWhole_whole cc1_scratch3) hB (Memref.isWhole_whole cc1_scratch4) cc1_scoped0 cc1_scoped1 cc1_scoped2 cc1_scoped3 cc1_scoped4 t a v hc b)
          (fun r => iprop(⌜(∀ x : Fin 16, r.1 (lane x) = Rs ((64 * kk + t.val) * 256 + 240 + x.val)) ∧ (∀ x : Fin 16, r.2.2 (lane x) = MB ((64 * kk + t.val) * 256 + 240 + x.val))⌝
            ∗ bufs d L Rs MA MB kk ((64 * kk + t.val) * 256 + 256) ((64 * kk + t.val) * 256 + 240))) := by
  rw [k1_part4_eq_skeleton]
  unfold k1_part4_skel
  simp only [Prog.lift, Prog.bind_op, Prog.bind_ret, Prog.pure_eq_ret]
  iintro H
  iapply (wp_second d L Rs MA MB kk _ _ v b hv hb) $$ H
  iintro H
  iapply (wp_group d L Rs MA MB hR kk t.val 192 ((64 * kk + t.val) * 256 + 192) ((64 * kk + t.val) * 256 + 192) rfl
    (k1_off28_eq t) (k1_off28_eq t) (k1_off29_eq t) k1_chk13 k1_chk13.dec (fun _ h => ⟨h, h⟩) k1_idx25_inb) $$ H
  iintro %w12 %c12 %b12 %h12 H
  iapply (wp_second d L Rs MA MB kk _ _ _ _ h12.1 h12.2) $$ H
  iintro H
  iapply (wp_group d L Rs MA MB hR kk t.val 208 ((64 * kk + t.val) * 256 + 208) ((64 * kk + t.val) * 256 + 208) rfl
    (k1_off30_eq t) (k1_off30_eq t) (k1_off31_eq t) k1_chk14 k1_chk14.dec (fun _ h => ⟨h, h⟩) k1_idx27_inb) $$ H
  iintro %w13 %c13 %b13 %h13 H
  iapply (wp_second d L Rs MA MB kk _ _ _ _ h13.1 h13.2) $$ H
  iintro H
  iapply (wp_group d L Rs MA MB hR kk t.val 224 ((64 * kk + t.val) * 256 + 224) ((64 * kk + t.val) * 256 + 224) rfl
    (k1_off32_eq t) (k1_off32_eq t) (k1_off33_eq t) k1_chk15 k1_chk15.dec (fun _ h => ⟨h, h⟩) k1_idx29_inb) $$ H
  iintro %w14 %c14 %b14 %h14 H
  iapply (wp_second d L Rs MA MB kk _ _ _ _ h14.1 h14.2) $$ H
  iintro H
  iapply (wp_group d L Rs MA MB hR kk t.val 240 ((64 * kk + t.val) * 256 + 240) ((64 * kk + t.val) * 256 + 240) rfl
    (k1_off34_eq t) (k1_off34_eq t) (k1_off35_eq t) k1_chk16 k1_chk16.dec (fun _ h => ⟨h, h⟩) k1_idx31_inb) $$ H
  iintro %w15 %c15 %b15 %h15 H
  rw [wp_ret]
  imodintro
  isplitr [H]
  · ipureintro; exact h15
  · iexact H

/-- A row of a chunk. -/
theorem row_wp (Rs : ℕ → BitVec 32) (MA MB : ℕ → F .f32) (hR : ∀ p, (Rs p).toNat < 512) (kk : ℕ) (t : Fin k1_t3_loop.trips) :
    (bufs d L Rs MA MB kk ((64 * kk + t.val) * 256) ((64 * kk + t.val) * 256) : sProp 𝕄)
      ⊢ wp frame (wpE (defs₀ (F := F)) 𝒱₀ (tV d L) none) Set.univ
          (k1_t3_body L magV (Memref.isWhole_whole main_v167_scv) radV (Memref.isWhole_whole main_v52_scv) sumV (Memref.isWhole_whole main_v168_scv) sI (Memref.isWhole_whole cc1_scratch0) sA (Memref.isWhole_whole cc1_scratch1) sB (Memref.isWhole_whole cc1_scratch2) hA (Memref.isWhole_whole cc1_scratch3) hB (Memref.isWhole_whole cc1_scratch4) cc1_scoped0 cc1_scoped1 cc1_scoped2 cc1_scoped3 cc1_scoped4 t ())
          (fun _ => bufs d L Rs MA MB kk ((64 * kk + (t.val + 1)) * 256) ((64 * kk + (t.val + 1)) * 256)) := by
  unfold k1_t3_body
  rw [wp_bind]
  refine (part1_wp d L Rs MA MB hR kk t).trans (wp_mono frame _ _ fun r => ?_)
  obtain ⟨a, v, hc, b⟩ := r
  refine of_pure_sep fun h => ?_
  rw [wp_bind]
  refine (part2_wp d L Rs MA MB hR kk t a v hc b h.1 h.2).trans (wp_mono frame _ _ fun r => ?_)
  obtain ⟨v, hc, b⟩ := r
  refine of_pure_sep fun h => ?_
  rw [wp_bind]
  refine (part3_wp d L Rs MA MB hR kk t a v hc b h.1 h.2).trans (wp_mono frame _ _ fun r => ?_)
  obtain ⟨v, hc, b⟩ := r
  refine of_pure_sep fun h => ?_
  rw [wp_bind]
  refine (part4_wp d L Rs MA MB hR kk t a v hc b h.1 h.2).trans (wp_mono frame _ _ fun r => ?_)
  obtain ⟨v, hc, b⟩ := r
  refine of_pure_sep fun h => ?_
  iintro H
  iapply (wp_second d L Rs MA MB kk _ _ v b h.1 h.2) $$ H
  iintro H
  rw [Prog.pure_eq_ret, wp_ret]
  imodintro
  rw [show (64 * kk + (t.val + 1)) * 256 = (64 * kk + t.val) * 256 + 256 by omega]
  iexact H

end

end Cert.Proof.Ring

end
-- ==== Proof.Copies.lean ====
/-
  The transfers of the histogram kernel: a copy and its wait as one step, what a chunk of the radius map or of an image
  holds when read through the kernel's slices, and which row of the ring sums a histogram is written to.
-/
module

public import proofs.«01_k».proof.Proof.Parts

@[expose] public section

noncomputable section

namespace Cert.Proof.Ring

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Hist

variable {F : FTy → Type} [FloatOps F]

local notation "𝕄" => MT nD τ sig (HIx 1) (Elt F) ℕ UU ℕ

/-- The waits a thread has recorded: those it began with and others at the index of its own transfers. -/
def waited (thr : Thread nD τ) (O : CellTallies nD τ sig (HIx 1)) (W : Waits sig (HIx 1)) : sProp 𝕄 :=
  iprop(∃ W', ⌜∀ p ∈ W', p ∈ W ∨ p.2 = none⌝ ∗ owes thr O W')

/-- A copy and the wait for it: the source stays as it was, the destination is written with what the source reads. -/
theorem wp_copy {α : Type} {Q : α → sProp 𝕄} (d : Dev nD) (L : grid1.Coords) {sp sp' : Space} {s : Shape} {e : EltTy}
    {src : Memref sig .scVector sp s e} {dst : Memref sig .scVector sp' s e} {sem : DmaSem sig}
    {hsrc hsrc' : src.view.WordExact} {hdst hdst' : dst.view.WordExact}
    {hsem : DmaTarget.Typed (nD := nD) (τ := τ) (p := (tV d L).2) sp (.dma sem) (.here dst)}
    {k : PUnit → Prog (TpuEff nD τ sig (Elt F) Λ₀ (tV d L).2) α} {q : PosShare TreeShare}
    {fs : Buf (Elt F) (src.view.loc (tV d L))} {fd : Buf (Elt F) (dst.view.loc (tV d L))}
    (O : CellTallies nD τ sig (HIx 1)) (W : Waits sig (HIx 1)) (hs : 0 < s.numel) :
    (iprop(Transfers.MayWaits (tV d L) none O ∗ (src.view.loc (tV d L) ↦[src.view.set]{q} fs) ∗ (dst.view.loc (tV d L) ↦[dst.view.set]{fullShare} fd)
        ∗ semVal (tV d L, .dma sem) 0 ∗ waited (tV d L) O W) : sProp 𝕄)
      ⊢ iprop((iprop((src.view.loc (tV d L) ↦[src.view.set]{q} fs)
              ∗ (dst.view.loc (tV d L) ↦[dst.view.set]{fullShare} (dst.view.write (Elt F) fd (src.view.read (Elt F) fs) Finset.univ))
              ∗ semVal (tV d L, .dma sem) 0 ∗ waited (tV d L) O W)
            -∗ wp frame (wpE (defs₀ (F := F)) 𝒱₀ (tV d L) none) Set.univ (k ⟨⟩) Q)
        -∗ wp frame (wpE (defs₀ (F := F)) 𝒱₀ (tV d L) none) Set.univ
            (.op (.enqueueDma src (.here dst) (.dma sem) hsrc hdst hsem) fun _ => .op (.waitDma2 sem src dst hsrc' hdst') k) Q) := by
  unfold waited
  iintro ⟨Hmw, Hs, Hd, Hv, %W', %hW', HO⟩ Hk
  iapply (Transfers.wp_dmaLocal countersEmb 𝒱₀ (tV d L) none none (dst.view.amount (.dma sem)) rfl (View.amount_pos _ _ hs) (Finset.Subset.refl _)) $$ [Hs Hd Hv]
  · isplitl [Hs]; · iexact Hs
    isplitl [Hd]; · iexact Hd
    iexact Hv
  iintro Hf
  iapply (Transfers.wp_waitLocalO countersEmb 𝒱₀ (tV d L) none none (N := dst.view.amount (.dma sem)) rfl) $$ [Hf HO Hmw]
  · isplitl [Hf]; · iexact Hf
    isplitl [HO]; · iexact HO
    iapply (Transfers.MayWaits.elim (.dma sem)) $$ Hmw
  iintro ⟨⟨Hd, Hs⟩, Hv, HO⟩
  iapply Hk
  isplitl [Hs]; · iexact Hs
  isplitl [Hd]; · iexact Hd
  isplitl [Hv]; · iexact Hv
  iexists (insert (SemLoc.dma sem, none) W'); isplitr
  · ipureintro; intro p hp
    rcases Finset.mem_insert.mp hp with hp | hp
    · exact .inr (hp ▸ rfl)
    · exact hW' p hp
  · iexact HO

/-! ## The slices -/

/-- Chunk `t` of the radius map. -/
abbrev radChunk (t : Fin k1_t2_loop.trips) : Memref sig .scVector .hbm S64x256 .i32 :=
  radV.slice (Rect.unit (s := S256x256) (k1_off2 t) S64x256.size (k1_off2_inb t)) (fun _ => rfl)
/-- Chunk `t` of the image the task adds up in its histogram `r`. -/
abbrev magChunk (L : grid1.Coords) (t : Fin k1_t2_loop.trips) (r : Fin 2) : Memref sig .scVector .hbm S64x256 .f32 :=
  (magV.slice (Rect.unit (s := S64x256x256) (k1_off3 L t (BitVec.ofNat 32 r.val)) S1x64x256.size (k1_off3_inb L t r)) (fun _ => rfl)).squeeze S64x256 squeezes_S1x64x256_S64x256
/-- The row of the ring sums that histogram `r` is written to. -/
abbrev sumRow (L : grid1.Coords) (r : Fin 2) : Memref sig .scVector .hbm S512 .f32 :=
  (sumV.slice (Rect.unit (s := S64x512) (k1_off36 L (BitVec.ofNat 32 r.val)) S1x512.size (k1_off36_inb L r)) (fun _ => rfl)).squeeze S512 squeezes_S1x512_S512

theorem trips2 (t : Fin k1_t2_loop.trips) : t.val < 4 := t.isLt

theorem read_radChunk (Rf : S256x256.Idx → BitVec 32) (t : Fin k1_t2_loop.trips) :
    (radChunk t).view.read (Elt F) Rf = chunk (radSeq Rf) t.val := by
  funext j
  have ht := trips2 t
  have hj0 : (j 0).val < 64 := (j 0).isLt
  have hj1 : (j 1).val < 256 := (j 1).isLt
  refine (View.read_apply _ _).trans ((cast_eq _ _).trans ?_)
  unfold chunk radSeq
  refine congrArg Rf (funext fun a => Fin.ext ?_)
  match a with
  | 0 =>
    show k1_off2 t 0 + 1 * (j 0).val = ((64 * t.val + (j 0).val) * 256 + (j 1).val) / 256 % 256
    rw [k1_off2_eq]
    show 64 * t.val + 1 * (j 0).val = _
    omega
  | 1 =>
    show k1_off2 t 1 + 1 * (j 1).val = ((64 * t.val + (j 0).val) * 256 + (j 1).val) % 256
    rw [k1_off2_eq]
    show 0 + 1 * (j 1).val = _
    omega

theorem squeeze_chunk (j : S64x256.Idx) (a : Fin 3) :
    (Shape.reshapeEquiv (s := S1x64x256) (s' := S64x256) squeezes_S1x64x256_S64x256.numel_eq j a).val = (![0, (j 0).val, (j 1).val] : Fin 3 → ℕ) a := by
  have hj0 : (j 0).val < 64 := (j 0).isLt
  have hj1 : (j 1).val < 256 := (j 1).isLt
  have e : Shape.reshapeEquiv (s := S1x64x256) (s' := S64x256) squeezes_S1x64x256_S64x256.numel_eq j
      = (fun | 0 => (⟨0, Nat.one_pos⟩ : Fin 1) | 1 => (⟨(j 0).val, hj0⟩ : Fin 64) | 2 => (⟨(j 1).val, hj1⟩ : Fin 256)) := by
    refine Shape.reshapeEquiv_eq_of_rowMajor _ ?_
    rw [Shape.rowMajor_val_three, Shape.rowMajor_val_two]
    simp
  rw [e]
  match a with
  | 0 => rfl
  | 1 => rfl
  | 2 => rfl

theorem squeeze_row (j : S512.Idx) (a : Fin 2) :
    (Shape.reshapeEquiv (s := S1x512) (s' := S512) squeezes_S1x512_S512.numel_eq j a).val = (![0, (j 0).val] : Fin 2 → ℕ) a := by
  have hj0 : (j 0).val < 512 := (j 0).isLt
  have e : Shape.reshapeEquiv (s := S1x512) (s' := S512) squeezes_S1x512_S512.numel_eq j
      = (fun | 0 => (⟨0, Nat.one_pos⟩ : Fin 1) | 1 => (⟨(j 0).val, hj0⟩ : Fin 512)) := by
    refine Shape.reshapeEquiv_eq_of_rowMajor _ ?_
    rw [Shape.rowMajor_val_two, Shape.rowMajor_val_one]
    simp
  rw [e]
  match a with
  | 0 => rfl
  | 1 => rfl

theorem read_magChunk (Mf : S64x256x256.Idx → F .f32) (L : grid1.Coords) (t : Fin k1_t2_loop.trips) (r : Fin 2) :
    (magChunk L t r).view.read (Elt F) Mf = chunk (magSeq Mf (img L r)) t.val := by
  funext j
  have ht := trips2 t
  have hj0 : (j 0).val < 64 := (j 0).isLt
  have hj1 : (j 1).val < 256 := (j 1).isLt
  refine (View.read_apply _ _).trans ((cast_eq _ _).trans ?_)
  unfold chunk magSeq
  refine congrArg Mf (funext fun a => Fin.ext ?_)
  have hs := squeeze_chunk j
  match a with
  | 0 =>
    show k1_off3 L t (BitVec.ofNat 32 r.val) 0 + 1 * (Shape.reshapeEquiv (s := S1x64x256) (s' := S64x256) squeezes_S1x64x256_S64x256.numel_eq j 0).val = (img L r).val
    rw [k1_off3_eq, hs]
    show 4 * (L 1).val + 2 * (L 0).val + r.val + 1 * 0 = 4 * (L 1).val + 2 * (L 0).val + r.val
    omega
  | 1 =>
    show k1_off3 L t (BitVec.ofNat 32 r.val) 1 + 1 * (Shape.reshapeEquiv (s := S1x64x256) (s' := S64x256) squeezes_S1x64x256_S64x256.numel_eq j 1).val
      = ((64 * t.val + (j 0).val) * 256 + (j 1).val) / 256 % 256
    rw [k1_off3_eq, hs]
    show 64 * t.val + 1 * (j 0).val = _
    omega
  | 2 =>
    show k1_off3 L t (BitVec.ofNat 32 r.val) 2 + 1 * (Shape.reshapeEquiv (s := S1x64x256) (s' := S64x256) squeezes_S1x64x256_S64x256.numel_eq j 2).val
      = ((64 * t.val + (j 0).val) * 256 + (j 1).val) % 256
    rw [k1_off3_eq, hs]
    show 0 + 1 * (j 1).val = _
    omega

/-- The elements of row `n` of the ring sums. -/
def rowSet (n : Fin 64) : Finset S64x512.Idx := Finset.univ.filter fun x => (x 0).val = n.val

theorem sumRow_emb (L : grid1.Coords) (r : Fin 2) (j : S512.Idx) (a : Fin 2) :
    ((sumRow L r).view.emb j a).val = (![(img L r).val, (j 0).val] : Fin 2 → ℕ) a := by
  have hs := squeeze_row j
  match a with
  | 0 =>
    show k1_off36 L (BitVec.ofNat 32 r.val) 0 + 1 * (Shape.reshapeEquiv (s := S1x512) (s' := S512) squeezes_S1x512_S512.numel_eq j 0).val = (img L r).val
    rw [k1_off36_eq, hs]
    show 4 * (L 1).val + 2 * (L 0).val + r.val + 1 * 0 = 4 * (L 1).val + 2 * (L 0).val + r.val
    omega
  | 1 =>
    show k1_off36 L (BitVec.ofNat 32 r.val) 1 + 1 * (Shape.reshapeEquiv (s := S1x512) (s' := S512) squeezes_S1x512_S512.numel_eq j 1).val = (j 0).val
    rw [k1_off36_eq, hs]
    show 0 + 1 * (j 0).val = _
    omega

/-- An element of row `img L r` is where the view of that row puts its column. -/
theorem sumRow_emb_of_mem (L : grid1.Coords) (r : Fin 2) (x : S64x512.Idx) (hx : (x 0).val = (img L r).val) :
    (sumRow L r).view.emb (Shape.ofLane (d := ![512]) ⟨(x 1).val, (x 1).isLt⟩ : S512.Idx) = x := by
  funext a
  apply Fin.ext
  rw [sumRow_emb L r _ a]
  match a with
  | 0 => exact hx.symm
  | 1 => rfl

theorem set_sumRow (L : grid1.Coords) (r : Fin 2) : (sumRow L r).view.set = rowSet (img L r) := by
  ext x
  constructor
  · intro hx
    obtain ⟨j, -, rfl⟩ := Finset.mem_map.mp hx
    exact Finset.mem_filter.mpr ⟨Finset.mem_univ _, sumRow_emb L r j 0⟩
  · intro hx
    have h := (Finset.mem_filter.mp hx).2
    exact Finset.mem_map.mpr ⟨_, Finset.mem_univ _, sumRow_emb_of_mem L r x h⟩

/-- A row written with a finished histogram holds the ring sums of its image. -/
theorem write_sumRow (d : Dev nD) (Mf : S64x256x256.Idx → F .f32) (Rf : S256x256.Idx → BitVec 32) (L : grid1.Coords) (r : Fin 2)
    (f : S64x512.Idx → F .f32) :
    ((sumRow L r).view.loc (tV d L) ↦[(sumRow L r).view.set]{fullShare}
        ((sumRow L r).view.write (Elt F) f (histBuf (magSeq Mf (img L r)) (fun p => (radSeq Rf p).toNat) 65536) Finset.univ) : sProp 𝕄)
      = (sumLoc d ↦[rowSet (img L r)]{fullShare} ringSums Mf Rf) := by
  rw [set_sumRow]
  refine pointsTo_congr fun x hx => ?_
  have h := (Finset.mem_filter.mp hx).2
  have e := sumRow_emb_of_mem L r x h
  refine (congrArg _ e.symm).trans ?_
  rw [View.write_emb_of_mem _ _ (Finset.mem_univ _)]
  refine (cast_eq _ _).trans ?_
  unfold ringSums
  have h0 : x 0 = img L r := Fin.ext h
  rw [h0]
  rfl

end Cert.Proof.Ring

end
-- ==== Proof.Chunks.lean ====
/-
  One vector subcore's task: its two histograms zeroed, the four chunks fetched and added up, the two histograms written
  to their rows of the ring sums.
-/
module

public import proofs.«01_k».proof.Proof.Copies

@[expose] public section

noncomputable section

namespace Cert.Proof.Ring

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Hist

variable {F : FTy → Type} [FloatOps F]

local notation "𝕄" => MT nD τ sig (HIx 1) (Elt F) ℕ UU ℕ

section
variable (d : Dev nD) (L : grid1.Coords)

/-- A fetch of a whole scratch buffer out of an array held at a read share. -/
theorem wp_fetch {α : Type} {Q : α → sProp 𝕄} {sp : Space} (b : Ref sig .scVector) {src : Memref sig .scVector sp b.ty.shape b.ty.elt} {sem : DmaSem sig}
    {hsrc hsrc' : src.view.WordExact} {hdst hdst' : (Memref.whole b).view.WordExact}
    {hsem : DmaTarget.Typed (nD := nD) (τ := τ) (p := (tV d L).2) sp (.dma sem) (.here (Memref.whole b))}
    {k : PUnit → Prog (TpuEff nD τ sig (Elt F) Λ₀ (tV d L).2) α} {q : PosShare TreeShare}
    {fs : Buf (Elt F) (src.view.loc (tV d L))} {fd : Buf (Elt F) ((tV d L).loc b)}
    (O : CellTallies nD τ sig (HIx 1)) (W : Waits sig (HIx 1)) (hs : 0 < b.ty.shape.numel) (w : b.ty.Contents (Elt F)) (hw : src.view.read (Elt F) fs = w) :
    (iprop(Transfers.MayWaits (tV d L) none O ∗ (src.view.loc (tV d L) ↦{q} fs) ∗ ((tV d L).loc b ↦{fullShare} fd)
        ∗ semVal (tV d L, .dma sem) 0 ∗ waited (tV d L) O W) : sProp 𝕄)
      ⊢ iprop((iprop((src.view.loc (tV d L) ↦{q} fs) ∗ ((tV d L).loc b ↦{fullShare} w)
              ∗ semVal (tV d L, .dma sem) 0 ∗ waited (tV d L) O W)
            -∗ wp frame (wpE (defs₀ (F := F)) 𝒱₀ (tV d L) none) Set.univ (k ⟨⟩) Q)
        -∗ wp frame (wpE (defs₀ (F := F)) 𝒱₀ (tV d L) none) Set.univ
            (.op (.enqueueDma src (.here (Memref.whole b)) (.dma sem) hsrc hdst hsem) fun _ => .op (.waitDma2 sem src (Memref.whole b) hsrc' hdst') k) Q) := by
  subst hw
  have hset : (Memref.whole b).view.set = Finset.univ := View.set_whole b
  have hpt : ∀ f, (((Memref.whole b).view.loc (tV d L) ↦[(Memref.whole b).view.set]{fullShare} f : sProp 𝕄)) = ((tV d L).loc b ↦{fullShare} f) :=
    fun f => by rw [hset]
  iintro ⟨Hmw, Hs, Hd, Hv, HO⟩ Hk
  ihave Hs' := (pointsTo_split_subset (Finset.subset_univ src.view.set)).1 $$ Hs
  icases Hs' with ⟨Hs, Hrest⟩
  ihave Hd' := (Entails.of_eq (hpt fd).symm) $$ Hd
  iapply (wp_copy d L O W hs) $$ [Hmw Hs Hd' Hv HO]
  · isplitl [Hmw]; · iexact Hmw
    isplitl [Hs]; · iexact Hs
    isplitl [Hd']; · iexact Hd'
    isplitl [Hv]; · iexact Hv
    iexact HO
  rw [hpt, show (Memref.whole b).view.write (Elt F) fd (src.view.read (Elt F) fs) Finset.univ = src.view.read (Elt F) fs from View.write_whole_univ _ _ _]
  iintro ⟨Hs, Hd, Hv, HO⟩
  iapply Hk
  isplitl [Hs Hrest]
  · iapply (pointsTo_split_subset (Finset.subset_univ src.view.set)).2
    isplitl [Hs]; · iexact Hs
    iexact Hrest
  isplitl [Hd]; · iexact Hd
  isplitl [Hv]; · iexact Hv
  iexact HO

/-! ## The histograms zeroed -/

/-- Zero below entry `16 k`. -/
def zeroTo (k : ℕ) (f : S512.Idx → F .f32) : Prop := ∀ j : S512.Idx, (j 0).val < 16 * k → f j = Scalar.ofBits .f32 0x00000000#32

/-- The trip's rectangle. -/
abbrev zRect (t : Fin k1_t1_loop.trips) : Rect S512 := Rect.unit (s := S512) (k1_off1 t) S16.size (k1_off1_inb t)

theorem zRect_emb (t : Fin k1_t1_loop.trips) (k : S16.Idx) : (((zRect t).emb k) 0).val = 16 * t.val + (k 0).val := by
  show k1_off1 t 0 + 1 * (k 0).val = _
  rw [k1_off1_eq]
  show 16 * t.val + 1 * (k 0).val = _
  omega

theorem zero_hA (t : Fin k1_t1_loop.trips) (f : S512.Idx → F .f32) (hf : zeroTo t.val f) :
    zeroTo (t.val + 1) ((hA.access (zRect t)).write (Elt F) f (k1_pay1 (F := F)) Finset.univ) := by
  intro j hj
  by_cases hlt : (j 0).val < 16 * t.val
  · have hm : j ∉ (hA.access (zRect t)).setOn Finset.univ := by
      intro hm
      obtain ⟨k, -, hk⟩ := Finset.mem_map.mp hm
      have h2 := congrArg (fun x : S512.Idx => (x 0).val) hk
      have h3 := zRect_emb t k
      have h4 : (((zRect t).emb k) 0).val = (j 0).val := h2
      omega
    exact (View.write_of_not_mem (v := hA.access (zRect t)) (Val := Elt F) f (k1_pay1 (F := F)) Finset.univ hm).trans (hf j hlt)
  · have hk : (j 0).val - 16 * t.val < 16 := by omega
    have e : (hA.access (zRect t)).emb (Shape.ofLane (d := ![16]) ⟨(j 0).val - 16 * t.val, hk⟩) = j := by
      refine funext fun (a : Fin 1) => ?_
      obtain rfl : a = 0 := Subsingleton.elim _ _
      refine Fin.ext ((zRect_emb t _).trans ?_)
      show 16 * t.val + ((j 0).val - 16 * t.val) = _
      omega
    refine (congrArg _ e.symm).trans ?_
    rw [View.write_emb_of_mem _ _ (Finset.mem_univ _)]
    exact cast_eq _ _

theorem zero_hB (t : Fin k1_t1_loop.trips) (f : S512.Idx → F .f32) (hf : zeroTo t.val f) :
    zeroTo (t.val + 1) ((hB.access (zRect t)).write (Elt F) f (k1_pay1 (F := F)) Finset.univ) := by
  intro j hj
  by_cases hlt : (j 0).val < 16 * t.val
  · have hm : j ∉ (hB.access (zRect t)).setOn Finset.univ := by
      intro hm
      obtain ⟨k, -, hk⟩ := Finset.mem_map.mp hm
      have h2 := congrArg (fun x : S512.Idx => (x 0).val) hk
      have h3 := zRect_emb t k
      have h4 : (((zRect t).emb k) 0).val = (j 0).val := h2
      omega
    exact (View.write_of_not_mem (v := hB.access (zRect t)) (Val := Elt F) f (k1_pay1 (F := F)) Finset.univ hm).trans (hf j hlt)
  · have hk : (j 0).val - 16 * t.val < 16 := by omega
    have e : (hB.access (zRect t)).emb (Shape.ofLane (d := ![16]) ⟨(j 0).val - 16 * t.val, hk⟩) = j := by
      refine funext fun (a : Fin 1) => ?_
      obtain rfl : a = 0 := Subsingleton.elim _ _
      refine Fin.ext ((zRect_emb t _).trans ?_)
      show 16 * t.val + ((j 0).val - 16 * t.val) = _
      omega
    refine (congrArg _ e.symm).trans ?_
    rw [View.write_emb_of_mem _ _ (Finset.mem_univ _)]
    exact cast_eq _ _

theorem zero_done (M : ℕ → F .f32) (R : ℕ → ℕ) (f : S512.Idx → F .f32) (hf : zeroTo 32 f) : f = histBuf M R 0 :=
  funext fun j => hf j (j 0).isLt

def zeroInv (k : ℕ) (_ : Unit) : sProp 𝕄 :=
  iprop((∃ f, ⌜zeroTo k f⌝ ∗ (tV d L).loc cc1_scratch3 ↦{fullShare} f) ∗ (∃ f, ⌜zeroTo k f⌝ ∗ (tV d L).loc cc1_scratch4 ↦{fullShare} f))

theorem zero_wp (t : Fin k1_t1_loop.trips) :
    (zeroInv d L t.val () : sProp 𝕄)
      ⊢ wp frame (wpE (defs₀ (F := F)) 𝒱₀ (tV d L) none) Set.univ (k1_t1_body L magV (Memref.isWhole_whole main_v167_scv) radV (Memref.isWhole_whole main_v52_scv) sumV (Memref.isWhole_whole main_v168_scv) sI (Memref.isWhole_whole cc1_scratch0) sA (Memref.isWhole_whole cc1_scratch1) sB (Memref.isWhole_whole cc1_scratch2) hA (Memref.isWhole_whole cc1_scratch3) hB (Memref.isWhole_whole cc1_scratch4) cc1_scoped0 cc1_scoped1 cc1_scoped2 cc1_scoped3 cc1_scoped4 t ()) (zeroInv d L (t.val + 1)) := by
  unfold k1_t1_body zeroInv
  simp only [Prog.lift, Prog.bind_op, Prog.bind_ret, Prog.pure_eq_ret]
  iintro ⟨⟨%f, %hf, HA⟩, ⟨%g, %hg, HB⟩⟩
  iapply (wp_load 𝒱₀ (tV d L) none Set.univ (m := (hA : Memref sig .scVector .vmem S512 .f32)) (S := Finset.univ) (Finset.subset_univ _)) $$ HA
  iintro HA
  iapply (wp_store 𝒱₀ (tV d L) none Set.univ (m := (hA : Memref sig .scVector .vmem S512 .f32)) (r := zRect t) (Mk := Finset.univ) (S := Finset.univ) (Finset.subset_univ _)) $$ HA
  iintro HA
  iapply (wp_load 𝒱₀ (tV d L) none Set.univ (m := (hB : Memref sig .scVector .vmem S512 .f32)) (S := Finset.univ) (Finset.subset_univ _)) $$ HB
  iintro HB
  iapply (wp_store 𝒱₀ (tV d L) none Set.univ (m := (hB : Memref sig .scVector .vmem S512 .f32)) (r := zRect t) (Mk := Finset.univ) (S := Finset.univ) (Finset.subset_univ _)) $$ HB
  iintro HB
  rw [wp_ret]
  imodintro
  isplitl [HA]
  · iexists _; isplitr; · ipureintro; exact zero_hA t f hf
    iexact HA
  · iexists _; isplitr; · ipureintro; exact zero_hB t g hg
    iexact HB

/-! ## The chunks -/

section
variable (Mf : S64x256x256.Idx → F .f32) (Rf : S256x256.Idx → BitVec 32) (q : PosShare TreeShare)
variable (O : CellTallies nD τ sig (HIx 1)) (W : Waits sig (HIx 1))

/-- What the loop over the chunks holds before chunk `k`: the arrays it reads, its scratch buffers at whatever they hold,
    the histograms after the pixels of the chunks before, the counters of its transfers. -/
def chunkInv (k : ℕ) (_ : Unit) : sProp 𝕄 :=
  iprop(Transfers.MayWaits (tV d L) none O ∗ (magLoc d ↦{q} Mf) ∗ (radLoc d ↦{q} Rf)
    ∗ (∃ f, (tV d L).loc cc1_scratch0 ↦{fullShare} f) ∗ (∃ f, (tV d L).loc cc1_scratch1 ↦{fullShare} f) ∗ (∃ f, (tV d L).loc cc1_scratch2 ↦{fullShare} f)
    ∗ ((tV d L).loc cc1_scratch3 ↦{fullShare} histBuf (magSeq Mf (img L 0)) (fun p => (radSeq Rf p).toNat) (64 * k * 256))
    ∗ ((tV d L).loc cc1_scratch4 ↦{fullShare} histBuf (magSeq Mf (img L 1)) (fun p => (radSeq Rf p).toNat) (64 * k * 256))
    ∗ semVal (tV d L, .dma cc1_scoped0.sem) 0 ∗ semVal (tV d L, .dma cc1_scoped1.sem) 0 ∗ semVal (tV d L, .dma cc1_scoped2.sem) 0
    ∗ waited (tV d L) O W)

theorem chunk_wp (hR : ∀ i, (Rf i).toNat < 512) (t : Fin k1_t2_loop.trips) :
    (chunkInv d L Mf Rf q O W t.val () : sProp 𝕄)
      ⊢ wp frame (wpE (defs₀ (F := F)) 𝒱₀ (tV d L) none) Set.univ (k1_t2_body L magV (Memref.isWhole_whole main_v167_scv) radV (Memref.isWhole_whole main_v52_scv) sumV (Memref.isWhole_whole main_v168_scv) sI (Memref.isWhole_whole cc1_scratch0) sA (Memref.isWhole_whole cc1_scratch1) sB (Memref.isWhole_whole cc1_scratch2) hA (Memref.isWhole_whole cc1_scratch3) hB (Memref.isWhole_whole cc1_scratch4) cc1_scoped0 cc1_scoped1 cc1_scoped2 cc1_scoped3 cc1_scoped4 t ()) (chunkInv d L Mf Rf q O W (t.val + 1)) := by
  unfold k1_t2_body chunkInv
  simp only [Prog.lift, Prog.bind_op, Prog.bind_ret, Prog.pure_eq_ret]
  iintro ⟨#Hmw, Hmag, Hrad, ⟨%f0, H0⟩, ⟨%f1, H1⟩, ⟨%f2, H2⟩, HA, HB, Hv0, Hv1, Hv2, HO⟩
  iapply (wp_fetch d L (b := cc1_scratch0) (src := radChunk t) O W (by decide) _ (read_radChunk Rf t)) $$ [Hrad H0 Hv0 HO]
  · isplitr; · iexact Hmw
    isplitl [Hrad]; · iexact Hrad
    isplitl [H0]; · iexact H0
    isplitl [Hv0]; · iexact Hv0
    iexact HO
  iintro ⟨Hrad, H0, Hv0, HO⟩
  iapply (wp_fetch d L (b := cc1_scratch1) (src := magChunk L t 0) O W (by decide) _ (read_magChunk Mf L t 0)) $$ [Hmag H1 Hv1 HO]
  · isplitr; · iexact Hmw
    isplitl [Hmag]; · iexact Hmag
    isplitl [H1]; · iexact H1
    isplitl [Hv1]; · iexact Hv1
    iexact HO
  iintro ⟨Hmag, H1, Hv1, HO⟩
  iapply (wp_fetch d L (b := cc1_scratch2) (src := magChunk L t 1) O W (by decide) _ (read_magChunk Mf L t 1)) $$ [Hmag H2 Hv2 HO]
  · isplitr; · iexact Hmw
    isplitl [Hmag]; · iexact Hmag
    isplitl [H2]; · iexact H2
    isplitl [Hv2]; · iexact Hv2
    iexact HO
  iintro ⟨Hmag, H2, Hv2, HO⟩
  sl_for (fun (k : ℕ) (_ : Unit) => (bufs d L (radSeq Rf) (magSeq Mf (img L 0)) (magSeq Mf (img L 1)) t.val ((64 * t.val + k) * 256) ((64 * t.val + k) * 256) : sProp 𝕄)) $$ [H0 H1 H2 HA HB]
  case region =>
    intro k _
    exact row_wp d L (radSeq Rf) (magSeq Mf (img L 0)) (magSeq Mf (img L 1)) (fun p => hR _) t.val k
  · unfold bufs
    isplitl [H0]; · iexact H0
    isplitl [H1]; · iexact H1
    isplitl [H2]; · iexact H2
    isplitl [HA]; · iexact HA
    iexact HB
  iintro %_ HI
  unfold bufs
  icases HI with ⟨H0, H1, H2, HA, HB⟩
  have e : (64 * t.val + Scf.trips k1_t3_loop.lb k1_t3_loop.ub k1_t3_loop.st) * 256 = 64 * (t.val + 1) * 256 :=
    (show (64 * t.val + 64) * 256 = _ by omega)
  rw [e]
  sl_step
  isplitr; · iexact Hmw
  isplitl [Hmag]; · iexact Hmag
  isplitl [Hrad]; · iexact Hrad
  isplitl [H0]; · iexists _; iexact H0
  isplitl [H1]; · iexists _; iexact H1
  isplitl [H2]; · iexists _; iexact H2
  isplitl [HA]; · iexact HA
  isplitl [HB]; · iexact HB
  isplitl [Hv0]; · iexact Hv0
  isplitl [Hv1]; · iexact Hv1
  isplitl [Hv2]; · iexact Hv2
  iexact HO

end

end

end Cert.Proof.Ring

end
-- ==== Proof.Tile.lean ====
/-
  The task of one vector subcore from what the launch hands it to what it gives back: a read share of the magnitudes and of
  the radius map, and two rows of the ring sums, which come back holding the ring sums of the two images.
-/
module

public import proofs.«01_k».proof.Proof.Chunks

@[expose] public section

noncomputable section

namespace Cert.Proof.Ring

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.Proof.Hist

variable {F : FTy → Type} [FloatOps F]

local notation "𝕄" => MT nD τ sig (HIx 1) (Elt F) ℕ UU ℕ

section
variable (d : Dev nD) (L : grid1.Coords)

/-- The cells of the task's five transfers. -/
abbrev cell0 : GSem nD τ sig := (tV d L, .dma cc1_scoped0.sem)
abbrev cell1 : GSem nD τ sig := (tV d L, .dma cc1_scoped1.sem)
abbrev cell2 : GSem nD τ sig := (tV d L, .dma cc1_scoped2.sem)
abbrev cell3 : GSem nD τ sig := (tV d L, .dma cc1_scoped3.sem)
abbrev cell4 : GSem nD τ sig := (tV d L, .dma cc1_scoped4.sem)

/-- What is left of a subcore's own cells beside the five. -/
def restSems : sProp 𝕄 :=
  bigSep ((((((ownCells (tV d L)).erase (cell0 d L)).erase (cell1 d L)).erase (cell2 d L)).erase (cell3 d L)).erase (cell4 d L)) fun g => semVal g 0

omit [FloatOps F] in
theorem ownSems0_V :
    (ownSems0 (tV d L) : sProp 𝕄)
      = iprop(semVal (cell0 d L) 0 ∗ semVal (cell1 d L) 0 ∗ semVal (cell2 d L) 0 ∗ semVal (cell3 d L) 0 ∗ semVal (cell4 d L) 0 ∗ restSems (F := F) d L) := by
  have m0 : cell0 d L ∈ ownCells (tV d L) := (mem_ownCells (g := cell0 d L)).mpr ⟨rfl, by show (SemLoc.dma cc1_scoped0.sem : SemLoc sig).isScoped .scVector = true; decide⟩
  have m1 : cell1 d L ∈ ownCells (tV d L) := (mem_ownCells (g := cell1 d L)).mpr ⟨rfl, by show (SemLoc.dma cc1_scoped1.sem : SemLoc sig).isScoped .scVector = true; decide⟩
  have m2 : cell2 d L ∈ ownCells (tV d L) := (mem_ownCells (g := cell2 d L)).mpr ⟨rfl, by show (SemLoc.dma cc1_scoped2.sem : SemLoc sig).isScoped .scVector = true; decide⟩
  have m3 : cell3 d L ∈ ownCells (tV d L) := (mem_ownCells (g := cell3 d L)).mpr ⟨rfl, by show (SemLoc.dma cc1_scoped3.sem : SemLoc sig).isScoped .scVector = true; decide⟩
  have m4 : cell4 d L ∈ ownCells (tV d L) := (mem_ownCells (g := cell4 d L)).mpr ⟨rfl, by show (SemLoc.dma cc1_scoped4.sem : SemLoc sig).isScoped .scVector = true; decide⟩
  have n10 : cell1 d L ≠ cell0 d L := fun h => absurd (congrArg Prod.snd h) (show (SemLoc.dma cc1_scoped1.sem : SemLoc sig) ≠ SemLoc.dma cc1_scoped0.sem by decide)
  have n20 : cell2 d L ≠ cell0 d L := fun h => absurd (congrArg Prod.snd h) (show (SemLoc.dma cc1_scoped2.sem : SemLoc sig) ≠ SemLoc.dma cc1_scoped0.sem by decide)
  have n21 : cell2 d L ≠ cell1 d L := fun h => absurd (congrArg Prod.snd h) (show (SemLoc.dma cc1_scoped2.sem : SemLoc sig) ≠ SemLoc.dma cc1_scoped1.sem by decide)
  have n30 : cell3 d L ≠ cell0 d L := fun h => absurd (congrArg Prod.snd h) (show (SemLoc.dma cc1_scoped3.sem : SemLoc sig) ≠ SemLoc.dma cc1_scoped0.sem by decide)
  have n31 : cell3 d L ≠ cell1 d L := fun h => absurd (congrArg Prod.snd h) (show (SemLoc.dma cc1_scoped3.sem : SemLoc sig) ≠ SemLoc.dma cc1_scoped1.sem by decide)
  have n32 : cell3 d L ≠ cell2 d L := fun h => absurd (congrArg Prod.snd h) (show (SemLoc.dma cc1_scoped3.sem : SemLoc sig) ≠ SemLoc.dma cc1_scoped2.sem by decide)
  have n40 : cell4 d L ≠ cell0 d L := fun h => absurd (congrArg Prod.snd h) (show (SemLoc.dma cc1_scoped4.sem : SemLoc sig) ≠ SemLoc.dma cc1_scoped0.sem by decide)
  have n41 : cell4 d L ≠ cell1 d L := fun h => absurd (congrArg Prod.snd h) (show (SemLoc.dma cc1_scoped4.sem : SemLoc sig) ≠ SemLoc.dma cc1_scoped1.sem by decide)
  have n42 : cell4 d L ≠ cell2 d L := fun h => absurd (congrArg Prod.snd h) (show (SemLoc.dma cc1_scoped4.sem : SemLoc sig) ≠ SemLoc.dma cc1_scoped2.sem by decide)
  have n43 : cell4 d L ≠ cell3 d L := fun h => absurd (congrArg Prod.snd h) (show (SemLoc.dma cc1_scoped4.sem : SemLoc sig) ≠ SemLoc.dma cc1_scoped3.sem by decide)
  unfold restSems SparseCore.Cfg.ownSems0
  rw [SparseCore.bigSep_erase' m0, SparseCore.bigSep_erase' (Finset.mem_erase.mpr ⟨n10, m1⟩), SparseCore.bigSep_erase' (Finset.mem_erase.mpr ⟨n21, (Finset.mem_erase.mpr ⟨n20, m2⟩)⟩), SparseCore.bigSep_erase' (Finset.mem_erase.mpr ⟨n32, (Finset.mem_erase.mpr ⟨n31, (Finset.mem_erase.mpr ⟨n30, m3⟩)⟩)⟩), SparseCore.bigSep_erase' (Finset.mem_erase.mpr ⟨n43, (Finset.mem_erase.mpr ⟨n42, (Finset.mem_erase.mpr ⟨n41, (Finset.mem_erase.mpr ⟨n40, m4⟩)⟩)⟩)⟩)]

/-- A scratch buffer of the subcore, as a buffer of the device. -/
abbrev own (b : Ref sig .scVector) : DevRef τ sig := (Proc.scVector (cV L) (jV L)).devRef b

/-- What is left of a subcore's own buffers beside the five. -/
def restBufs : sProp 𝕄 :=
  bigSep ((((((ownRefs (τ := τ) (.scVector (cV L) (jV L))).erase (own L cc1_scratch0)).erase (own L cc1_scratch1)).erase (own L cc1_scratch2)).erase
    (own L cc1_scratch3)).erase (own L cc1_scratch4)) fun b => iprop(∃ f, ((d, b) : Loc nD τ sig) ↦{fullShare} f)

omit [FloatOps F] in
theorem ownBufs_V :
    (ownBufs (tV d L) : sProp 𝕄)
      = iprop((∃ f, (tV d L).loc cc1_scratch0 ↦{fullShare} f) ∗ (∃ f, (tV d L).loc cc1_scratch1 ↦{fullShare} f)
          ∗ (∃ f, (tV d L).loc cc1_scratch2 ↦{fullShare} f) ∗ (∃ f, (tV d L).loc cc1_scratch3 ↦{fullShare} f)
          ∗ (∃ f, (tV d L).loc cc1_scratch4 ↦{fullShare} f) ∗ restBufs (F := F) d L) := by
  have m0 : own L cc1_scratch0 ∈ ownRefs (τ := τ) (.scVector (cV L) (jV L)) :=
    SparseCore.Cfg.mem_ownRefs_of_owner (p := Proc.scVector (cV L) (jV L)) (b := own L cc1_scratch0) rfl
  have m1 : own L cc1_scratch1 ∈ ownRefs (τ := τ) (.scVector (cV L) (jV L)) :=
    SparseCore.Cfg.mem_ownRefs_of_owner (p := Proc.scVector (cV L) (jV L)) (b := own L cc1_scratch1) rfl
  have m2 : own L cc1_scratch2 ∈ ownRefs (τ := τ) (.scVector (cV L) (jV L)) :=
    SparseCore.Cfg.mem_ownRefs_of_owner (p := Proc.scVector (cV L) (jV L)) (b := own L cc1_scratch2) rfl
  have m3 : own L cc1_scratch3 ∈ ownRefs (τ := τ) (.scVector (cV L) (jV L)) :=
    SparseCore.Cfg.mem_ownRefs_of_owner (p := Proc.scVector (cV L) (jV L)) (b := own L cc1_scratch3) rfl
  have m4 : own L cc1_scratch4 ∈ ownRefs (τ := τ) (.scVector (cV L) (jV L)) :=
    SparseCore.Cfg.mem_ownRefs_of_owner (p := Proc.scVector (cV L) (jV L)) (b := own L cc1_scratch4) rfl
  have n10 : own L cc1_scratch1 ≠ own L cc1_scratch0 := fun h => absurd (Proc.devRef_injective _ h) (show (cc1_scratch1 : Ref sig .scVector) ≠ cc1_scratch0 by decide)
  have n20 : own L cc1_scratch2 ≠ own L cc1_scratch0 := fun h => absurd (Proc.devRef_injective _ h) (show (cc1_scratch2 : Ref sig .scVector) ≠ cc1_scratch0 by decide)
  have n21 : own L cc1_scratch2 ≠ own L cc1_scratch1 := fun h => absurd (Proc.devRef_injective _ h) (show (cc1_scratch2 : Ref sig .scVector) ≠ cc1_scratch1 by decide)
  have n30 : own L cc1_scratch3 ≠ own L cc1_scratch0 := fun h => absurd (Proc.devRef_injective _ h) (show (cc1_scratch3 : Ref sig .scVector) ≠ cc1_scratch0 by decide)
  have n31 : own L cc1_scratch3 ≠ own L cc1_scratch1 := fun h => absurd (Proc.devRef_injective _ h) (show (cc1_scratch3 : Ref sig .scVector) ≠ cc1_scratch1 by decide)
  have n32 : own L cc1_scratch3 ≠ own L cc1_scratch2 := fun h => absurd (Proc.devRef_injective _ h) (show (cc1_scratch3 : Ref sig .scVector) ≠ cc1_scratch2 by decide)
  have n40 : own L cc1_scratch4 ≠ own L cc1_scratch0 := fun h => absurd (Proc.devRef_injective _ h) (show (cc1_scratch4 : Ref sig .scVector) ≠ cc1_scratch0 by decide)
  have n41 : own L cc1_scratch4 ≠ own L cc1_scratch1 := fun h => absurd (Proc.devRef_injective _ h) (show (cc1_scratch4 : Ref sig .scVector) ≠ cc1_scratch1 by decide)
  have n42 : own L cc1_scratch4 ≠ own L cc1_scratch2 := fun h => absurd (Proc.devRef_injective _ h) (show (cc1_scratch4 : Ref sig .scVector) ≠ cc1_scratch2 by decide)
  have n43 : own L cc1_scratch4 ≠ own L cc1_scratch3 := fun h => absurd (Proc.devRef_injective _ h) (show (cc1_scratch4 : Ref sig .scVector) ≠ cc1_scratch3 by decide)
  unfold restBufs SparseCore.Cfg.ownBufs
  refine (SparseCore.bigSep_erase' m0).trans ?_
  rw [SparseCore.bigSep_erase' (Finset.mem_erase.mpr ⟨n10, m1⟩), SparseCore.bigSep_erase' (Finset.mem_erase.mpr ⟨n21, (Finset.mem_erase.mpr ⟨n20, m2⟩)⟩), SparseCore.bigSep_erase' (Finset.mem_erase.mpr ⟨n32, (Finset.mem_erase.mpr ⟨n31, (Finset.mem_erase.mpr ⟨n30, m3⟩)⟩)⟩), SparseCore.bigSep_erase' (Finset.mem_erase.mpr ⟨n43, (Finset.mem_erase.mpr ⟨n42, (Finset.mem_erase.mpr ⟨n41, (Finset.mem_erase.mpr ⟨n40, m4⟩)⟩)⟩)⟩)]

/-! ## The task -/

section
variable (Mf : S64x256x256.Idx → F .f32) (Rf : S256x256.Idx → BitVec 32) (q : PosShare TreeShare)

/-- What the task is handed (its rows at contents `f`) and what it gives back. -/
def tileRes (f : S64x512.Idx → F .f32) : sProp 𝕄 :=
  iprop((magLoc d ↦{q} Mf) ∗ (radLoc d ↦{q} Rf) ∗ (sumLoc d ↦[rowSet (img L 0)]{fullShare} f) ∗ (sumLoc d ↦[rowSet (img L 1)]{fullShare} f))

theorem pts_row (r : Fin 2) (f : S64x512.Idx → F .f32) :
    ((sumRow L r).view.loc (tV d L) ↦[(sumRow L r).view.set]{fullShare} f : sProp 𝕄) = (sumLoc d ↦[rowSet (img L r)]{fullShare} f) := by
  rw [set_sumRow]

theorem pts_buf (b : Ref sig .scVector) (f : Buf (Elt F) ((tV d L).loc b)) :
    ((Memref.whole b).view.loc (tV d L) ↦[(Memref.whole b).view.set]{fullShare} f : sProp 𝕄) = ((tV d L).loc b ↦{fullShare} f) := by
  rw [show (Memref.whole b).view.set = Finset.univ from View.set_whole b]

theorem read_buf (b : Ref sig .scVector) (f : b.ty.Contents (Elt F)) : (Memref.whole b).view.read (Elt F) f = f :=
  View.read_whole b f

theorem tile_body (hR : ∀ i, (Rf i).toNat < 512) (f : S64x512.Idx → F .f32) (hF : (K (F := F)).Facts)
    (O : CellTallies nD τ sig (HIx 1)) (W : Waits sig (HIx 1)) (hO : ∀ g, O g none = 0) :
    iprop(levAts (K (F := F)).L (K (F := F)).lev ∗ tileRes d L Mf Rf q f ∗ scopedBufs (tV d L) ∗ scopedSems0 (tV d L) ∗ owes (tV d L) O W)
      ⊢ wp frame (wpE (defs₀ (F := F)) 𝒱₀ (tV d L) none) Set.univ
          (cc1__sc_hist_body L magV (Memref.isWhole_whole main_v167_scv) radV (Memref.isWhole_whole main_v52_scv) sumV (Memref.isWhole_whole main_v168_scv) sI (Memref.isWhole_whole cc1_scratch0) sA (Memref.isWhole_whole cc1_scratch1) sB (Memref.isWhole_whole cc1_scratch2) hA (Memref.isWhole_whole cc1_scratch3) hB (Memref.isWhole_whole cc1_scratch4) cc1_scoped0 cc1_scoped1 cc1_scoped2 cc1_scoped3 cc1_scoped4)
          fun _ => iprop(tileRes d L Mf Rf q (ringSums Mf Rf) ∗ scopedBufs (tV d L) ∗ scopedSems0 (tV d L) ∗ waited (tV d L) O W) := by
  rw [cc1__sc_hist_body_eq_skeleton]; unfold cc1__sc_hist_body_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold tileRes
  iintro ⟨#Hlv, ⟨Hmag, Hrad, Hr0, Hr1⟩, ⟨H0, H1, H2, ⟨%g3, H3⟩, ⟨%g4, H4⟩, Hrb⟩, ⟨Hv0, Hv1, Hv2, Hv3, Hv4, Hrs⟩, HO⟩
  ihave #Hmw := ((K (F := F)).mayWaits_none (thr := tV d L) hO) $$ Hlv
  sl_for (zeroInv (F := F) d L) $$ [H3 H4]
  case region =>
    intro k _
    exact zero_wp d L k
  · unfold zeroInv
    isplitl [H3]
    · iexists g3; isplitr; · ipureintro; intro j hj; omega
      iexact H3
    · iexists g4; isplitr; · ipureintro; intro j hj; omega
      iexact H4
  iintro %_ HI
  unfold zeroInv
  icases HI with ⟨⟨%z3, %hz3, H3⟩, ⟨%z4, %hz4, H4⟩⟩
  obtain rfl := zero_done (magSeq Mf (img L 0)) (fun p => (radSeq Rf p).toNat) z3 hz3
  obtain rfl := zero_done (magSeq Mf (img L 1)) (fun p => (radSeq Rf p).toNat) z4 hz4
  sl_for (chunkInv d L Mf Rf q O W) $$ [Hmag Hrad H0 H1 H2 H3 H4 Hv0 Hv1 Hv2 HO]
  case region =>
    intro k _
    exact chunk_wp d L Mf Rf q O W hR k
  · unfold chunkInv waited
    isplitr; · iexact Hmw
    isplitl [Hmag]; · iexact Hmag
    isplitl [Hrad]; · iexact Hrad
    isplitl [H0]; · iexact H0
    isplitl [H1]; · iexact H1
    isplitl [H2]; · iexact H2
    isplitl [H3]; · iexact H3
    isplitl [H4]; · iexact H4
    isplitl [Hv0]; · iexact Hv0
    isplitl [Hv1]; · iexact Hv1
    isplitl [Hv2]; · iexact Hv2
    iexists W; isplitr
    · ipureintro; exact fun p hp => .inl hp
    · iexact HO
  iintro %_ HI
  unfold chunkInv
  icases HI with ⟨-, Hmag, Hrad, H0, H1, H2, H3, H4, Hv0, Hv1, Hv2, HO⟩
  have e : 64 * Scf.trips k1_t2_loop.lb k1_t2_loop.ub k1_t2_loop.st * 256 = 65536 := by rfl
  rw [e]
  ihave H3' := (Entails.of_eq (pts_buf (F := F) d L cc1_scratch3 _).symm) $$ H3
  ihave Hr0' := (Entails.of_eq (pts_row (F := F) d L 0 _).symm) $$ Hr0
  iapply (wp_copy d L (src := hA) (dst := sumRow L 0) O W (by decide)) $$ [H3' Hr0' Hv3 HO]
  · isplitr; · iexact Hmw
    isplitl [H3']; · iexact H3'
    isplitl [Hr0']; · iexact Hr0'
    isplitl [Hv3]; · iexact Hv3
    iexact HO
  rw [read_buf (F := F) cc1_scratch3, write_sumRow, pts_buf]
  iintro ⟨H3, Hr0, Hv3, HO⟩
  ihave H4' := (Entails.of_eq (pts_buf (F := F) d L cc1_scratch4 _).symm) $$ H4
  ihave Hr1' := (Entails.of_eq (pts_row (F := F) d L 1 _).symm) $$ Hr1
  iapply (wp_copy d L (src := hB) (dst := sumRow L 1) O W (by decide)) $$ [H4' Hr1' Hv4 HO]
  · isplitr; · iexact Hmw
    isplitl [H4']; · iexact H4'
    isplitl [Hr1']; · iexact Hr1'
    isplitl [Hv4]; · iexact Hv4
    iexact HO
  rw [read_buf (F := F) cc1_scratch4, write_sumRow, pts_buf]
  iintro ⟨H4, Hr1, Hv4, HO⟩
  rw [wp_ret]
  imodintro
  isplitl [Hmag Hrad Hr0 Hr1]
  · isplitl [Hmag]; · iexact Hmag
    isplitl [Hrad]; · iexact Hrad
    isplitl [Hr0]; · iexact Hr0
    iexact Hr1
  isplitl [H0 H1 H2 H3 H4 Hrb]
  · isplitl [H0]; · iexact H0
    isplitl [H1]; · iexact H1
    isplitl [H2]; · iexact H2
    isplitl [H3]; · iexists _; iexact H3
    isplitl [H4]; · iexists _; iexact H4
    iexact Hrb
  isplitl [Hv0 Hv1 Hv2 Hv3 Hv4 Hrs]
  · isplitl [Hv0]; · iexact Hv0
    isplitl [Hv1]; · iexact Hv1
    isplitl [Hv2]; · iexact Hv2
    isplitl [Hv3]; · iexact Hv3
    isplitl [Hv4]; · iexact Hv4
    iexact Hrs
  iexact HO

end

end

end Cert.Proof.Ring

end
-- ==== Proof.Launch.lean ====
/-
  The launch of the histogram kernel: what each of the 32 tasks is handed and gives back, how the three arrays are cut into
  those parts and joined again.
-/
module

public import proofs.«01_k».proof.Proof.Tile

@[expose] public section

noncomputable section

namespace Cert.Proof.Ring

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What a task is handed -/

/-- The grid coordinates of vector subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The share of the two input arrays a task reads with. -/
def shareOf (c : Fin 2) (i : Fin 16) : PosShare TreeShare :=
  Transfers.dealOf fullShare (Finset.univ : Finset (Fin 32)) (finProdFinEquiv (c, i))

variable (Mf : Dev nD → S64x256x256.Idx → F .f32) (Rf : Dev nD → S256x256.Idx → BitVec 32) (f0 : Dev nD → S64x512.Idx → F .f32)

/-- The resources of one task, its two rows of the result at contents `f`. -/
def res (d : Dev nD) (c : Fin 2) (i : Fin 16) (f : S64x512.Idx → F .f32) : sProp 𝕄 :=
  tileRes d (coordsV c i) (Mf d) (Rf d) (shareOf c i) f

instance res_storable (d : Dev nD) (c : Fin 2) (i : Fin 16) (f : S64x512.Idx → F .f32) :
    BI.Storable (upEmb : UEmb _ 𝕄) (res Mf Rf d c i f) := by unfold res tileRes; infer_instance

def P : (K (F := F)).Pay (nD := nD) (Val := Elt F) (Name := ℕ) (U := UU) where
  st := fun q d c => match q with | 0 => bigSep Finset.univ fun i : Fin 16 => res Mf Rf d c i (f0 d)
  dn := fun q d c => match q with | 0 => bigSep Finset.univ fun i : Fin 16 => res Mf Rf d c i (ringSums (Mf d) (Rf d))
  go := fun q d c i => match q with | 0 => res Mf Rf d c i (f0 d)
  td := fun q d c i => match q with | 0 => res Mf Rf d c i (ringSums (Mf d) (Rf d))
  x := fun _ _ => iprop(emp)

instance P_storable : (P Mf Rf f0).IsStorable where
  st q d c := match q with | 0 => (inferInstance : BI.Storable (upEmb : UEmb _ 𝕄) (bigSep Finset.univ fun i : Fin 16 => res Mf Rf d c i (f0 d)))
  dn q d c := match q with | 0 => (inferInstance : BI.Storable (upEmb : UEmb _ 𝕄) (bigSep Finset.univ fun i : Fin 16 => res Mf Rf d c i (ringSums (Mf d) (Rf d))))
  go q d c i := match q with | 0 => res_storable Mf Rf d c i (f0 d)
  td q d c i := match q with | 0 => res_storable Mf Rf d c i (ringSums (Mf d) (Rf d))

/-! ## The task's obligation and the split over a SparseCore's subcores -/

theorem defs₀_vector (c : Fin τ.nSC) (s : Fin τ.nSub) :
    defs₀ (F := F) (.scVector c s) 1 ()
      = SparseCore.onTile hcore1 hsub1 (fun c s => cc1__sc_hist_body (coordsV c s)
          magV (Memref.isWhole_whole main_v167_scv) radV (Memref.isWhole_whole main_v52_scv) sumV (Memref.isWhole_whole main_v168_scv)
          sI (Memref.isWhole_whole cc1_scratch0) sA (Memref.isWhole_whole cc1_scratch1) sB (Memref.isWhole_whole cc1_scratch2)
          hA (Memref.isWhole_whole cc1_scratch3) hB (Memref.isWhole_whole cc1_scratch4) cc1_scoped0 cc1_scoped1 cc1_scoped2 cc1_scoped3 cc1_scoped4)
          ⟨⟩ c s := rfl

theorem pre_obl {A X G B C E : sProp 𝕄} : iprop(A ∗ X ∗ G ∗ B ∗ C ∗ E) ⊢ iprop(A ∗ G ∗ B ∗ C ∗ E) := by
  iintro ⟨HA, -, HG, HB, HC, HE⟩
  isplitl [HA]; · iexact HA
  isplitl [HG]; · iexact HG
  isplitl [HB]; · iexact HB
  isplitl [HC]; · iexact HC
  iexact HE

theorem post_obl {thr : Thread nD τ} {A B C : sProp 𝕄} {O : CellTallies nD τ sig (HIx 1)} {W : Waits sig (HIx 1)} {q : Fin 1} :
    iprop(A ∗ B ∗ C ∗ waited thr O W)
      ⊢ iprop(A ∗ B ∗ C ∗ ∃ W', ⌜∀ p ∈ W', p ∈ W ∨ p.2 = none ∨ p.2 = some q⌝ ∗ owes thr O W') := by
  unfold waited
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (K (F := F)).Facts) (hR : ∀ d i, (Rf d i).toNat < 512) :
    (K (F := F)).TileObl (D (F := F)) 𝒱 (P Mf Rf f0) v₀ 0 := by
  intro d c i O W hO _ _
  simp only [show (P Mf Rf f0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact pre_obl.trans ((tile_body d (coordsV ⟨_, hc.1⟩ ⟨_, hc.2⟩) (Mf d) (Rf d) (shareOf c i) (hR d) (f0 d) hF O W hO).trans
    (wp_mono frame _ _ fun _ => post_obl))

theorem vecSplit : (K (F := F)).VecSplit' (P Mf Rf f0) 0 := by
  intro d c
  show (bigSep Finset.univ fun i : Fin 16 => res Mf Rf d c i (f0 d)) ⊢ |={Set.univ}=> iprop(
      (bigSep Finset.univ fun i : Fin 16 => res Mf Rf d c i (f0 d))
      ∗ ((bigSep Finset.univ fun i : Fin 16 => res Mf Rf d c i (ringSums (Mf d) (Rf d)))
          -∗ bigSep Finset.univ fun i : Fin 16 => res Mf Rf d c i (ringSums (Mf d) (Rf d))))
  iintro H; imodintro
  isplitl [H]; · iexact H
  iintro H; iexact H

/-! ## The arrays as the tasks' parts -/

/-- An array held whole is a read share of it for each of the 32 tasks. -/
theorem shares (ℓ : Loc nD τ sig) (f : Buf (Elt F) ℓ) :
    (ℓ ↦{fullShare} f : sProp 𝕄)
      = bigSep Finset.univ fun c : Fin 2 => bigSep Finset.univ fun i : Fin 16 => (ℓ ↦{shareOf c i} f) := by
  rw [Transfers.pointsTo_deal (Finset.univ : Finset (Fin 32)) ⟨0, Finset.mem_univ _⟩ fullShare]
  exact (bigSep_univ_equiv (finProdFinEquiv : Fin 2 × Fin 16 ≃ Fin 32) _).trans (bigSep_univ_prod _)

/-- Image, in terms of SparseCore, subcore and histogram. -/
def imgOf (p : (Fin 2 × Fin 16) × Fin 2) : Fin 64 := ⟨4 * p.1.2.val + 2 * p.1.1.val + p.2.val, by omega⟩

theorem imgOf_injective : Function.Injective imgOf := by
  rintro ⟨⟨c, i⟩, r⟩ ⟨⟨c', i'⟩, r'⟩ h
  have h' : 4 * i.val + 2 * c.val + r.val = 4 * i'.val + 2 * c'.val + r'.val := congrArg Fin.val h
  have h1 := c.isLt; have h2 := c'.isLt; have h3 := r.isLt; have h4 := r'.isLt
  rw [show c = c' from Fin.ext (by omega), show i = i' from Fin.ext (by omega), show r = r' from Fin.ext (by omega)]

/-- Every image is some task's. -/
def imgEquiv : (Fin 2 × Fin 16) × Fin 2 ≃ Fin 64 :=
  Equiv.ofBijective imgOf ((Fintype.bijective_iff_injective_and_card imgOf).mpr ⟨imgOf_injective, by simp⟩)

theorem rowSet_disj (a b : Fin 64) (h : a ≠ b) : Disjoint (rowSet a) (rowSet b) := by
  refine Finset.disjoint_left.mpr fun x hx hy => h ?_
  exact Fin.ext (((Finset.mem_filter.mp hx).2).symm.trans (Finset.mem_filter.mp hy).2)

theorem rowSet_cover : (Finset.univ : Finset (Fin 64)).biUnion rowSet = Finset.univ := by
  ext x; simp only [Finset.mem_biUnion, Finset.mem_univ, true_and, iff_true]
  exact ⟨⟨(x 0).val, (x 0).isLt⟩, Finset.mem_filter.mpr ⟨Finset.mem_univ _, rfl⟩⟩

/-- The result held whole is two rows for each of the 32 tasks. -/
theorem rows (d : Dev nD) (f : S64x512.Idx → F .f32) :
    (sumLoc d ↦{fullShare} f : sProp 𝕄)
      = bigSep Finset.univ fun c : Fin 2 => bigSep Finset.univ fun i : Fin 16 =>
          iprop((sumLoc d ↦[rowSet (img (coordsV c i) 0)]{fullShare} f) ∗ (sumLoc d ↦[rowSet (img (coordsV c i) 1)]{fullShare} f)) := by
  have h1 : (sumLoc d ↦[(Finset.univ : Finset (Fin 64)).biUnion rowSet]{fullShare} f : sProp 𝕄)
      = bigSep Finset.univ fun n : Fin 64 => (sumLoc d ↦[rowSet n]{fullShare} f) :=
    pointsTo_biUnion (ℓ := sumLoc d) Finset.univ rowSet (fun a _ b _ h => rowSet_disj a b h)
  rw [rowSet_cover] at h1
  refine h1.trans ((bigSep_univ_equiv imgEquiv _).trans ((bigSep_univ_prod _).trans ((bigSep_univ_prod _).trans ?_)))
  refine bigSep_congr fun c _ => bigSep_congr fun i _ => ?_
  exact BI.bigSep_fin_two _

/-- The three arrays held whole are the 32 tasks' resources. -/
theorem deal (d : Dev nD) (f : S64x512.Idx → F .f32) :
    (bigSep Finset.univ fun c : Fin 2 => bigSep Finset.univ fun i : Fin 16 => res Mf Rf d c i f : sProp 𝕄)
      = iprop((magLoc d ↦{fullShare} Mf d) ∗ (radLoc d ↦{fullShare} Rf d) ∗ (sumLoc d ↦{fullShare} f)) := by
  rw [shares (magLoc d) (Mf d), shares (radLoc d) (Rf d), rows d f]
  simp only [← bigSep_sep']
  rfl

theorem st0_eq (d : Dev nD) : (bigSep Finset.univ fun c : Fin ((K (F := F)).nCore 0) => (P Mf Rf f0).st 0 d c)
    = iprop((magLoc d ↦{fullShare} Mf d) ∗ (radLoc d ↦{fullShare} Rf d) ∗ (sumLoc d ↦{fullShare} f0 d)) :=
  deal Mf Rf d (f0 d)
theorem dn0_eq (d : Dev nD) : (bigSep Finset.univ fun c : Fin ((K (F := F)).nCore 0) => (P Mf Rf f0).dn 0 d c)
    = iprop((magLoc d ↦{fullShare} Mf d) ∗ (radLoc d ↦{fullShare} Rf d) ∗ (sumLoc d ↦{fullShare} ringSums (Mf d) (Rf d))) :=
  deal Mf Rf d (ringSums (Mf d) (Rf d))

end Cert.Proof.Ring

end
-- ==== Proof.Region.lean ====
/-
  A call of a pipelined TensorCore kernel inside this @main, whose thread also holds the SparseCore launch: the region as a
  record over "every unscoped buffer at `V`", entered while the core owes the signals of the SparseCore calls to come, and
  left with the pairs its waits recorded still below those signals.
-/
module

public import proofs.«01_k».proof.Proof.Setup
public import proofs.«01_k».proof.Proof.Gen.KernelIdeal.Launch
public import Idealize.ShloMosaic.Lib.Pipeline.RegionsLoop
public import Idealize.ShloMosaic.Lib.Pipeline.RegionArrays
public import Idealize.ShloMosaic.Lib.SparseCore.Threads
public import Idealize.ShloMosaic.Lib.Pipeline.FrameBody
public import Idealize.ShloMosaic.Lib.Pipeline.Value

@[expose] public section

noncomputable section

namespace Cert.Proof.Ring

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig (HIx 1) (Elt F) ℕ UU ℕ

/-- No pipeline prefetches a table. -/
abbrev adm (p : Fin 4) : (pcfgs (F := F) p).Adm := (cfgs p).toPCfg_adm

/-- The contents of a device's buffers, as the TensorCore addresses them. -/
abbrev Conts (F : FTy → Type) (c : Dev nD) : Type := (b : Ref sig .tc) → Buf (Elt F) ((c.tc : Thread nD τ).loc b)

/-- Proof data for every pipeline. -/
abbrev Dats (F : FTy → Type) : Type := (p : Fin 4) → (c : Dev nD) → Dat τ (Elt F) (HIx 1) ℕ UU ℕ (Pipeline.pin (pcfgs (F := F)) adm p) c

/-- Proof data of a pipeline that is not run. -/
def junkDat {cfg : Cfg sig Λ₀} [∀ e, Nonempty (Elt F e)] (c : Dev nD) : Dat τ (Elt F) (HIx 1) ℕ UU ℕ cfg c where
  A _ := fun _ => Classical.arbitrary _
  after _ _ := fun _ => Classical.arbitrary _
  Φ _ := BI.emp
  q _ := fullShare
  owed _ := 0

/-- What the core owes before SparseCore call `n`, its recorded pairs below that call. -/
def owing (n : ℕ) (c : Dev nD) : sProp 𝕄 :=
  iprop(∃ W, ⌜(K (F := F)).WBelow (SparseCore.T c) W (8 * n)⌝ ∗ owes (SparseCore.T c) ((K (F := F)).Otc c n) W)

/-- The pairs below call `n`. -/
def below (n : ℕ) (c : Dev nD) : Set (SemLoc sig × HIx 1) := {x | (K (F := F)).lev (SparseCore.T c, x.1) x.2 ≤ 8 * n}

/-- What the core owes sits at the calls' indices, which are above the staging waits'. -/
theorem Otc_pos (n : ℕ) (c : Dev nD) (g : GSem nD τ sig) (i : HIx 1) (h : 0 < (K (F := F)).Otc c n g i) : 0 < (K (F := F)).lev g i :=
  lt_of_lt_of_le (Nat.succ_pos _) (SparseCore.Cfg.lev_of_Otc_pos h)

/-- The region of pipeline `p`: from the unscoped buffers at `V` to those at `V'`, the core owing what it owes before
    SparseCore call `n` throughout. -/
def reg (p : Fin 4) (n : ℕ) (V V' : (c : Dev nD) → Conts F c) (pd : Dats F)
    (kit : Pipeline.LaunchFacts (nD := nD) (τ := τ) cfgs p)
    (hA : ∀ c w, (pd p c).A w = V c (Pipeline.arrRef (cfgs p).spec w))
    (hq : ∀ c w, (pd p c).q w = fullShare)
    (howed : ∀ c t, (pd p c).owed t = (K (F := F)).Otc c n)
    (hrec : ∀ c t, (pd p c).recorded t = below (F := F) n c)
    (hΦ : ∀ c t, (pd p c).Φ t = Pipeline.scopedRest (cfgs p).spec c)
    (hbody : ∀ c, Pipeline.BodyObligationLoose (pd p c) (defs₀ (F := F)) 𝒱₀ none Set.univ)
    (hout : ∀ c w, (pd p c).arrAt w (cfgs p).N = V' c (Pipeline.arrRef (cfgs p).spec w))
    (hne : ∀ c (b : Ref sig .tc), b ∉ Finset.univ.image (Pipeline.arrRef (cfgs p).spec) → V' c b = V c b) :
    Pipeline.RegionSeg (pcfgs (F := F)) adm pd none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) adm) pd none p c 0 ((K (F := F)).Otc c n) (howed c)
    (fun _ _ => Finset.mem_univ _) (fun _ _ => le_of_eq rfl) (fun g i h => ⟨Finset.mem_univ _, Otc_pos n c g i h⟩)
  pre c := iprop(unscopedBufs c (V c) ∗ owing (F := F) n c)
  post c := iprop(unscopedBufs c (V' c) ∗ owing (F := F) n c)
  X _ := BI.emp
  Y _ := BI.emp
  Z c := Pipeline.unscopedRest (cfgs p).spec c (V c)
  hentry c := by
    have hsplit := Pipeline.arrays_of_unscopedBufs (p := p) (pcfgs (F := F)) adm pd kit.win kit.arr_whole c
      ((pd p c).share_full (hq c)) (V c) (hA c)
    rw [Pipeline.ownSems0_none, Pipeline.prefHeld_of_none _ rfl]
    unfold owing
    iintro ⟨⟨Hub, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c 0]
      icases HO with ⟨%W, %hW, HO⟩; iexists W; isplitr; · ipureintro; exact fun x hx => Or.inl (hW x hx)
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm kit.win kit.arr_whole c
      pd ((pd p c).share_full (hq c)) (V c) (V' c) ((pd p c).arrAt · (cfgs p).N) (hout c) (hne c)
    unfold owing Pipeline.Dat.owesAt Pipeline.owesWithin Pipeline.Dat.bound
    rw [howed c (Fin.last _), hrec c (Fin.last _)]
    iintro ⟨Ha, ⟨%W, %hW, HO⟩, -, Hrest⟩
    imodintro
    isplitl [Ha Hrest]
    · iapply hjoin; isplitl [Ha] <;> iassumption
    iexists W; isplitr; swap; · iexact HO
    ipureintro
    intro x hx
    rcases hW hx with h | ⟨w, s, rfl⟩
    · exact h
    · exact Nat.zero_le _

/-- The call of pipeline `p` in @main: from the boundary, the unscoped buffers at `V` and what the core owes, to the same with the
    buffers at `V'`; the pipeline's rounds are used up. -/
theorem region_call [∀ e, Nonempty (Elt F e)] (pd : Dats F) (p : Fin 4)
    (R : Pipeline.RegionSeg (pcfgs (F := F)) adm pd none defs₀ 𝒱₀ (K (F := F)).L (K (F := F)).lev p) (d : Dev nD)
    {A B : sProp 𝕄} (hA : A ⊢ R.pre d) (hB : R.post d ⊢ B) {Φ : PUnit → sProp 𝕄} :
    iprop(levAts (K (F := F)).L (K (F := F)).lev ∗ boundary (d.tc : Thread nD τ) ∗ A
        ∗ Pipeline.cellsGhost (Pipeline.pin (pcfgs (F := F)) adm) EP p d ∗ Pipeline.toksInit (Pipeline.pin (pcfgs (F := F)) adm) EP p d
        ∗ (iprop(boundary (d.tc : Thread nD τ) ∗ B) -∗ Φ ⟨⟩))
      ⊢ wp frame (wpE ((K (F := F)).defs (D (F := F))) 𝒱 (SparseCore.T d) none) Set.univ
          (Prog.lift (.customCall (SparseCore.inner (Pipeline.entry p)) ())) Φ := by
  refine .trans ?_ ((K (F := F)).wp_liftProg (D (F := F)) 𝒱 (SparseCore.T d) Set.univ none (.op (.customCall (Pipeline.entry p) ()) .ret) Φ)
  refine .trans ?_ (Pipeline.RegionSeg.wp (pcfgs (F := F)) adm pd none cellOf_inj EP defs₀ 𝒱₀ (K (F := F)).L (K (F := F)).lev R d none
    (fun u h => nomatch h) .ret Φ)
  iintro ⟨Hl, Hb, HA, Hg, Ht, Hk⟩
  isplitl [Hk]
  · iintro ⟨Hb, Hp⟩
    rw [wp_ret]
    imodintro
    iapply Hk
    isplitl [Hb]; · iexact Hb
    iapply hB; iexact Hp
  isplitl [Hb]; · iexact Hb
  isplitl [HA]; · iapply hA; iexact HA
  isplitl [Hl]; · iexact Hl
  isplitl [Hg] <;> iassumption

/-! ## Staging buffers, read through their views -/

/-- Memref `M` of core `c`, owned whole at contents `X` as its view reads them. -/
abbrev at_ (c : Dev nD) {sp : Space} {S : Shape} {e : EltTy} (M : Memref sig .tc sp S e) (X : S.Idx → Elt F e) : sProp 𝕄 :=
  owns (c.tc : Thread nD τ) M fullShare X

theorem at_eq (c : Dev nD) {sp : Space} {S : Shape} {e : EltTy} (M : Memref sig .tc sp S e) (h : M.IsWhole) (X : S.Idx → Elt F e) :
    (at_ c M X : sProp 𝕄) = iprop(∃ f : Buf (Elt F) (M.view.loc (c.tc : Thread nD τ)), ⌜M.view.read (Elt F) f = X⌝
      ∗ M.view.loc (c.tc : Thread nD τ) ↦{fullShare} f) := by
  unfold at_ owns; rw [h.set_eq_univ]

/-- What a view reads after one store over all of it. -/
theorem read_one_store [∀ e, Nonempty (Elt F e)] {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w :=
  (View.read_writes_eq_canon _ _ _ (fun y => ⟨_, List.mem_singleton_self _, View.mem_set_unit_zero h inb y⟩)).trans
    (View.canon_unit_zero h inb w)

theorem hz2 : (![0, 0] : Fin 2 → Nat) = fun _ => 0 := by funext a; fin_cases a <;> rfl

end Cert.Proof.Ring

end
-- ==== Proof.Fft.lean ====
/-
  The transform's kernel as a region of @main: its body run once, and the region's proof data.
-/
module

public import proofs.«01_k».proof.Proof.Region
public import proofs.«01_k».proof.Proof.Gen.KernelIdeal.Points

@[expose] public section

noncomputable section

namespace Cert.Proof.Ring

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig (HIx 1) (Elt F) ℕ UU ℕ

/-- What the kernel leaves in its result's block, from what it loads. -/
def fftOut [∀ e, Nonempty (Elt F e)] (X0 : S1x3x512x512.Idx → F .f32) (X1 : S512x256.Idx → F .f32) (X2 : S512x256.Idx → F .f32) (X3 : S256x256.Idx → F .f32) (X4 : S256x256.Idx → F .f32) (X5 : S256x256.Idx → F .f32) (X6 : S256x256.Idx → F .f32) (X7 : S1x256.Idx → F .f32) (X8 : S128x256.Idx → F .f32) (X9 : S128x256.Idx → F .f32) :
    S1x256x256.Idx → F .f32 :=
  View.canon (Val := Elt F) (e := .f32)
    [⟨Rect.unit (s := S1x256x256) ![0, 128, 0] S1x128x256.size inb_S1x256x256_S1x128x256_0_128_0,
      k0_pay2 (k0_pay13 (View.ld (Val := Elt F) (e' := .f32) X7 (Rect.unit (s := S1x256) ![0, 0] S1x256.size inb_S1x256_S1x256_0_0)))
        (k0_pay14 (k0_pay8 (View.ld (Val := Elt F) (e' := .f32) X0 (Rect.unit (s := S1x3x512x512) ![0, 0, 0, 0] S1x1x512x512.size inb_S1x3x512x512_S1x1x512x512_0_0_0_0)) (View.ld (Val := Elt F) (e' := .f32) X0 (Rect.unit (s := S1x3x512x512) ![0, 1, 0, 0] S1x1x512x512.size inb_S1x3x512x512_S1x1x512x512_0_1_0_0)) (View.ld (Val := Elt F) (e' := .f32) X0 (Rect.unit (s := S1x3x512x512) ![0, 2, 0, 0] S1x1x512x512.size inb_S1x3x512x512_S1x1x512x512_0_2_0_0)) (View.ld (Val := Elt F) (e' := .f32) X1 (Rect.unit (s := S512x256) ![0, 0] S512x256.size inb_S512x256_S512x256_0_0))) (k0_pay9 (View.ld (Val := Elt F) (e' := .f32) X0 (Rect.unit (s := S1x3x512x512) ![0, 0, 0, 0] S1x1x512x512.size inb_S1x3x512x512_S1x1x512x512_0_0_0_0)) (View.ld (Val := Elt F) (e' := .f32) X0 (Rect.unit (s := S1x3x512x512) ![0, 1, 0, 0] S1x1x512x512.size inb_S1x3x512x512_S1x1x512x512_0_1_0_0)) (View.ld (Val := Elt F) (e' := .f32) X0 (Rect.unit (s := S1x3x512x512) ![0, 2, 0, 0] S1x1x512x512.size inb_S1x3x512x512_S1x1x512x512_0_2_0_0)) (View.ld (Val := Elt F) (e' := .f32) X2 (Rect.unit (s := S512x256) ![0, 0] S512x256.size inb_S512x256_S512x256_0_0))) (k0_pay10 (View.ld (Val := Elt F) (e' := .f32) X5 (Rect.unit (s := S256x256) ![0, 0] S256x256.size inb_S256x256_S256x256_0_0))) (View.ld (Val := Elt F) (e' := .f32) X6 (Rect.unit (s := S256x256) ![0, 0] S256x256.size inb_S256x256_S256x256_0_0)) (View.ld (Val := Elt F) (e' := .f32) X3 (Rect.unit (s := S256x256) ![0, 0] S256x256.size inb_S256x256_S256x256_0_0)) (View.ld (Val := Elt F) (e' := .f32) X4 (Rect.unit (s := S256x256) ![0, 0] S256x256.size inb_S256x256_S256x256_0_0)))
        (View.ld (Val := Elt F) (e' := .f32) X9 (Rect.unit (s := S128x256) ![0, 0] S128x256.size inb_S128x256_S128x256_0_0))⟩,
     ⟨Rect.unit (s := S1x256x256) ![0, 0, 0] S1x128x256.size inb_S1x256x256_S1x128x256_0_0_0,
      k0_pay1 (k0_pay15 (k0_pay6 (View.ld (Val := Elt F) (e' := .f32) X0 (Rect.unit (s := S1x3x512x512) ![0, 0, 0, 0] S1x1x512x512.size inb_S1x3x512x512_S1x1x512x512_0_0_0_0)) (View.ld (Val := Elt F) (e' := .f32) X0 (Rect.unit (s := S1x3x512x512) ![0, 1, 0, 0] S1x1x512x512.size inb_S1x3x512x512_S1x1x512x512_0_1_0_0)) (View.ld (Val := Elt F) (e' := .f32) X0 (Rect.unit (s := S1x3x512x512) ![0, 2, 0, 0] S1x1x512x512.size inb_S1x3x512x512_S1x1x512x512_0_2_0_0)) (View.ld (Val := Elt F) (e' := .f32) X1 (Rect.unit (s := S512x256) ![0, 0] S512x256.size inb_S512x256_S512x256_0_0))) (k0_pay7 (View.ld (Val := Elt F) (e' := .f32) X0 (Rect.unit (s := S1x3x512x512) ![0, 0, 0, 0] S1x1x512x512.size inb_S1x3x512x512_S1x1x512x512_0_0_0_0)) (View.ld (Val := Elt F) (e' := .f32) X0 (Rect.unit (s := S1x3x512x512) ![0, 1, 0, 0] S1x1x512x512.size inb_S1x3x512x512_S1x1x512x512_0_1_0_0)) (View.ld (Val := Elt F) (e' := .f32) X0 (Rect.unit (s := S1x3x512x512) ![0, 2, 0, 0] S1x1x512x512.size inb_S1x3x512x512_S1x1x512x512_0_2_0_0)) (View.ld (Val := Elt F) (e' := .f32) X2 (Rect.unit (s := S512x256) ![0, 0] S512x256.size inb_S512x256_S512x256_0_0))) (View.ld (Val := Elt F) (e' := .f32) X3 (Rect.unit (s := S256x256) ![0, 0] S256x256.size inb_S256x256_S256x256_0_0)) (View.ld (Val := Elt F) (e' := .f32) X4 (Rect.unit (s := S256x256) ![0, 0] S256x256.size inb_S256x256_S256x256_0_0)) (View.ld (Val := Elt F) (e' := .f32) X7 (Rect.unit (s := S1x256) ![0, 0] S1x256.size inb_S1x256_S1x256_0_0)) (View.ld (Val := Elt F) (e' := .f32) X8 (Rect.unit (s := S128x256) ![0, 0] S128x256.size inb_S128x256_S128x256_0_0)))⟩]

/-- The two stores cover the block. -/
theorem fft_cover (w1 w0 : S1x128x256.Idx → F .f32) (y : S1x256x256.Idx) :
    ∃ p ∈ ([⟨Rect.unit (s := S1x256x256) ![0, 128, 0] S1x128x256.size inb_S1x256x256_S1x128x256_0_128_0, w1⟩,
      ⟨Rect.unit (s := S1x256x256) ![0, 0, 0] S1x128x256.size inb_S1x256x256_S1x128x256_0_0_0, w0⟩] : List (View.Piece (Elt F) S1x256x256 .f32)), y ∈ p.1.set := by
  have h0 := (y 0).isLt
  have h1 := (y 1).isLt
  have h2 := (y 2).isLt
  change (y 0).val < 1 at h0
  change (y 1).val < 256 at h1
  change (y 2).val < 256 at h2
  by_cases h : 128 ≤ (y 1).val
  · refine ⟨_, List.mem_cons_self, ?_⟩
    show y ∈ (Rect.unit (s := S1x256x256) ![0, 128, 0] S1x128x256.size inb_S1x256x256_S1x128x256_0_128_0).set
    rw [Rect.mem_set_unit]; intro a
    fin_cases a
    · exact ⟨Nat.zero_le _, h0⟩
    · exact ⟨h, h1⟩
    · exact ⟨Nat.zero_le _, h2⟩
  · refine ⟨_, List.mem_cons_of_mem _ List.mem_cons_self, ?_⟩
    show y ∈ (Rect.unit (s := S1x256x256) ![0, 0, 0] S1x128x256.size inb_S1x256x256_S1x128x256_0_0_0).set
    rw [Rect.mem_set_unit]; intro a
    fin_cases a
    · exact ⟨Nat.zero_le _, h0⟩
    · exact ⟨Nat.zero_le _, not_le.mp h⟩
    · exact ⟨Nat.zero_le _, h2⟩

/-- The body run on staging buffers owned whole. -/
theorem fft_body [∀ e, Nonempty (Elt F e)] (c : Dev nD) (i : grid0.Coords) (M0 : Memref sig .tc .vmem S1x3x512x512 .f32) (h0 : M0.IsWhole) (M1 : Memref sig .tc .vmem S512x256 .f32) (h1 : M1.IsWhole) (M2 : Memref sig .tc .vmem S512x256 .f32) (h2 : M2.IsWhole) (M3 : Memref sig .tc .vmem S256x256 .f32) (h3 : M3.IsWhole) (M4 : Memref sig .tc .vmem S256x256 .f32) (h4 : M4.IsWhole) (M5 : Memref sig .tc .vmem S256x256 .f32) (h5 : M5.IsWhole) (M6 : Memref sig .tc .vmem S256x256 .f32) (h6 : M6.IsWhole) (M7 : Memref sig .tc .vmem S1x256 .f32) (h7 : M7.IsWhole) (M8 : Memref sig .tc .vmem S128x256 .f32) (h8 : M8.IsWhole) (M9 : Memref sig .tc .vmem S128x256 .f32) (h9 : M9.IsWhole) (M10 : Memref sig .tc .vmem S1x256x256 .f32) (h10 : M10.IsWhole)
    (X0 : S1x3x512x512.Idx → F .f32) (X1 : S512x256.Idx → F .f32) (X2 : S512x256.Idx → F .f32) (X3 : S256x256.Idx → F .f32) (X4 : S256x256.Idx → F .f32) (X5 : S256x256.Idx → F .f32) (X6 : S256x256.Idx → F .f32) (X7 : S1x256.Idx → F .f32) (X8 : S128x256.Idx → F .f32) (X9 : S128x256.Idx → F .f32) (X10 : S1x256x256.Idx → F .f32) (Q : PUnit → sProp 𝕄) :
    iprop(at_ c M0 X0 ∗ at_ c M1 X1 ∗ at_ c M2 X2 ∗ at_ c M3 X3 ∗ at_ c M4 X4 ∗ at_ c M5 X5 ∗ at_ c M6 X6 ∗ at_ c M7 X7 ∗ at_ c M8 X8 ∗ at_ c M9 X9 ∗ at_ c M10 X10
        ∗ (iprop(at_ c M0 X0 ∗ at_ c M1 X1 ∗ at_ c M2 X2 ∗ at_ c M3 X3 ∗ at_ c M4 X4 ∗ at_ c M5 X5 ∗ at_ c M6 X6 ∗ at_ c M7 X7 ∗ at_ c M8 X8 ∗ at_ c M9 X9 ∗ at_ c M10 (fftOut X0 X1 X2 X3 X4 X5 X6 X7 X8 X9)) -∗ Q ⟨⟩))
      ⊢ wp frame (wpE (defs₀ (F := F)) Variants.none (c.tc : Thread nD τ) none) Set.univ (cc0__fft_mag_body i M0 h0 M1 h1 M2 h2 M3 h3 M4 h4 M5 h5 M6 h6 M7 h7 M8 h8 M9 h9 M10 h10) Q := by
  rw [at_eq c M0 h0, at_eq c M1 h1, at_eq c M2 h2, at_eq c M3 h3, at_eq c M4 h4, at_eq c M5 h5, at_eq c M6 h6, at_eq c M7 h7, at_eq c M8 h8, at_eq c M9 h9, at_eq c M10 h10, at_eq c M10 h10]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, -, H10⟩, Hk⟩
  subst e0; subst e1; subst e2; subst e3; subst e4; subst e5; subst e6; subst e7; subst e8; subst e9
  rw [cc0__fft_mag_body_eq_skeleton]
  unfold cc0__fft_mag_body_skel
  rw [k0_part1_eq_skeleton, k0_part2_eq_skeleton]
  unfold k0_part1_skel k0_part2_skel
  sl_exec!
  sl_step
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  iexists _; isplitr; swap; (· iexact H10); ipureintro
  sl_unfold_words
  exact View.read_writes_eq_canon _ _ _ (fft_cover _ _)

/-- Window 0's block at point `t`, as the fetch stages it. -/
abbrev fftBlk0 (V : (c : Dev nD) → Conts F c) (c : Dev nD) (t : Fin cfg0.N) : S1x3x512x512.Idx → F .f32 :=
  ((cfg0.win 0).blk t).view.read (Elt F) (V c (Pipeline.arrRef spec0 0))
/-- Window 1's block at point `t`, as the fetch stages it. -/
abbrev fftBlk1 (V : (c : Dev nD) → Conts F c) (c : Dev nD) (t : Fin cfg0.N) : S512x256.Idx → F .f32 :=
  ((cfg0.win 1).blk t).view.read (Elt F) (V c (Pipeline.arrRef spec0 1))
/-- Window 2's block at point `t`, as the fetch stages it. -/
abbrev fftBlk2 (V : (c : Dev nD) → Conts F c) (c : Dev nD) (t : Fin cfg0.N) : S512x256.Idx → F .f32 :=
  ((cfg0.win 2).blk t).view.read (Elt F) (V c (Pipeline.arrRef spec0 2))
/-- Window 3's block at point `t`, as the fetch stages it. -/
abbrev fftBlk3 (V : (c : Dev nD) → Conts F c) (c : Dev nD) (t : Fin cfg0.N) : S256x256.Idx → F .f32 :=
  ((cfg0.win 3).blk t).view.read (Elt F) (V c (Pipeline.arrRef spec0 3))
/-- Window 4's block at point `t`, as the fetch stages it. -/
abbrev fftBlk4 (V : (c : Dev nD) → Conts F c) (c : Dev nD) (t : Fin cfg0.N) : S256x256.Idx → F .f32 :=
  ((cfg0.win 4).blk t).view.read (Elt F) (V c (Pipeline.arrRef spec0 4))
/-- Window 5's block at point `t`, as the fetch stages it. -/
abbrev fftBlk5 (V : (c : Dev nD) → Conts F c) (c : Dev nD) (t : Fin cfg0.N) : S256x256.Idx → F .f32 :=
  ((cfg0.win 5).blk t).view.read (Elt F) (V c (Pipeline.arrRef spec0 5))
/-- Window 6's block at point `t`, as the fetch stages it. -/
abbrev fftBlk6 (V : (c : Dev nD) → Conts F c) (c : Dev nD) (t : Fin cfg0.N) : S256x256.Idx → F .f32 :=
  ((cfg0.win 6).blk t).view.read (Elt F) (V c (Pipeline.arrRef spec0 6))
/-- Window 7's block at point `t`, as the fetch stages it. -/
abbrev fftBlk7 (V : (c : Dev nD) → Conts F c) (c : Dev nD) (t : Fin cfg0.N) : S1x256.Idx → F .f32 :=
  ((cfg0.win 7).blk t).view.read (Elt F) (V c (Pipeline.arrRef spec0 7))
/-- Window 8's block at point `t`, as the fetch stages it. -/
abbrev fftBlk8 (V : (c : Dev nD) → Conts F c) (c : Dev nD) (t : Fin cfg0.N) : S128x256.Idx → F .f32 :=
  ((cfg0.win 8).blk t).view.read (Elt F) (V c (Pipeline.arrRef spec0 8))
/-- Window 9's block at point `t`, as the fetch stages it. -/
abbrev fftBlk9 (V : (c : Dev nD) → Conts F c) (c : Dev nD) (t : Fin cfg0.N) : S128x256.Idx → F .f32 :=
  ((cfg0.win 9).blk t).view.read (Elt F) (V c (Pipeline.arrRef spec0 9))

/-- The proof data of the region entered with the buffers at `V`, before SparseCore call `n`. -/
def fftDat [∀ e, Nonempty (Elt F e)] (V : (c : Dev nD) → Conts F c) (n : ℕ) (c : Dev nD) : Dat τ (Elt F) (HIx 1) ℕ UU ℕ cfg0 c where
  A w := V c (Pipeline.arrRef spec0 w)
  after w t := match w with
    | ⟨0, _⟩ => fftBlk0 V c t
    | ⟨1, _⟩ => fftBlk1 V c t
    | ⟨2, _⟩ => fftBlk2 V c t
    | ⟨3, _⟩ => fftBlk3 V c t
    | ⟨4, _⟩ => fftBlk4 V c t
    | ⟨5, _⟩ => fftBlk5 V c t
    | ⟨6, _⟩ => fftBlk6 V c t
    | ⟨7, _⟩ => fftBlk7 V c t
    | ⟨8, _⟩ => fftBlk8 V c t
    | ⟨9, _⟩ => fftBlk9 V c t
    | ⟨10, _⟩ => fftOut (fftBlk0 V c t) (fftBlk1 V c t) (fftBlk2 V c t) (fftBlk3 V c t) (fftBlk4 V c t) (fftBlk5 V c t) (fftBlk6 V c t) (fftBlk7 V c t) (fftBlk8 V c t) (fftBlk9 V c t)
  Φ _ := Pipeline.scopedRest spec0 c
  q _ := fullShare
  owed _ := (K (F := F)).Otc c n
  recorded _ := below (F := F) n c

theorem fft_before0 [∀ e, Nonempty (Elt F e)] (V : (c : Dev nD) → Conts F c) (n : ℕ) (c : Dev nD) (t : Fin cfg0.N) (d) :
    (fftDat V n c).before 0 t d = fftBlk0 V c t :=
  Dat.before_in_eq_fetched (fftDat V n c) 0 rfl (fun _ => rfl) (fun _ _ _ => rfl) (fun _ => rfl) t d
theorem fft_before1 [∀ e, Nonempty (Elt F e)] (V : (c : Dev nD) → Conts F c) (n : ℕ) (c : Dev nD) (t : Fin cfg0.N) (d) :
    (fftDat V n c).before 1 t d = fftBlk1 V c t :=
  Dat.before_in_eq_fetched (fftDat V n c) 1 rfl (fun _ => rfl) (fun _ _ _ => rfl) (fun _ => rfl) t d
theorem fft_before2 [∀ e, Nonempty (Elt F e)] (V : (c : Dev nD) → Conts F c) (n : ℕ) (c : Dev nD) (t : Fin cfg0.N) (d) :
    (fftDat V n c).before 2 t d = fftBlk2 V c t :=
  Dat.before_in_eq_fetched (fftDat V n c) 2 rfl (fun _ => rfl) (fun _ _ _ => rfl) (fun _ => rfl) t d
theorem fft_before3 [∀ e, Nonempty (Elt F e)] (V : (c : Dev nD) → Conts F c) (n : ℕ) (c : Dev nD) (t : Fin cfg0.N) (d) :
    (fftDat V n c).before 3 t d = fftBlk3 V c t :=
  Dat.before_in_eq_fetched (fftDat V n c) 3 rfl (fun _ => rfl) (fun _ _ _ => rfl) (fun _ => rfl) t d
theorem fft_before4 [∀ e, Nonempty (Elt F e)] (V : (c : Dev nD) → Conts F c) (n : ℕ) (c : Dev nD) (t : Fin cfg0.N) (d) :
    (fftDat V n c).before 4 t d = fftBlk4 V c t :=
  Dat.before_in_eq_fetched (fftDat V n c) 4 rfl (fun _ => rfl) (fun _ _ _ => rfl) (fun _ => rfl) t d
theorem fft_before5 [∀ e, Nonempty (Elt F e)] (V : (c : Dev nD) → Conts F c) (n : ℕ) (c : Dev nD) (t : Fin cfg0.N) (d) :
    (fftDat V n c).before 5 t d = fftBlk5 V c t :=
  Dat.before_in_eq_fetched (fftDat V n c) 5 rfl (fun _ => rfl) (fun _ _ _ => rfl) (fun _ => rfl) t d
theorem fft_before6 [∀ e, Nonempty (Elt F e)] (V : (c : Dev nD) → Conts F c) (n : ℕ) (c : Dev nD) (t : Fin cfg0.N) (d) :
    (fftDat V n c).before 6 t d = fftBlk6 V c t :=
  Dat.before_in_eq_fetched (fftDat V n c) 6 rfl (fun _ => rfl) (fun _ _ _ => rfl) (fun _ => rfl) t d
theorem fft_before7 [∀ e, Nonempty (Elt F e)] (V : (c : Dev nD) → Conts F c) (n : ℕ) (c : Dev nD) (t : Fin cfg0.N) (d) :
    (fftDat V n c).before 7 t d = fftBlk7 V c t :=
  Dat.before_in_eq_fetched (fftDat V n c) 7 rfl (fun _ => rfl) (fun _ _ _ => rfl) (fun _ => rfl) t d
theorem fft_before8 [∀ e, Nonempty (Elt F e)] (V : (c : Dev nD) → Conts F c) (n : ℕ) (c : Dev nD) (t : Fin cfg0.N) (d) :
    (fftDat V n c).before 8 t d = fftBlk8 V c t :=
  Dat.before_in_eq_fetched (fftDat V n c) 8 rfl (fun _ => rfl) (fun _ _ _ => rfl) (fun _ => rfl) t d
theorem fft_before9 [∀ e, Nonempty (Elt F e)] (V : (c : Dev nD) → Conts F c) (n : ℕ) (c : Dev nD) (t : Fin cfg0.N) (d) :
    (fftDat V n c).before 9 t d = fftBlk9 V c t :=
  Dat.before_in_eq_fetched (fftDat V n c) 9 rfl (fun _ => rfl) (fun _ _ _ => rfl) (fun _ => rfl) t d

set_option maxHeartbeats 2000000 in
theorem fft_obligation [∀ e, Nonempty (Elt F e)] (V : (c : Dev nD) → Conts F c) (n : ℕ) (c : Dev nD) :
    Pipeline.BodyObligation (fftDat V n c) (defs₀ (F := F)) 𝒱₀ none Set.univ := fun t => by
  rw [bigSep_W0, bigSep_W0]
  simp only [fft_before0, fft_before1, fft_before2, fft_before3, fft_before4, fft_before5, fft_before6, fft_before7, fft_before8, fft_before9]
  rw [show (fftDat V n c).Φ t.castSucc = Pipeline.scopedRest spec0 c from rfl,
    show (fftDat V n c).Φ t.succ = Pipeline.scopedRest spec0 c from rfl,
    show (fftDat V n c).owesAt none t.succ = (fftDat V n c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (fft_body c (grid0.coords t) (st0_0 t) (stage_whole0 0 (cfg0.slots t 0)) (st0_1 t) (stage_whole0 1 (cfg0.slots t 1)) (st0_2 t) (stage_whole0 2 (cfg0.slots t 2)) (st0_3 t) (stage_whole0 3 (cfg0.slots t 3)) (st0_4 t) (stage_whole0 4 (cfg0.slots t 4)) (st0_5 t) (stage_whole0 5 (cfg0.slots t 5)) (st0_6 t) (stage_whole0 6 (cfg0.slots t 6)) (st0_7 t) (stage_whole0 7 (cfg0.slots t 7)) (st0_8 t) (stage_whole0 8 (cfg0.slots t 8)) (st0_9 t) (stage_whole0 9 (cfg0.slots t 9)) (st0_10 t) (stage_whole0 10 (cfg0.slots t 10)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Proof data for every pipeline, this one's real. -/
def fftDats [∀ e, Nonempty (Elt F e)] (V : (c : Dev nD) → Conts F c) (n : ℕ) : Dats F
  | ⟨0, _⟩ => fun c => fftDat V n c
  | ⟨1, _⟩ => fun c => junkDat c
  | ⟨2, _⟩ => fun c => junkDat c
  | ⟨3, _⟩ => fun c => junkDat c

/-- The region, from the buffers at `V` to the same with the result at what the write-backs leave. -/
def fftReg [∀ e, Nonempty (Elt F e)] (V V' : (c : Dev nD) → Conts F c) (n : ℕ)
    (hout : ∀ c w, (fftDat V n c).arrAt w cfg0.N = V' c (Pipeline.arrRef spec0 w))
    (hne : ∀ c (b : Ref sig .tc), b ∉ Finset.univ.image (Pipeline.arrRef spec0) → V' c b = V c b) :
    Pipeline.RegionSeg (pcfgs (F := F)) adm (fftDats V n) none defs₀ 𝒱₀ (K (F := F)).L (K (F := F)).lev 0 :=
  reg 0 n V V' (fftDats V n) launch0 (fun _ _ => rfl) (fun _ _ => rfl) (fun _ _ => rfl) (fun _ _ => rfl) (fun _ _ => rfl)
    (fun c => (fft_obligation V n c).loose) hout hne

end Cert.Proof.Ring

end
-- ==== Proof.Head1.lean ====
/-
  The first layer's kernel as a region of @main: its body run once, and the region's proof data.
-/
module

public import proofs.«01_k».proof.Proof.Region
public import proofs.«01_k».proof.Proof.Gen.KernelIdeal.Points

@[expose] public section

noncomputable section

namespace Cert.Proof.Ring

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig (HIx 1) (Elt F) ℕ UU ℕ

/-- What the kernel leaves in its result's block, from what it loads. -/
def head1Out [∀ e, Nonempty (Elt F e)] (X0 : S64x512.Idx → F .f32) (X1 : S1x256.Idx → F .f32) (X2 : S256x4096.Idx → F .f32) (X3 : S1x4096.Idx → F .f32) :
    S64x4096.Idx → F .f32 :=
  k2_pay1 (View.ld (Val := Elt F) (e' := .f32) X0 (Rect.unit (s := S64x512) ![0, 0] S64x256.size inb_S64x512_S64x256_0_0))
    (View.ld (Val := Elt F) (e' := .f32) X1 (Rect.unit (s := S1x256) ![0, 0] S1x256.size inb_S1x256_S1x256_0_0))
    (View.ld (Val := Elt F) (e' := .f32) X2 (Rect.unit (s := S256x4096) ![0, 0] S256x4096.size inb_S256x4096_S256x4096_0_0))
    (View.ld (Val := Elt F) (e' := .f32) X3 (Rect.unit (s := S1x4096) ![0, 0] S1x4096.size inb_S1x4096_S1x4096_0_0))

/-- The body run on staging buffers owned whole. -/
theorem head1_body [∀ e, Nonempty (Elt F e)] (c : Dev nD) (M0 : Memref sig .tc .vmem S64x512 .f32) (h0 : M0.IsWhole) (M1 : Memref sig .tc .vmem S1x256 .f32) (h1 : M1.IsWhole) (M2 : Memref sig .tc .vmem S256x4096 .f32) (h2 : M2.IsWhole) (M3 : Memref sig .tc .vmem S1x4096 .f32) (h3 : M3.IsWhole) (M4 : Memref sig .tc .vmem S64x4096 .f32) (h4 : M4.IsWhole)
    (X0 : S64x512.Idx → F .f32) (X1 : S1x256.Idx → F .f32) (X2 : S256x4096.Idx → F .f32) (X3 : S1x4096.Idx → F .f32) (X4 : S64x4096.Idx → F .f32) (Q : PUnit → sProp 𝕄) :
    iprop(at_ c M0 X0 ∗ at_ c M1 X1 ∗ at_ c M2 X2 ∗ at_ c M3 X3 ∗ at_ c M4 X4
        ∗ (iprop(at_ c M0 X0 ∗ at_ c M1 X1 ∗ at_ c M2 X2 ∗ at_ c M3 X3 ∗ at_ c M4 (head1Out X0 X1 X2 X3)) -∗ Q ⟨⟩))
      ⊢ wp frame (wpE (defs₀ (F := F)) Variants.none (c.tc : Thread nD τ) none) Set.univ (cc2__head1_body M0 h0 M1 h1 M2 h2 M3 h3 M4 h4) Q := by
  rw [at_eq c M0 h0, at_eq c M1 h1, at_eq c M2 h2, at_eq c M3 h3, at_eq c M4 h4, at_eq c M4 h4]
  iintro ⟨⟨%f0, %e0, H0⟩, ⟨%f1, %e1, H1⟩, ⟨%f2, %e2, H2⟩, ⟨%f3, %e3, H3⟩, ⟨%f4, -, H4⟩, Hk⟩
  subst e0; subst e1; subst e2; subst e3
  rw [cc2__head1_body_eq_skeleton]
  unfold cc2__head1_body_skel
  sl_exec!
  sl_step
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  iexists _; isplitr; swap; (· iexact H4); ipureintro
  sl_unfold_words
  exact read_one_store _ _ hz2 _ _

/-- Window 0's block at point `t`, as the fetch stages it. -/
abbrev head1Blk0 (V : (c : Dev nD) → Conts F c) (c : Dev nD) (t : Fin cfg2.N) : S64x512.Idx → F .f32 :=
  ((cfg2.win 0).blk t).view.read (Elt F) (V c (Pipeline.arrRef spec2 0))
/-- Window 1's block at point `t`, as the fetch stages it. -/
abbrev head1Blk1 (V : (c : Dev nD) → Conts F c) (c : Dev nD) (t : Fin cfg2.N) : S1x256.Idx → F .f32 :=
  ((cfg2.win 1).blk t).view.read (Elt F) (V c (Pipeline.arrRef spec2 1))
/-- Window 2's block at point `t`, as the fetch stages it. -/
abbrev head1Blk2 (V : (c : Dev nD) → Conts F c) (c : Dev nD) (t : Fin cfg2.N) : S256x4096.Idx → F .f32 :=
  ((cfg2.win 2).blk t).view.read (Elt F) (V c (Pipeline.arrRef spec2 2))
/-- Window 3's block at point `t`, as the fetch stages it. -/
abbrev head1Blk3 (V : (c : Dev nD) → Conts F c) (c : Dev nD) (t : Fin cfg2.N) : S1x4096.Idx → F .f32 :=
  ((cfg2.win 3).blk t).view.read (Elt F) (V c (Pipeline.arrRef spec2 3))

/-- The proof data of the region entered with the buffers at `V`, before SparseCore call `n`. -/
def head1Dat [∀ e, Nonempty (Elt F e)] (V : (c : Dev nD) → Conts F c) (n : ℕ) (c : Dev nD) : Dat τ (Elt F) (HIx 1) ℕ UU ℕ cfg2 c where
  A w := V c (Pipeline.arrRef spec2 w)
  after w t := match w with
    | ⟨0, _⟩ => head1Blk0 V c t
    | ⟨1, _⟩ => head1Blk1 V c t
    | ⟨2, _⟩ => head1Blk2 V c t
    | ⟨3, _⟩ => head1Blk3 V c t
    | ⟨4, _⟩ => head1Out (head1Blk0 V c t) (head1Blk1 V c t) (head1Blk2 V c t) (head1Blk3 V c t)
  Φ _ := Pipeline.scopedRest spec2 c
  q _ := fullShare
  owed _ := (K (F := F)).Otc c n
  recorded _ := below (F := F) n c

theorem head1_before0 [∀ e, Nonempty (Elt F e)] (V : (c : Dev nD) → Conts F c) (n : ℕ) (c : Dev nD) (t : Fin cfg2.N) (d) :
    (head1Dat V n c).before 0 t d = head1Blk0 V c t :=
  Dat.before_in_eq_fetched (head1Dat V n c) 0 rfl (fun _ => rfl) (fun _ _ _ => rfl) (fun _ => rfl) t d
theorem head1_before1 [∀ e, Nonempty (Elt F e)] (V : (c : Dev nD) → Conts F c) (n : ℕ) (c : Dev nD) (t : Fin cfg2.N) (d) :
    (head1Dat V n c).before 1 t d = head1Blk1 V c t :=
  Dat.before_in_eq_fetched (head1Dat V n c) 1 rfl (fun _ => rfl) (fun _ _ _ => rfl) (fun _ => rfl) t d
theorem head1_before2 [∀ e, Nonempty (Elt F e)] (V : (c : Dev nD) → Conts F c) (n : ℕ) (c : Dev nD) (t : Fin cfg2.N) (d) :
    (head1Dat V n c).before 2 t d = head1Blk2 V c t :=
  Dat.before_in_eq_fetched (head1Dat V n c) 2 rfl (fun _ => rfl) (fun _ _ _ => rfl) (fun _ => rfl) t d
theorem head1_before3 [∀ e, Nonempty (Elt F e)] (V : (c : Dev nD) → Conts F c) (n : ℕ) (c : Dev nD) (t : Fin cfg2.N) (d) :
    (head1Dat V n c).before 3 t d = head1Blk3 V c t :=
  Dat.before_in_eq_fetched (head1Dat V n c) 3 rfl (fun _ => rfl) (fun _ _ _ => rfl) (fun _ => rfl) t d

set_option maxHeartbeats 2000000 in
theorem head1_obligation [∀ e, Nonempty (Elt F e)] (V : (c : Dev nD) → Conts F c) (n : ℕ) (c : Dev nD) :
    Pipeline.BodyObligation (head1Dat V n c) (defs₀ (F := F)) 𝒱₀ none Set.univ := fun t => by
  rw [bigSep_W2, bigSep_W2]
  simp only [head1_before0, head1_before1, head1_before2, head1_before3]
  rw [show (head1Dat V n c).Φ t.castSucc = Pipeline.scopedRest spec2 c from rfl,
    show (head1Dat V n c).Φ t.succ = Pipeline.scopedRest spec2 c from rfl,
    show (head1Dat V n c).owesAt none t.succ = (head1Dat V n c).owesAt none t.castSucc from rfl]
  iintro ⟨HΦ, Howes, ⟨%d0, H0⟩, ⟨%d1, H1⟩, ⟨%d2, H2⟩, ⟨%d3, H3⟩, ⟨%d4, H4⟩⟩
  iapply (head1_body c (st2_0 t) (stage_whole2 0 (cfg2.slots t 0)) (st2_1 t) (stage_whole2 1 (cfg2.slots t 1)) (st2_2 t) (stage_whole2 2 (cfg2.slots t 2)) (st2_3 t) (stage_whole2 3 (cfg2.slots t 3)) (st2_4 t) (stage_whole2 4 (cfg2.slots t 4)))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- Proof data for every pipeline, this one's real. -/
def head1Dats [∀ e, Nonempty (Elt F e)] (V : (c : Dev nD) → Conts F c) (n : ℕ) : Dats F
  | ⟨0, _⟩ => fun c => junkDat c
  | ⟨1, _⟩ => fun c => head1Dat V n c
  | ⟨2, _⟩ => fun c => junkDat c
  | ⟨3, _⟩ => fun c => junkDat c

/-- The region, from the buffers at `V` to the same with the result at what the write-backs leave. -/
def head1Reg [∀ e, Nonempty (Elt F e)] (V V' : (c : Dev nD) → Conts F c) (n : ℕ)
    (hout : ∀ c w, (head1Dat V n c).arrAt w cfg2.N = V' c (Pipeline.arrRef spec2 w))
    (hne : ∀ c (b : Ref sig .tc), b ∉ Finset.univ.image (Pipeline.arrRef spec2) → V' c b = V c b) :
    Pipeline.RegionSeg (pcfgs (F := F)) adm (head1Dats V n) none defs₀ 𝒱₀ (K (F := F)).L (K (F := F)).lev 1 :=
  reg 1 n V V' (head1Dats V n) launch2 (fun _ _ => rfl) (fun _ _ => rfl) (fun _ _ => rfl) (fun _ _ => rfl) (fun _ _ => rfl)
    (fun c => (head1_obligation V n c).loose) hout hne

end Cert.Proof.Ring

end
-- ==== Proof.Head2.lean ====
/-
  The second layer's kernel as a region of @main: its body run once, and the region's proof data.
-/
module

public import proofs.«01_k».proof.Proof.Region
public import proofs.«01_k».proof.Proof.Gen.KernelIdeal.Points

@[expose] public section

noncomputable section

namespace Cert.Proof.Ring

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig (HIx 1) (Elt F) ℕ UU ℕ

/-- What the kernel leaves in its result's block, from what it loads. -/
def head2Out [∀ e, Nonempty (Elt F e)] (X0 : S8194x32.Idx → F .f32) (X1 : S16x32.Idx → F .f32) (X2 : S16x32.Idx → F .f32) (X3 : S16x32.Idx → F .f32) (X4 : S1x32.Idx → F .f32) (X5 : S8192x1.Idx → F .f32) (X6 : S8192x1.Idx → F .f32) :
    S8192x32.Idx → F .f32 :=
  k3_pay1 (k3_pay2 (View.ld (Val := Elt F) (e' := .f32) X0 (Rect.unit (s := S8194x32) ![0, 0] S8192x32.size inb_S8194x32_S8192x32_0_0))
      (View.ld (Val := Elt F) (e' := .f32) X0 (Rect.unit (s := S8194x32) ![1, 0] S8192x32.size inb_S8194x32_S8192x32_1_0))
      (View.ld (Val := Elt F) (e' := .f32) X0 (Rect.unit (s := S8194x32) ![2, 0] S8192x32.size inb_S8194x32_S8192x32_2_0))
      (View.ld (Val := Elt F) (e' := .f32) X5 (Rect.unit (s := S8192x1) ![0, 0] S8192x1.size inb_S8192x1_S8192x1_0_0))
      (View.ld (Val := Elt F) (e' := .f32) X6 (Rect.unit (s := S8192x1) ![0, 0] S8192x1.size inb_S8192x1_S8192x1_0_0))
      (View.ld (Val := Elt F) (e' := .f32) X1 (Rect.unit (s := S16x32) ![0, 0] S16x32.size inb_S16x32_S16x32_0_0))
      (View.ld (Val := Elt F) (e' := .f32) X2 (Rect.unit (s := S16x32) ![0, 0] S16x32.size inb_S16x32_S16x32_0_0))
      (View.ld (Val := Elt F) (e' := .f32) X3 (Rect.unit (s := S16x32) ![0, 0] S16x32.size inb_S16x32_S16x32_0_0))
      (View.ld (Val := Elt F) (e' := .f32) X4 (Rect.unit (s := S1x32) ![0, 0] S1x32.size inb_S1x32_S1x32_0_0)))
    (Scalar.ofBits .f32 0x00000000#32)

/-- The body run on staging buffers owned whole. -/
theorem head2_body [∀ e, Nonempty (Elt F e)] (c : Dev nD) (M0 : Memref sig .tc .vmem S8194x32 .f32) (h0 : M0.IsWhole) (M1 : Memref sig .tc .vmem S16x32 .f32) (h1 : M1.IsWhole) (M2 : Memref sig .tc .vmem S16x32 .f32) (h2 : M2.IsWhole) (M3 : Memref sig .tc .vmem S16x32 .f32) (h3 : M3.IsWhole) (M4 : Memref sig .tc .vmem S1x32 .f32) (h4 : M4.IsWhole) (M5 : Memref sig .tc .vmem S8192x1 .f32) (h5 : M5.IsWhole) (M6 : Memref sig .tc .vmem S8192x1 .f32) (h6 : M6.IsWhole) (M7 : Memref sig .tc .vmem S8192x32 .f32) (h7 : M7.IsWhole)
    (X0 : S8194x32.Idx → F .f32) (X1 : S16x32.Idx → F .f32) (X2 : S16x32.Idx → F .f32) (X3 : S16x32.Idx → F .f32) (X4 : S1x32.Idx → F .f32) (X5 : S8192x1.Idx → F .f32) (X6 : S8192x1.Idx → F .f32) (X7 : S8192x32.Idx → F .f32) (Q : PUnit → sProp 𝕄) :
    iprop(at_ c M0 X0 ∗ at_ c M1 X1 ∗ at_ c M2 X2 ∗ at_ c M3 X3 ∗ at_ c M4 X4 ∗ at_ c M5 X5 ∗ at_ c M6 X6 ∗ at_ c M7 X7
        ∗ (iprop(at_ c M0 X0 ∗ at_ c M1 X1 ∗ at_ c M2 X2 ∗ at_ c M3 X3 ∗ at_ c M4 X4 ∗ at_ c M5 X5 ∗ at_ c M6 X6 ∗ at_ c M7 (head2Out X0 X1 X2 X3 X4 X5 X6)) -∗ Q ⟨⟩))
      ⊢ wp frame (wpE (defs₀ (F := F)) Variants.none (c.tc : Thread nD τ) none) Set.univ (cc3__head2_body M0 h0 M1 h1 M2 h2 M3 h3 M4 h4 M5 h5 M6 h6 M7 h7) Q := by
  rw [at_eq c M0 h0, at_eq c M1 h1, at_eq c M2 h2, at_eq c M3 h3, at_eq c M4 h4, at_eq c M5 h5, at_eq c M6 h6, at_eq c M7 h7, at_eq c M7 h7]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, -, H7⟩, Hk⟩
  subst e0; subst e1; subst e2; subst e3; subst e4; subst e5; subst e6
  rw [cc3__head2_body_eq_skeleton]
  unfold cc3__head2_body_skel
  rw [k3_part1_eq_skeleton]
  unfold k3_part1_skel
  sl_exec!
  sl_step
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  iexists _; isplitr; swap; (· iexact H7); ipureintro
  sl_unfold_words
  exact read_one_store _ _ hz2 _ _

/-- Window 0's block at point `t`, as the fetch stages it. -/
abbrev head2Blk0 (V : (c : Dev nD) → Conts F c) (c : Dev nD) (t : Fin cfg3.N) : S8194x32.Idx → F .f32 :=
  ((cfg3.win 0).blk t).view.read (Elt F) (V c (Pipeline.arrRef spec3 0))
/-- Window 1's block at point `t`, as the fetch stages it. -/
abbrev head2Blk1 (V : (c : Dev nD) → Conts F c) (c : Dev nD) (t : Fin cfg3.N) : S16x32.Idx → F .f32 :=
  ((cfg3.win 1).blk t).view.read (Elt F) (V c (Pipeline.arrRef spec3 1))
/-- Window 2's block at point `t`, as the fetch stages it. -/
abbrev head2Blk2 (V : (c : Dev nD) → Conts F c) (c : Dev nD) (t : Fin cfg3.N) : S16x32.Idx → F .f32 :=
  ((cfg3.win 2).blk t).view.read (Elt F) (V c (Pipeline.arrRef spec3 2))
/-- Window 3's block at point `t`, as the fetch stages it. -/
abbrev head2Blk3 (V : (c : Dev nD) → Conts F c) (c : Dev nD) (t : Fin cfg3.N) : S16x32.Idx → F .f32 :=
  ((cfg3.win 3).blk t).view.read (Elt F) (V c (Pipeline.arrRef spec3 3))
/-- Window 4's block at point `t`, as the fetch stages it. -/
abbrev head2Blk4 (V : (c : Dev nD) → Conts F c) (c : Dev nD) (t : Fin cfg3.N) : S1x32.Idx → F .f32 :=
  ((cfg3.win 4).blk t).view.read (Elt F) (V c (Pipeline.arrRef spec3 4))
/-- Window 5's block at point `t`, as the fetch stages it. -/
abbrev head2Blk5 (V : (c : Dev nD) → Conts F c) (c : Dev nD) (t : Fin cfg3.N) : S8192x1.Idx → F .f32 :=
  ((cfg3.win 5).blk t).view.read (Elt F) (V c (Pipeline.arrRef spec3 5))
/-- Window 6's block at point `t`, as the fetch stages it. -/
abbrev head2Blk6 (V : (c : Dev nD) → Conts F c) (c : Dev nD) (t : Fin cfg3.N) : S8192x1.Idx → F .f32 :=
  ((cfg3.win 6).blk t).view.read (Elt F) (V c (Pipeline.arrRef spec3 6))

/-- The proof data of the region entered with the buffers at `V`, before SparseCore call `n`. -/
def head2Dat [∀ e, Nonempty (Elt F e)] (V : (c : Dev nD) → Conts F c) (n : ℕ) (c : Dev nD) : Dat τ (Elt F) (HIx 1) ℕ UU ℕ cfg3 c where
  A w := V c (Pipeline.arrRef spec3 w)
  after w t := match w with
    | ⟨0, _⟩ => head2Blk0 V c t
    | ⟨1, _⟩ => head2Blk1 V c t
    | ⟨2, _⟩ => head2Blk2 V c t
    | ⟨3, _⟩ => head2Blk3 V c t
    | ⟨4, _⟩ => head2Blk4 V c t
    | ⟨5, _⟩ => head2Blk5 V c t
    | ⟨6, _⟩ => head2Blk6 V c t
    | ⟨7, _⟩ => head2Out (head2Blk0 V c t) (head2Blk1 V c t) (head2Blk2 V c t) (head2Blk3 V c t) (head2Blk4 V c t) (head2Blk5 V c t) (head2Blk6 V c t)
  Φ _ := Pipeline.scopedRest spec3 c
  q _ := fullShare
  owed _ := (K (F := F)).Otc c n
  recorded _ := below (F := F) n c

theorem head2_before0 [∀ e, Nonempty (Elt F e)] (V : (c : Dev nD) → Conts F c) (n : ℕ) (c : Dev nD) (t : Fin cfg3.N) (d) :
    (head2Dat V n c).before 0 t d = head2Blk0 V c t :=
  Dat.before_in_eq_fetched (head2Dat V n c) 0 rfl (fun _ => rfl) (fun _ _ _ => rfl) (fun _ => rfl) t d
theorem head2_before1 [∀ e, Nonempty (Elt F e)] (V : (c : Dev nD) → Conts F c) (n : ℕ) (c : Dev nD) (t : Fin cfg3.N) (d) :
    (head2Dat V n c).before 1 t d = head2Blk1 V c t :=
  Dat.before_in_eq_fetched (head2Dat V n c) 1 rfl (fun _ => rfl) (fun _ _ _ => rfl) (fun _ => rfl) t d
theorem head2_before2 [∀ e, Nonempty (Elt F e)] (V : (c : Dev nD) → Conts F c) (n : ℕ) (c : Dev nD) (t : Fin cfg3.N) (d) :
    (head2Dat V n c).before 2 t d = head2Blk2 V c t :=
  Dat.before_in_eq_fetched (head2Dat V n c) 2 rfl (fun _ => rfl) (fun _ _ _ => rfl) (fun _ => rfl) t d
theorem head2_before3 [∀ e, Nonempty (Elt F e)] (V : (c : Dev nD) → Conts F c) (n : ℕ) (c : Dev nD) (t : Fin cfg3.N) (d) :
    (head2Dat V n c).before 3 t d = head2Blk3 V c t :=
  Dat.before_in_eq_fetched (head2Dat V n c) 3 rfl (fun _ => rfl) (fun _ _ _ => rfl) (fun _ => rfl) t d
theorem head2_before4 [∀ e, Nonempty (Elt F e)] (V : (c : Dev nD) → Conts F c) (n : ℕ) (c : Dev nD) (t : Fin cfg3.N) (d) :
    (head2Dat V n c).before 4 t d = head2Blk4 V c t :=
  Dat.before_in_eq_fetched (head2Dat V n c) 4 rfl (fun _ => rfl) (fun _ _ _ => rfl) (fun _ => rfl) t d
theorem head2_before5 [∀ e, Nonempty (Elt F e)] (V : (c : Dev nD) → Conts F c) (n : ℕ) (c : Dev nD) (t : Fin cfg3.N) (d) :
    (head2Dat V n c).before 5 t d = head2Blk5 V c t :=
  Dat.before_in_eq_fetched (head2Dat V n c) 5 rfl (fun _ => rfl) (fun _ _ _ => rfl) (fun _ => rfl) t d
theorem head2_before6 [∀ e, Nonempty (Elt F e)] (V : (c : Dev nD) → Conts F c) (n : ℕ) (c : Dev nD) (t : Fin cfg3.N) (d) :
    (head2Dat V n c).before 6 t d = head2Blk6 V c t :=
  Dat.before_in_eq_fetched (head2Dat V n c) 6 rfl (fun _ => rfl) (fun _ _ _ => rfl) (fun _ => rfl) t d

set_option maxHeartbeats 2000000 in
theorem head2_obligation [∀ e, Nonempty (Elt F e)] (V : (c : Dev nD) → Conts F c) (n : ℕ) (c : Dev nD) :
    Pipeline.BodyObligation (head2Dat V n c) (defs₀ (F := F)) 𝒱₀ none Set.univ := fun t => by
  rw [bigSep_W3, bigSep_W3]
  simp only [head2_before0, head2_before1, head2_before2, head2_before3, head2_before4, head2_before5, head2_before6]
  rw [show (head2Dat V n c).Φ t.castSucc = Pipeline.scopedRest spec3 c from rfl,
    show (head2Dat V n c).Φ t.succ = Pipeline.scopedRest spec3 c from rfl,
    show (head2Dat V n c).owesAt none t.succ = (head2Dat V n c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (head2_body c (st3_0 t) (stage_whole3 0 (cfg3.slots t 0)) (st3_1 t) (stage_whole3 1 (cfg3.slots t 1)) (st3_2 t) (stage_whole3 2 (cfg3.slots t 2)) (st3_3 t) (stage_whole3 3 (cfg3.slots t 3)) (st3_4 t) (stage_whole3 4 (cfg3.slots t 4)) (st3_5 t) (stage_whole3 5 (cfg3.slots t 5)) (st3_6 t) (stage_whole3 6 (cfg3.slots t 6)) (st3_7 t) (stage_whole3 7 (cfg3.slots t 7)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- Proof data for every pipeline, this one's real. -/
def head2Dats [∀ e, Nonempty (Elt F e)] (V : (c : Dev nD) → Conts F c) (n : ℕ) : Dats F
  | ⟨0, _⟩ => fun c => junkDat c
  | ⟨1, _⟩ => fun c => junkDat c
  | ⟨2, _⟩ => fun c => head2Dat V n c
  | ⟨3, _⟩ => fun c => junkDat c

/-- The region, from the buffers at `V` to the same with the result at what the write-backs leave. -/
def head2Reg [∀ e, Nonempty (Elt F e)] (V V' : (c : Dev nD) → Conts F c) (n : ℕ)
    (hout : ∀ c w, (head2Dat V n c).arrAt w cfg3.N = V' c (Pipeline.arrRef spec3 w))
    (hne : ∀ c (b : Ref sig .tc), b ∉ Finset.univ.image (Pipeline.arrRef spec3) → V' c b = V c b) :
    Pipeline.RegionSeg (pcfgs (F := F)) adm (head2Dats V n) none defs₀ 𝒱₀ (K (F := F)).L (K (F := F)).lev 2 :=
  reg 2 n V V' (head2Dats V n) launch3 (fun _ _ => rfl) (fun _ _ => rfl) (fun _ _ => rfl) (fun _ _ => rfl) (fun _ _ => rfl)
    (fun c => (head2_obligation V n c).loose) hout hne

end Cert.Proof.Ring

end
-- ==== Proof.Head3.lean ====
/-
  The third layer's kernel as a region of @main: its body run once, and the region's proof data.
-/
module

public import proofs.«01_k».proof.Proof.Region
public import proofs.«01_k».proof.Proof.Gen.KernelIdeal.Points

@[expose] public section

noncomputable section

namespace Cert.Proof.Ring

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig (HIx 1) (Elt F) ℕ UU ℕ

/-- What the kernel leaves in its result's block, from what it loads. -/
def head3Out [∀ e, Nonempty (Elt F e)] (X0 : S4098x64.Idx → F .f32) (X1 : S32x64.Idx → F .f32) (X2 : S32x64.Idx → F .f32) (X3 : S32x64.Idx → F .f32) (X4 : S1x64.Idx → F .f32) (X5 : S4096x1.Idx → F .f32) (X6 : S4096x1.Idx → F .f32) (X7 : S64x4096.Idx → F .f32) (X8 : S64x1.Idx → F .f32) (X9 : S1x1.Idx → F .f32) :
    S64x1.Idx → F .f32 :=
  k4_pay1 (k4_pay2 (View.ld (Val := Elt F) (e' := .f32) X0 (Rect.unit (s := S4098x64) ![0, 0] S4096x64.size inb_S4098x64_S4096x64_0_0))
      (View.ld (Val := Elt F) (e' := .f32) X0 (Rect.unit (s := S4098x64) ![1, 0] S4096x64.size inb_S4098x64_S4096x64_1_0))
      (View.ld (Val := Elt F) (e' := .f32) X0 (Rect.unit (s := S4098x64) ![2, 0] S4096x64.size inb_S4098x64_S4096x64_2_0))
      (View.ld (Val := Elt F) (e' := .f32) X5 (Rect.unit (s := S4096x1) ![0, 0] S4096x1.size inb_S4096x1_S4096x1_0_0))
      (View.ld (Val := Elt F) (e' := .f32) X6 (Rect.unit (s := S4096x1) ![0, 0] S4096x1.size inb_S4096x1_S4096x1_0_0))
      (View.ld (Val := Elt F) (e' := .f32) X1 (Rect.unit (s := S32x64) ![0, 0] S32x64.size inb_S32x64_S32x64_0_0))
      (View.ld (Val := Elt F) (e' := .f32) X2 (Rect.unit (s := S32x64) ![0, 0] S32x64.size inb_S32x64_S32x64_0_0))
      (View.ld (Val := Elt F) (e' := .f32) X3 (Rect.unit (s := S32x64) ![0, 0] S32x64.size inb_S32x64_S32x64_0_0))
      (View.ld (Val := Elt F) (e' := .f32) X4 (Rect.unit (s := S1x64) ![0, 0] S1x64.size inb_S1x64_S1x64_0_0)))
    (Scalar.ofBits .f32 0x00000000#32)
    (View.ld (Val := Elt F) (e' := .f32) X8 (Rect.unit (s := S64x1) ![0, 0] S64x1.size inb_S64x1_S64x1_0_0))
    (View.ld (Val := Elt F) (e' := .f32) X7 (Rect.unit (s := S64x4096) ![0, 0] S64x4096.size inb_S64x4096_S64x4096_0_0))
    (View.ld (Val := Elt F) (e' := .f32) X9 (Rect.unit (s := S1x1) ![0, 0] S1x1.size inb_S1x1_S1x1_0_0))

/-- The body run on staging buffers owned whole. -/
theorem head3_body [∀ e, Nonempty (Elt F e)] (c : Dev nD) (M0 : Memref sig .tc .vmem S4098x64 .f32) (h0 : M0.IsWhole) (M1 : Memref sig .tc .vmem S32x64 .f32) (h1 : M1.IsWhole) (M2 : Memref sig .tc .vmem S32x64 .f32) (h2 : M2.IsWhole) (M3 : Memref sig .tc .vmem S32x64 .f32) (h3 : M3.IsWhole) (M4 : Memref sig .tc .vmem S1x64 .f32) (h4 : M4.IsWhole) (M5 : Memref sig .tc .vmem S4096x1 .f32) (h5 : M5.IsWhole) (M6 : Memref sig .tc .vmem S4096x1 .f32) (h6 : M6.IsWhole) (M7 : Memref sig .tc .vmem S64x4096 .f32) (h7 : M7.IsWhole) (M8 : Memref sig .tc .vmem S64x1 .f32) (h8 : M8.IsWhole) (M9 : Memref sig .tc .vmem S1x1 .f32) (h9 : M9.IsWhole) (M10 : Memref sig .tc .vmem S64x1 .f32) (h10 : M10.IsWhole)
    (X0 : S4098x64.Idx → F .f32) (X1 : S32x64.Idx → F .f32) (X2 : S32x64.Idx → F .f32) (X3 : S32x64.Idx → F .f32) (X4 : S1x64.Idx → F .f32) (X5 : S4096x1.Idx → F .f32) (X6 : S4096x1.Idx → F .f32) (X7 : S64x4096.Idx → F .f32) (X8 : S64x1.Idx → F .f32) (X9 : S1x1.Idx → F .f32) (X10 : S64x1.Idx → F .f32) (Q : PUnit → sProp 𝕄) :
    iprop(at_ c M0 X0 ∗ at_ c M1 X1 ∗ at_ c M2 X2 ∗ at_ c M3 X3 ∗ at_ c M4 X4 ∗ at_ c M5 X5 ∗ at_ c M6 X6 ∗ at_ c M7 X7 ∗ at_ c M8 X8 ∗ at_ c M9 X9 ∗ at_ c M10 X10
        ∗ (iprop(at_ c M0 X0 ∗ at_ c M1 X1 ∗ at_ c M2 X2 ∗ at_ c M3 X3 ∗ at_ c M4 X4 ∗ at_ c M5 X5 ∗ at_ c M6 X6 ∗ at_ c M7 X7 ∗ at_ c M8 X8 ∗ at_ c M9 X9 ∗ at_ c M10 (head3Out X0 X1 X2 X3 X4 X5 X6 X7 X8 X9)) -∗ Q ⟨⟩))
      ⊢ wp frame (wpE (defs₀ (F := F)) Variants.none (c.tc : Thread nD τ) none) Set.univ (cc4__head3_body M0 h0 M1 h1 M2 h2 M3 h3 M4 h4 M5 h5 M6 h6 M7 h7 M8 h8 M9 h9 M10 h10) Q := by
  rw [at_eq c M0 h0, at_eq c M1 h1, at_eq c M2 h2, at_eq c M3 h3, at_eq c M4 h4, at_eq c M5 h5, at_eq c M6 h6, at_eq c M7 h7, at_eq c M8 h8, at_eq c M9 h9, at_eq c M10 h10, at_eq c M10 h10]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, -, H10⟩, Hk⟩
  subst e0; subst e1; subst e2; subst e3; subst e4; subst e5; subst e6; subst e7; subst e8; subst e9
  rw [cc4__head3_body_eq_skeleton]
  unfold cc4__head3_body_skel
  rw [k4_part1_eq_skeleton]
  unfold k4_part1_skel
  sl_exec!
  sl_step
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  iexists _; isplitr; swap; (· iexact H10); ipureintro
  sl_unfold_words
  exact read_one_store _ _ hz2 _ _

/-- Window 0's block at point `t`, as the fetch stages it. -/
abbrev head3Blk0 (V : (c : Dev nD) → Conts F c) (c : Dev nD) (t : Fin cfg4.N) : S4098x64.Idx → F .f32 :=
  ((cfg4.win 0).blk t).view.read (Elt F) (V c (Pipeline.arrRef spec4 0))
/-- Window 1's block at point `t`, as the fetch stages it. -/
abbrev head3Blk1 (V : (c : Dev nD) → Conts F c) (c : Dev nD) (t : Fin cfg4.N) : S32x64.Idx → F .f32 :=
  ((cfg4.win 1).blk t).view.read (Elt F) (V c (Pipeline.arrRef spec4 1))
/-- Window 2's block at point `t`, as the fetch stages it. -/
abbrev head3Blk2 (V : (c : Dev nD) → Conts F c) (c : Dev nD) (t : Fin cfg4.N) : S32x64.Idx → F .f32 :=
  ((cfg4.win 2).blk t).view.read (Elt F) (V c (Pipeline.arrRef spec4 2))
/-- Window 3's block at point `t`, as the fetch stages it. -/
abbrev head3Blk3 (V : (c : Dev nD) → Conts F c) (c : Dev nD) (t : Fin cfg4.N) : S32x64.Idx → F .f32 :=
  ((cfg4.win 3).blk t).view.read (Elt F) (V c (Pipeline.arrRef spec4 3))
/-- Window 4's block at point `t`, as the fetch stages it. -/
abbrev head3Blk4 (V : (c : Dev nD) → Conts F c) (c : Dev nD) (t : Fin cfg4.N) : S1x64.Idx → F .f32 :=
  ((cfg4.win 4).blk t).view.read (Elt F) (V c (Pipeline.arrRef spec4 4))
/-- Window 5's block at point `t`, as the fetch stages it. -/
abbrev head3Blk5 (V : (c : Dev nD) → Conts F c) (c : Dev nD) (t : Fin cfg4.N) : S4096x1.Idx → F .f32 :=
  ((cfg4.win 5).blk t).view.read (Elt F) (V c (Pipeline.arrRef spec4 5))
/-- Window 6's block at point `t`, as the fetch stages it. -/
abbrev head3Blk6 (V : (c : Dev nD) → Conts F c) (c : Dev nD) (t : Fin cfg4.N) : S4096x1.Idx → F .f32 :=
  ((cfg4.win 6).blk t).view.read (Elt F) (V c (Pipeline.arrRef spec4 6))
/-- Window 7's block at point `t`, as the fetch stages it. -/
abbrev head3Blk7 (V : (c : Dev nD) → Conts F c) (c : Dev nD) (t : Fin cfg4.N) : S64x4096.Idx → F .f32 :=
  ((cfg4.win 7).blk t).view.read (Elt F) (V c (Pipeline.arrRef spec4 7))
/-- Window 8's block at point `t`, as the fetch stages it. -/
abbrev head3Blk8 (V : (c : Dev nD) → Conts F c) (c : Dev nD) (t : Fin cfg4.N) : S64x1.Idx → F .f32 :=
  ((cfg4.win 8).blk t).view.read (Elt F) (V c (Pipeline.arrRef spec4 8))
/-- Window 9's block at point `t`, as the fetch stages it. -/
abbrev head3Blk9 (V : (c : Dev nD) → Conts F c) (c : Dev nD) (t : Fin cfg4.N) : S1x1.Idx → F .f32 :=
  ((cfg4.win 9).blk t).view.read (Elt F) (V c (Pipeline.arrRef spec4 9))

/-- The proof data of the region entered with the buffers at `V`, before SparseCore call `n`. -/
def head3Dat [∀ e, Nonempty (Elt F e)] (V : (c : Dev nD) → Conts F c) (n : ℕ) (c : Dev nD) : Dat τ (Elt F) (HIx 1) ℕ UU ℕ cfg4 c where
  A w := V c (Pipeline.arrRef spec4 w)
  after w t := match w with
    | ⟨0, _⟩ => head3Blk0 V c t
    | ⟨1, _⟩ => head3Blk1 V c t
    | ⟨2, _⟩ => head3Blk2 V c t
    | ⟨3, _⟩ => head3Blk3 V c t
    | ⟨4, _⟩ => head3Blk4 V c t
    | ⟨5, _⟩ => head3Blk5 V c t
    | ⟨6, _⟩ => head3Blk6 V c t
    | ⟨7, _⟩ => head3Blk7 V c t
    | ⟨8, _⟩ => head3Blk8 V c t
    | ⟨9, _⟩ => head3Blk9 V c t
    | ⟨10, _⟩ => head3Out (head3Blk0 V c t) (head3Blk1 V c t) (head3Blk2 V c t) (head3Blk3 V c t) (head3Blk4 V c t) (head3Blk5 V c t) (head3Blk6 V c t) (head3Blk7 V c t) (head3Blk8 V c t) (head3Blk9 V c t)
  Φ _ := Pipeline.scopedRest spec4 c
  q _ := fullShare
  owed _ := (K (F := F)).Otc c n
  recorded _ := below (F := F) n c

theorem head3_before0 [∀ e, Nonempty (Elt F e)] (V : (c : Dev nD) → Conts F c) (n : ℕ) (c : Dev nD) (t : Fin cfg4.N) (d) :
    (head3Dat V n c).before 0 t d = head3Blk0 V c t :=
  Dat.before_in_eq_fetched (head3Dat V n c) 0 rfl (fun _ => rfl) (fun _ _ _ => rfl) (fun _ => rfl) t d
theorem head3_before1 [∀ e, Nonempty (Elt F e)] (V : (c : Dev nD) → Conts F c) (n : ℕ) (c : Dev nD) (t : Fin cfg4.N) (d) :
    (head3Dat V n c).before 1 t d = head3Blk1 V c t :=
  Dat.before_in_eq_fetched (head3Dat V n c) 1 rfl (fun _ => rfl) (fun _ _ _ => rfl) (fun _ => rfl) t d
theorem head3_before2 [∀ e, Nonempty (Elt F e)] (V : (c : Dev nD) → Conts F c) (n : ℕ) (c : Dev nD) (t : Fin cfg4.N) (d) :
    (head3Dat V n c).before 2 t d = head3Blk2 V c t :=
  Dat.before_in_eq_fetched (head3Dat V n c) 2 rfl (fun _ => rfl) (fun _ _ _ => rfl) (fun _ => rfl) t d
theorem head3_before3 [∀ e, Nonempty (Elt F e)] (V : (c : Dev nD) → Conts F c) (n : ℕ) (c : Dev nD) (t : Fin cfg4.N) (d) :
    (head3Dat V n c).before 3 t d = head3Blk3 V c t :=
  Dat.before_in_eq_fetched (head3Dat V n c) 3 rfl (fun _ => rfl) (fun _ _ _ => rfl) (fun _ => rfl) t d
theorem head3_before4 [∀ e, Nonempty (Elt F e)] (V : (c : Dev nD) → Conts F c) (n : ℕ) (c : Dev nD) (t : Fin cfg4.N) (d) :
    (head3Dat V n c).before 4 t d = head3Blk4 V c t :=
  Dat.before_in_eq_fetched (head3Dat V n c) 4 rfl (fun _ => rfl) (fun _ _ _ => rfl) (fun _ => rfl) t d
theorem head3_before5 [∀ e, Nonempty (Elt F e)] (V : (c : Dev nD) → Conts F c) (n : ℕ) (c : Dev nD) (t : Fin cfg4.N) (d) :
    (head3Dat V n c).before 5 t d = head3Blk5 V c t :=
  Dat.before_in_eq_fetched (head3Dat V n c) 5 rfl (fun _ => rfl) (fun _ _ _ => rfl) (fun _ => rfl) t d
theorem head3_before6 [∀ e, Nonempty (Elt F e)] (V : (c : Dev nD) → Conts F c) (n : ℕ) (c : Dev nD) (t : Fin cfg4.N) (d) :
    (head3Dat V n c).before 6 t d = head3Blk6 V c t :=
  Dat.before_in_eq_fetched (head3Dat V n c) 6 rfl (fun _ => rfl) (fun _ _ _ => rfl) (fun _ => rfl) t d
theorem head3_before7 [∀ e, Nonempty (Elt F e)] (V : (c : Dev nD) → Conts F c) (n : ℕ) (c : Dev nD) (t : Fin cfg4.N) (d) :
    (head3Dat V n c).before 7 t d = head3Blk7 V c t :=
  Dat.before_in_eq_fetched (head3Dat V n c) 7 rfl (fun _ => rfl) (fun _ _ _ => rfl) (fun _ => rfl) t d
theorem head3_before8 [∀ e, Nonempty (Elt F e)] (V : (c : Dev nD) → Conts F c) (n : ℕ) (c : Dev nD) (t : Fin cfg4.N) (d) :
    (head3Dat V n c).before 8 t d = head3Blk8 V c t :=
  Dat.before_in_eq_fetched (head3Dat V n c) 8 rfl (fun _ => rfl) (fun _ _ _ => rfl) (fun _ => rfl) t d
theorem head3_before9 [∀ e, Nonempty (Elt F e)] (V : (c : Dev nD) → Conts F c) (n : ℕ) (c : Dev nD) (t : Fin cfg4.N) (d) :
    (head3Dat V n c).before 9 t d = head3Blk9 V c t :=
  Dat.before_in_eq_fetched (head3Dat V n c) 9 rfl (fun _ => rfl) (fun _ _ _ => rfl) (fun _ => rfl) t d

set_option maxHeartbeats 2000000 in
theorem head3_obligation [∀ e, Nonempty (Elt F e)] (V : (c : Dev nD) → Conts F c) (n : ℕ) (c : Dev nD) :
    Pipeline.BodyObligation (head3Dat V n c) (defs₀ (F := F)) 𝒱₀ none Set.univ := fun t => by
  rw [bigSep_W4, bigSep_W4]
  simp only [head3_before0, head3_before1, head3_before2, head3_before3, head3_before4, head3_before5, head3_before6, head3_before7, head3_before8, head3_before9]
  rw [show (head3Dat V n c).Φ t.castSucc = Pipeline.scopedRest spec4 c from rfl,
    show (head3Dat V n c).Φ t.succ = Pipeline.scopedRest spec4 c from rfl,
    show (head3Dat V n c).owesAt none t.succ = (head3Dat V n c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (head3_body c (st4_0 t) (stage_whole4 0 (cfg4.slots t 0)) (st4_1 t) (stage_whole4 1 (cfg4.slots t 1)) (st4_2 t) (stage_whole4 2 (cfg4.slots t 2)) (st4_3 t) (stage_whole4 3 (cfg4.slots t 3)) (st4_4 t) (stage_whole4 4 (cfg4.slots t 4)) (st4_5 t) (stage_whole4 5 (cfg4.slots t 5)) (st4_6 t) (stage_whole4 6 (cfg4.slots t 6)) (st4_7 t) (stage_whole4 7 (cfg4.slots t 7)) (st4_8 t) (stage_whole4 8 (cfg4.slots t 8)) (st4_9 t) (stage_whole4 9 (cfg4.slots t 9)) (st4_10 t) (stage_whole4 10 (cfg4.slots t 10)))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- Proof data for every pipeline, this one's real. -/
def head3Dats [∀ e, Nonempty (Elt F e)] (V : (c : Dev nD) → Conts F c) (n : ℕ) : Dats F
  | ⟨0, _⟩ => fun c => junkDat c
  | ⟨1, _⟩ => fun c => junkDat c
  | ⟨2, _⟩ => fun c => junkDat c
  | ⟨3, _⟩ => fun c => head3Dat V n c

/-- The region, from the buffers at `V` to the same with the result at what the write-backs leave. -/
def head3Reg [∀ e, Nonempty (Elt F e)] (V V' : (c : Dev nD) → Conts F c) (n : ℕ)
    (hout : ∀ c w, (head3Dat V n c).arrAt w cfg4.N = V' c (Pipeline.arrRef spec4 w))
    (hne : ∀ c (b : Ref sig .tc), b ∉ Finset.univ.image (Pipeline.arrRef spec4) → V' c b = V c b) :
    Pipeline.RegionSeg (pcfgs (F := F)) adm (head3Dats V n) none defs₀ 𝒱₀ (K (F := F)).L (K (F := F)).lev 3 :=
  reg 3 n V V' (head3Dats V n) launch4 (fun _ _ => rfl) (fun _ _ => rfl) (fun _ _ => rfl) (fun _ _ => rfl) (fun _ _ => rfl)
    (fun c => (head3_obligation V n c).loose) hout hne

end Cert.Proof.Ring

end
-- ==== Proof.Host.lean ====
/-
  The host operations of the kernel's @main between its calls, as lists: the stretch before the transform (A), the one
  between the ring sums and the first layer (B), before the second layer (C) and before the third (D). Each is cut into
  short windows; a stretch's contents are followed window by window.
-/
module

public import proofs.«01_k».proof.Proof.Setup
public import Idealize.ShloMosaic.Lib.Pipeline.Frame

@[expose] public section

set_option Elab.async false

noncomputable section

namespace Cert.Proof.Host

open Cert.KernelIdeal Cert.KernelIdeal.Gen Idealize.ShloMosaic Idealize.ShloMosaic.StableHlo Idealize.SL.Sem

variable {F : FTy → Type} [FloatOps F]

/-- Every write of one operation is in a list of references holding its result. -/
theorem writes_sub {op : HloOp τ sig (Elt F)} {r : Ref sig .tc} {W : List (Ref sig .tc)} (h : op.writes = {Proc.devRef .tc r}) (hr : r ∈ W) :
    op.writes ⊆ (W.map (Proc.devRef (τ := τ) .tc)).toFinset := by
  rw [h, Finset.singleton_subset_iff, List.mem_toFinset]; exact List.mem_map_of_mem hr

/-! ## Stretch A -/

abbrev opsA0 : List (HloOp τ sig (Elt F)) :=
  [ StableHlo.nullary main_c (fun i => lit0 (S256.rowMajor i)),
    StableHlo.nullary main_c_0 (fun i => lit1 (S256.rowMajor i)),
    StableHlo.nullary main_c_1 (fun i => lit2 (S256.rowMajor i)),
    StableHlo.binary main_c_0 main_c_0 main_v0 (muli : (⟨S256, .i32⟩ : BufTy).Contents (Elt F) → (⟨S256, .i32⟩ : BufTy).Contents (Elt F) → (⟨S256, .i32⟩ : BufTy).Contents (Elt F)),
    StableHlo.unary main_v0 main_v1 (broadcastInDim S256x1 ![0] bcast_S256_S256x1_0 : (⟨S256, .i32⟩ : BufTy).Contents (Elt F) → (⟨S256x1, .i32⟩ : BufTy).Contents (Elt F)),
    StableHlo.binary main_c main_c main_v2 (muli : (⟨S256, .i32⟩ : BufTy).Contents (Elt F) → (⟨S256, .i32⟩ : BufTy).Contents (Elt F) → (⟨S256, .i32⟩ : BufTy).Contents (Elt F)),
    StableHlo.unary main_v2 main_v3 (broadcastInDim S1x256 ![1] bcast_S256_S1x256_1 : (⟨S256, .i32⟩ : BufTy).Contents (Elt F) → (⟨S1x256, .i32⟩ : BufTy).Contents (Elt F)),
    StableHlo.unary main_v1 main_v4 (broadcastInDim S256x256 ![0, 1] bcast_S256x1_S256x256_0_1 : (⟨S256x1, .i32⟩ : BufTy).Contents (Elt F) → (⟨S256x256, .i32⟩ : BufTy).Contents (Elt F)),
    StableHlo.unary main_v3 main_v5 (broadcastInDim S256x256 ![0, 1] bcast_S1x256_S256x256_0_1 : (⟨S1x256, .i32⟩ : BufTy).Contents (Elt F) → (⟨S256x256, .i32⟩ : BufTy).Contents (Elt F)),
    StableHlo.binary main_v4 main_v5 main_v6 (addi : (⟨S256x256, .i32⟩ : BufTy).Contents (Elt F) → (⟨S256x256, .i32⟩ : BufTy).Contents (Elt F) → (⟨S256x256, .i32⟩ : BufTy).Contents (Elt F)),
    StableHlo.nullary main_c_2 (constantI S_ 32 0#32),
    StableHlo.unary main_c_2 main_v7 (broadcastInDim S256x256 ![] bcast_S_S256x256 : (⟨S_, .i32⟩ : BufTy).Contents (Elt F) → (⟨S256x256, .i32⟩ : BufTy).Contents (Elt F)) ]
abbrev wrA0 : List (Ref sig .tc) := [main_c, main_c_0, main_c_1, main_v0, main_v1, main_v2, main_v3, main_v4, main_v5, main_v6, main_c_2, main_v7]
set_option maxRecDepth 8192 in
theorem opsA0_sub : (opsA0 : List (HloOp τ sig (Elt F))).Forall fun op => op.bufs ⊆ tcRefs τ sig :=
  ⟨nullary_bufs_sub .., nullary_bufs_sub .., nullary_bufs_sub .., binary_bufs_sub .., unary_bufs_sub .., binary_bufs_sub .., unary_bufs_sub .., unary_bufs_sub .., unary_bufs_sub .., binary_bufs_sub .., nullary_bufs_sub .., unary_bufs_sub ..⟩
theorem opsA0_fresh : (opsA0 : List (HloOp τ sig (Elt F))).Forall fun op => op.fresh = ∅ :=
  ⟨rfl, rfl, rfl, rfl, rfl, rfl, rfl, rfl, rfl, rfl, rfl, rfl⟩
set_option maxRecDepth 8192 in
theorem opsA0_writes : (opsA0 : List (HloOp τ sig (Elt F))).Forall fun op => op.writes ⊆ (wrA0.map (Proc.devRef (τ := τ) .tc)).toFinset :=
  ⟨writes_sub (nullary_writes ..) (by decide), writes_sub (nullary_writes ..) (by decide), writes_sub (nullary_writes ..) (by decide), writes_sub (binary_writes ..) (by decide), writes_sub (unary_writes ..) (by decide), writes_sub (binary_writes ..) (by decide), writes_sub (unary_writes ..) (by decide), writes_sub (unary_writes ..) (by decide), writes_sub (unary_writes ..) (by decide), writes_sub (binary_writes ..) (by decide), writes_sub (nullary_writes ..) (by decide), writes_sub (unary_writes ..) (by decide)⟩

abbrev opsA1 : List (HloOp τ sig (Elt F)) :=
  [ StableHlo.nullary main_c_3 (constantI S_ 32 256#32),
    StableHlo.unary main_c_3 main_v8 (broadcastInDim S256x256 ![] bcast_S_S256x256 : (⟨S_, .i32⟩ : BufTy).Contents (Elt F) → (⟨S256x256, .i32⟩ : BufTy).Contents (Elt F)),
    StableHlo.binary main_v7 main_v8 main_v9 (addi : (⟨S256x256, .i32⟩ : BufTy).Contents (Elt F) → (⟨S256x256, .i32⟩ : BufTy).Contents (Elt F) → (⟨S256x256, .i32⟩ : BufTy).Contents (Elt F)),
    StableHlo.binary main_v9 main_v9 main_v10 (muli : (⟨S256x256, .i32⟩ : BufTy).Contents (Elt F) → (⟨S256x256, .i32⟩ : BufTy).Contents (Elt F) → (⟨S256x256, .i32⟩ : BufTy).Contents (Elt F)),
    StableHlo.binary main_v10 main_v6 main_v11 (cmpi .sle : (⟨S256x256, .i32⟩ : BufTy).Contents (Elt F) → (⟨S256x256, .i32⟩ : BufTy).Contents (Elt F) → (⟨S256x256, .i1⟩ : BufTy).Contents (Elt F)),
    StableHlo.ternary main_v11 main_v9 main_v7 main_v12 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA1 : List (Ref sig .tc) := [main_c_3, main_v8, main_v9, main_v10, main_v11, main_v12]
set_option maxRecDepth 8192 in
theorem opsA1_sub : (opsA1 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA1_fresh : (opsA1 : List (HloOp τ sig (Elt F))).Forall fun op => op.fresh = ∅ :=
  ⟨rfl, rfl, rfl, rfl, rfl, rfl⟩
set_option maxRecDepth 8192 in
theorem opsA1_writes : (opsA1 : List (HloOp τ sig (Elt F))).Forall fun op => op.writes ⊆ (wrA1.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA2 : List (HloOp τ sig (Elt F)) :=
  [ StableHlo.nullary main_c_4 (constantI S_ 32 128#32),
    StableHlo.unary main_c_4 main_v13 (broadcastInDim S256x256 ![] bcast_S_S256x256 : (⟨S_, .i32⟩ : BufTy).Contents (Elt F) → (⟨S256x256, .i32⟩ : BufTy).Contents (Elt F)),
    StableHlo.binary main_v12 main_v13 main_v14 (addi : (⟨S256x256, .i32⟩ : BufTy).Contents (Elt F) → (⟨S256x256, .i32⟩ : BufTy).Contents (Elt F) → (⟨S256x256, .i32⟩ : BufTy).Contents (Elt F)),
    StableHlo.binary main_v14 main_v14 main_v15 (muli : (⟨S256x256, .i32⟩ : BufTy).Contents (Elt F) → (⟨S256x256, .i32⟩ : BufTy).Contents (Elt F) → (⟨S256x256, .i32⟩ : BufTy).Contents (Elt F)),
    StableHlo.binary main_v15 main_v6 main_v16 (cmpi .sle : (⟨S256x256, .i32⟩ : BufTy).Contents (Elt F) → (⟨S256x256, .i32⟩ : BufTy).Contents (Elt F) → (⟨S256x256, .i1⟩ : BufTy).Contents (Elt F)),
    StableHlo.ternary main_v16 main_v14 main_v12 main_v17 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA2 : List (Ref sig .tc) := [main_c_4, main_v13, main_v14, main_v15, main_v16, main_v17]
set_option maxRecDepth 8192 in
theorem opsA2_sub : (opsA2 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA2_fresh : (opsA2 : List (HloOp τ sig (Elt F))).Forall fun op => op.fresh = ∅ :=
  ⟨rfl, rfl, rfl, rfl, rfl, rfl⟩
set_option maxRecDepth 8192 in
theorem opsA2_writes : (opsA2 : List (HloOp τ sig (Elt F))).Forall fun op => op.writes ⊆ (wrA2.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA3 : List (HloOp τ sig (Elt F)) :=
  [ StableHlo.nullary main_c_5 (constantI S_ 32 64#32),
    StableHlo.unary main_c_5 main_v18 (broadcastInDim S256x256 ![] bcast_S_S256x256 : (⟨S_, .i32⟩ : BufTy).Contents (Elt F) → (⟨S256x256, .i32⟩ : BufTy).Contents (Elt F)),
    StableHlo.binary main_v17 main_v18 main_v19 (addi : (⟨S256x256, .i32⟩ : BufTy).Contents (Elt F) → (⟨S256x256, .i32⟩ : BufTy).Contents (Elt F) → (⟨S256x256, .i32⟩ : BufTy).Contents (Elt F)),
    StableHlo.binary main_v19 main_v19 main_v20 (muli : (⟨S256x256, .i32⟩ : BufTy).Contents (Elt F) → (⟨S256x256, .i32⟩ : BufTy).Contents (Elt F) → (⟨S256x256, .i32⟩ : BufTy).Contents (Elt F)),
    StableHlo.binary main_v20 main_v6 main_v21 (cmpi .sle : (⟨S256x256, .i32⟩ : BufTy).Contents (Elt F) → (⟨S256x256, .i32⟩ : BufTy).Contents (Elt F) → (⟨S256x256, .i1⟩ : BufTy).Contents (Elt F)),
    StableHlo.ternary main_v21 main_v19 main_v17 main_v22 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA3 : List (Ref sig .tc) := [main_c_5, main_v18, main_v19, main_v20, main_v21, main_v22]
set_option maxRecDepth 8192 in
theorem opsA3_sub : (opsA3 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA3_fresh : (opsA3 : List (HloOp τ sig (Elt F))).Forall fun op => op.fresh = ∅ :=
  ⟨rfl, rfl, rfl, rfl, rfl, rfl⟩
set_option maxRecDepth 8192 in
theorem opsA3_writes : (opsA3 : List (HloOp τ sig (Elt F))).Forall fun op => op.writes ⊆ (wrA3.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA4 : List (HloOp τ sig (Elt F)) :=
  [ StableHlo.nullary main_c_6 (constantI S_ 32 32#32),
    StableHlo.unary main_c_6 main_v23 (broadcastInDim S256x256 ![] bcast_S_S256x256 : (⟨S_, .i32⟩ : BufTy).Contents (Elt F) → (⟨S256x256, .i32⟩ : BufTy).Contents (Elt F)),
    StableHlo.binary main_v22 main_v23 main_v24 (addi : (⟨S256x256, .i32⟩ : BufTy).Contents (Elt F) → (⟨S256x256, .i32⟩ : BufTy).Contents (Elt F) → (⟨S256x256, .i32⟩ : BufTy).Contents (Elt F)),
    StableHlo.binary main_v24 main_v24 main_v25 (muli : (⟨S256x256, .i32⟩ : BufTy).Contents (Elt F) → (⟨S256x256, .i32⟩ : BufTy).Contents (Elt F) → (⟨S256x256, .i32⟩ : BufTy).Contents (Elt F)),
    StableHlo.binary main_v25 main_v6 main_v26 (cmpi .sle : (⟨S256x256, .i32⟩ : BufTy).Contents (Elt F) → (⟨S256x256, .i32⟩ : BufTy).Contents (Elt F) → (⟨S256x256, .i1⟩ : BufTy).Contents (Elt F)),
    StableHlo.ternary main_v26 main_v24 main_v22 main_v27 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA4 : List (Ref sig .tc) := [main_c_6, main_v23, main_v24, main_v25, main_v26, main_v27]
set_option maxRecDepth 8192 in
theorem opsA4_sub : (opsA4 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA4_fresh : (opsA4 : List (HloOp τ sig (Elt F))).Forall fun op => op.fresh = ∅ :=
  ⟨rfl, rfl, rfl, rfl, rfl, rfl⟩
set_option maxRecDepth 8192 in
theorem opsA4_writes : (opsA4 : List (HloOp τ sig (Elt F))).Forall fun op => op.writes ⊆ (wrA4.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA5 : List (HloOp τ sig (Elt F)) :=
  [ StableHlo.nullary main_c_7 (constantI S_ 32 16#32),
    StableHlo.unary main_c_7 main_v28 (broadcastInDim S256x256 ![] bcast_S_S256x256 : (⟨S_, .i32⟩ : BufTy).Contents (Elt F) → (⟨S256x256, .i32⟩ : BufTy).Contents (Elt F)),
    StableHlo.binary main_v27 main_v28 main_v29 (addi : (⟨S256x256, .i32⟩ : BufTy).Contents (Elt F) → (⟨S256x256, .i32⟩ : BufTy).Contents (Elt F) → (⟨S256x256, .i32⟩ : BufTy).Contents (Elt F)),
    StableHlo.binary main_v29 main_v29 main_v30 (muli : (⟨S256x256, .i32⟩ : BufTy).Contents (Elt F) → (⟨S256x256, .i32⟩ : BufTy).Contents (Elt F) → (⟨S256x256, .i32⟩ : BufTy).Contents (Elt F)),
    StableHlo.binary main_v30 main_v6 main_v31 (cmpi .sle : (⟨S256x256, .i32⟩ : BufTy).Contents (Elt F) → (⟨S256x256, .i32⟩ : BufTy).Contents (Elt F) → (⟨S256x256, .i1⟩ : BufTy).Contents (Elt F)),
    StableHlo.ternary main_v31 main_v29 main_v27 main_v32 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA5 : List (Ref sig .tc) := [main_c_7, main_v28, main_v29, main_v30, main_v31, main_v32]
set_option maxRecDepth 8192 in
theorem opsA5_sub : (opsA5 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA5_fresh : (opsA5 : List (HloOp τ sig (Elt F))).Forall fun op => op.fresh = ∅ :=
  ⟨rfl, rfl, rfl, rfl, rfl, rfl⟩
set_option maxRecDepth 8192 in
theorem opsA5_writes : (opsA5 : List (HloOp τ sig (Elt F))).Forall fun op => op.writes ⊆ (wrA5.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA6 : List (HloOp τ sig (Elt F)) :=
  [ StableHlo.nullary main_c_8 (constantI S_ 32 8#32),
    StableHlo.unary main_c_8 main_v33 (broadcastInDim S256x256 ![] bcast_S_S256x256 : (⟨S_, .i32⟩ : BufTy).Contents (Elt F) → (⟨S256x256, .i32⟩ : BufTy).Contents (Elt F)),
    StableHlo.binary main_v32 main_v33 main_v34 (addi : (⟨S256x256, .i32⟩ : BufTy).Contents (Elt F) → (⟨S256x256, .i32⟩ : BufTy).Contents (Elt F) → (⟨S256x256, .i32⟩ : BufTy).Contents (Elt F)),
    StableHlo.binary main_v34 main_v34 main_v35 (muli : (⟨S256x256, .i32⟩ : BufTy).Contents (Elt F) → (⟨S256x256, .i32⟩ : BufTy).Contents (Elt F) → (⟨S256x256, .i32⟩ : BufTy).Contents (Elt F)),
    StableHlo.binary main_v35 main_v6 main_v36 (cmpi .sle : (⟨S256x256, .i32⟩ : BufTy).Contents (Elt F) → (⟨S256x256, .i32⟩ : BufTy).Contents (Elt F) → (⟨S256x256, .i1⟩ : BufTy).Contents (Elt F)),
    StableHlo.ternary main_v36 main_v34 main_v32 main_v37 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA6 : List (Ref sig .tc) := [main_c_8, main_v33, main_v34, main_v35, main_v36, main_v37]
set_option maxRecDepth 8192 in
theorem opsA6_sub : (opsA6 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA6_fresh : (opsA6 : List (HloOp τ sig (Elt F))).Forall fun op => op.fresh = ∅ :=
  ⟨rfl, rfl, rfl, rfl, rfl, rfl⟩
set_option maxRecDepth 8192 in
theorem opsA6_writes : (opsA6 : List (HloOp τ sig (Elt F))).Forall fun op => op.writes ⊆ (wrA6.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA7 : List (HloOp τ sig (Elt F)) :=
  [ StableHlo.nullary main_c_9 (constantI S_ 32 4#32),
    StableHlo.unary main_c_9 main_v38 (broadcastInDim S256x256 ![] bcast_S_S256x256 : (⟨S_, .i32⟩ : BufTy).Contents (Elt F) → (⟨S256x256, .i32⟩ : BufTy).Contents (Elt F)),
    StableHlo.binary main_v37 main_v38 main_v39 (addi : (⟨S256x256, .i32⟩ : BufTy).Contents (Elt F) → (⟨S256x256, .i32⟩ : BufTy).Contents (Elt F) → (⟨S256x256, .i32⟩ : BufTy).Contents (Elt F)),
    StableHlo.binary main_v39 main_v39 main_v40 (muli : (⟨S256x256, .i32⟩ : BufTy).Contents (Elt F) → (⟨S256x256, .i32⟩ : BufTy).Contents (Elt F) → (⟨S256x256, .i32⟩ : BufTy).Contents (Elt F)),
    StableHlo.binary main_v40 main_v6 main_v41 (cmpi .sle : (⟨S256x256, .i32⟩ : BufTy).Contents (Elt F) → (⟨S256x256, .i32⟩ : BufTy).Contents (Elt F) → (⟨S256x256, .i1⟩ : BufTy).Contents (Elt F)),
    StableHlo.ternary main_v41 main_v39 main_v37 main_v42 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA7 : List (Ref sig .tc) := [main_c_9, main_v38, main_v39, main_v40, main_v41, main_v42]
set_option maxRecDepth 8192 in
theorem opsA7_sub : (opsA7 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA7_fresh : (opsA7 : List (HloOp τ sig (Elt F))).Forall fun op => op.fresh = ∅ :=
  ⟨rfl, rfl, rfl, rfl, rfl, rfl⟩
set_option maxRecDepth 8192 in
theorem opsA7_writes : (opsA7 : List (HloOp τ sig (Elt F))).Forall fun op => op.writes ⊆ (wrA7.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA8 : List (HloOp τ sig (Elt F)) :=
  [ StableHlo.nullary main_c_10 (constantI S_ 32 2#32),
    StableHlo.unary main_c_10 main_v43 (broadcastInDim S256x256 ![] bcast_S_S256x256 : (⟨S_, .i32⟩ : BufTy).Contents (Elt F) → (⟨S256x256, .i32⟩ : BufTy).Contents (Elt F)),
    StableHlo.binary main_v42 main_v43 main_v44 (addi : (⟨S256x256, .i32⟩ : BufTy).Contents (Elt F) → (⟨S256x256, .i32⟩ : BufTy).Contents (Elt F) → (⟨S256x256, .i32⟩ : BufTy).Contents (Elt F)),
    StableHlo.binary main_v44 main_v44 main_v45 (muli : (⟨S256x256, .i32⟩ : BufTy).Contents (Elt F) → (⟨S256x256, .i32⟩ : BufTy).Contents (Elt F) → (⟨S256x256, .i32⟩ : BufTy).Contents (Elt F)),
    StableHlo.binary main_v45 main_v6 main_v46 (cmpi .sle : (⟨S256x256, .i32⟩ : BufTy).Contents (Elt F) → (⟨S256x256, .i32⟩ : BufTy).Contents (Elt F) → (⟨S256x256, .i1⟩ : BufTy).Contents (Elt F)),
    StableHlo.ternary main_v46 main_v44 main_v42 main_v47 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA8 : List (Ref sig .tc) := [main_c_10, main_v43, main_v44, main_v45, main_v46, main_v47]
set_option maxRecDepth 8192 in
theorem opsA8_sub : (opsA8 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA8_fresh : (opsA8 : List (HloOp τ sig (Elt F))).Forall fun op => op.fresh = ∅ :=
  ⟨rfl, rfl, rfl, rfl, rfl, rfl⟩
set_option maxRecDepth 8192 in
theorem opsA8_writes : (opsA8 : List (HloOp τ sig (Elt F))).Forall fun op => op.writes ⊆ (wrA8.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA9 : List (HloOp τ sig (Elt F)) :=
  [ StableHlo.nullary main_c_11 (constantI S_ 32 1#32),
    StableHlo.unary main_c_11 main_v48 (broadcastInDim S256x256 ![] bcast_S_S256x256 : (⟨S_, .i32⟩ : BufTy).Contents (Elt F) → (⟨S256x256, .i32⟩ : BufTy).Contents (Elt F)),
    StableHlo.binary main_v47 main_v48 main_v49 (addi : (⟨S256x256, .i32⟩ : BufTy).Contents (Elt F) → (⟨S256x256, .i32⟩ : BufTy).Contents (Elt F) → (⟨S256x256, .i32⟩ : BufTy).Contents (Elt F)),
    StableHlo.binary main_v49 main_v49 main_v50 (muli : (⟨S256x256, .i32⟩ : BufTy).Contents (Elt F) → (⟨S256x256, .i32⟩ : BufTy).Contents (Elt F) → (⟨S256x256, .i32⟩ : BufTy).Contents (Elt F)),
    StableHlo.binary main_v50 main_v6 main_v51 (cmpi .sle : (⟨S256x256, .i32⟩ : BufTy).Contents (Elt F) → (⟨S256x256, .i32⟩ : BufTy).Contents (Elt F) → (⟨S256x256, .i1⟩ : BufTy).Contents (Elt F)),
    StableHlo.ternary main_v51 main_v49 main_v47 main_v52 (select : (⟨S256x256, .i1⟩ : BufTy).Contents (Elt F) → (⟨S256x256, .i32⟩ : BufTy).Contents (Elt F) → (⟨S256x256, .i32⟩ : BufTy).Contents (Elt F) → (⟨S256x256, .i32⟩ : BufTy).Contents (Elt F)) ]
abbrev wrA9 : List (Ref sig .tc) := [main_c_11, main_v48, main_v49, main_v50, main_v51, main_v52]
set_option maxRecDepth 8192 in
theorem opsA9_sub : (opsA9 : List (HloOp τ sig (Elt F))).Forall fun op => op.bufs ⊆ tcRefs τ sig :=
  ⟨nullary_bufs_sub .., unary_bufs_sub .., binary_bufs_sub .., binary_bufs_sub .., binary_bufs_sub .., ternary_bufs_sub ..⟩
theorem opsA9_fresh : (opsA9 : List (HloOp τ sig (Elt F))).Forall fun op => op.fresh = ∅ :=
  ⟨rfl, rfl, rfl, rfl, rfl, rfl⟩
set_option maxRecDepth 8192 in
theorem opsA9_writes : (opsA9 : List (HloOp τ sig (Elt F))).Forall fun op => op.writes ⊆ (wrA9.map (Proc.devRef (τ := τ) .tc)).toFinset :=
  ⟨writes_sub (nullary_writes ..) (by decide), writes_sub (unary_writes ..) (by decide), writes_sub (binary_writes ..) (by decide), writes_sub (binary_writes ..) (by decide), writes_sub (binary_writes ..) (by decide), writes_sub (ternary_writes ..) (by decide)⟩

abbrev opsA10 : List (HloOp τ sig (Elt F)) :=
  [ StableHlo.unary main_c_1 main_v53 (sitofp .f32 : (⟨S256, .i32⟩ : BufTy).Contents (Elt F) → (⟨S256, .f32⟩ : BufTy).Contents (Elt F)),
    StableHlo.nullary main_cst (constant S_ .f32 0x3F800000#32),
    StableHlo.unary main_cst main_v54 (broadcastInDim S256 ![] bcast_S_S256 : (⟨S_, .f32⟩ : BufTy).Contents (Elt F) → (⟨S256, .f32⟩ : BufTy).Contents (Elt F)),
    StableHlo.binary main_v54 main_v53 main_v55 (Host.divf : (⟨S256, .f32⟩ : BufTy).Contents (Elt F) → (⟨S256, .f32⟩ : BufTy).Contents (Elt F) → (⟨S256, .f32⟩ : BufTy).Contents (Elt F)),
    StableHlo.reshape main_v55 main_v56 (rfl : (.f32 : EltTy) = .f32) shapeCasts_S256_S1x256,
    StableHlo.nullary main_cst_12 (constant S_ .f32 0x00000000#32),
    StableHlo.nullary main_cst_13 (constant S_ .f32 0xBF800000#32),
    StableHlo.binary main_cst_12 main_cst_13 main_v57 (Host.atan2 : (⟨S_, .f32⟩ : BufTy).Contents (Elt F) → (⟨S_, .f32⟩ : BufTy).Contents (Elt F) → (⟨S_, .f32⟩ : BufTy).Contents (Elt F)) ]
abbrev wrA10 : List (Ref sig .tc) := [main_v53, main_cst, main_v54, main_v55, main_v56, main_cst_12, main_cst_13, main_v57]
set_option maxRecDepth 8192 in
theorem opsA10_sub : (opsA10 : List (HloOp τ sig (Elt F))).Forall fun op => op.bufs ⊆ tcRefs τ sig :=
  ⟨unary_bufs_sub .., nullary_bufs_sub .., unary_bufs_sub .., binary_bufs_sub .., reshape_bufs_sub .., nullary_bufs_sub .., nullary_bufs_sub .., binary_bufs_sub ..⟩
theorem opsA10_fresh : (opsA10 : List (HloOp τ sig (Elt F))).Forall fun op => op.fresh = ∅ :=
  ⟨rfl, rfl, rfl, rfl, rfl, rfl, rfl, rfl⟩
set_option maxRecDepth 8192 in
theorem opsA10_writes : (opsA10 : List (HloOp τ sig (Elt F))).Forall fun op => op.writes ⊆ (wrA10.map (Proc.devRef (τ := τ) .tc)).toFinset :=
  ⟨writes_sub (unary_writes ..) (by decide), writes_sub (nullary_writes ..) (by decide), writes_sub (unary_writes ..) (by decide), writes_sub (binary_writes ..) (by decide), writes_sub (reshape_writes ..) (by decide), writes_sub (nullary_writes ..) (by decide), writes_sub (nullary_writes ..) (by decide), writes_sub (binary_writes ..) (by decide)⟩

abbrev opsA11 : List (HloOp τ sig (Elt F)) :=
  [ StableHlo.nullary main_v58 (iotaInDim S512x256 32 0),
    StableHlo.unary main_c main_v59 (broadcastInDim S1x256 ![1] bcast_S256_S1x256_1 : (⟨S256, .i32⟩ : BufTy).Contents (Elt F) → (⟨S1x256, .i32⟩ : BufTy).Contents (Elt F)),
    StableHlo.unary main_v59 main_v60 (broadcastInDim S512x256 ![0, 1] bcast_S1x256_S512x256_0_1 : (⟨S1x256, .i32⟩ : BufTy).Contents (Elt F) → (⟨S512x256, .i32⟩ : BufTy).Contents (Elt F)),
    StableHlo.binary main_v58 main_v60 main_v61 (muli : (⟨S512x256, .i32⟩ : BufTy).Contents (Elt F) → (⟨S512x256, .i32⟩ : BufTy).Contents (Elt F) → (⟨S512x256, .i32⟩ : BufTy).Contents (Elt F)),
    StableHlo.nullary main_c_14 (constantI S_ 32 512#32),
    StableHlo.unary main_c_14 main_v62 (broadcastInDim S512x256 ![] bcast_S_S512x256 : (⟨S_, .i32⟩ : BufTy).Contents (Elt F) → (⟨S512x256, .i32⟩ : BufTy).Contents (Elt F)),
    StableHlo.binary main_v61 main_v62 main_v63 (Host.remsi : (⟨S512x256, .i32⟩ : BufTy).Contents (Elt F) → (⟨S512x256, .i32⟩ : BufTy).Contents (Elt F) → (⟨S512x256, .i32⟩ : BufTy).Contents (Elt F)),
    StableHlo.nullary main_cst_15 (constant S_ .f32 0x40000000#32),
    StableHlo.binary main_cst_15 main_v57 main_v64 (mulf : (⟨S_, .f32⟩ : BufTy).Contents (Elt F) → (⟨S_, .f32⟩ : BufTy).Contents (Elt F) → (⟨S_, .f32⟩ : BufTy).Contents (Elt F)),
    StableHlo.nullary main_cst_16 (constant S_ .f32 0x44000000#32),
    StableHlo.binary main_v64 main_cst_16 main_v65 (Host.divf : (⟨S_, .f32⟩ : BufTy).Contents (Elt F) → (⟨S_, .f32⟩ : BufTy).Contents (Elt F) → (⟨S_, .f32⟩ : BufTy).Contents (Elt F)),
    StableHlo.unary main_v63 main_v66 (sitofp .f32 : (⟨S512x256, .i32⟩ : BufTy).Contents (Elt F) → (⟨S512x256, .f32⟩ : BufTy).Contents (Elt F)),
    StableHlo.unary main_v65 main_v67 (broadcastInDim S512x256 ![] bcast_S_S512x256 : (⟨S_, .f32⟩ : BufTy).Contents (Elt F) → (⟨S512x256, .f32⟩ : BufTy).Contents (Elt F)),
    StableHlo.binary main_v67 main_v66 main_v68 (mulf : (⟨S512x256, .f32⟩ : BufTy).Contents (Elt F) → (⟨S512x256, .f32⟩ : BufTy).Contents (Elt F) → (⟨S512x256, .f32⟩ : BufTy).Contents (Elt F)),
    StableHlo.unary main_v68 main_v69 (Host.cos : (⟨S512x256, .f32⟩ : BufTy).Contents (Elt F) → (⟨S512x256, .f32⟩ : BufTy).Contents (Elt F)),
    StableHlo.nullary main_cst_17 (constant S_ .f32 0x44000000#32),
    StableHlo.unary main_cst_17 main_v70 (broadcastInDim S512x256 ![] bcast_S_S512x256 : (⟨S_, .f32⟩ : BufTy).Contents (Elt F) → (⟨S512x256, .f32⟩ : BufTy).Contents (Elt F)),
    StableHlo.binary main_v69 main_v70 main_v71 (Host.divf : (⟨S512x256, .f32⟩ : BufTy).Contents (Elt F) → (⟨S512x256, .f32⟩ : BufTy).Contents (Elt F) → (⟨S512x256, .f32⟩ : BufTy).Contents (Elt F)),
    StableHlo.unary main_v68 main_v72 (Host.sin : (⟨S512x256, .f32⟩ : BufTy).Contents (Elt F) → (⟨S512x256, .f32⟩ : BufTy).Contents (Elt F)),
    StableHlo.unary main_v72 main_v73 (Host.negf : (⟨S512x256, .f32⟩ : BufTy).Contents (Elt F) → (⟨S512x256, .f32⟩ : BufTy).Contents (Elt F)),
    StableHlo.nullary main_cst_18 (constant S_ .f32 0x44000000#32),
    StableHlo.unary main_cst_18 main_v74 (broadcastInDim S512x256 ![] bcast_S_S512x256 : (⟨S_, .f32⟩ : BufTy).Contents (Elt F) → (⟨S512x256, .f32⟩ : BufTy).Contents (Elt F)),
    StableHlo.binary main_v73 main_v74 main_v75 (Host.divf : (⟨S512x256, .f32⟩ : BufTy).Contents (Elt F) → (⟨S512x256, .f32⟩ : BufTy).Contents (Elt F) → (⟨S512x256, .f32⟩ : BufTy).Contents (Elt F)) ]
abbrev wrA11 : List (Ref sig .tc) := [main_v58, main_v59, main_v60, main_v61, main_c_14, main_v62, main_v63, main_cst_15, main_v64, main_cst_16, main_v65, main_v66, main_v67, main_v68, main_v69, main_cst_17, main_v70, main_v71, main_v72, main_v73, main_cst_18, main_v74, main_v75]
set_option maxRecDepth 8192 in
theorem opsA11_sub : (opsA11 : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., unary_bufs_sub .., binary_bufs_sub .., unary_bufs_sub .., unary_bufs_sub .., nullary_bufs_sub .., unary_bufs_sub .., binary_bufs_sub ..⟩
theorem opsA11_fresh : (opsA11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
theorem opsA11_writes : (opsA11 : List (HloOp τ sig (Elt F))).Forall fun op => op.writes ⊆ (wrA11.map (Proc.devRef (τ := τ) .tc)).toFinset :=
  ⟨writes_sub (nullary_writes ..) (by decide), writes_sub (unary_writes ..) (by decide), writes_sub (unary_writes ..) (by decide), writes_sub (binary_writes ..) (by decide), writes_sub (nullary_writes ..) (by decide), writes_sub (unary_writes ..) (by decide), writes_sub (binary_writes ..) (by decide), writes_sub (nullary_writes ..) (by decide), writes_sub (binary_writes ..) (by decide), writes_sub (nullary_writes ..) (by decide), writes_sub (binary_writes ..) (by decide), writes_sub (unary_writes ..) (by decide), writes_sub (unary_writes ..) (by decide), writes_sub (binary_writes ..) (by decide), writes_sub (unary_writes ..) (by decide), writes_sub (nullary_writes ..) (by decide), writes_sub (unary_writes ..) (by decide), writes_sub (binary_writes ..) (by decide), writes_sub (unary_writes ..) (by decide), writes_sub (unary_writes ..) (by decide), writes_sub (nullary_writes ..) (by decide), writes_sub (unary_writes ..) (by decide), writes_sub (binary_writes ..) (by decide)⟩

abbrev opsA12 : List (HloOp τ sig (Elt F)) :=
  [ StableHlo.nullary main_v76 (iotaInDim S256x256 32 0),
    StableHlo.nullary main_v77 (iotaInDim S256x256 32 1),
    StableHlo.binary main_v76 main_v77 main_v78 (muli : (⟨S256x256, .i32⟩ : BufTy).Contents (Elt F) → (⟨S256x256, .i32⟩ : BufTy).Contents (Elt F) → (⟨S256x256, .i32⟩ : BufTy).Contents (Elt F)),
    StableHlo.nullary main_c_19 (constantI S_ 32 256#32),
    StableHlo.unary main_c_19 main_v79 (broadcastInDim S256x256 ![] bcast_S_S256x256 : (⟨S_, .i32⟩ : BufTy).Contents (Elt F) → (⟨S256x256, .i32⟩ : BufTy).Contents (Elt F)),
    StableHlo.binary main_v78 main_v79 main_v80 (Host.remsi : (⟨S256x256, .i32⟩ : BufTy).Contents (Elt F) → (⟨S256x256, .i32⟩ : BufTy).Contents (Elt F) → (⟨S256x256, .i32⟩ : BufTy).Contents (Elt F)),
    StableHlo.nullary main_cst_20 (constant S_ .f32 0x40000000#32),
    StableHlo.binary main_cst_20 main_v57 main_v81 (mulf : (⟨S_, .f32⟩ : BufTy).Contents (Elt F) → (⟨S_, .f32⟩ : BufTy).Contents (Elt F) → (⟨S_, .f32⟩ : BufTy).Contents (Elt F)),
    StableHlo.nullary main_cst_21 (constant S_ .f32 0x43800000#32),
    StableHlo.binary main_v81 main_cst_21 main_v82 (Host.divf : (⟨S_, .f32⟩ : BufTy).Contents (Elt F) → (⟨S_, .f32⟩ : BufTy).Contents (Elt F) → (⟨S_, .f32⟩ : BufTy).Contents (Elt F)),
    StableHlo.unary main_v80 main_v83 (sitofp .f32 : (⟨S256x256, .i32⟩ : BufTy).Contents (Elt F) → (⟨S256x256, .f32⟩ : BufTy).Contents (Elt F)),
    StableHlo.unary main_v82 main_v84 (broadcastInDim S256x256 ![] bcast_S_S256x256 : (⟨S_, .f32⟩ : BufTy).Contents (Elt F) → (⟨S256x256, .f32⟩ : BufTy).Contents (Elt F)),
    StableHlo.binary main_v84 main_v83 main_v85 (mulf : (⟨S256x256, .f32⟩ : BufTy).Contents (Elt F) → (⟨S256x256, .f32⟩ : BufTy).Contents (Elt F) → (⟨S256x256, .f32⟩ : BufTy).Contents (Elt F)),
    StableHlo.unary main_v85 main_v86 (Host.cos : (⟨S256x256, .f32⟩ : BufTy).Contents (Elt F) → (⟨S256x256, .f32⟩ : BufTy).Contents (Elt F)),
    StableHlo.nullary main_cst_22 (constant S_ .f32 0x44000000#32),
    StableHlo.unary main_cst_22 main_v87 (broadcastInDim S256x256 ![] bcast_S_S256x256 : (⟨S_, .f32⟩ : BufTy).Contents (Elt F) → (⟨S256x256, .f32⟩ : BufTy).Contents (Elt F)),
    StableHlo.binary main_v86 main_v87 main_v88 (Host.divf : (⟨S256x256, .f32⟩ : BufTy).Contents (Elt F) → (⟨S256x256, .f32⟩ : BufTy).Contents (Elt F) → (⟨S256x256, .f32⟩ : BufTy).Contents (Elt F)),
    StableHlo.unary main_v85 main_v89 (Host.sin : (⟨S256x256, .f32⟩ : BufTy).Contents (Elt F) → (⟨S256x256, .f32⟩ : BufTy).Contents (Elt F)),
    StableHlo.unary main_v89 main_v90 (Host.negf : (⟨S256x256, .f32⟩ : BufTy).Contents (Elt F) → (⟨S256x256, .f32⟩ : BufTy).Contents (Elt F)),
    StableHlo.nullary main_cst_23 (constant S_ .f32 0x44000000#32),
    StableHlo.unary main_cst_23 main_v91 (broadcastInDim S256x256 ![] bcast_S_S256x256 : (⟨S_, .f32⟩ : BufTy).Contents (Elt F) → (⟨S256x256, .f32⟩ : BufTy).Contents (Elt F)),
    StableHlo.binary main_v90 main_v91 main_v92 (Host.divf : (⟨S256x256, .f32⟩ : BufTy).Contents (Elt F) → (⟨S256x256, .f32⟩ : BufTy).Contents (Elt F) → (⟨S256x256, .f32⟩ : BufTy).Contents (Elt F)) ]
abbrev wrA12 : List (Ref sig .tc) := [main_v76, main_v77, main_v78, main_c_19, main_v79, main_v80, main_cst_20, main_v81, main_cst_21, main_v82, main_v83, main_v84, main_v85, main_v86, main_cst_22, main_v87, main_v88, main_v89, main_v90, main_cst_23, main_v91, main_v92]
set_option maxRecDepth 8192 in
theorem opsA12_sub : (opsA12 : List (HloOp τ sig (Elt F))).Forall fun op => op.bufs ⊆ tcRefs τ sig :=
  ⟨nullary_bufs_sub .., nullary_bufs_sub .., binary_bufs_sub .., nullary_bufs_sub .., unary_bufs_sub .., binary_bufs_sub .., nullary_bufs_sub .., binary_bufs_sub .., nullary_bufs_sub .., binary_bufs_sub .., unary_bufs_sub .., unary_bufs_sub .., binary_bufs_sub .., unary_bufs_sub .., nullary_bufs_sub .., unary_bufs_sub .., binary_bufs_sub .., unary_bufs_sub .., unary_bufs_sub .., nullary_bufs_sub .., unary_bufs_sub .., binary_bufs_sub ..⟩
theorem opsA12_fresh : (opsA12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
theorem opsA12_writes : (opsA12 : List (HloOp τ sig (Elt F))).Forall fun op => op.writes ⊆ (wrA12.map (Proc.devRef (τ := τ) .tc)).toFinset :=
  ⟨writes_sub (nullary_writes ..) (by decide), writes_sub (nullary_writes ..) (by decide), writes_sub (binary_writes ..) (by decide), writes_sub (nullary_writes ..) (by decide), writes_sub (unary_writes ..) (by decide), writes_sub (binary_writes ..) (by decide), writes_sub (nullary_writes ..) (by decide), writes_sub (binary_writes ..) (by decide), writes_sub (nullary_writes ..) (by decide), writes_sub (binary_writes ..) (by decide), writes_sub (unary_writes ..) (by decide), writes_sub (unary_writes ..) (by decide), writes_sub (binary_writes ..) (by decide), writes_sub (unary_writes ..) (by decide), writes_sub (nullary_writes ..) (by decide), writes_sub (unary_writes ..) (by decide), writes_sub (binary_writes ..) (by decide), writes_sub (unary_writes ..) (by decide), writes_sub (unary_writes ..) (by decide), writes_sub (nullary_writes ..) (by decide), writes_sub (unary_writes ..) (by decide), writes_sub (binary_writes ..) (by decide)⟩

abbrev opsA13 : List (HloOp τ sig (Elt F)) :=
  [ StableHlo.nullary main_v93 (iotaInDim S256x256 32 0) ]
abbrev wrA13 : List (Ref sig .tc) := [main_v93]
set_option maxRecDepth 8192 in
theorem opsA13_sub : (opsA13 : List (HloOp τ sig (Elt F))).Forall fun op => op.bufs ⊆ tcRefs τ sig :=
  nullary_bufs_sub ..
theorem opsA13_fresh : (opsA13 : List (HloOp τ sig (Elt F))).Forall fun op => op.fresh = ∅ :=
  rfl
set_option maxRecDepth 8192 in
theorem opsA13_writes : (opsA13 : List (HloOp τ sig (Elt F))).Forall fun op => op.writes ⊆ (wrA13.map (Proc.devRef (τ := τ) .tc)).toFinset :=
  writes_sub (nullary_writes ..) (by decide)

abbrev opsA14 : List (HloOp τ sig (Elt F)) :=
  [ StableHlo.unary main_v93 main_v94 (sitofp .f32 : (⟨S256x256, .i32⟩ : BufTy).Contents (Elt F) → (⟨S256x256, .f32⟩ : BufTy).Contents (Elt F)),
    StableHlo.nullary main_cst_24 (constant S_ .f32 0x40000000#32),
    StableHlo.binary main_cst_24 main_v57 main_v95 (mulf : (⟨S_, .f32⟩ : BufTy).Contents (Elt F) → (⟨S_, .f32⟩ : BufTy).Contents (Elt F) → (⟨S_, .f32⟩ : BufTy).Contents (Elt F)),
    StableHlo.unary main_v95 main_v96 (broadcastInDim S256x256 ![] bcast_S_S256x256 : (⟨S_, .f32⟩ : BufTy).Contents (Elt F) → (⟨S256x256, .f32⟩ : BufTy).Contents (Elt F)),
    StableHlo.binary main_v96 main_v94 main_v97 (mulf : (⟨S256x256, .f32⟩ : BufTy).Contents (Elt F) → (⟨S256x256, .f32⟩ : BufTy).Contents (Elt F) → (⟨S256x256, .f32⟩ : BufTy).Contents (Elt F)),
    StableHlo.nullary main_cst_25 (constant S_ .f32 0x44000000#32),
    StableHlo.unary main_cst_25 main_v98 (broadcastInDim S256x256 ![] bcast_S_S256x256 : (⟨S_, .f32⟩ : BufTy).Contents (Elt F) → (⟨S256x256, .f32⟩ : BufTy).Contents (Elt F)),
    StableHlo.binary main_v97 main_v98 main_v99 (Host.divf : (⟨S256x256, .f32⟩ : BufTy).Contents (Elt F) → (⟨S256x256, .f32⟩ : BufTy).Contents (Elt F) → (⟨S256x256, .f32⟩ : BufTy).Contents (Elt F)),
    StableHlo.unary main_v99 main_v100 (Host.cos : (⟨S256x256, .f32⟩ : BufTy).Contents (Elt F) → (⟨S256x256, .f32⟩ : BufTy).Contents (Elt F)),
    StableHlo.nullary main_cst_26 (constant S_ .f32 0x40000000#32),
    StableHlo.binary main_cst_26 main_v57 main_v101 (mulf : (⟨S_, .f32⟩ : BufTy).Contents (Elt F) → (⟨S_, .f32⟩ : BufTy).Contents (Elt F) → (⟨S_, .f32⟩ : BufTy).Contents (Elt F)),
    StableHlo.unary main_v101 main_v102 (broadcastInDim S256x256 ![] bcast_S_S256x256 : (⟨S_, .f32⟩ : BufTy).Contents (Elt F) → (⟨S256x256, .f32⟩ : BufTy).Contents (Elt F)),
    StableHlo.binary main_v102 main_v94 main_v103 (mulf : (⟨S256x256, .f32⟩ : BufTy).Contents (Elt F) → (⟨S256x256, .f32⟩ : BufTy).Contents (Elt F) → (⟨S256x256, .f32⟩ : BufTy).Contents (Elt F)),
    StableHlo.nullary main_cst_27 (constant S_ .f32 0x44000000#32),
    StableHlo.unary main_cst_27 main_v104 (broadcastInDim S256x256 ![] bcast_S_S256x256 : (⟨S_, .f32⟩ : BufTy).Contents (Elt F) → (⟨S256x256, .f32⟩ : BufTy).Contents (Elt F)),
    StableHlo.binary main_v103 main_v104 main_v105 (Host.divf : (⟨S256x256, .f32⟩ : BufTy).Contents (Elt F) → (⟨S256x256, .f32⟩ : BufTy).Contents (Elt F) → (⟨S256x256, .f32⟩ : BufTy).Contents (Elt F)),
    StableHlo.unary main_v105 main_v106 (Host.sin : (⟨S256x256, .f32⟩ : BufTy).Contents (Elt F) → (⟨S256x256, .f32⟩ : BufTy).Contents (Elt F)),
    StableHlo.unary main_v106 main_v107 (Host.negf : (⟨S256x256, .f32⟩ : BufTy).Contents (Elt F) → (⟨S256x256, .f32⟩ : BufTy).Contents (Elt F)) ]
abbrev wrA14 : List (Ref sig .tc) := [main_v94, main_cst_24, main_v95, main_v96, main_v97, main_cst_25, main_v98, main_v99, main_v100, main_cst_26, main_v101, main_v102, main_v103, main_cst_27, main_v104, main_v105, main_v106, main_v107]
set_option maxRecDepth 8192 in
theorem opsA14_sub : (opsA14 : List (HloOp τ sig (Elt F))).Forall fun op => op.bufs ⊆ tcRefs τ sig :=
  ⟨unary_bufs_sub .., nullary_bufs_sub .., binary_bufs_sub .., unary_bufs_sub .., binary_bufs_sub .., nullary_bufs_sub .., unary_bufs_sub .., binary_bufs_sub .., unary_bufs_sub .., nullary_bufs_sub .., binary_bufs_sub .., unary_bufs_sub .., binary_bufs_sub .., nullary_bufs_sub .., unary_bufs_sub .., binary_bufs_sub .., unary_bufs_sub .., unary_bufs_sub ..⟩
theorem opsA14_fresh : (opsA14 : List (HloOp τ sig (Elt F))).Forall fun op => op.fresh = ∅ :=
  ⟨rfl, rfl, rfl, rfl, rfl, rfl, rfl, rfl, rfl, rfl, rfl, rfl, rfl, rfl, rfl, rfl, rfl, rfl⟩
set_option maxRecDepth 8192 in
theorem opsA14_writes : (opsA14 : List (HloOp τ sig (Elt F))).Forall fun op => op.writes ⊆ (wrA14.map (Proc.devRef (τ := τ) .tc)).toFinset :=
  ⟨writes_sub (unary_writes ..) (by decide), writes_sub (nullary_writes ..) (by decide), writes_sub (binary_writes ..) (by decide), writes_sub (unary_writes ..) (by decide), writes_sub (binary_writes ..) (by decide), writes_sub (nullary_writes ..) (by decide), writes_sub (unary_writes ..) (by decide), writes_sub (binary_writes ..) (by decide), writes_sub (unary_writes ..) (by decide), writes_sub (nullary_writes ..) (by decide), writes_sub (binary_writes ..) (by decide), writes_sub (unary_writes ..) (by decide), writes_sub (binary_writes ..) (by decide), writes_sub (nullary_writes ..) (by decide), writes_sub (unary_writes ..) (by decide), writes_sub (binary_writes ..) (by decide), writes_sub (unary_writes ..) (by decide), writes_sub (unary_writes ..) (by decide)⟩

abbrev opsA15 : List (HloOp τ sig (Elt F)) :=
  [ StableHlo.nullary main_c_28 (constantI S_ 32 0#32),
    StableHlo.unary main_c_28 main_v108 (broadcastInDim S256 ![] bcast_S_S256 : (⟨S_, .i32⟩ : BufTy).Contents (Elt F) → (⟨S256, .i32⟩ : BufTy).Contents (Elt F)),
    StableHlo.binary main_c main_v108 main_v109 (cmpi .eq : (⟨S256, .i32⟩ : BufTy).Contents (Elt F) → (⟨S256, .i32⟩ : BufTy).Contents (Elt F) → (⟨S256, .i1⟩ : BufTy).Contents (Elt F)),
    StableHlo.nullary main_cst_29 (constant S_ .f32 0x3F800000#32),
    StableHlo.nullary main_cst_30 (constant S_ .f32 0x40000000#32),
    StableHlo.unary main_cst_29 main_call9_v0 (broadcastInDim S256 ![] bcast_S_S256 : (⟨S_, .f32⟩ : BufTy).Contents (Elt F) → (⟨S256, .f32⟩ : BufTy).Contents (Elt F)),
    StableHlo.unary main_cst_30 main_call9_v1 (broadcastInDim S256 ![] bcast_S_S256 : (⟨S_, .f32⟩ : BufTy).Contents (Elt F) → (⟨S256, .f32⟩ : BufTy).Contents (Elt F)),
    StableHlo.ternary main_v109 main_call9_v0 main_call9_v1 main_v110 (select : (⟨S256, .i1⟩ : BufTy).Contents (Elt F) → (⟨S256, .f32⟩ : BufTy).Contents (Elt F) → (⟨S256, .f32⟩ : BufTy).Contents (Elt F) → (⟨S256, .f32⟩ : BufTy).Contents (Elt F)),
    StableHlo.reshape main_v110 main_v111 (rfl : (.f32 : EltTy) = .f32) shapeCasts_S256_S1x256 ]
abbrev wrA15 : List (Ref sig .tc) := [main_c_28, main_v108, main_v109, main_cst_29, main_cst_30, main_call9_v0, main_call9_v1, main_v110, main_v111]
set_option maxRecDepth 8192 in
theorem opsA15_sub : (opsA15 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., reshape_bufs_sub ..⟩
theorem opsA15_fresh : (opsA15 : List (HloOp τ sig (Elt F))).Forall fun op => op.fresh = ∅ :=
  ⟨rfl, rfl, rfl, rfl, rfl, rfl, rfl, rfl, rfl⟩
set_option maxRecDepth 8192 in
theorem opsA15_writes : (opsA15 : List (HloOp τ sig (Elt F))).Forall fun op => op.writes ⊆ (wrA15.map (Proc.devRef (τ := τ) .tc)).toFinset :=
  ⟨writes_sub (nullary_writes ..) (by decide), writes_sub (unary_writes ..) (by decide), writes_sub (binary_writes ..) (by decide), writes_sub (nullary_writes ..) (by decide), writes_sub (nullary_writes ..) (by decide), writes_sub (unary_writes ..) (by decide), writes_sub (unary_writes ..) (by decide), writes_sub (ternary_writes ..) (by decide), writes_sub (reshape_writes ..) (by decide)⟩

abbrev opsA16 : List (HloOp τ sig (Elt F)) :=
  [ StableHlo.nullary main_v112 (iotaInDim S128x256 32 0),
    StableHlo.nullary main_v113 (iotaInDim S128x256 32 1),
    StableHlo.binary main_v113 main_v112 main_v114 (cmpi .eq : (⟨S128x256, .i32⟩ : BufTy).Contents (Elt F) → (⟨S128x256, .i32⟩ : BufTy).Contents (Elt F) → (⟨S128x256, .i1⟩ : BufTy).Contents (Elt F)),
    StableHlo.nullary main_c_31 (constantI S_ 32 0#32),
    StableHlo.unary main_c_31 main_v115 (broadcastInDim S128x256 ![] bcast_S_S128x256 : (⟨S_, .i32⟩ : BufTy).Contents (Elt F) → (⟨S128x256, .i32⟩ : BufTy).Contents (Elt F)),
    StableHlo.binary main_v112 main_v115 main_v116 (cmpi .sgt : (⟨S128x256, .i32⟩ : BufTy).Contents (Elt F) → (⟨S128x256, .i32⟩ : BufTy).Contents (Elt F) → (⟨S128x256, .i1⟩ : BufTy).Contents (Elt F)),
    StableHlo.nullary main_c_32 (constantI S_ 32 256#32),
    StableHlo.unary main_c_32 main_v117 (broadcastInDim S128x256 ![] bcast_S_S128x256 : (⟨S_, .i32⟩ : BufTy).Contents (Elt F) → (⟨S128x256, .i32⟩ : BufTy).Contents (Elt F)),
    StableHlo.binary main_v117 main_v112 main_v118 (subi : (⟨S128x256, .i32⟩ : BufTy).Contents (Elt F) → (⟨S128x256, .i32⟩ : BufTy).Contents (Elt F) → (⟨S128x256, .i32⟩ : BufTy).Contents (Elt F)),
    StableHlo.binary main_v113 main_v118 main_v119 (cmpi .eq : (⟨S128x256, .i32⟩ : BufTy).Contents (Elt F) → (⟨S128x256, .i32⟩ : BufTy).Contents (Elt F) → (⟨S128x256, .i1⟩ : BufTy).Contents (Elt F)),
    StableHlo.binary main_v116 main_v119 main_v120 (andi : (⟨S128x256, .i1⟩ : BufTy).Contents (Elt F) → (⟨S128x256, .i1⟩ : BufTy).Contents (Elt F) → (⟨S128x256, .i1⟩ : BufTy).Contents (Elt F)),
    StableHlo.binary main_v114 main_v120 main_v121 (ori : (⟨S128x256, .i1⟩ : BufTy).Contents (Elt F) → (⟨S128x256, .i1⟩ : BufTy).Contents (Elt F) → (⟨S128x256, .i1⟩ : BufTy).Contents (Elt F)),
    StableHlo.nullary main_cst_33 (constant S_ .f32 0x3F800000#32),
    StableHlo.nullary main_cst_34 (constant S_ .f32 0x00000000#32),
    StableHlo.unary main_cst_33 main_call10_v0 (broadcastInDim S128x256 ![] bcast_S_S128x256 : (⟨S_, .f32⟩ : BufTy).Contents (Elt F) → (⟨S128x256, .f32⟩ : BufTy).Contents (Elt F)),
    StableHlo.unary main_cst_34 main_call10_v1 (broadcastInDim S128x256 ![] bcast_S_S128x256 : (⟨S_, .f32⟩ : BufTy).Contents (Elt F) → (⟨S128x256, .f32⟩ : BufTy).Contents (Elt F)),
    StableHlo.ternary main_v121 main_call10_v0 main_call10_v1 main_v122 (select : (⟨S128x256, .i1⟩ : BufTy).Contents (Elt F) → (⟨S128x256, .f32⟩ : BufTy).Contents (Elt F) → (⟨S128x256, .f32⟩ : BufTy).Contents (Elt F) → (⟨S128x256, .f32⟩ : BufTy).Contents (Elt F)),
    StableHlo.binary main_v113 main_v112 main_v123 (cmpi .eq : (⟨S128x256, .i32⟩ : BufTy).Contents (Elt F) → (⟨S128x256, .i32⟩ : BufTy).Contents (Elt F) → (⟨S128x256, .i1⟩ : BufTy).Contents (Elt F)),
    StableHlo.nullary main_c_35 (constantI S_ 32 255#32),
    StableHlo.unary main_c_35 main_v124 (broadcastInDim S128x256 ![] bcast_S_S128x256 : (⟨S_, .i32⟩ : BufTy).Contents (Elt F) → (⟨S128x256, .i32⟩ : BufTy).Contents (Elt F)),
    StableHlo.binary main_v124 main_v112 main_v125 (subi : (⟨S128x256, .i32⟩ : BufTy).Contents (Elt F) → (⟨S128x256, .i32⟩ : BufTy).Contents (Elt F) → (⟨S128x256, .i32⟩ : BufTy).Contents (Elt F)),
    StableHlo.binary main_v113 main_v125 main_v126 (cmpi .eq : (⟨S128x256, .i32⟩ : BufTy).Contents (Elt F) → (⟨S128x256, .i32⟩ : BufTy).Contents (Elt F) → (⟨S128x256, .i1⟩ : BufTy).Contents (Elt F)),
    StableHlo.binary main_v123 main_v126 main_v127 (ori : (⟨S128x256, .i1⟩ : BufTy).Contents (Elt F) → (⟨S128x256, .i1⟩ : BufTy).Contents (Elt F) → (⟨S128x256, .i1⟩ : BufTy).Contents (Elt F)),
    StableHlo.nullary main_cst_36 (constant S_ .f32 0x3F800000#32),
    StableHlo.nullary main_cst_37 (constant S_ .f32 0x00000000#32),
    StableHlo.unary main_cst_36 main_call11_v0 (broadcastInDim S128x256 ![] bcast_S_S128x256 : (⟨S_, .f32⟩ : BufTy).Contents (Elt F) → (⟨S128x256, .f32⟩ : BufTy).Contents (Elt F)),
    StableHlo.unary main_cst_37 main_call11_v1 (broadcastInDim S128x256 ![] bcast_S_S128x256 : (⟨S_, .f32⟩ : BufTy).Contents (Elt F) → (⟨S128x256, .f32⟩ : BufTy).Contents (Elt F)),
    StableHlo.ternary main_v127 main_call11_v0 main_call11_v1 main_v128 (select : (⟨S128x256, .i1⟩ : BufTy).Contents (Elt F) → (⟨S128x256, .f32⟩ : BufTy).Contents (Elt F) → (⟨S128x256, .f32⟩ : BufTy).Contents (Elt F) → (⟨S128x256, .f32⟩ : BufTy).Contents (Elt F)) ]
abbrev wrA16 : List (Ref sig .tc) := [main_v112, main_v113, main_v114, main_c_31, main_v115, main_v116, main_c_32, main_v117, main_v118, main_v119, main_v120, main_v121, main_cst_33, main_cst_34, main_call10_v0, main_call10_v1, main_v122, main_v123, main_c_35, main_v124, main_v125, main_v126, main_v127, main_cst_36, main_cst_37, main_call11_v0, main_call11_v1, main_v128]
set_option maxRecDepth 8192 in
theorem opsA16_sub : (opsA16 : List (HloOp τ sig (Elt F))).Forall fun op => op.bufs ⊆ tcRefs τ sig :=
  ⟨nullary_bufs_sub .., nullary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., nullary_bufs_sub .., unary_bufs_sub .., unary_bufs_sub .., ternary_bufs_sub .., binary_bufs_sub .., nullary_bufs_sub .., unary_bufs_sub .., binary_bufs_sub .., binary_bufs_sub .., binary_bufs_sub .., nullary_bufs_sub .., nullary_bufs_sub .., unary_bufs_sub .., unary_bufs_sub .., ternary_bufs_sub ..⟩
theorem opsA16_fresh : (opsA16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsA16_writes : (opsA16 : List (HloOp τ sig (Elt F))).Forall fun op => op.writes ⊆ (wrA16.map (Proc.devRef (τ := τ) .tc)).toFinset :=
  ⟨writes_sub (nullary_writes ..) (by decide), writes_sub (nullary_writes ..) (by decide), writes_sub (binary_writes ..) (by decide), writes_sub (nullary_writes ..) (by decide), writes_sub (unary_writes ..) (by decide), writes_sub (binary_writes ..) (by decide), writes_sub (nullary_writes ..) (by decide), writes_sub (unary_writes ..) (by decide), writes_sub (binary_writes ..) (by decide), writes_sub (binary_writes ..) (by decide), writes_sub (binary_writes ..) (by decide), writes_sub (binary_writes ..) (by decide), writes_sub (nullary_writes ..) (by decide), writes_sub (nullary_writes ..) (by decide), writes_sub (unary_writes ..) (by decide), writes_sub (unary_writes ..) (by decide), writes_sub (ternary_writes ..) (by decide), writes_sub (binary_writes ..) (by decide), writes_sub (nullary_writes ..) (by decide), writes_sub (unary_writes ..) (by decide), writes_sub (binary_writes ..) (by decide), writes_sub (binary_writes ..) (by decide), writes_sub (binary_writes ..) (by decide), writes_sub (nullary_writes ..) (by decide), writes_sub (nullary_writes ..) (by decide), writes_sub (unary_writes ..) (by decide), writes_sub (unary_writes ..) (by decide), writes_sub (ternary_writes ..) (by decide)⟩

abbrev opsA17 : List (HloOp τ sig (Elt F)) :=
  [ StableHlo.nullary main_v129 (iotaInDim S12256 32 0),
    StableHlo.nullary main_c_38 (constantI S_ 32 766#32),
    StableHlo.unary main_c_38 main_v130 (broadcastInDim S12256 ![] bcast_S_S12256 : (⟨S_, .i32⟩ : BufTy).Contents (Elt F) → (⟨S12256, .i32⟩ : BufTy).Contents (Elt F)),
    StableHlo.binary main_v129 main_v130 main_v131 (Host.divsi : (⟨S12256, .i32⟩ : BufTy).Contents (Elt F) → (⟨S12256, .i32⟩ : BufTy).Contents (Elt F) → (⟨S12256, .i32⟩ : BufTy).Contents (Elt F)),
    StableHlo.nullary main_c_39 (constantI S_ 32 766#32),
    StableHlo.unary main_c_39 main_v132 (broadcastInDim S12256 ![] bcast_S_S12256 : (⟨S_, .i32⟩ : BufTy).Contents (Elt F) → (⟨S12256, .i32⟩ : BufTy).Contents (Elt F)),
    StableHlo.binary main_v129 main_v132 main_v133 (Host.remsi : (⟨S12256, .i32⟩ : BufTy).Contents (Elt F) → (⟨S12256, .i32⟩ : BufTy).Contents (Elt F) → (⟨S12256, .i32⟩ : BufTy).Contents (Elt F)),
    StableHlo.nullary main_c_40 (constantI S_ 32 1#32),
    StableHlo.unary main_c_40 main_v134 (broadcastInDim S12256 ![] bcast_S_S12256 : (⟨S_, .i32⟩ : BufTy).Contents (Elt F) → (⟨S12256, .i32⟩ : BufTy).Contents (Elt F)),
    StableHlo.binary main_v133 main_v134 main_v135 (addi : (⟨S12256, .i32⟩ : BufTy).Contents (Elt F) → (⟨S12256, .i32⟩ : BufTy).Contents (Elt F) → (⟨S12256, .i32⟩ : BufTy).Contents (Elt F)),
    StableHlo.nullary main_c_41 (constantI S_ 32 3#32) ]
abbrev wrA17 : List (Ref sig .tc) := [main_v129, main_c_38, main_v130, main_v131, main_c_39, main_v132, main_v133, main_c_40, main_v134, main_v135, main_c_41]
set_option maxRecDepth 8192 in
theorem opsA17_sub : (opsA17 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., nullary_bufs_sub ..⟩
theorem opsA17_fresh : (opsA17 : List (HloOp τ sig (Elt F))).Forall fun op => op.fresh = ∅ :=
  ⟨rfl, rfl, rfl, rfl, rfl, rfl, rfl, rfl, rfl, rfl, rfl⟩
set_option maxRecDepth 8192 in
theorem opsA17_writes : (opsA17 : List (HloOp τ sig (Elt F))).Forall fun op => op.writes ⊆ (wrA17.map (Proc.devRef (τ := τ) .tc)).toFinset :=
  ⟨writes_sub (nullary_writes ..) (by decide), writes_sub (nullary_writes ..) (by decide), writes_sub (unary_writes ..) (by decide), writes_sub (binary_writes ..) (by decide), writes_sub (nullary_writes ..) (by decide), writes_sub (unary_writes ..) (by decide), writes_sub (binary_writes ..) (by decide), writes_sub (nullary_writes ..) (by decide), writes_sub (unary_writes ..) (by decide), writes_sub (binary_writes ..) (by decide), writes_sub (nullary_writes ..) (by decide)⟩

abbrev opsA18 : List (HloOp τ sig (Elt F)) :=
  [ StableHlo.unary main_c_41 main_v136 (broadcastInDim S12256 ![] bcast_S_S12256 : (⟨S_, .i32⟩ : BufTy).Contents (Elt F) → (⟨S12256, .i32⟩ : BufTy).Contents (Elt F)),
    StableHlo.binary main_v135 main_v136 main_v137 (Host.divsi : (⟨S12256, .i32⟩ : BufTy).Contents (Elt F) → (⟨S12256, .i32⟩ : BufTy).Contents (Elt F) → (⟨S12256, .i32⟩ : BufTy).Contents (Elt F)),
    StableHlo.nullary main_c_42 (constantI S_ 32 3#32),
    StableHlo.unary main_c_42 main_v138 (broadcastInDim S12256 ![] bcast_S_S12256 : (⟨S_, .i32⟩ : BufTy).Contents (Elt F) → (⟨S12256, .i32⟩ : BufTy).Contents (Elt F)),
    StableHlo.binary main_v135 main_v138 main_v139 (Host.remsi : (⟨S12256, .i32⟩ : BufTy).Contents (Elt F) → (⟨S12256, .i32⟩ : BufTy).Contents (Elt F) → (⟨S12256, .i32⟩ : BufTy).Contents (Elt F)),
    StableHlo.binary main_v137 main_v139 main_v140 (addi : (⟨S12256, .i32⟩ : BufTy).Contents (Elt F) → (⟨S12256, .i32⟩ : BufTy).Contents (Elt F) → (⟨S12256, .i32⟩ : BufTy).Contents (Elt F)),
    StableHlo.nullary main_c_43 (constantI S_ 32 1#32),
    StableHlo.unary main_c_43 main_v141 (broadcastInDim S12256 ![] bcast_S_S12256 : (⟨S_, .i32⟩ : BufTy).Contents (Elt F) → (⟨S12256, .i32⟩ : BufTy).Contents (Elt F)),
    StableHlo.binary main_v140 main_v141 main_v142 (subi : (⟨S12256, .i32⟩ : BufTy).Contents (Elt F) → (⟨S12256, .i32⟩ : BufTy).Contents (Elt F) → (⟨S12256, .i32⟩ : BufTy).Contents (Elt F)),
    StableHlo.nullary main_c_44 (constantI S_ 32 256#32),
    StableHlo.unary main_c_44 main_v143 (broadcastInDim S12256 ![] bcast_S_S12256 : (⟨S_, .i32⟩ : BufTy).Contents (Elt F) → (⟨S12256, .i32⟩ : BufTy).Contents (Elt F)),
    StableHlo.binary main_v131 main_v143 main_v144 (muli : (⟨S12256, .i32⟩ : BufTy).Contents (Elt F) → (⟨S12256, .i32⟩ : BufTy).Contents (Elt F) → (⟨S12256, .i32⟩ : BufTy).Contents (Elt F)),
    StableHlo.binary main_v144 main_v137 main_v145 (addi : (⟨S12256, .i32⟩ : BufTy).Contents (Elt F) → (⟨S12256, .i32⟩ : BufTy).Contents (Elt F) → (⟨S12256, .i32⟩ : BufTy).Contents (Elt F)),
    StableHlo.nullary main_c_45 (constantI S_ 32 3#32),
    StableHlo.unary main_c_45 main_v146 (broadcastInDim S12256 ![] bcast_S_S12256 : (⟨S_, .i32⟩ : BufTy).Contents (Elt F) → (⟨S12256, .i32⟩ : BufTy).Contents (Elt F)),
    StableHlo.binary main_v131 main_v146 main_v147 (muli : (⟨S12256, .i32⟩ : BufTy).Contents (Elt F) → (⟨S12256, .i32⟩ : BufTy).Contents (Elt F) → (⟨S12256, .i32⟩ : BufTy).Contents (Elt F)),
    StableHlo.binary main_v147 main_v139 main_v148 (addi : (⟨S12256, .i32⟩ : BufTy).Contents (Elt F) → (⟨S12256, .i32⟩ : BufTy).Contents (Elt F) → (⟨S12256, .i32⟩ : BufTy).Contents (Elt F)) ]
abbrev wrA18 : List (Ref sig .tc) := [main_v136, main_v137, main_c_42, main_v138, main_v139, main_v140, main_c_43, main_v141, main_v142, main_c_44, main_v143, main_v144, main_v145, main_c_45, main_v146, main_v147, main_v148]
set_option maxRecDepth 8192 in
theorem opsA18_sub : (opsA18 : List (HloOp τ sig (Elt F))).Forall fun op => op.bufs ⊆ tcRefs τ sig :=
  ⟨unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub ..⟩
theorem opsA18_fresh : (opsA18 : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 8192 in
theorem opsA18_writes : (opsA18 : List (HloOp τ sig (Elt F))).Forall fun op => op.writes ⊆ (wrA18.map (Proc.devRef (τ := τ) .tc)).toFinset :=
  ⟨writes_sub (unary_writes ..) (by decide), writes_sub (binary_writes ..) (by decide), writes_sub (nullary_writes ..) (by decide), writes_sub (unary_writes ..) (by decide), writes_sub (binary_writes ..) (by decide), writes_sub (binary_writes ..) (by decide), writes_sub (nullary_writes ..) (by decide), writes_sub (unary_writes ..) (by decide), writes_sub (binary_writes ..) (by decide), writes_sub (nullary_writes ..) (by decide), writes_sub (unary_writes ..) (by decide), writes_sub (binary_writes ..) (by decide), writes_sub (binary_writes ..) (by decide), writes_sub (nullary_writes ..) (by decide), writes_sub (unary_writes ..) (by decide), writes_sub (binary_writes ..) (by decide), writes_sub (binary_writes ..) (by decide)⟩

abbrev opsA19 : List (HloOp τ sig (Elt F)) :=
  [ StableHlo.nullary main_v149 (iotaInDim S8192x1 32 0),
    StableHlo.nullary main_c_46 (constantI S_ 32 128#32),
    StableHlo.unary main_c_46 main_v150 (broadcastInDim S8192x1 ![] bcast_S_S8192x1 : (⟨S_, .i32⟩ : BufTy).Contents (Elt F) → (⟨S8192x1, .i32⟩ : BufTy).Contents (Elt F)),
    StableHlo.binary main_v149 main_v150 main_v151 (Host.remsi : (⟨S8192x1, .i32⟩ : BufTy).Contents (Elt F) → (⟨S8192x1, .i32⟩ : BufTy).Contents (Elt F) → (⟨S8192x1, .i32⟩ : BufTy).Contents (Elt F)),
    StableHlo.nullary main_c_47 (constantI S_ 32 0#32),
    StableHlo.unary main_c_47 main_v152 (broadcastInDim S8192x1 ![] bcast_S_S8192x1 : (⟨S_, .i32⟩ : BufTy).Contents (Elt F) → (⟨S8192x1, .i32⟩ : BufTy).Contents (Elt F)),
    StableHlo.binary main_v151 main_v152 main_v153 (cmpi .ne : (⟨S8192x1, .i32⟩ : BufTy).Contents (Elt F) → (⟨S8192x1, .i32⟩ : BufTy).Contents (Elt F) → (⟨S8192x1, .i1⟩ : BufTy).Contents (Elt F)),
    StableHlo.nullary main_cst_48 (constant S_ .f32 0x3F800000#32),
    StableHlo.nullary main_cst_49 (constant S_ .f32 0x00000000#32),
    StableHlo.unary main_cst_48 main_call12_v0 (broadcastInDim S8192x1 ![] bcast_S_S8192x1 : (⟨S_, .f32⟩ : BufTy).Contents (Elt F) → (⟨S8192x1, .f32⟩ : BufTy).Contents (Elt F)),
    StableHlo.unary main_cst_49 main_call12_v1 (broadcastInDim S8192x1 ![] bcast_S_S8192x1 : (⟨S_, .f32⟩ : BufTy).Contents (Elt F) → (⟨S8192x1, .f32⟩ : BufTy).Contents (Elt F)),
    StableHlo.ternary main_v153 main_call12_v0 main_call12_v1 main_v154 (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    StableHlo.nullary main_c_50 (constantI S_ 32 127#32),
    StableHlo.unary main_c_50 main_v155 (broadcastInDim S8192x1 ![] bcast_S_S8192x1 : (⟨S_, .i32⟩ : BufTy).Contents (Elt F) → (⟨S8192x1, .i32⟩ : BufTy).Contents (Elt F)),
    StableHlo.binary main_v151 main_v155 main_v156 (cmpi .ne : (⟨S8192x1, .i32⟩ : BufTy).Contents (Elt F) → (⟨S8192x1, .i32⟩ : BufTy).Contents (Elt F) → (⟨S8192x1, .i1⟩ : BufTy).Contents (Elt F)),
    StableHlo.nullary main_cst_51 (constant S_ .f32 0x3F800000#32),
    StableHlo.nullary main_cst_52 (constant S_ .f32 0x00000000#32),
    StableHlo.unary main_cst_51 main_call13_v0 (broadcastInDim S8192x1 ![] bcast_S_S8192x1 : (⟨S_, .f32⟩ : BufTy).Contents (Elt F) → (⟨S8192x1, .f32⟩ : BufTy).Contents (Elt F)),
    StableHlo.unary main_cst_52 main_call13_v1 (broadcastInDim S8192x1 ![] bcast_S_S8192x1 : (⟨S_, .f32⟩ : BufTy).Contents (Elt F) → (⟨S8192x1, .f32⟩ : BufTy).Contents (Elt F)),
    StableHlo.ternary main_v156 main_call13_v0 main_call13_v1 main_v157 (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    StableHlo.nullary main_v158 (iotaInDim S4096x1 32 0),
    StableHlo.nullary main_c_53 (constantI S_ 32 64#32),
    StableHlo.unary main_c_53 main_v159 (broadcastInDim S4096x1 ![] bcast_S_S4096x1 : (⟨S_, .i32⟩ : BufTy).Contents (Elt F) → (⟨S4096x1, .i32⟩ : BufTy).Contents (Elt F)),
    StableHlo.binary main_v158 main_v159 main_v160 (Host.remsi : (⟨S4096x1, .i32⟩ : BufTy).Contents (Elt F) → (⟨S4096x1, .i32⟩ : BufTy).Contents (Elt F) → (⟨S4096x1, .i32⟩ : BufTy).Contents (Elt F)),
    StableHlo.nullary main_c_54 (constantI S_ 32 0#32),
    StableHlo.unary main_c_54 main_v161 (broadcastInDim S4096x1 ![] bcast_S_S4096x1 : (⟨S_, .i32⟩ : BufTy).Contents (Elt F) → (⟨S4096x1, .i32⟩ : BufTy).Contents (Elt F)),
    StableHlo.binary main_v160 main_v161 main_v162 (cmpi .ne : (⟨S4096x1, .i32⟩ : BufTy).Contents (Elt F) → (⟨S4096x1, .i32⟩ : BufTy).Contents (Elt F) → (⟨S4096x1, .i1⟩ : BufTy).Contents (Elt F)),
    StableHlo.nullary main_cst_55 (constant S_ .f32 0x3F800000#32),
    StableHlo.nullary main_cst_56 (constant S_ .f32 0x00000000#32),
    StableHlo.unary main_cst_55 main_call14_v0 (broadcastInDim S4096x1 ![] bcast_S_S4096x1 : (⟨S_, .f32⟩ : BufTy).Contents (Elt F) → (⟨S4096x1, .f32⟩ : BufTy).Contents (Elt F)),
    StableHlo.unary main_cst_56 main_call14_v1 (broadcastInDim S4096x1 ![] bcast_S_S4096x1 : (⟨S_, .f32⟩ : BufTy).Contents (Elt F) → (⟨S4096x1, .f32⟩ : BufTy).Contents (Elt F)),
    StableHlo.ternary main_v162 main_call14_v0 main_call14_v1 main_v163 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)),
    StableHlo.nullary main_c_57 (constantI S_ 32 63#32),
    StableHlo.unary main_c_57 main_v164 (broadcastInDim S4096x1 ![] bcast_S_S4096x1 : (⟨S_, .i32⟩ : BufTy).Contents (Elt F) → (⟨S4096x1, .i32⟩ : BufTy).Contents (Elt F)),
    StableHlo.binary main_v160 main_v164 main_v165 (cmpi .ne : (⟨S4096x1, .i32⟩ : BufTy).Contents (Elt F) → (⟨S4096x1, .i32⟩ : BufTy).Contents (Elt F) → (⟨S4096x1, .i1⟩ : BufTy).Contents (Elt F)),
    StableHlo.nullary main_cst_58 (constant S_ .f32 0x3F800000#32),
    StableHlo.nullary main_cst_59 (constant S_ .f32 0x00000000#32),
    StableHlo.unary main_cst_58 main_call15_v0 (broadcastInDim S4096x1 ![] bcast_S_S4096x1 : (⟨S_, .f32⟩ : BufTy).Contents (Elt F) → (⟨S4096x1, .f32⟩ : BufTy).Contents (Elt F)),
    StableHlo.unary main_cst_59 main_call15_v1 (broadcastInDim S4096x1 ![] bcast_S_S4096x1 : (⟨S_, .f32⟩ : BufTy).Contents (Elt F) → (⟨S4096x1, .f32⟩ : BufTy).Contents (Elt F)),
    StableHlo.ternary main_v165 main_call15_v0 main_call15_v1 main_v166 (select : (⟨S4096x1, .i1⟩ : BufTy).Contents (Elt F) → (⟨S4096x1, .f32⟩ : BufTy).Contents (Elt F) → (⟨S4096x1, .f32⟩ : BufTy).Contents (Elt F) → (⟨S4096x1, .f32⟩ : BufTy).Contents (Elt F)) ]
abbrev wrA19 : List (Ref sig .tc) := [main_v149, main_c_46, main_v150, main_v151, main_c_47, main_v152, main_v153, main_cst_48, main_cst_49, main_call12_v0, main_call12_v1, main_v154, main_c_50, main_v155, main_v156, main_cst_51, main_cst_52, main_call13_v0, main_call13_v1, main_v157, main_v158, main_c_53, main_v159, main_v160, main_c_54, main_v161, main_v162, main_cst_55, main_cst_56, main_call14_v0, main_call14_v1, main_v163, main_c_57, main_v164, main_v165, main_cst_58, main_cst_59, main_call15_v0, main_call15_v1, main_v166]
set_option maxRecDepth 8192 in
theorem opsA19_sub : (opsA19 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., nullary_bufs_sub .., unary_bufs_sub .., unary_bufs_sub .., ternary_bufs_sub .., nullary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., nullary_bufs_sub .., unary_bufs_sub .., unary_bufs_sub .., ternary_bufs_sub ..⟩
theorem opsA19_fresh : (opsA19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsA19_writes : (opsA19 : List (HloOp τ sig (Elt F))).Forall fun op => op.writes ⊆ (wrA19.map (Proc.devRef (τ := τ) .tc)).toFinset :=
  ⟨writes_sub (nullary_writes ..) (by decide), writes_sub (nullary_writes ..) (by decide), writes_sub (unary_writes ..) (by decide), writes_sub (binary_writes ..) (by decide), writes_sub (nullary_writes ..) (by decide), writes_sub (unary_writes ..) (by decide), writes_sub (binary_writes ..) (by decide), writes_sub (nullary_writes ..) (by decide), writes_sub (nullary_writes ..) (by decide), writes_sub (unary_writes ..) (by decide), writes_sub (unary_writes ..) (by decide), writes_sub (ternary_writes ..) (by decide), writes_sub (nullary_writes ..) (by decide), writes_sub (unary_writes ..) (by decide), writes_sub (binary_writes ..) (by decide), writes_sub (nullary_writes ..) (by decide), writes_sub (nullary_writes ..) (by decide), writes_sub (unary_writes ..) (by decide), writes_sub (unary_writes ..) (by decide), writes_sub (ternary_writes ..) (by decide), writes_sub (nullary_writes ..) (by decide), writes_sub (nullary_writes ..) (by decide), writes_sub (unary_writes ..) (by decide), writes_sub (binary_writes ..) (by decide), writes_sub (nullary_writes ..) (by decide), writes_sub (unary_writes ..) (by decide), writes_sub (binary_writes ..) (by decide), writes_sub (nullary_writes ..) (by decide), writes_sub (nullary_writes ..) (by decide), writes_sub (unary_writes ..) (by decide), writes_sub (unary_writes ..) (by decide), writes_sub (ternary_writes ..) (by decide), writes_sub (nullary_writes ..) (by decide), writes_sub (unary_writes ..) (by decide), writes_sub (binary_writes ..) (by decide), writes_sub (nullary_writes ..) (by decide), writes_sub (nullary_writes ..) (by decide), writes_sub (unary_writes ..) (by decide), writes_sub (unary_writes ..) (by decide), writes_sub (ternary_writes ..) (by decide)⟩

/-- The contents on entry to each window of stretch A, and at its end. -/
def atA0 (V : Valuation τ sig (Elt F)) : Valuation τ sig (Elt F) := V
def atA1 (V : Valuation τ sig (Elt F)) : Valuation τ sig (Elt F) := after opsA0 (atA0 V)
def atA2 (V : Valuation τ sig (Elt F)) : Valuation τ sig (Elt F) := after opsA1 (atA1 V)
def atA3 (V : Valuation τ sig (Elt F)) : Valuation τ sig (Elt F) := after opsA2 (atA2 V)
def atA4 (V : Valuation τ sig (Elt F)) : Valuation τ sig (Elt F) := after opsA3 (atA3 V)
def atA5 (V : Valuation τ sig (Elt F)) : Valuation τ sig (Elt F) := after opsA4 (atA4 V)
def atA6 (V : Valuation τ sig (Elt F)) : Valuation τ sig (Elt F) := after opsA5 (atA5 V)
def atA7 (V : Valuation τ sig (Elt F)) : Valuation τ sig (Elt F) := after opsA6 (atA6 V)
def atA8 (V : Valuation τ sig (Elt F)) : Valuation τ sig (Elt F) := after opsA7 (atA7 V)
def atA9 (V : Valuation τ sig (Elt F)) : Valuation τ sig (Elt F) := after opsA8 (atA8 V)
def atA10 (V : Valuation τ sig (Elt F)) : Valuation τ sig (Elt F) := after opsA9 (atA9 V)
def atA11 (V : Valuation τ sig (Elt F)) : Valuation τ sig (Elt F) := after opsA10 (atA10 V)
def atA12 (V : Valuation τ sig (Elt F)) : Valuation τ sig (Elt F) := after opsA11 (atA11 V)
def atA13 (V : Valuation τ sig (Elt F)) : Valuation τ sig (Elt F) := after opsA12 (atA12 V)
def atA14 (V : Valuation τ sig (Elt F)) : Valuation τ sig (Elt F) := after opsA13 (atA13 V)
def atA15 (V : Valuation τ sig (Elt F)) : Valuation τ sig (Elt F) := after opsA14 (atA14 V)
def atA16 (V : Valuation τ sig (Elt F)) : Valuation τ sig (Elt F) := after opsA15 (atA15 V)
def atA17 (V : Valuation τ sig (Elt F)) : Valuation τ sig (Elt F) := after opsA16 (atA16 V)
def atA18 (V : Valuation τ sig (Elt F)) : Valuation τ sig (Elt F) := after opsA17 (atA17 V)
def atA19 (V : Valuation τ sig (Elt F)) : Valuation τ sig (Elt F) := after opsA18 (atA18 V)
def atA20 (V : Valuation τ sig (Elt F)) : Valuation τ sig (Elt F) := after opsA19 (atA19 V)

theorem keepA0 (V : Valuation τ sig (Elt F)) (r : Ref sig .tc) (h : r ∉ wrA0) : atA1 V (Proc.devRef .tc r) = atA0 V (Proc.devRef .tc r) :=
  after_of_writes_sub opsA0 _ opsA0_writes h
theorem keepA1 (V : Valuation τ sig (Elt F)) (r : Ref sig .tc) (h : r ∉ wrA1) : atA2 V (Proc.devRef .tc r) = atA1 V (Proc.devRef .tc r) :=
  after_of_writes_sub opsA1 _ opsA1_writes h
theorem keepA2 (V : Valuation τ sig (Elt F)) (r : Ref sig .tc) (h : r ∉ wrA2) : atA3 V (Proc.devRef .tc r) = atA2 V (Proc.devRef .tc r) :=
  after_of_writes_sub opsA2 _ opsA2_writes h
theorem keepA3 (V : Valuation τ sig (Elt F)) (r : Ref sig .tc) (h : r ∉ wrA3) : atA4 V (Proc.devRef .tc r) = atA3 V (Proc.devRef .tc r) :=
  after_of_writes_sub opsA3 _ opsA3_writes h
theorem keepA4 (V : Valuation τ sig (Elt F)) (r : Ref sig .tc) (h : r ∉ wrA4) : atA5 V (Proc.devRef .tc r) = atA4 V (Proc.devRef .tc r) :=
  after_of_writes_sub opsA4 _ opsA4_writes h
theorem keepA5 (V : Valuation τ sig (Elt F)) (r : Ref sig .tc) (h : r ∉ wrA5) : atA6 V (Proc.devRef .tc r) = atA5 V (Proc.devRef .tc r) :=
  after_of_writes_sub opsA5 _ opsA5_writes h
theorem keepA6 (V : Valuation τ sig (Elt F)) (r : Ref sig .tc) (h : r ∉ wrA6) : atA7 V (Proc.devRef .tc r) = atA6 V (Proc.devRef .tc r) :=
  after_of_writes_sub opsA6 _ opsA6_writes h
theorem keepA7 (V : Valuation τ sig (Elt F)) (r : Ref sig .tc) (h : r ∉ wrA7) : atA8 V (Proc.devRef .tc r) = atA7 V (Proc.devRef .tc r) :=
  after_of_writes_sub opsA7 _ opsA7_writes h
theorem keepA8 (V : Valuation τ sig (Elt F)) (r : Ref sig .tc) (h : r ∉ wrA8) : atA9 V (Proc.devRef .tc r) = atA8 V (Proc.devRef .tc r) :=
  after_of_writes_sub opsA8 _ opsA8_writes h
theorem keepA9 (V : Valuation τ sig (Elt F)) (r : Ref sig .tc) (h : r ∉ wrA9) : atA10 V (Proc.devRef .tc r) = atA9 V (Proc.devRef .tc r) :=
  after_of_writes_sub opsA9 _ opsA9_writes h
theorem keepA10 (V : Valuation τ sig (Elt F)) (r : Ref sig .tc) (h : r ∉ wrA10) : atA11 V (Proc.devRef .tc r) = atA10 V (Proc.devRef .tc r) :=
  after_of_writes_sub opsA10 _ opsA10_writes h
theorem keepA11 (V : Valuation τ sig (Elt F)) (r : Ref sig .tc) (h : r ∉ wrA11) : atA12 V (Proc.devRef .tc r) = atA11 V (Proc.devRef .tc r) :=
  after_of_writes_sub opsA11 _ opsA11_writes h
theorem keepA12 (V : Valuation τ sig (Elt F)) (r : Ref sig .tc) (h : r ∉ wrA12) : atA13 V (Proc.devRef .tc r) = atA12 V (Proc.devRef .tc r) :=
  after_of_writes_sub opsA12 _ opsA12_writes h
theorem keepA13 (V : Valuation τ sig (Elt F)) (r : Ref sig .tc) (h : r ∉ wrA13) : atA14 V (Proc.devRef .tc r) = atA13 V (Proc.devRef .tc r) :=
  after_of_writes_sub opsA13 _ opsA13_writes h
theorem keepA14 (V : Valuation τ sig (Elt F)) (r : Ref sig .tc) (h : r ∉ wrA14) : atA15 V (Proc.devRef .tc r) = atA14 V (Proc.devRef .tc r) :=
  after_of_writes_sub opsA14 _ opsA14_writes h
theorem keepA15 (V : Valuation τ sig (Elt F)) (r : Ref sig .tc) (h : r ∉ wrA15) : atA16 V (Proc.devRef .tc r) = atA15 V (Proc.devRef .tc r) :=
  after_of_writes_sub opsA15 _ opsA15_writes h
theorem keepA16 (V : Valuation τ sig (Elt F)) (r : Ref sig .tc) (h : r ∉ wrA16) : atA17 V (Proc.devRef .tc r) = atA16 V (Proc.devRef .tc r) :=
  after_of_writes_sub opsA16 _ opsA16_writes h
theorem keepA17 (V : Valuation τ sig (Elt F)) (r : Ref sig .tc) (h : r ∉ wrA17) : atA18 V (Proc.devRef .tc r) = atA17 V (Proc.devRef .tc r) :=
  after_of_writes_sub opsA17 _ opsA17_writes h
theorem keepA18 (V : Valuation τ sig (Elt F)) (r : Ref sig .tc) (h : r ∉ wrA18) : atA19 V (Proc.devRef .tc r) = atA18 V (Proc.devRef .tc r) :=
  after_of_writes_sub opsA18 _ opsA18_writes h
theorem keepA19 (V : Valuation τ sig (Elt F)) (r : Ref sig .tc) (h : r ∉ wrA19) : atA20 V (Proc.devRef .tc r) = atA19 V (Proc.devRef .tc r) :=
  after_of_writes_sub opsA19 _ opsA19_writes h

/-- What the windows from each one on write. -/
def restA20 : List (Ref sig .tc) := []
def restA19 : List (Ref sig .tc) := wrA19 ++ restA20
def restA18 : List (Ref sig .tc) := wrA18 ++ restA19
def restA17 : List (Ref sig .tc) := wrA17 ++ restA18
def restA16 : List (Ref sig .tc) := wrA16 ++ restA17
def restA15 : List (Ref sig .tc) := wrA15 ++ restA16
def restA14 : List (Ref sig .tc) := wrA14 ++ restA15
def restA13 : List (Ref sig .tc) := wrA13 ++ restA14
def restA12 : List (Ref sig .tc) := wrA12 ++ restA13
def restA11 : List (Ref sig .tc) := wrA11 ++ restA12
def restA10 : List (Ref sig .tc) := wrA10 ++ restA11
def restA9 : List (Ref sig .tc) := wrA9 ++ restA10
def restA8 : List (Ref sig .tc) := wrA8 ++ restA9
def restA7 : List (Ref sig .tc) := wrA7 ++ restA8
def restA6 : List (Ref sig .tc) := wrA6 ++ restA7
def restA5 : List (Ref sig .tc) := wrA5 ++ restA6
def restA4 : List (Ref sig .tc) := wrA4 ++ restA5
def restA3 : List (Ref sig .tc) := wrA3 ++ restA4
def restA2 : List (Ref sig .tc) := wrA2 ++ restA3
def restA1 : List (Ref sig .tc) := wrA1 ++ restA2
def restA0 : List (Ref sig .tc) := wrA0 ++ restA1
theorem endA20 (V : Valuation τ sig (Elt F)) (r : Ref sig .tc) (_ : r ∉ restA20) : atA20 V (Proc.devRef .tc r) = atA20 V (Proc.devRef .tc r) := rfl
theorem endA19 (V : Valuation τ sig (Elt F)) (r : Ref sig .tc) (h : r ∉ restA19) : atA20 V (Proc.devRef .tc r) = atA19 V (Proc.devRef .tc r) :=
  (endA20 V r fun h' => h (List.mem_append_right _ h')).trans (keepA19 V r fun h' => h (List.mem_append_left _ h'))
theorem endA18 (V : Valuation τ sig (Elt F)) (r : Ref sig .tc) (h : r ∉ restA18) : atA20 V (Proc.devRef .tc r) = atA18 V (Proc.devRef .tc r) :=
  (endA19 V r fun h' => h (List.mem_append_right _ h')).trans (keepA18 V r fun h' => h (List.mem_append_left _ h'))
theorem endA17 (V : Valuation τ sig (Elt F)) (r : Ref sig .tc) (h : r ∉ restA17) : atA20 V (Proc.devRef .tc r) = atA17 V (Proc.devRef .tc r) :=
  (endA18 V r fun h' => h (List.mem_append_right _ h')).trans (keepA17 V r fun h' => h (List.mem_append_left _ h'))
theorem endA16 (V : Valuation τ sig (Elt F)) (r : Ref sig .tc) (h : r ∉ restA16) : atA20 V (Proc.devRef .tc r) = atA16 V (Proc.devRef .tc r) :=
  (endA17 V r fun h' => h (List.mem_append_right _ h')).trans (keepA16 V r fun h' => h (List.mem_append_left _ h'))
theorem endA15 (V : Valuation τ sig (Elt F)) (r : Ref sig .tc) (h : r ∉ restA15) : atA20 V (Proc.devRef .tc r) = atA15 V (Proc.devRef .tc r) :=
  (endA16 V r fun h' => h (List.mem_append_right _ h')).trans (keepA15 V r fun h' => h (List.mem_append_left _ h'))
theorem endA14 (V : Valuation τ sig (Elt F)) (r : Ref sig .tc) (h : r ∉ restA14) : atA20 V (Proc.devRef .tc r) = atA14 V (Proc.devRef .tc r) :=
  (endA15 V r fun h' => h (List.mem_append_right _ h')).trans (keepA14 V r fun h' => h (List.mem_append_left _ h'))
theorem endA13 (V : Valuation τ sig (Elt F)) (r : Ref sig .tc) (h : r ∉ restA13) : atA20 V (Proc.devRef .tc r) = atA13 V (Proc.devRef .tc r) :=
  (endA14 V r fun h' => h (List.mem_append_right _ h')).trans (keepA13 V r fun h' => h (List.mem_append_left _ h'))
theorem endA12 (V : Valuation τ sig (Elt F)) (r : Ref sig .tc) (h : r ∉ restA12) : atA20 V (Proc.devRef .tc r) = atA12 V (Proc.devRef .tc r) :=
  (endA13 V r fun h' => h (List.mem_append_right _ h')).trans (keepA12 V r fun h' => h (List.mem_append_left _ h'))
theorem endA11 (V : Valuation τ sig (Elt F)) (r : Ref sig .tc) (h : r ∉ restA11) : atA20 V (Proc.devRef .tc r) = atA11 V (Proc.devRef .tc r) :=
  (endA12 V r fun h' => h (List.mem_append_right _ h')).trans (keepA11 V r fun h' => h (List.mem_append_left _ h'))
theorem endA10 (V : Valuation τ sig (Elt F)) (r : Ref sig .tc) (h : r ∉ restA10) : atA20 V (Proc.devRef .tc r) = atA10 V (Proc.devRef .tc r) :=
  (endA11 V r fun h' => h (List.mem_append_right _ h')).trans (keepA10 V r fun h' => h (List.mem_append_left _ h'))
theorem endA9 (V : Valuation τ sig (Elt F)) (r : Ref sig .tc) (h : r ∉ restA9) : atA20 V (Proc.devRef .tc r) = atA9 V (Proc.devRef .tc r) :=
  (endA10 V r fun h' => h (List.mem_append_right _ h')).trans (keepA9 V r fun h' => h (List.mem_append_left _ h'))
theorem endA8 (V : Valuation τ sig (Elt F)) (r : Ref sig .tc) (h : r ∉ restA8) : atA20 V (Proc.devRef .tc r) = atA8 V (Proc.devRef .tc r) :=
  (endA9 V r fun h' => h (List.mem_append_right _ h')).trans (keepA8 V r fun h' => h (List.mem_append_left _ h'))
theorem endA7 (V : Valuation τ sig (Elt F)) (r : Ref sig .tc) (h : r ∉ restA7) : atA20 V (Proc.devRef .tc r) = atA7 V (Proc.devRef .tc r) :=
  (endA8 V r fun h' => h (List.mem_append_right _ h')).trans (keepA7 V r fun h' => h (List.mem_append_left _ h'))
theorem endA6 (V : Valuation τ sig (Elt F)) (r : Ref sig .tc) (h : r ∉ restA6) : atA20 V (Proc.devRef .tc r) = atA6 V (Proc.devRef .tc r) :=
  (endA7 V r fun h' => h (List.mem_append_right _ h')).trans (keepA6 V r fun h' => h (List.mem_append_left _ h'))
theorem endA5 (V : Valuation τ sig (Elt F)) (r : Ref sig .tc) (h : r ∉ restA5) : atA20 V (Proc.devRef .tc r) = atA5 V (Proc.devRef .tc r) :=
  (endA6 V r fun h' => h (List.mem_append_right _ h')).trans (keepA5 V r fun h' => h (List.mem_append_left _ h'))
theorem endA4 (V : Valuation τ sig (Elt F)) (r : Ref sig .tc) (h : r ∉ restA4) : atA20 V (Proc.devRef .tc r) = atA4 V (Proc.devRef .tc r) :=
  (endA5 V r fun h' => h (List.mem_append_right _ h')).trans (keepA4 V r fun h' => h (List.mem_append_left _ h'))
theorem endA3 (V : Valuation τ sig (Elt F)) (r : Ref sig .tc) (h : r ∉ restA3) : atA20 V (Proc.devRef .tc r) = atA3 V (Proc.devRef .tc r) :=
  (endA4 V r fun h' => h (List.mem_append_right _ h')).trans (keepA3 V r fun h' => h (List.mem_append_left _ h'))
theorem endA2 (V : Valuation τ sig (Elt F)) (r : Ref sig .tc) (h : r ∉ restA2) : atA20 V (Proc.devRef .tc r) = atA2 V (Proc.devRef .tc r) :=
  (endA3 V r fun h' => h (List.mem_append_right _ h')).trans (keepA2 V r fun h' => h (List.mem_append_left _ h'))
theorem endA1 (V : Valuation τ sig (Elt F)) (r : Ref sig .tc) (h : r ∉ restA1) : atA20 V (Proc.devRef .tc r) = atA1 V (Proc.devRef .tc r) :=
  (endA2 V r fun h' => h (List.mem_append_right _ h')).trans (keepA1 V r fun h' => h (List.mem_append_left _ h'))
theorem endA0 (V : Valuation τ sig (Elt F)) (r : Ref sig .tc) (h : r ∉ restA0) : atA20 V (Proc.devRef .tc r) = atA0 V (Proc.devRef .tc r) :=
  (endA1 V r fun h' => h (List.mem_append_right _ h')).trans (keepA0 V r fun h' => h (List.mem_append_left _ h'))

def segA_0 : List (HloOp τ sig (Elt F)) := opsA0 ++ (opsA1 ++ (opsA2 ++ (opsA3 ++ (opsA4 ++ (opsA5 ++ (opsA6 ++ (opsA7 ++ (opsA8))))))))
def segA_1 : List (HloOp τ sig (Elt F)) := opsA9 ++ (opsA10 ++ (opsA11 ++ (opsA12 ++ (opsA13))))
def segA_2 : List (HloOp τ sig (Elt F)) := opsA14 ++ (opsA15 ++ (opsA16 ++ (opsA17)))
def segA_3 : List (HloOp τ sig (Elt F)) := opsA18 ++ (opsA19)
def opsA : List (HloOp τ sig (Elt F)) := segA_0 ++ (segA_1 ++ (segA_2 ++ (segA_3)))
theorem after_opsA (V : Valuation τ sig (Elt F)) : after opsA V = atA20 V := by
  simp only [opsA, segA_0, segA_1, segA_2, segA_3, StableHlo.after_append]; rfl
theorem opsA_sub : ∀ op ∈ (opsA : List (HloOp τ sig (Elt F))), op.bufs ⊆ tcRefs τ sig := fun op h => by
  simp only [opsA, segA_0, segA_1, segA_2, segA_3, List.mem_append, or_assoc] at h
  rcases h with h | h | h | h | h | h | h | h | h | h | h | h | h | h | h | h | h | h | h | h
  exacts [List.forall_iff_forall_mem.mp opsA0_sub op h, List.forall_iff_forall_mem.mp opsA1_sub op h, List.forall_iff_forall_mem.mp opsA2_sub op h, List.forall_iff_forall_mem.mp opsA3_sub op h, List.forall_iff_forall_mem.mp opsA4_sub op h, List.forall_iff_forall_mem.mp opsA5_sub op h, List.forall_iff_forall_mem.mp opsA6_sub op h, List.forall_iff_forall_mem.mp opsA7_sub op h, List.forall_iff_forall_mem.mp opsA8_sub op h, List.forall_iff_forall_mem.mp opsA9_sub op h, List.forall_iff_forall_mem.mp opsA10_sub op h, List.forall_iff_forall_mem.mp opsA11_sub op h, List.forall_iff_forall_mem.mp opsA12_sub op h, List.forall_iff_forall_mem.mp opsA13_sub op h, List.forall_iff_forall_mem.mp opsA14_sub op h, List.forall_iff_forall_mem.mp opsA15_sub op h, List.forall_iff_forall_mem.mp opsA16_sub op h, List.forall_iff_forall_mem.mp opsA17_sub op h, List.forall_iff_forall_mem.mp opsA18_sub op h, List.forall_iff_forall_mem.mp opsA19_sub op h]
theorem opsA_fresh : ∀ op ∈ (opsA : List (HloOp τ sig (Elt F))), op.fresh = ∅ := fun op h => by
  simp only [opsA, segA_0, segA_1, segA_2, segA_3, List.mem_append, or_assoc] at h
  rcases h with h | h | h | h | h | h | h | h | h | h | h | h | h | h | h | h | h | h | h | h
  exacts [List.forall_iff_forall_mem.mp opsA0_fresh op h, List.forall_iff_forall_mem.mp opsA1_fresh op h, List.forall_iff_forall_mem.mp opsA2_fresh op h, List.forall_iff_forall_mem.mp opsA3_fresh op h, List.forall_iff_forall_mem.mp opsA4_fresh op h, List.forall_iff_forall_mem.mp opsA5_fresh op h, List.forall_iff_forall_mem.mp opsA6_fresh op h, List.forall_iff_forall_mem.mp opsA7_fresh op h, List.forall_iff_forall_mem.mp opsA8_fresh op h, List.forall_iff_forall_mem.mp opsA9_fresh op h, List.forall_iff_forall_mem.mp opsA10_fresh op h, List.forall_iff_forall_mem.mp opsA11_fresh op h, List.forall_iff_forall_mem.mp opsA12_fresh op h, List.forall_iff_forall_mem.mp opsA13_fresh op h, List.forall_iff_forall_mem.mp opsA14_fresh op h, List.forall_iff_forall_mem.mp opsA15_fresh op h, List.forall_iff_forall_mem.mp opsA16_fresh op h, List.forall_iff_forall_mem.mp opsA17_fresh op h, List.forall_iff_forall_mem.mp opsA18_fresh op h, List.forall_iff_forall_mem.mp opsA19_fresh op h]

/-! ## Stretch B -/

abbrev opsB0 : List (HloOp τ sig (Elt F)) :=
  [ StableHlo.nullary main_cst_60 (constant S_ .f32 0x00000000#32),
    StableHlo.unary main_cst_60 main_v169 (broadcastInDim S256x4096 ![] bcast_S_S256x4096 : (⟨S_, .f32⟩ : BufTy).Contents (Elt F) → (⟨S256x4096, .f32⟩ : BufTy).Contents (Elt F)),
    StableHlo.reshape main_arg1 main_v170 (rfl : (.f32 : EltTy) = .f32) shapeCasts_S16x1x3_S48,
    StableHlo.nullary main_c_61 (constantI S_ 32 0#32),
    StableHlo.unary main_c_61 main_v171 (broadcastInDim S12256 ![] bcast_S_S12256 : (⟨S_, .i32⟩ : BufTy).Contents (Elt F) → (⟨S12256, .i32⟩ : BufTy).Contents (Elt F)),
    StableHlo.binary main_v148 main_v171 main_v172 (cmpi .slt : (⟨S12256, .i32⟩ : BufTy).Contents (Elt F) → (⟨S12256, .i32⟩ : BufTy).Contents (Elt F) → (⟨S12256, .i1⟩ : BufTy).Contents (Elt F)),
    StableHlo.nullary main_c_62 (constantI S_ 32 48#32),
    StableHlo.unary main_c_62 main_v173 (broadcastInDim S12256 ![] bcast_S_S12256 : (⟨S_, .i32⟩ : BufTy).Contents (Elt F) → (⟨S12256, .i32⟩ : BufTy).Contents (Elt F)),
    StableHlo.binary main_v148 main_v173 main_v174 (addi : (⟨S12256, .i32⟩ : BufTy).Contents (Elt F) → (⟨S12256, .i32⟩ : BufTy).Contents (Elt F) → (⟨S12256, .i32⟩ : BufTy).Contents (Elt F)) ]
abbrev wrB0 : List (Ref sig .tc) := [main_cst_60, main_v169, main_v170, main_c_61, main_v171, main_v172, main_c_62, main_v173, main_v174]
set_option maxRecDepth 8192 in
theorem opsB0_sub : (opsB0 : List (HloOp τ sig (Elt F))).Forall fun op => op.bufs ⊆ tcRefs τ sig :=
  ⟨nullary_bufs_sub .., unary_bufs_sub .., reshape_bufs_sub .., nullary_bufs_sub .., unary_bufs_sub .., binary_bufs_sub .., nullary_bufs_sub .., unary_bufs_sub .., binary_bufs_sub ..⟩
theorem opsB0_fresh : (opsB0 : List (HloOp τ sig (Elt F))).Forall fun op => op.fresh = ∅ :=
  ⟨rfl, rfl, rfl, rfl, rfl, rfl, rfl, rfl, rfl⟩
set_option maxRecDepth 8192 in
theorem opsB0_writes : (opsB0 : List (HloOp τ sig (Elt F))).Forall fun op => op.writes ⊆ (wrB0.map (Proc.devRef (τ := τ) .tc)).toFinset :=
  ⟨writes_sub (nullary_writes ..) (by decide), writes_sub (unary_writes ..) (by decide), writes_sub (reshape_writes ..) (by decide), writes_sub (nullary_writes ..) (by decide), writes_sub (unary_writes ..) (by decide), writes_sub (binary_writes ..) (by decide), writes_sub (nullary_writes ..) (by decide), writes_sub (unary_writes ..) (by decide), writes_sub (binary_writes ..) (by decide)⟩

abbrev opsB1 : List (HloOp τ sig (Elt F)) :=
  [ StableHlo.ternary main_v172 main_v174 main_v148 main_v175 (select : (⟨S12256, .i1⟩ : BufTy).Contents (Elt F) → (⟨S12256, .i32⟩ : BufTy).Contents (Elt F) → (⟨S12256, .i32⟩ : BufTy).Contents (Elt F) → (⟨S12256, .i32⟩ : BufTy).Contents (Elt F)),
    StableHlo.unary main_v175 main_v176 (broadcastInDim S12256x1 ![0] bcast_S12256_S12256x1_0 : (⟨S12256, .i32⟩ : BufTy).Contents (Elt F) → (⟨S12256x1, .i32⟩ : BufTy).Contents (Elt F)),
    StableHlo.binary main_v170 main_v176 main_v177 ((fun x i => Host.gather gather_S48_S12256x1_S12256_n_0_n_n_0_1_1 x i) : (⟨S48, .f32⟩ : BufTy).Contents (Elt F) → (⟨S12256x1, .i32⟩ : BufTy).Contents (Elt F) → (⟨S12256, .f32⟩ : BufTy).Contents (Elt F)) ]
abbrev wrB1 : List (Ref sig .tc) := [main_v175, main_v176, main_v177]
set_option maxRecDepth 8192 in
theorem opsB1_sub : (opsB1 : List (HloOp τ sig (Elt F))).Forall fun op => op.bufs ⊆ tcRefs τ sig :=
  ⟨ternary_bufs_sub .., unary_bufs_sub .., binary_bufs_sub ..⟩
theorem opsB1_fresh : (opsB1 : List (HloOp τ sig (Elt F))).Forall fun op => op.fresh = ∅ :=
  ⟨rfl, rfl, rfl⟩
set_option maxRecDepth 8192 in
theorem opsB1_writes : (opsB1 : List (HloOp τ sig (Elt F))).Forall fun op => op.writes ⊆ (wrB1.map (Proc.devRef (τ := τ) .tc)).toFinset :=
  ⟨writes_sub (ternary_writes ..) (by decide), writes_sub (unary_writes ..) (by decide), writes_sub (binary_writes ..) (by decide)⟩

abbrev opsB2 : List (HloOp τ sig (Elt F)) :=
  [ StableHlo.nullary main_c_63 (constantI S_ 32 0#32),
    StableHlo.unary main_c_63 main_v178 (broadcastInDim S12256 ![] bcast_S_S12256 : (⟨S_, .i32⟩ : BufTy).Contents (Elt F) → (⟨S12256, .i32⟩ : BufTy).Contents (Elt F)),
    StableHlo.binary main_v142 main_v178 main_v179 (cmpi .slt : (⟨S12256, .i32⟩ : BufTy).Contents (Elt F) → (⟨S12256, .i32⟩ : BufTy).Contents (Elt F) → (⟨S12256, .i1⟩ : BufTy).Contents (Elt F)),
    StableHlo.nullary main_c_64 (constantI S_ 32 256#32),
    StableHlo.unary main_c_64 main_v180 (broadcastInDim S12256 ![] bcast_S_S12256 : (⟨S_, .i32⟩ : BufTy).Contents (Elt F) → (⟨S12256, .i32⟩ : BufTy).Contents (Elt F)),
    StableHlo.binary main_v142 main_v180 main_v181 (addi : (⟨S12256, .i32⟩ : BufTy).Contents (Elt F) → (⟨S12256, .i32⟩ : BufTy).Contents (Elt F) → (⟨S12256, .i32⟩ : BufTy).Contents (Elt F)),
    StableHlo.ternary main_v179 main_v181 main_v142 main_v182 (select : (⟨S12256, .i1⟩ : BufTy).Contents (Elt F) → (⟨S12256, .i32⟩ : BufTy).Contents (Elt F) → (⟨S12256, .i32⟩ : BufTy).Contents (Elt F) → (⟨S12256, .i32⟩ : BufTy).Contents (Elt F)),
    StableHlo.nullary main_c_65 (constantI S_ 32 0#32),
    StableHlo.unary main_c_65 main_v183 (broadcastInDim S12256 ![] bcast_S_S12256 : (⟨S_, .i32⟩ : BufTy).Contents (Elt F) → (⟨S12256, .i32⟩ : BufTy).Contents (Elt F)),
    StableHlo.binary main_v145 main_v183 main_v184 (cmpi .slt : (⟨S12256, .i32⟩ : BufTy).Contents (Elt F) → (⟨S12256, .i32⟩ : BufTy).Contents (Elt F) → (⟨S12256, .i1⟩ : BufTy).Contents (Elt F)),
    StableHlo.nullary main_c_66 (constantI S_ 32 4096#32),
    StableHlo.unary main_c_66 main_v185 (broadcastInDim S12256 ![] bcast_S_S12256 : (⟨S_, .i32⟩ : BufTy).Contents (Elt F) → (⟨S12256, .i32⟩ : BufTy).Contents (Elt F)),
    StableHlo.binary main_v145 main_v185 main_v186 (addi : (⟨S12256, .i32⟩ : BufTy).Contents (Elt F) → (⟨S12256, .i32⟩ : BufTy).Contents (Elt F) → (⟨S12256, .i32⟩ : BufTy).Contents (Elt F)),
    StableHlo.ternary main_v184 main_v186 main_v145 main_v187 (select : (⟨S12256, .i1⟩ : BufTy).Contents (Elt F) → (⟨S12256, .i32⟩ : BufTy).Contents (Elt F) → (⟨S12256, .i32⟩ : BufTy).Contents (Elt F) → (⟨S12256, .i32⟩ : BufTy).Contents (Elt F)),
    StableHlo.unary main_v182 main_v188 (broadcastInDim S12256x1 ![0] bcast_S12256_S12256x1_0 : (⟨S12256, .i32⟩ : BufTy).Contents (Elt F) → (⟨S12256x1, .i32⟩ : BufTy).Contents (Elt F)),
    StableHlo.unary main_v187 main_v189 (broadcastInDim S12256x1 ![0] bcast_S12256_S12256x1_0 : (⟨S12256, .i32⟩ : BufTy).Contents (Elt F) → (⟨S12256x1, .i32⟩ : BufTy).Contents (Elt F)) ]
abbrev wrB2 : List (Ref sig .tc) := [main_c_63, main_v178, main_v179, main_c_64, main_v180, main_v181, main_v182, main_c_65, main_v183, main_v184, main_c_66, main_v185, main_v186, main_v187, main_v188, main_v189]
set_option maxRecDepth 8192 in
theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem opsB2_fresh : (opsB2 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem opsB2_writes : (opsB2 : List (HloOp τ sig (Elt F))).Forall fun op => op.writes ⊆ (wrB2.map (Proc.devRef (τ := τ) .tc)).toFinset :=
  ⟨writes_sub (nullary_writes ..) (by decide), writes_sub (unary_writes ..) (by decide), writes_sub (binary_writes ..) (by decide), writes_sub (nullary_writes ..) (by decide), writes_sub (unary_writes ..) (by decide), writes_sub (binary_writes ..) (by decide), writes_sub (ternary_writes ..) (by decide), writes_sub (nullary_writes ..) (by decide), writes_sub (unary_writes ..) (by decide), writes_sub (binary_writes ..) (by decide), writes_sub (nullary_writes ..) (by decide), writes_sub (unary_writes ..) (by decide), writes_sub (binary_writes ..) (by decide), writes_sub (ternary_writes ..) (by decide), writes_sub (unary_writes ..) (by decide), writes_sub (unary_writes ..) (by decide)⟩

abbrev opsB3 : List (HloOp τ sig (Elt F)) :=
  [ StableHlo.binary main_v188 main_v189 main_v190 ((fun a b => concatenate S12256x2 1 [⟨S12256x1, a⟩, ⟨S12256x1, b⟩] concatenates_S12256x1_S12256x1_S12256x2_d1) : (⟨S12256x1, .i32⟩ : BufTy).Contents (Elt F) → (⟨S12256x1, .i32⟩ : BufTy).Contents (Elt F) → (⟨S12256x2, .i32⟩ : BufTy).Contents (Elt F)),
    StableHlo.ternary main_v169 main_v190 main_v177 main_v191 ((fun x i u => Host.scatter scatter_S256x4096_S12256x2_S12256_n_01_01_1 (fun _ b => b) x i u) : (⟨S256x4096, .f32⟩ : BufTy).Contents (Elt F) → (⟨S12256x2, .i32⟩ : BufTy).Contents (Elt F) → (⟨S12256, .f32⟩ : BufTy).Contents (Elt F) → (⟨S256x4096, .f32⟩ : BufTy).Contents (Elt F)),
    StableHlo.unary main_arg2 main_v192 (broadcastInDim S16x256 ![0] bcast_S16_S16x256_0 : (⟨S16, .f32⟩ : BufTy).Contents (Elt F) → (⟨S16x256, .f32⟩ : BufTy).Contents (Elt F)),
    StableHlo.reshape main_v192 main_v193 (rfl : (.f32 : EltTy) = .f32) shapeCasts_S16x256_S4096,
    StableHlo.reshape main_v193 main_v194 (rfl : (.f32 : EltTy) = .f32) shapeCasts_S4096_S1x4096 ]
abbrev wrB3 : List (Ref sig .tc) := [main_v190, main_v191, main_v192, main_v193, main_v194]
set_option maxRecDepth 8192 in
theorem opsB3_sub : (opsB3 : List (HloOp τ sig (Elt F))).Forall fun op => op.bufs ⊆ tcRefs τ sig :=
  ⟨binary_bufs_sub .., ternary_bufs_sub .., unary_bufs_sub .., reshape_bufs_sub .., reshape_bufs_sub ..⟩
theorem opsB3_fresh : (opsB3 : List (HloOp τ sig (Elt F))).Forall fun op => op.fresh = ∅ :=
  ⟨rfl, rfl, rfl, rfl, rfl⟩
set_option maxRecDepth 8192 in
theorem opsB3_writes : (opsB3 : List (HloOp τ sig (Elt F))).Forall fun op => op.writes ⊆ (wrB3.map (Proc.devRef (τ := τ) .tc)).toFinset :=
  ⟨writes_sub (binary_writes ..) (by decide), writes_sub (ternary_writes ..) (by decide), writes_sub (unary_writes ..) (by decide), writes_sub (reshape_writes ..) (by decide), writes_sub (reshape_writes ..) (by decide)⟩

/-- The contents on entry to each window of stretch B, and at its end. -/
def atB0 (V : Valuation τ sig (Elt F)) : Valuation τ sig (Elt F) := V
def atB1 (V : Valuation τ sig (Elt F)) : Valuation τ sig (Elt F) := after opsB0 (atB0 V)
def atB2 (V : Valuation τ sig (Elt F)) : Valuation τ sig (Elt F) := after opsB1 (atB1 V)
def atB3 (V : Valuation τ sig (Elt F)) : Valuation τ sig (Elt F) := after opsB2 (atB2 V)
def atB4 (V : Valuation τ sig (Elt F)) : Valuation τ sig (Elt F) := after opsB3 (atB3 V)

theorem keepB0 (V : Valuation τ sig (Elt F)) (r : Ref sig .tc) (h : r ∉ wrB0) : atB1 V (Proc.devRef .tc r) = atB0 V (Proc.devRef .tc r) :=
  after_of_writes_sub opsB0 _ opsB0_writes h
theorem keepB1 (V : Valuation τ sig (Elt F)) (r : Ref sig .tc) (h : r ∉ wrB1) : atB2 V (Proc.devRef .tc r) = atB1 V (Proc.devRef .tc r) :=
  after_of_writes_sub opsB1 _ opsB1_writes h
theorem keepB2 (V : Valuation τ sig (Elt F)) (r : Ref sig .tc) (h : r ∉ wrB2) : atB3 V (Proc.devRef .tc r) = atB2 V (Proc.devRef .tc r) :=
  after_of_writes_sub opsB2 _ opsB2_writes h
theorem keepB3 (V : Valuation τ sig (Elt F)) (r : Ref sig .tc) (h : r ∉ wrB3) : atB4 V (Proc.devRef .tc r) = atB3 V (Proc.devRef .tc r) :=
  after_of_writes_sub opsB3 _ opsB3_writes h

/-- What the windows from each one on write. -/
def restB4 : List (Ref sig .tc) := []
def restB3 : List (Ref sig .tc) := wrB3 ++ restB4
def restB2 : List (Ref sig .tc) := wrB2 ++ restB3
def restB1 : List (Ref sig .tc) := wrB1 ++ restB2
def restB0 : List (Ref sig .tc) := wrB0 ++ restB1
theorem endB4 (V : Valuation τ sig (Elt F)) (r : Ref sig .tc) (_ : r ∉ restB4) : atB4 V (Proc.devRef .tc r) = atB4 V (Proc.devRef .tc r) := rfl
theorem endB3 (V : Valuation τ sig (Elt F)) (r : Ref sig .tc) (h : r ∉ restB3) : atB4 V (Proc.devRef .tc r) = atB3 V (Proc.devRef .tc r) :=
  (endB4 V r fun h' => h (List.mem_append_right _ h')).trans (keepB3 V r fun h' => h (List.mem_append_left _ h'))
theorem endB2 (V : Valuation τ sig (Elt F)) (r : Ref sig .tc) (h : r ∉ restB2) : atB4 V (Proc.devRef .tc r) = atB2 V (Proc.devRef .tc r) :=
  (endB3 V r fun h' => h (List.mem_append_right _ h')).trans (keepB2 V r fun h' => h (List.mem_append_left _ h'))
theorem endB1 (V : Valuation τ sig (Elt F)) (r : Ref sig .tc) (h : r ∉ restB1) : atB4 V (Proc.devRef .tc r) = atB1 V (Proc.devRef .tc r) :=
  (endB2 V r fun h' => h (List.mem_append_right _ h')).trans (keepB1 V r fun h' => h (List.mem_append_left _ h'))
theorem endB0 (V : Valuation τ sig (Elt F)) (r : Ref sig .tc) (h : r ∉ restB0) : atB4 V (Proc.devRef .tc r) = atB0 V (Proc.devRef .tc r) :=
  (endB1 V r fun h' => h (List.mem_append_right _ h')).trans (keepB0 V r fun h' => h (List.mem_append_left _ h'))

def segB_3 : List (HloOp τ sig (Elt F)) := opsB0
def segB_4 : List (HloOp τ sig (Elt F)) := opsB1 ++ (opsB2 ++ (opsB3))
def opsB : List (HloOp τ sig (Elt F)) := segB_3 ++ (segB_4)
theorem after_opsB (V : Valuation τ sig (Elt F)) : after opsB V = atB4 V := by
  simp only [opsB, segB_3, segB_4, StableHlo.after_append]; rfl
theorem opsB_sub : ∀ op ∈ (opsB : List (HloOp τ sig (Elt F))), op.bufs ⊆ tcRefs τ sig := fun op h => by
  simp only [opsB, segB_3, segB_4, List.mem_append, or_assoc] at h
  rcases h with h | h | h | h
  exacts [List.forall_iff_forall_mem.mp opsB0_sub op h, List.forall_iff_forall_mem.mp opsB1_sub op h, List.forall_iff_forall_mem.mp opsB2_sub op h, List.forall_iff_forall_mem.mp opsB3_sub op h]
theorem opsB_fresh : ∀ op ∈ (opsB : List (HloOp τ sig (Elt F))), op.fresh = ∅ := fun op h => by
  simp only [opsB, segB_3, segB_4, List.mem_append, or_assoc] at h
  rcases h with h | h | h | h
  exacts [List.forall_iff_forall_mem.mp opsB0_fresh op h, List.forall_iff_forall_mem.mp opsB1_fresh op h, List.forall_iff_forall_mem.mp opsB2_fresh op h, List.forall_iff_forall_mem.mp opsB3_fresh op h]

/-! ## Stretch C -/

abbrev opsC0 : List (HloOp τ sig (Elt F)) :=
  [ StableHlo.reshape main_v195 main_v196 (rfl : (.f32 : EltTy) = .f32) shapeCasts_S64x4096_S64x16x128x2,
    StableHlo.unary main_v196 main_v197 ((transpose S64x128x2x16 [0, 2, 3, 1] · transposes_S64x16x128x2_S64x128x2x16_0_2_3_1) : (⟨S64x16x128x2, .f32⟩ : BufTy).Contents (Elt F) → (⟨S64x128x2x16, .f32⟩ : BufTy).Contents (Elt F)),
    StableHlo.reshape main_v197 main_v198 (rfl : (.f32 : EltTy) = .f32) shapeCasts_S64x128x2x16_S8192x32,
    StableHlo.nullary main_c_67 (constantI S_ 32 0#32),
    StableHlo.unary main_c_67 main_call16_v0 (sitofp .f32 : (⟨S_, .i32⟩ : BufTy).Contents (Elt F) → (⟨S_, .f32⟩ : BufTy).Contents (Elt F)),
    StableHlo.binary main_v198 main_call16_v0 main_v199 ((fun x v => pad S8194x32 ![1, 0] ![1, 0] ![0, 0] x v pads_S8192x32_S8194x32_110_000 h_S_) : (⟨S8192x32, .f32⟩ : BufTy).Contents (Elt F) → (⟨S_, .f32⟩ : BufTy).Contents (Elt F) → (⟨S8194x32, .f32⟩ : BufTy).Contents (Elt F)),
    StableHlo.unary main_arg3 main_v200 ((extractStridedSlice S32x16x1 ![0, 0, 0] · slices_S32x16x3_S32x16x1_0_0_0) : (⟨S32x16x3, .f32⟩ : BufTy).Contents (Elt F) → (⟨S32x16x1, .f32⟩ : BufTy).Contents (Elt F)),
    StableHlo.reshape main_v200 main_v201 (rfl : (.f32 : EltTy) = .f32) shapeCasts_S32x16x1_S32x16,
    StableHlo.unary main_v201 main_v202 ((transpose S16x32 [1, 0] · transposes_S32x16_S16x32_1_0) : (⟨S32x16, .f32⟩ : BufTy).Contents (Elt F) → (⟨S16x32, .f32⟩ : BufTy).Contents (Elt F)),
    StableHlo.unary main_arg3 main_v203 ((extractStridedSlice S32x16x1 ![0, 0, 1] · slices_S32x16x3_S32x16x1_0_0_1) : (⟨S32x16x3, .f32⟩ : BufTy).Contents (Elt F) → (⟨S32x16x1, .f32⟩ : BufTy).Contents (Elt F)),
    StableHlo.reshape main_v203 main_v204 (rfl : (.f32 : EltTy) = .f32) shapeCasts_S32x16x1_S32x16,
    StableHlo.unary main_v204 main_v205 ((transpose S16x32 [1, 0] · transposes_S32x16_S16x32_1_0) : (⟨S32x16, .f32⟩ : BufTy).Contents (Elt F) → (⟨S16x32, .f32⟩ : BufTy).Contents (Elt F)),
    StableHlo.unary main_arg3 main_v206 ((extractStridedSlice S32x16x1 ![0, 0, 2] · slices_S32x16x3_S32x16x1_0_0_2) : (⟨S32x16x3, .f32⟩ : BufTy).Contents (Elt F) → (⟨S32x16x1, .f32⟩ : BufTy).Contents (Elt F)),
    StableHlo.reshape main_v206 main_v207 (rfl : (.f32 : EltTy) = .f32) shapeCasts_S32x16x1_S32x16,
    StableHlo.unary main_v207 main_v208 ((transpose S16x32 [1, 0] · transposes_S32x16_S16x32_1_0) : (⟨S32x16, .f32⟩ : BufTy).Contents (Elt F) → (⟨S16x32, .f32⟩ : BufTy).Contents (Elt F)),
    StableHlo.reshape main_arg4 main_v209 (rfl : (.f32 : EltTy) = .f32) shapeCasts_S32_S1x32 ]
abbrev wrC0 : List (Ref sig .tc) := [main_v196, main_v197, main_v198, main_c_67, main_call16_v0, main_v199, main_v200, main_v201, main_v202, main_v203, main_v204, main_v205, main_v206, main_v207, main_v208, main_v209]
set_option maxRecDepth 8192 in
theorem opsC0_sub : (opsC0 : List (HloOp τ sig (Elt F))).Forall fun op => op.bufs ⊆ tcRefs τ sig :=
  ⟨reshape_bufs_sub .., unary_bufs_sub .., reshape_bufs_sub .., nullary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., reshape_bufs_sub ..⟩
theorem opsC0_fresh : (opsC0 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem opsC0_writes : (opsC0 : List (HloOp τ sig (Elt F))).Forall fun op => op.writes ⊆ (wrC0.map (Proc.devRef (τ := τ) .tc)).toFinset :=
  ⟨writes_sub (reshape_writes ..) (by decide), writes_sub (unary_writes ..) (by decide), writes_sub (reshape_writes ..) (by decide), writes_sub (nullary_writes ..) (by decide), writes_sub (unary_writes ..) (by decide), writes_sub (binary_writes ..) (by decide), writes_sub (unary_writes ..) (by decide), writes_sub (reshape_writes ..) (by decide), writes_sub (unary_writes ..) (by decide), writes_sub (unary_writes ..) (by decide), writes_sub (reshape_writes ..) (by decide), writes_sub (unary_writes ..) (by decide), writes_sub (unary_writes ..) (by decide), writes_sub (reshape_writes ..) (by decide), writes_sub (unary_writes ..) (by decide), writes_sub (reshape_writes ..) (by decide)⟩

/-- The contents on entry to each window of stretch C, and at its end. -/
def atC0 (V : Valuation τ sig (Elt F)) : Valuation τ sig (Elt F) := V
def atC1 (V : Valuation τ sig (Elt F)) : Valuation τ sig (Elt F) := after opsC0 (atC0 V)

theorem keepC0 (V : Valuation τ sig (Elt F)) (r : Ref sig .tc) (h : r ∉ wrC0) : atC1 V (Proc.devRef .tc r) = atC0 V (Proc.devRef .tc r) :=
  after_of_writes_sub opsC0 _ opsC0_writes h

/-- What the windows from each one on write. -/
def restC1 : List (Ref sig .tc) := []
def restC0 : List (Ref sig .tc) := wrC0 ++ restC1
theorem endC1 (V : Valuation τ sig (Elt F)) (r : Ref sig .tc) (_ : r ∉ restC1) : atC1 V (Proc.devRef .tc r) = atC1 V (Proc.devRef .tc r) := rfl
theorem endC0 (V : Valuation τ sig (Elt F)) (r : Ref sig .tc) (h : r ∉ restC0) : atC1 V (Proc.devRef .tc r) = atC0 V (Proc.devRef .tc r) :=
  (endC1 V r fun h' => h (List.mem_append_right _ h')).trans (keepC0 V r fun h' => h (List.mem_append_left _ h'))

def segC_4 : List (HloOp τ sig (Elt F)) := opsC0
def opsC : List (HloOp τ sig (Elt F)) := segC_4
theorem after_opsC (V : Valuation τ sig (Elt F)) : after opsC V = atC1 V := by
  simp only [opsC, segC_4, StableHlo.after_append]; rfl
theorem opsC_sub : ∀ op ∈ (opsC : List (HloOp τ sig (Elt F))), op.bufs ⊆ tcRefs τ sig := fun op h => by
  exact List.forall_iff_forall_mem.mp opsC0_sub op (by simpa only [opsC, segC_4] using h)
theorem opsC_fresh : ∀ op ∈ (opsC : List (HloOp τ sig (Elt F))), op.fresh = ∅ := fun op h => by
  exact List.forall_iff_forall_mem.mp opsC0_fresh op (by simpa only [opsC, segC_4] using h)

/-! ## Stretch D -/

abbrev opsD0 : List (HloOp τ sig (Elt F)) :=
  [ StableHlo.reshape main_v210 main_v211 (rfl : (.f32 : EltTy) = .f32) shapeCasts_S8192x32_S64x64x2x32,
    StableHlo.reshape main_v211 main_v212 (rfl : (.f32 : EltTy) = .f32) shapeCasts_S64x64x2x32_S4096x64,
    StableHlo.nullary main_c_68 (constantI S_ 32 0#32),
    StableHlo.unary main_c_68 main_call17_v0 (sitofp .f32 : (⟨S_, .i32⟩ : BufTy).Contents (Elt F) → (⟨S_, .f32⟩ : BufTy).Contents (Elt F)),
    StableHlo.binary main_v212 main_call17_v0 main_v213 ((fun x v => pad S4098x64 ![1, 0] ![1, 0] ![0, 0] x v pads_S4096x64_S4098x64_110_000 h_S_) : (⟨S4096x64, .f32⟩ : BufTy).Contents (Elt F) → (⟨S_, .f32⟩ : BufTy).Contents (Elt F) → (⟨S4098x64, .f32⟩ : BufTy).Contents (Elt F)),
    StableHlo.unary main_arg5 main_v214 ((extractStridedSlice S64x32x1 ![0, 0, 0] · slices_S64x32x3_S64x32x1_0_0_0) : (⟨S64x32x3, .f32⟩ : BufTy).Contents (Elt F) → (⟨S64x32x1, .f32⟩ : BufTy).Contents (Elt F)),
    StableHlo.reshape main_v214 main_v215 (rfl : (.f32 : EltTy) = .f32) shapeCasts_S64x32x1_S64x32,
    StableHlo.unary main_v215 main_v216 ((transpose S32x64 [1, 0] · transposes_S64x32_S32x64_1_0) : (⟨S64x32, .f32⟩ : BufTy).Contents (Elt F) → (⟨S32x64, .f32⟩ : BufTy).Contents (Elt F)),
    StableHlo.unary main_arg5 main_v217 ((extractStridedSlice S64x32x1 ![0, 0, 1] · slices_S64x32x3_S64x32x1_0_0_1) : (⟨S64x32x3, .f32⟩ : BufTy).Contents (Elt F) → (⟨S64x32x1, .f32⟩ : BufTy).Contents (Elt F)),
    StableHlo.reshape main_v217 main_v218 (rfl : (.f32 : EltTy) = .f32) shapeCasts_S64x32x1_S64x32,
    StableHlo.unary main_v218 main_v219 ((transpose S32x64 [1, 0] · transposes_S64x32_S32x64_1_0) : (⟨S64x32, .f32⟩ : BufTy).Contents (Elt F) → (⟨S32x64, .f32⟩ : BufTy).Contents (Elt F)),
    StableHlo.unary main_arg5 main_v220 ((extractStridedSlice S64x32x1 ![0, 0, 2] · slices_S64x32x3_S64x32x1_0_0_2) : (⟨S64x32x3, .f32⟩ : BufTy).Contents (Elt F) → (⟨S64x32x1, .f32⟩ : BufTy).Contents (Elt F)),
    StableHlo.reshape main_v220 main_v221 (rfl : (.f32 : EltTy) = .f32) shapeCasts_S64x32x1_S64x32,
    StableHlo.unary main_v221 main_v222 ((transpose S32x64 [1, 0] · transposes_S64x32_S32x64_1_0) : (⟨S64x32, .f32⟩ : BufTy).Contents (Elt F) → (⟨S32x64, .f32⟩ : BufTy).Contents (Elt F)),
    StableHlo.reshape main_arg6 main_v223 (rfl : (.f32 : EltTy) = .f32) shapeCasts_S64_S1x64 ]
abbrev wrD0 : List (Ref sig .tc) := [main_v211, main_v212, main_c_68, main_call17_v0, main_v213, main_v214, main_v215, main_v216, main_v217, main_v218, main_v219, main_v220, main_v221, main_v222, main_v223]
set_option maxRecDepth 8192 in
theorem opsD0_sub : (opsD0 : List (HloOp τ sig (Elt F))).Forall fun op => op.bufs ⊆ tcRefs τ sig :=
  ⟨reshape_bufs_sub .., reshape_bufs_sub .., nullary_bufs_sub .., unary_bufs_sub .., binary_bufs_sub .., unary_bufs_sub .., reshape_bufs_sub .., unary_bufs_sub .., unary_bufs_sub .., reshape_bufs_sub .., unary_bufs_sub .., unary_bufs_sub .., reshape_bufs_sub .., unary_bufs_sub .., reshape_bufs_sub ..⟩
theorem opsD0_fresh : (opsD0 : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem opsD0_writes : (opsD0 : List (HloOp τ sig (Elt F))).Forall fun op => op.writes ⊆ (wrD0.map (Proc.devRef (τ := τ) .tc)).toFinset :=
  ⟨writes_sub (reshape_writes ..) (by decide), writes_sub (reshape_writes ..) (by decide), writes_sub (nullary_writes ..) (by decide), writes_sub (unary_writes ..) (by decide), writes_sub (binary_writes ..) (by decide), writes_sub (unary_writes ..) (by decide), writes_sub (reshape_writes ..) (by decide), writes_sub (unary_writes ..) (by decide), writes_sub (unary_writes ..) (by decide), writes_sub (reshape_writes ..) (by decide), writes_sub (unary_writes ..) (by decide), writes_sub (unary_writes ..) (by decide), writes_sub (reshape_writes ..) (by decide), writes_sub (unary_writes ..) (by decide), writes_sub (reshape_writes ..) (by decide)⟩

abbrev opsD1 : List (HloOp τ sig (Elt F)) :=
  [ StableHlo.nullary main_v224 (iotaInDim S64x4096 32 1),
    StableHlo.nullary main_c_69 (constantI S_ 32 64#32),
    StableHlo.unary main_c_69 main_v225 (broadcastInDim S64x4096 ![] bcast_S_S64x4096 : (⟨S_, .i32⟩ : BufTy).Contents (Elt F) → (⟨S64x4096, .i32⟩ : BufTy).Contents (Elt F)),
    StableHlo.binary main_v224 main_v225 main_v226 (Host.divsi : (⟨S64x4096, .i32⟩ : BufTy).Contents (Elt F) → (⟨S64x4096, .i32⟩ : BufTy).Contents (Elt F) → (⟨S64x4096, .i32⟩ : BufTy).Contents (Elt F)),
    StableHlo.nullary main_v227 (iotaInDim S64x4096 32 0) ]
abbrev wrD1 : List (Ref sig .tc) := [main_v224, main_c_69, main_v225, main_v226, main_v227]
set_option maxRecDepth 8192 in
theorem opsD1_sub : (opsD1 : List (HloOp τ sig (Elt F))).Forall fun op => op.bufs ⊆ tcRefs τ sig :=
  ⟨nullary_bufs_sub .., nullary_bufs_sub .., unary_bufs_sub .., binary_bufs_sub .., nullary_bufs_sub ..⟩
theorem opsD1_fresh : (opsD1 : List (HloOp τ sig (Elt F))).Forall fun op => op.fresh = ∅ :=
  ⟨rfl, rfl, rfl, rfl, rfl⟩
set_option maxRecDepth 8192 in
theorem opsD1_writes : (opsD1 : List (HloOp τ sig (Elt F))).Forall fun op => op.writes ⊆ (wrD1.map (Proc.devRef (τ := τ) .tc)).toFinset :=
  ⟨writes_sub (nullary_writes ..) (by decide), writes_sub (nullary_writes ..) (by decide), writes_sub (unary_writes ..) (by decide), writes_sub (binary_writes ..) (by decide), writes_sub (nullary_writes ..) (by decide)⟩

abbrev opsD2 : List (HloOp τ sig (Elt F)) :=
  [ StableHlo.binary main_v226 main_v227 main_v228 (cmpi .eq : (⟨S64x4096, .i32⟩ : BufTy).Contents (Elt F) → (⟨S64x4096, .i32⟩ : BufTy).Contents (Elt F) → (⟨S64x4096, .i1⟩ : BufTy).Contents (Elt F)),
    StableHlo.nullary main_cst_70 (constant S_ .f32 0x3C800000#32),
    StableHlo.nullary main_cst_71 (constant S_ .f32 0x00000000#32),
    StableHlo.unary main_cst_70 main_call18_v0 (broadcastInDim S64x4096 ![] bcast_S_S64x4096 : (⟨S_, .f32⟩ : BufTy).Contents (Elt F) → (⟨S64x4096, .f32⟩ : BufTy).Contents (Elt F)),
    StableHlo.unary main_cst_71 main_call18_v1 (broadcastInDim S64x4096 ![] bcast_S_S64x4096 : (⟨S_, .f32⟩ : BufTy).Contents (Elt F) → (⟨S64x4096, .f32⟩ : BufTy).Contents (Elt F)),
    StableHlo.ternary main_v228 main_call18_v0 main_call18_v1 main_v229 (select : (⟨S64x4096, .i1⟩ : BufTy).Contents (Elt F) → (⟨S64x4096, .f32⟩ : BufTy).Contents (Elt F) → (⟨S64x4096, .f32⟩ : BufTy).Contents (Elt F) → (⟨S64x4096, .f32⟩ : BufTy).Contents (Elt F)),
    StableHlo.unary main_arg7 main_v230 ((transpose S64x1 [1, 0] · transposes_S1x64_S64x1_1_0) : (⟨S1x64, .f32⟩ : BufTy).Contents (Elt F) → (⟨S64x1, .f32⟩ : BufTy).Contents (Elt F)),
    StableHlo.reshape main_arg8 main_v231 (rfl : (.f32 : EltTy) = .f32) shapeCasts_S1_S1x1 ]
abbrev wrD2 : List (Ref sig .tc) := [main_v228, main_cst_70, main_cst_71, main_call18_v0, main_call18_v1, main_v229, main_v230, main_v231]
set_option maxRecDepth 8192 in
theorem opsD2_sub : (opsD2 : List (HloOp τ sig (Elt F))).Forall fun op => op.bufs ⊆ tcRefs τ sig :=
  ⟨binary_bufs_sub .., nullary_bufs_sub .., nullary_bufs_sub .., unary_bufs_sub .., unary_bufs_sub .., ternary_bufs_sub .., unary_bufs_sub .., reshape_bufs_sub ..⟩
theorem opsD2_fresh : (opsD2 : List (HloOp τ sig (Elt F))).Forall fun op => op.fresh = ∅ :=
  ⟨rfl, rfl, rfl, rfl, rfl, rfl, rfl, rfl⟩
set_option maxRecDepth 8192 in
theorem opsD2_writes : (opsD2 : List (HloOp τ sig (Elt F))).Forall fun op => op.writes ⊆ (wrD2.map (Proc.devRef (τ := τ) .tc)).toFinset :=
  ⟨writes_sub (binary_writes ..) (by decide), writes_sub (nullary_writes ..) (by decide), writes_sub (nullary_writes ..) (by decide), writes_sub (unary_writes ..) (by decide), writes_sub (unary_writes ..) (by decide), writes_sub (ternary_writes ..) (by decide), writes_sub (unary_writes ..) (by decide), writes_sub (reshape_writes ..) (by decide)⟩

/-- The contents on entry to each window of stretch D, and at its end. -/
def atD0 (V : Valuation τ sig (Elt F)) : Valuation τ sig (Elt F) := V
def atD1 (V : Valuation τ sig (Elt F)) : Valuation τ sig (Elt F) := after opsD0 (atD0 V)
def atD2 (V : Valuation τ sig (Elt F)) : Valuation τ sig (Elt F) := after opsD1 (atD1 V)
def atD3 (V : Valuation τ sig (Elt F)) : Valuation τ sig (Elt F) := after opsD2 (atD2 V)

theorem keepD0 (V : Valuation τ sig (Elt F)) (r : Ref sig .tc) (h : r ∉ wrD0) : atD1 V (Proc.devRef .tc r) = atD0 V (Proc.devRef .tc r) :=
  after_of_writes_sub opsD0 _ opsD0_writes h
theorem keepD1 (V : Valuation τ sig (Elt F)) (r : Ref sig .tc) (h : r ∉ wrD1) : atD2 V (Proc.devRef .tc r) = atD1 V (Proc.devRef .tc r) :=
  after_of_writes_sub opsD1 _ opsD1_writes h
theorem keepD2 (V : Valuation τ sig (Elt F)) (r : Ref sig .tc) (h : r ∉ wrD2) : atD3 V (Proc.devRef .tc r) = atD2 V (Proc.devRef .tc r) :=
  after_of_writes_sub opsD2 _ opsD2_writes h

/-- What the windows from each one on write. -/
def restD3 : List (Ref sig .tc) := []
def restD2 : List (Ref sig .tc) := wrD2 ++ restD3
def restD1 : List (Ref sig .tc) := wrD1 ++ restD2
def restD0 : List (Ref sig .tc) := wrD0 ++ restD1
theorem endD3 (V : Valuation τ sig (Elt F)) (r : Ref sig .tc) (_ : r ∉ restD3) : atD3 V (Proc.devRef .tc r) = atD3 V (Proc.devRef .tc r) := rfl
theorem endD2 (V : Valuation τ sig (Elt F)) (r : Ref sig .tc) (h : r ∉ restD2) : atD3 V (Proc.devRef .tc r) = atD2 V (Proc.devRef .tc r) :=
  (endD3 V r fun h' => h (List.mem_append_right _ h')).trans (keepD2 V r fun h' => h (List.mem_append_left _ h'))
theorem endD1 (V : Valuation τ sig (Elt F)) (r : Ref sig .tc) (h : r ∉ restD1) : atD3 V (Proc.devRef .tc r) = atD1 V (Proc.devRef .tc r) :=
  (endD2 V r fun h' => h (List.mem_append_right _ h')).trans (keepD1 V r fun h' => h (List.mem_append_left _ h'))
theorem endD0 (V : Valuation τ sig (Elt F)) (r : Ref sig .tc) (h : r ∉ restD0) : atD3 V (Proc.devRef .tc r) = atD0 V (Proc.devRef .tc r) :=
  (endD1 V r fun h' => h (List.mem_append_right _ h')).trans (keepD0 V r fun h' => h (List.mem_append_left _ h'))

def segD_4 : List (HloOp τ sig (Elt F)) := opsD0 ++ (opsD1)
def segD_5 : List (HloOp τ sig (Elt F)) := opsD2
def opsD : List (HloOp τ sig (Elt F)) := segD_4 ++ (segD_5)
theorem after_opsD (V : Valuation τ sig (Elt F)) : after opsD V = atD3 V := by
  simp only [opsD, segD_4, segD_5, StableHlo.after_append]; rfl
theorem opsD_sub : ∀ op ∈ (opsD : List (HloOp τ sig (Elt F))), op.bufs ⊆ tcRefs τ sig := fun op h => by
  simp only [opsD, segD_4, segD_5, List.mem_append, or_assoc] at h
  rcases h with h | h | h
  exacts [List.forall_iff_forall_mem.mp opsD0_sub op h, List.forall_iff_forall_mem.mp opsD1_sub op h, List.forall_iff_forall_mem.mp opsD2_sub op h]
theorem opsD_fresh : ∀ op ∈ (opsD : List (HloOp τ sig (Elt F))), op.fresh = ∅ := fun op h => by
  simp only [opsD, segD_4, segD_5, List.mem_append, or_assoc] at h
  rcases h with h | h | h
  exacts [List.forall_iff_forall_mem.mp opsD0_fresh op h, List.forall_iff_forall_mem.mp opsD1_fresh op h, List.forall_iff_forall_mem.mp opsD2_fresh op h]

/-! ## @main as stretches and calls -/

/-- One of the calls that run on the TensorCore. -/
abbrev call (p : Fin 4) : Prog (TpuEff nD τ sig (Elt F) (SparseCore.Sig (Pipeline.Sig Λ₀ (Fin 4) fun p => (pcfgs (F := F) p).Adm) 1) .tc) PUnit := Prog.lift (.customCall (SparseCore.inner (Pipeline.entry p)) ())

set_option maxRecDepth 8192 in
set_option maxHeartbeats 4000000 in
theorem part0_eq (d : Dev nD) : main_part0 (F := F) d = seq segA_0 := rfl
set_option maxRecDepth 8192 in
set_option maxHeartbeats 4000000 in
theorem part1_eq (d : Dev nD) : main_part1 (F := F) d = seq segA_1 := rfl
set_option maxRecDepth 8192 in
set_option maxHeartbeats 4000000 in
theorem part2_eq (d : Dev nD) : main_part2 (F := F) d = seq segA_2 := rfl
set_option maxRecDepth 8192 in
set_option maxHeartbeats 4000000 in
theorem part3_eq (d : Dev nD) : main_part3 (F := F) d = seqK segA_3 (call 0 >>= fun _ => sc.run d 0 >>= fun _ => seq segB_3) := rfl
set_option maxRecDepth 8192 in
set_option maxHeartbeats 4000000 in
theorem part4_eq (d : Dev nD) : main_part4 (F := F) d = seqK segB_4 (call 1 >>= fun _ => seqK segC_4 (call 2 >>= fun _ => seq segD_4)) := rfl
set_option maxRecDepth 8192 in
set_option maxHeartbeats 4000000 in
theorem part5_eq (d : Dev nD) : main_part5 (F := F) d = seqK segD_5 (call 3 >>= fun _ => pure ⟨⟩) := rfl

theorem main_eq (d : Dev nD) : main (F := F) d =
    (seq opsA >>= fun _ => call 0 >>= fun _ => sc.run d 0 >>= fun _ => seq opsB >>= fun _ => call 1 >>= fun _ =>
      seq opsC >>= fun _ => call 2 >>= fun _ => seq opsD >>= fun _ => call 3 >>= fun _ => pure ⟨⟩) := by
  have h : main (F := F) d = (main_part0 d >>= fun _ => main_part1 d >>= fun _ => main_part2 d >>= fun _ => main_part3 d >>= fun _ =>
      main_part4 d >>= fun _ => main_part5 d) := rfl
  rw [h, part0_eq, part1_eq, part2_eq, part3_eq, part4_eq, part5_eq]
  simp only [opsA, opsB, opsC, opsD, seq_append, ← seq_bind_seqK, bind_assoc]

end Cert.Proof.Host

end
-- ==== Proof.HostVals.lean ====
/-
  What each stretch of host operations leaves in the buffers that are read later: per window, the composed function of the
  window's inputs, every buffer read at the end of its stretch.
-/
module

public import proofs.«01_k».proof.Proof.Host

@[expose] public section

set_option Elab.async false

noncomputable section

namespace Cert.Proof.Host

open Cert.KernelIdeal Cert.KernelIdeal.Gen Idealize.ShloMosaic Idealize.ShloMosaic.StableHlo Idealize.SL.Sem

variable {F : FTy → Type} [FloatOps F]

/-! ## Stretch A -/

set_option maxRecDepth 8192 in
set_option maxHeartbeats 2000000 in
theorem win_c (V : Valuation τ sig (Elt F)) : after opsA0 V (Proc.devRef .tc main_c) =
    (fun i => lit0 (S256.rowMajor i)) := by
  simp only [opsA0]
  after_results_simp
  all_goals rfl
theorem val_c (V : Valuation τ sig (Elt F)) : atA20 V (Proc.devRef .tc main_c) =
    (fun i => lit0 (S256.rowMajor i)) := by
  rw [endA1 V main_c (by decide)]
  exact win_c _

set_option maxRecDepth 8192 in
set_option maxHeartbeats 2000000 in
theorem win_c_1 (V : Valuation τ sig (Elt F)) : after opsA0 V (Proc.devRef .tc main_c_1) =
    (fun i => lit2 (S256.rowMajor i)) := by
  simp only [opsA0]
  after_results_simp
  all_goals rfl
theorem val_c_1 (V : Valuation τ sig (Elt F)) : atA20 V (Proc.devRef .tc main_c_1) =
    (fun i => lit2 (S256.rowMajor i)) := by
  rw [endA1 V main_c_1 (by decide)]
  exact win_c_1 _

set_option maxRecDepth 8192 in
set_option maxHeartbeats 2000000 in
theorem win_v6 (V : Valuation τ sig (Elt F)) : after opsA0 V (Proc.devRef .tc main_v6) =
    (addi (broadcastInDim S256x256 ![0, 1] bcast_S256x1_S256x256_0_1 (broadcastInDim S256x1 ![0] bcast_S256_S256x1_0 (muli (fun i => lit1 (S256.rowMajor i)) (fun i => lit1 (S256.rowMajor i))))) (broadcastInDim S256x256 ![0, 1] bcast_S1x256_S256x256_0_1 (broadcastInDim S1x256 ![1] bcast_S256_S1x256_1 (muli (fun i => lit0 (S256.rowMajor i)) (fun i => lit0 (S256.rowMajor i)))))) := by
  simp only [opsA0]
  after_results_simp
  all_goals rfl
theorem val_v6 (V : Valuation τ sig (Elt F)) : atA20 V (Proc.devRef .tc main_v6) =
    (addi (broadcastInDim S256x256 ![0, 1] bcast_S256x1_S256x256_0_1 (broadcastInDim S256x1 ![0] bcast_S256_S256x1_0 (muli (fun i => lit1 (S256.rowMajor i)) (fun i => lit1 (S256.rowMajor i))))) (broadcastInDim S256x256 ![0, 1] bcast_S1x256_S256x256_0_1 (broadcastInDim S1x256 ![1] bcast_S256_S1x256_1 (muli (fun i => lit0 (S256.rowMajor i)) (fun i => lit0 (S256.rowMajor i)))))) := by
  rw [endA1 V main_v6 (by decide)]
  exact win_v6 _

set_option maxRecDepth 8192 in
set_option maxHeartbeats 2000000 in
theorem win_v7 (V : Valuation τ sig (Elt F)) : after opsA0 V (Proc.devRef .tc main_v7) =
    (broadcastInDim S256x256 ![] bcast_S_S256x256 (constantI S_ 32 0#32)) := by
  simp only [opsA0]
  after_results_simp
  all_goals rfl
theorem val_v7 (V : Valuation τ sig (Elt F)) : atA20 V (Proc.devRef .tc main_v7) =
    (broadcastInDim S256x256 ![] bcast_S_S256x256 (constantI S_ 32 0#32)) := by
  rw [endA1 V main_v7 (by decide)]
  exact win_v7 _

set_option maxRecDepth 8192 in
set_option maxHeartbeats 2000000 in
theorem win_v12 (V : Valuation τ sig (Elt F)) : after opsA1 V (Proc.devRef .tc main_v12) =
    (select (cmpi .sle (muli (addi (V (Proc.devRef .tc main_v7)) (broadcastInDim S256x256 ![] bcast_S_S256x256 (constantI S_ 32 256#32))) (addi (V (Proc.devRef .tc main_v7)) (broadcastInDim S256x256 ![] bcast_S_S256x256 (constantI S_ 32 256#32)))) (V (Proc.devRef .tc main_v6))) (addi (V (Proc.devRef .tc main_v7)) (broadcastInDim S256x256 ![] bcast_S_S256x256 (constantI S_ 32 256#32))) (V (Proc.devRef .tc main_v7))) := by
  simp only [opsA1]
  after_results_simp
  all_goals rfl
theorem val_v12 (V : Valuation τ sig (Elt F)) : atA20 V (Proc.devRef .tc main_v12) =
    (select (cmpi .sle (muli (addi (atA20 V (Proc.devRef .tc main_v7)) (broadcastInDim S256x256 ![] bcast_S_S256x256 (constantI S_ 32 256#32))) (addi (atA20 V (Proc.devRef .tc main_v7)) (broadcastInDim S256x256 ![] bcast_S_S256x256 (constantI S_ 32 256#32)))) (atA20 V (Proc.devRef .tc main_v6))) (addi (atA20 V (Proc.devRef .tc main_v7)) (broadcastInDim S256x256 ![] bcast_S_S256x256 (constantI S_ 32 256#32))) (atA20 V (Proc.devRef .tc main_v7))) := by
  rw [endA2 V main_v12 (by decide), endA1 V main_v6 (by decide), endA1 V main_v7 (by decide)]
  exact win_v12 _

set_option maxRecDepth 8192 in
set_option maxHeartbeats 2000000 in
theorem win_v17 (V : Valuation τ sig (Elt F)) : after opsA2 V (Proc.devRef .tc main_v17) =
    (select (cmpi .sle (muli (addi (V (Proc.devRef .tc main_v12)) (broadcastInDim S256x256 ![] bcast_S_S256x256 (constantI S_ 32 128#32))) (addi (V (Proc.devRef .tc main_v12)) (broadcastInDim S256x256 ![] bcast_S_S256x256 (constantI S_ 32 128#32)))) (V (Proc.devRef .tc main_v6))) (addi (V (Proc.devRef .tc main_v12)) (broadcastInDim S256x256 ![] bcast_S_S256x256 (constantI S_ 32 128#32))) (V (Proc.devRef .tc main_v12))) := by
  simp only [opsA2]
  after_results_simp
  all_goals rfl
theorem val_v17 (V : Valuation τ sig (Elt F)) : atA20 V (Proc.devRef .tc main_v17) =
    (select (cmpi .sle (muli (addi (atA20 V (Proc.devRef .tc main_v12)) (broadcastInDim S256x256 ![] bcast_S_S256x256 (constantI S_ 32 128#32))) (addi (atA20 V (Proc.devRef .tc main_v12)) (broadcastInDim S256x256 ![] bcast_S_S256x256 (constantI S_ 32 128#32)))) (atA20 V (Proc.devRef .tc main_v6))) (addi (atA20 V (Proc.devRef .tc main_v12)) (broadcastInDim S256x256 ![] bcast_S_S256x256 (constantI S_ 32 128#32))) (atA20 V (Proc.devRef .tc main_v12))) := by
  rw [endA3 V main_v17 (by decide), endA2 V main_v12 (by decide), endA2 V main_v6 (by decide)]
  exact win_v17 _

set_option maxRecDepth 8192 in
set_option maxHeartbeats 2000000 in
theorem win_v22 (V : Valuation τ sig (Elt F)) : after opsA3 V (Proc.devRef .tc main_v22) =
    (select (cmpi .sle (muli (addi (V (Proc.devRef .tc main_v17)) (broadcastInDim S256x256 ![] bcast_S_S256x256 (constantI S_ 32 64#32))) (addi (V (Proc.devRef .tc main_v17)) (broadcastInDim S256x256 ![] bcast_S_S256x256 (constantI S_ 32 64#32)))) (V (Proc.devRef .tc main_v6))) (addi (V (Proc.devRef .tc main_v17)) (broadcastInDim S256x256 ![] bcast_S_S256x256 (constantI S_ 32 64#32))) (V (Proc.devRef .tc main_v17))) := by
  simp only [opsA3]
  after_results_simp
  all_goals rfl
theorem val_v22 (V : Valuation τ sig (Elt F)) : atA20 V (Proc.devRef .tc main_v22) =
    (select (cmpi .sle (muli (addi (atA20 V (Proc.devRef .tc main_v17)) (broadcastInDim S256x256 ![] bcast_S_S256x256 (constantI S_ 32 64#32))) (addi (atA20 V (Proc.devRef .tc main_v17)) (broadcastInDim S256x256 ![] bcast_S_S256x256 (constantI S_ 32 64#32)))) (atA20 V (Proc.devRef .tc main_v6))) (addi (atA20 V (Proc.devRef .tc main_v17)) (broadcastInDim S256x256 ![] bcast_S_S256x256 (constantI S_ 32 64#32))) (atA20 V (Proc.devRef .tc main_v17))) := by
  rw [endA4 V main_v22 (by decide), endA3 V main_v17 (by decide), endA3 V main_v6 (by decide)]
  exact win_v22 _

set_option maxRecDepth 8192 in
set_option maxHeartbeats 2000000 in
theorem win_v27 (V : Valuation τ sig (Elt F)) : after opsA4 V (Proc.devRef .tc main_v27) =
    (select (cmpi .sle (muli (addi (V (Proc.devRef .tc main_v22)) (broadcastInDim S256x256 ![] bcast_S_S256x256 (constantI S_ 32 32#32))) (addi (V (Proc.devRef .tc main_v22)) (broadcastInDim S256x256 ![] bcast_S_S256x256 (constantI S_ 32 32#32)))) (V (Proc.devRef .tc main_v6))) (addi (V (Proc.devRef .tc main_v22)) (broadcastInDim S256x256 ![] bcast_S_S256x256 (constantI S_ 32 32#32))) (V (Proc.devRef .tc main_v22))) := by
  simp only [opsA4]
  after_results_simp
  all_goals rfl
theorem val_v27 (V : Valuation τ sig (Elt F)) : atA20 V (Proc.devRef .tc main_v27) =
    (select (cmpi .sle (muli (addi (atA20 V (Proc.devRef .tc main_v22)) (broadcastInDim S256x256 ![] bcast_S_S256x256 (constantI S_ 32 32#32))) (addi (atA20 V (Proc.devRef .tc main_v22)) (broadcastInDim S256x256 ![] bcast_S_S256x256 (constantI S_ 32 32#32)))) (atA20 V (Proc.devRef .tc main_v6))) (addi (atA20 V (Proc.devRef .tc main_v22)) (broadcastInDim S256x256 ![] bcast_S_S256x256 (constantI S_ 32 32#32))) (atA20 V (Proc.devRef .tc main_v22))) := by
  rw [endA5 V main_v27 (by decide), endA4 V main_v22 (by decide), endA4 V main_v6 (by decide)]
  exact win_v27 _

set_option maxRecDepth 8192 in
set_option maxHeartbeats 2000000 in
theorem win_v32 (V : Valuation τ sig (Elt F)) : after opsA5 V (Proc.devRef .tc main_v32) =
    (select (cmpi .sle (muli (addi (V (Proc.devRef .tc main_v27)) (broadcastInDim S256x256 ![] bcast_S_S256x256 (constantI S_ 32 16#32))) (addi (V (Proc.devRef .tc main_v27)) (broadcastInDim S256x256 ![] bcast_S_S256x256 (constantI S_ 32 16#32)))) (V (Proc.devRef .tc main_v6))) (addi (V (Proc.devRef .tc main_v27)) (broadcastInDim S256x256 ![] bcast_S_S256x256 (constantI S_ 32 16#32))) (V (Proc.devRef .tc main_v27))) := by
  simp only [opsA5]
  after_results_simp
  all_goals rfl
theorem val_v32 (V : Valuation τ sig (Elt F)) : atA20 V (Proc.devRef .tc main_v32) =
    (select (cmpi .sle (muli (addi (atA20 V (Proc.devRef .tc main_v27)) (broadcastInDim S256x256 ![] bcast_S_S256x256 (constantI S_ 32 16#32))) (addi (atA20 V (Proc.devRef .tc main_v27)) (broadcastInDim S256x256 ![] bcast_S_S256x256 (constantI S_ 32 16#32)))) (atA20 V (Proc.devRef .tc main_v6))) (addi (atA20 V (Proc.devRef .tc main_v27)) (broadcastInDim S256x256 ![] bcast_S_S256x256 (constantI S_ 32 16#32))) (atA20 V (Proc.devRef .tc main_v27))) := by
  rw [endA6 V main_v32 (by decide), endA5 V main_v27 (by decide), endA5 V main_v6 (by decide)]
  exact win_v32 _

set_option maxRecDepth 8192 in
set_option maxHeartbeats 2000000 in
theorem win_v37 (V : Valuation τ sig (Elt F)) : after opsA6 V (Proc.devRef .tc main_v37) =
    (select (cmpi .sle (muli (addi (V (Proc.devRef .tc main_v32)) (broadcastInDim S256x256 ![] bcast_S_S256x256 (constantI S_ 32 8#32))) (addi (V (Proc.devRef .tc main_v32)) (broadcastInDim S256x256 ![] bcast_S_S256x256 (constantI S_ 32 8#32)))) (V (Proc.devRef .tc main_v6))) (addi (V (Proc.devRef .tc main_v32)) (broadcastInDim S256x256 ![] bcast_S_S256x256 (constantI S_ 32 8#32))) (V (Proc.devRef .tc main_v32))) := by
  simp only [opsA6]
  after_results_simp
  all_goals rfl
theorem val_v37 (V : Valuation τ sig (Elt F)) : atA20 V (Proc.devRef .tc main_v37) =
    (select (cmpi .sle (muli (addi (atA20 V (Proc.devRef .tc main_v32)) (broadcastInDim S256x256 ![] bcast_S_S256x256 (constantI S_ 32 8#32))) (addi (atA20 V (Proc.devRef .tc main_v32)) (broadcastInDim S256x256 ![] bcast_S_S256x256 (constantI S_ 32 8#32)))) (atA20 V (Proc.devRef .tc main_v6))) (addi (atA20 V (Proc.devRef .tc main_v32)) (broadcastInDim S256x256 ![] bcast_S_S256x256 (constantI S_ 32 8#32))) (atA20 V (Proc.devRef .tc main_v32))) := by
  rw [endA7 V main_v37 (by decide), endA6 V main_v32 (by decide), endA6 V main_v6 (by decide)]
  exact win_v37 _

set_option maxRecDepth 8192 in
set_option maxHeartbeats 2000000 in
theorem win_v42 (V : Valuation τ sig (Elt F)) : after opsA7 V (Proc.devRef .tc main_v42) =
    (select (cmpi .sle (muli (addi (V (Proc.devRef .tc main_v37)) (broadcastInDim S256x256 ![] bcast_S_S256x256 (constantI S_ 32 4#32))) (addi (V (Proc.devRef .tc main_v37)) (broadcastInDim S256x256 ![] bcast_S_S256x256 (constantI S_ 32 4#32)))) (V (Proc.devRef .tc main_v6))) (addi (V (Proc.devRef .tc main_v37)) (broadcastInDim S256x256 ![] bcast_S_S256x256 (constantI S_ 32 4#32))) (V (Proc.devRef .tc main_v37))) := by
  simp only [opsA7]
  after_results_simp
  all_goals rfl
theorem val_v42 (V : Valuation τ sig (Elt F)) : atA20 V (Proc.devRef .tc main_v42) =
    (select (cmpi .sle (muli (addi (atA20 V (Proc.devRef .tc main_v37)) (broadcastInDim S256x256 ![] bcast_S_S256x256 (constantI S_ 32 4#32))) (addi (atA20 V (Proc.devRef .tc main_v37)) (broadcastInDim S256x256 ![] bcast_S_S256x256 (constantI S_ 32 4#32)))) (atA20 V (Proc.devRef .tc main_v6))) (addi (atA20 V (Proc.devRef .tc main_v37)) (broadcastInDim S256x256 ![] bcast_S_S256x256 (constantI S_ 32 4#32))) (atA20 V (Proc.devRef .tc main_v37))) := by
  rw [endA8 V main_v42 (by decide), endA7 V main_v37 (by decide), endA7 V main_v6 (by decide)]
  exact win_v42 _

set_option maxRecDepth 8192 in
set_option maxHeartbeats 2000000 in
theorem win_v47 (V : Valuation τ sig (Elt F)) : after opsA8 V (Proc.devRef .tc main_v47) =
    (select (cmpi .sle (muli (addi (V (Proc.devRef .tc main_v42)) (broadcastInDim S256x256 ![] bcast_S_S256x256 (constantI S_ 32 2#32))) (addi (V (Proc.devRef .tc main_v42)) (broadcastInDim S256x256 ![] bcast_S_S256x256 (constantI S_ 32 2#32)))) (V (Proc.devRef .tc main_v6))) (addi (V (Proc.devRef .tc main_v42)) (broadcastInDim S256x256 ![] bcast_S_S256x256 (constantI S_ 32 2#32))) (V (Proc.devRef .tc main_v42))) := by
  simp only [opsA8]
  after_results_simp
  all_goals rfl
theorem val_v47 (V : Valuation τ sig (Elt F)) : atA20 V (Proc.devRef .tc main_v47) =
    (select (cmpi .sle (muli (addi (atA20 V (Proc.devRef .tc main_v42)) (broadcastInDim S256x256 ![] bcast_S_S256x256 (constantI S_ 32 2#32))) (addi (atA20 V (Proc.devRef .tc main_v42)) (broadcastInDim S256x256 ![] bcast_S_S256x256 (constantI S_ 32 2#32)))) (atA20 V (Proc.devRef .tc main_v6))) (addi (atA20 V (Proc.devRef .tc main_v42)) (broadcastInDim S256x256 ![] bcast_S_S256x256 (constantI S_ 32 2#32))) (atA20 V (Proc.devRef .tc main_v42))) := by
  rw [endA9 V main_v47 (by decide), endA8 V main_v42 (by decide), endA8 V main_v6 (by decide)]
  exact win_v47 _

set_option maxRecDepth 8192 in
set_option maxHeartbeats 2000000 in
theorem win_v52 (V : Valuation τ sig (Elt F)) : after opsA9 V (Proc.devRef .tc main_v52) =
    (select (cmpi .sle (muli (addi (V (Proc.devRef .tc main_v47)) (broadcastInDim S256x256 ![] bcast_S_S256x256 (constantI S_ 32 1#32))) (addi (V (Proc.devRef .tc main_v47)) (broadcastInDim S256x256 ![] bcast_S_S256x256 (constantI S_ 32 1#32)))) (V (Proc.devRef .tc main_v6))) (addi (V (Proc.devRef .tc main_v47)) (broadcastInDim S256x256 ![] bcast_S_S256x256 (constantI S_ 32 1#32))) (V (Proc.devRef .tc main_v47))) := by
  simp only [opsA9]
  after_results_simp
  all_goals rfl
theorem val_v52 (V : Valuation τ sig (Elt F)) : atA20 V (Proc.devRef .tc main_v52) =
    (select (cmpi .sle (muli (addi (atA20 V (Proc.devRef .tc main_v47)) (broadcastInDim S256x256 ![] bcast_S_S256x256 (constantI S_ 32 1#32))) (addi (atA20 V (Proc.devRef .tc main_v47)) (broadcastInDim S256x256 ![] bcast_S_S256x256 (constantI S_ 32 1#32)))) (atA20 V (Proc.devRef .tc main_v6))) (addi (atA20 V (Proc.devRef .tc main_v47)) (broadcastInDim S256x256 ![] bcast_S_S256x256 (constantI S_ 32 1#32))) (atA20 V (Proc.devRef .tc main_v47))) := by
  rw [endA10 V main_v52 (by decide), endA9 V main_v47 (by decide), endA9 V main_v6 (by decide)]
  exact win_v52 _

set_option maxRecDepth 8192 in
set_option maxHeartbeats 2000000 in
theorem win_v56 (V : Valuation τ sig (Elt F)) : after opsA10 V (Proc.devRef .tc main_v56) =
    (shapeCast _ (Host.divf (broadcastInDim S256 ![] bcast_S_S256 (constant S_ .f32 0x3F800000#32)) (sitofp .f32 (V (Proc.devRef .tc main_c_1)))) shapeCasts_S256_S1x256) := by
  simp only [opsA10]
  after_results_simp
  all_goals rfl
theorem val_v56 (V : Valuation τ sig (Elt F)) : atA20 V (Proc.devRef .tc main_v56) =
    (shapeCast _ (Host.divf (broadcastInDim S256 ![] bcast_S_S256 (constant S_ .f32 0x3F800000#32)) (sitofp .f32 (atA20 V (Proc.devRef .tc main_c_1)))) shapeCasts_S256_S1x256) := by
  rw [endA11 V main_v56 (by decide), endA10 V main_c_1 (by decide)]
  exact win_v56 _

set_option maxRecDepth 8192 in
set_option maxHeartbeats 2000000 in
theorem win_v57 (V : Valuation τ sig (Elt F)) : after opsA10 V (Proc.devRef .tc main_v57) =
    (Host.atan2 (constant S_ .f32 0x00000000#32) (constant S_ .f32 0xBF800000#32)) := by
  simp only [opsA10]
  after_results_simp
  all_goals rfl
theorem val_v57 (V : Valuation τ sig (Elt F)) : atA20 V (Proc.devRef .tc main_v57) =
    (Host.atan2 (constant S_ .f32 0x00000000#32) (constant S_ .f32 0xBF800000#32)) := by
  rw [endA11 V main_v57 (by decide)]
  exact win_v57 _

set_option maxRecDepth 8192 in
set_option maxHeartbeats 2000000 in
theorem win_v71 (V : Valuation τ sig (Elt F)) : after opsA11 V (Proc.devRef .tc main_v71) =
    (Host.divf (Host.cos (mulf (broadcastInDim S512x256 ![] bcast_S_S512x256 (Host.divf (mulf (constant S_ .f32 0x40000000#32) (V (Proc.devRef .tc main_v57))) (constant S_ .f32 0x44000000#32))) (sitofp .f32 (Host.remsi (muli (iotaInDim S512x256 32 0) (broadcastInDim S512x256 ![0, 1] bcast_S1x256_S512x256_0_1 (broadcastInDim S1x256 ![1] bcast_S256_S1x256_1 (V (Proc.devRef .tc main_c))))) (broadcastInDim S512x256 ![] bcast_S_S512x256 (constantI S_ 32 512#32)))))) (broadcastInDim S512x256 ![] bcast_S_S512x256 (constant S_ .f32 0x44000000#32))) := by
  simp only [opsA11]
  after_results_simp
  all_goals rfl
theorem val_v71 (V : Valuation τ sig (Elt F)) : atA20 V (Proc.devRef .tc main_v71) =
    (Host.divf (Host.cos (mulf (broadcastInDim S512x256 ![] bcast_S_S512x256 (Host.divf (mulf (constant S_ .f32 0x40000000#32) (atA20 V (Proc.devRef .tc main_v57))) (constant S_ .f32 0x44000000#32))) (sitofp .f32 (Host.remsi (muli (iotaInDim S512x256 32 0) (broadcastInDim S512x256 ![0, 1] bcast_S1x256_S512x256_0_1 (broadcastInDim S1x256 ![1] bcast_S256_S1x256_1 (atA20 V (Proc.devRef .tc main_c))))) (broadcastInDim S512x256 ![] bcast_S_S512x256 (constantI S_ 32 512#32)))))) (broadcastInDim S512x256 ![] bcast_S_S512x256 (constant S_ .f32 0x44000000#32))) := by
  rw [endA12 V main_v71 (by decide), endA11 V main_c (by decide), endA11 V main_v57 (by decide)]
  exact win_v71 _

set_option maxRecDepth 8192 in
set_option maxHeartbeats 2000000 in
theorem win_v75 (V : Valuation τ sig (Elt F)) : after opsA11 V (Proc.devRef .tc main_v75) =
    (Host.divf (Host.negf (Host.sin (mulf (broadcastInDim S512x256 ![] bcast_S_S512x256 (Host.divf (mulf (constant S_ .f32 0x40000000#32) (V (Proc.devRef .tc main_v57))) (constant S_ .f32 0x44000000#32))) (sitofp .f32 (Host.remsi (muli (iotaInDim S512x256 32 0) (broadcastInDim S512x256 ![0, 1] bcast_S1x256_S512x256_0_1 (broadcastInDim S1x256 ![1] bcast_S256_S1x256_1 (V (Proc.devRef .tc main_c))))) (broadcastInDim S512x256 ![] bcast_S_S512x256 (constantI S_ 32 512#32))))))) (broadcastInDim S512x256 ![] bcast_S_S512x256 (constant S_ .f32 0x44000000#32))) := by
  simp only [opsA11]
  after_results_simp
  all_goals rfl
theorem val_v75 (V : Valuation τ sig (Elt F)) : atA20 V (Proc.devRef .tc main_v75) =
    (Host.divf (Host.negf (Host.sin (mulf (broadcastInDim S512x256 ![] bcast_S_S512x256 (Host.divf (mulf (constant S_ .f32 0x40000000#32) (atA20 V (Proc.devRef .tc main_v57))) (constant S_ .f32 0x44000000#32))) (sitofp .f32 (Host.remsi (muli (iotaInDim S512x256 32 0) (broadcastInDim S512x256 ![0, 1] bcast_S1x256_S512x256_0_1 (broadcastInDim S1x256 ![1] bcast_S256_S1x256_1 (atA20 V (Proc.devRef .tc main_c))))) (broadcastInDim S512x256 ![] bcast_S_S512x256 (constantI S_ 32 512#32))))))) (broadcastInDim S512x256 ![] bcast_S_S512x256 (constant S_ .f32 0x44000000#32))) := by
  rw [endA12 V main_v75 (by decide), endA11 V main_c (by decide), endA11 V main_v57 (by decide)]
  exact win_v75 _

set_option maxRecDepth 8192 in
set_option maxHeartbeats 2000000 in
theorem win_v88 (V : Valuation τ sig (Elt F)) : after opsA12 V (Proc.devRef .tc main_v88) =
    (Host.divf (Host.cos (mulf (broadcastInDim S256x256 ![] bcast_S_S256x256 (Host.divf (mulf (constant S_ .f32 0x40000000#32) (V (Proc.devRef .tc main_v57))) (constant S_ .f32 0x43800000#32))) (sitofp .f32 (Host.remsi (muli (iotaInDim S256x256 32 0) (iotaInDim S256x256 32 1)) (broadcastInDim S256x256 ![] bcast_S_S256x256 (constantI S_ 32 256#32)))))) (broadcastInDim S256x256 ![] bcast_S_S256x256 (constant S_ .f32 0x44000000#32))) := by
  simp only [opsA12]
  after_results_simp
  all_goals rfl
theorem val_v88 (V : Valuation τ sig (Elt F)) : atA20 V (Proc.devRef .tc main_v88) =
    (Host.divf (Host.cos (mulf (broadcastInDim S256x256 ![] bcast_S_S256x256 (Host.divf (mulf (constant S_ .f32 0x40000000#32) (atA20 V (Proc.devRef .tc main_v57))) (constant S_ .f32 0x43800000#32))) (sitofp .f32 (Host.remsi (muli (iotaInDim S256x256 32 0) (iotaInDim S256x256 32 1)) (broadcastInDim S256x256 ![] bcast_S_S256x256 (constantI S_ 32 256#32)))))) (broadcastInDim S256x256 ![] bcast_S_S256x256 (constant S_ .f32 0x44000000#32))) := by
  rw [endA13 V main_v88 (by decide), endA12 V main_v57 (by decide)]
  exact win_v88 _

set_option maxRecDepth 8192 in
set_option maxHeartbeats 2000000 in
theorem win_v92 (V : Valuation τ sig (Elt F)) : after opsA12 V (Proc.devRef .tc main_v92) =
    (Host.divf (Host.negf (Host.sin (mulf (broadcastInDim S256x256 ![] bcast_S_S256x256 (Host.divf (mulf (constant S_ .f32 0x40000000#32) (V (Proc.devRef .tc main_v57))) (constant S_ .f32 0x43800000#32))) (sitofp .f32 (Host.remsi (muli (iotaInDim S256x256 32 0) (iotaInDim S256x256 32 1)) (broadcastInDim S256x256 ![] bcast_S_S256x256 (constantI S_ 32 256#32))))))) (broadcastInDim S256x256 ![] bcast_S_S256x256 (constant S_ .f32 0x44000000#32))) := by
  simp only [opsA12]
  after_results_simp
  all_goals rfl
theorem val_v92 (V : Valuation τ sig (Elt F)) : atA20 V (Proc.devRef .tc main_v92) =
    (Host.divf (Host.negf (Host.sin (mulf (broadcastInDim S256x256 ![] bcast_S_S256x256 (Host.divf (mulf (constant S_ .f32 0x40000000#32) (atA20 V (Proc.devRef .tc main_v57))) (constant S_ .f32 0x43800000#32))) (sitofp .f32 (Host.remsi (muli (iotaInDim S256x256 32 0) (iotaInDim S256x256 32 1)) (broadcastInDim S256x256 ![] bcast_S_S256x256 (constantI S_ 32 256#32))))))) (broadcastInDim S256x256 ![] bcast_S_S256x256 (constant S_ .f32 0x44000000#32))) := by
  rw [endA13 V main_v92 (by decide), endA12 V main_v57 (by decide)]
  exact win_v92 _

set_option maxRecDepth 8192 in
set_option maxHeartbeats 2000000 in
theorem win_v93 (V : Valuation τ sig (Elt F)) : after opsA13 V (Proc.devRef .tc main_v93) =
    (iotaInDim S256x256 32 0) := by
  simp only [opsA13]
  after_results_simp
  all_goals rfl
theorem val_v93 (V : Valuation τ sig (Elt F)) : atA20 V (Proc.devRef .tc main_v93) =
    (iotaInDim S256x256 32 0) := by
  rw [endA14 V main_v93 (by decide)]
  exact win_v93 _

set_option maxRecDepth 8192 in
set_option maxHeartbeats 2000000 in
theorem win_v100 (V : Valuation τ sig (Elt F)) : after opsA14 V (Proc.devRef .tc main_v100) =
    (Host.cos (Host.divf (mulf (broadcastInDim S256x256 ![] bcast_S_S256x256 (mulf (constant S_ .f32 0x40000000#32) (V (Proc.devRef .tc main_v57)))) (sitofp .f32 (V (Proc.devRef .tc main_v93)))) (broadcastInDim S256x256 ![] bcast_S_S256x256 (constant S_ .f32 0x44000000#32)))) := by
  simp only [opsA14]
  after_results_simp
  all_goals rfl
theorem val_v100 (V : Valuation τ sig (Elt F)) : atA20 V (Proc.devRef .tc main_v100) =
    (Host.cos (Host.divf (mulf (broadcastInDim S256x256 ![] bcast_S_S256x256 (mulf (constant S_ .f32 0x40000000#32) (atA20 V (Proc.devRef .tc main_v57)))) (sitofp .f32 (atA20 V (Proc.devRef .tc main_v93)))) (broadcastInDim S256x256 ![] bcast_S_S256x256 (constant S_ .f32 0x44000000#32)))) := by
  rw [endA15 V main_v100 (by decide), endA14 V main_v57 (by decide), endA14 V main_v93 (by decide)]
  exact win_v100 _

set_option maxRecDepth 8192 in
set_option maxHeartbeats 2000000 in
theorem win_v107 (V : Valuation τ sig (Elt F)) : after opsA14 V (Proc.devRef .tc main_v107) =
    (Host.negf (Host.sin (Host.divf (mulf (broadcastInDim S256x256 ![] bcast_S_S256x256 (mulf (constant S_ .f32 0x40000000#32) (V (Proc.devRef .tc main_v57)))) (sitofp .f32 (V (Proc.devRef .tc main_v93)))) (broadcastInDim S256x256 ![] bcast_S_S256x256 (constant S_ .f32 0x44000000#32))))) := by
  simp only [opsA14]
  after_results_simp
  all_goals rfl
theorem val_v107 (V : Valuation τ sig (Elt F)) : atA20 V (Proc.devRef .tc main_v107) =
    (Host.negf (Host.sin (Host.divf (mulf (broadcastInDim S256x256 ![] bcast_S_S256x256 (mulf (constant S_ .f32 0x40000000#32) (atA20 V (Proc.devRef .tc main_v57)))) (sitofp .f32 (atA20 V (Proc.devRef .tc main_v93)))) (broadcastInDim S256x256 ![] bcast_S_S256x256 (constant S_ .f32 0x44000000#32))))) := by
  rw [endA15 V main_v107 (by decide), endA14 V main_v57 (by decide), endA14 V main_v93 (by decide)]
  exact win_v107 _

set_option maxRecDepth 8192 in
set_option maxHeartbeats 2000000 in
theorem win_v111 (V : Valuation τ sig (Elt F)) : after opsA15 V (Proc.devRef .tc main_v111) =
    (shapeCast _ (select (cmpi .eq (V (Proc.devRef .tc main_c)) (broadcastInDim S256 ![] bcast_S_S256 (constantI S_ 32 0#32))) (broadcastInDim S256 ![] bcast_S_S256 (constant S_ .f32 0x3F800000#32)) (broadcastInDim S256 ![] bcast_S_S256 (constant S_ .f32 0x40000000#32))) shapeCasts_S256_S1x256) := by
  simp only [opsA15]
  after_results_simp
  all_goals rfl
theorem val_v111 (V : Valuation τ sig (Elt F)) : atA20 V (Proc.devRef .tc main_v111) =
    (shapeCast _ (select (cmpi .eq (atA20 V (Proc.devRef .tc main_c)) (broadcastInDim S256 ![] bcast_S_S256 (constantI S_ 32 0#32))) (broadcastInDim S256 ![] bcast_S_S256 (constant S_ .f32 0x3F800000#32)) (broadcastInDim S256 ![] bcast_S_S256 (constant S_ .f32 0x40000000#32))) shapeCasts_S256_S1x256) := by
  rw [endA16 V main_v111 (by decide), endA15 V main_c (by decide)]
  exact win_v111 _

set_option maxRecDepth 8192 in
set_option maxHeartbeats 2000000 in
theorem win_v122 (V : Valuation τ sig (Elt F)) : after opsA16 V (Proc.devRef .tc main_v122) =
    (select (ori (cmpi .eq (iotaInDim S128x256 32 1) (iotaInDim S128x256 32 0)) (andi (cmpi .sgt (iotaInDim S128x256 32 0) (broadcastInDim S128x256 ![] bcast_S_S128x256 (constantI S_ 32 0#32))) (cmpi .eq (iotaInDim S128x256 32 1) (subi (broadcastInDim S128x256 ![] bcast_S_S128x256 (constantI S_ 32 256#32)) (iotaInDim S128x256 32 0))))) (broadcastInDim S128x256 ![] bcast_S_S128x256 (constant S_ .f32 0x3F800000#32)) (broadcastInDim S128x256 ![] bcast_S_S128x256 (constant S_ .f32 0x00000000#32))) := by
  simp only [opsA16]
  after_results_simp
  all_goals rfl
theorem val_v122 (V : Valuation τ sig (Elt F)) : atA20 V (Proc.devRef .tc main_v122) =
    (select (ori (cmpi .eq (iotaInDim S128x256 32 1) (iotaInDim S128x256 32 0)) (andi (cmpi .sgt (iotaInDim S128x256 32 0) (broadcastInDim S128x256 ![] bcast_S_S128x256 (constantI S_ 32 0#32))) (cmpi .eq (iotaInDim S128x256 32 1) (subi (broadcastInDim S128x256 ![] bcast_S_S128x256 (constantI S_ 32 256#32)) (iotaInDim S128x256 32 0))))) (broadcastInDim S128x256 ![] bcast_S_S128x256 (constant S_ .f32 0x3F800000#32)) (broadcastInDim S128x256 ![] bcast_S_S128x256 (constant S_ .f32 0x00000000#32))) := by
  rw [endA17 V main_v122 (by decide)]
  exact win_v122 _

set_option maxRecDepth 8192 in
set_option maxHeartbeats 2000000 in
theorem win_v128 (V : Valuation τ sig (Elt F)) : after opsA16 V (Proc.devRef .tc main_v128) =
    (select (ori (cmpi .eq (iotaInDim S128x256 32 1) (iotaInDim S128x256 32 0)) (cmpi .eq (iotaInDim S128x256 32 1) (subi (broadcastInDim S128x256 ![] bcast_S_S128x256 (constantI S_ 32 255#32)) (iotaInDim S128x256 32 0)))) (broadcastInDim S128x256 ![] bcast_S_S128x256 (constant S_ .f32 0x3F800000#32)) (broadcastInDim S128x256 ![] bcast_S_S128x256 (constant S_ .f32 0x00000000#32))) := by
  simp only [opsA16]
  after_results_simp
  all_goals rfl
theorem val_v128 (V : Valuation τ sig (Elt F)) : atA20 V (Proc.devRef .tc main_v128) =
    (select (ori (cmpi .eq (iotaInDim S128x256 32 1) (iotaInDim S128x256 32 0)) (cmpi .eq (iotaInDim S128x256 32 1) (subi (broadcastInDim S128x256 ![] bcast_S_S128x256 (constantI S_ 32 255#32)) (iotaInDim S128x256 32 0)))) (broadcastInDim S128x256 ![] bcast_S_S128x256 (constant S_ .f32 0x3F800000#32)) (broadcastInDim S128x256 ![] bcast_S_S128x256 (constant S_ .f32 0x00000000#32))) := by
  rw [endA17 V main_v128 (by decide)]
  exact win_v128 _

set_option maxRecDepth 8192 in
set_option maxHeartbeats 2000000 in
theorem win_v131 (V : Valuation τ sig (Elt F)) : after opsA17 V (Proc.devRef .tc main_v131) =
    (Host.divsi (iotaInDim S12256 32 0) (broadcastInDim S12256 ![] bcast_S_S12256 (constantI S_ 32 766#32))) := by
  simp only [opsA17]
  after_results_simp
  all_goals rfl
theorem val_v131 (V : Valuation τ sig (Elt F)) : atA20 V (Proc.devRef .tc main_v131) =
    (Host.divsi (iotaInDim S12256 32 0) (broadcastInDim S12256 ![] bcast_S_S12256 (constantI S_ 32 766#32))) := by
  rw [endA18 V main_v131 (by decide)]
  exact win_v131 _

set_option maxRecDepth 8192 in
set_option maxHeartbeats 2000000 in
theorem win_v135 (V : Valuation τ sig (Elt F)) : after opsA17 V (Proc.devRef .tc main_v135) =
    (addi (Host.remsi (iotaInDim S12256 32 0) (broadcastInDim S12256 ![] bcast_S_S12256 (constantI S_ 32 766#32))) (broadcastInDim S12256 ![] bcast_S_S12256 (constantI S_ 32 1#32))) := by
  simp only [opsA17]
  after_results_simp
  all_goals rfl
theorem val_v135 (V : Valuation τ sig (Elt F)) : atA20 V (Proc.devRef .tc main_v135) =
    (addi (Host.remsi (iotaInDim S12256 32 0) (broadcastInDim S12256 ![] bcast_S_S12256 (constantI S_ 32 766#32))) (broadcastInDim S12256 ![] bcast_S_S12256 (constantI S_ 32 1#32))) := by
  rw [endA18 V main_v135 (by decide)]
  exact win_v135 _

set_option maxRecDepth 8192 in
set_option maxHeartbeats 2000000 in
theorem win_c_41 (V : Valuation τ sig (Elt F)) : after opsA17 V (Proc.devRef .tc main_c_41) =
    (constantI S_ 32 3#32) := by
  simp only [opsA17]
  after_results_simp
  all_goals rfl
theorem val_c_41 (V : Valuation τ sig (Elt F)) : atA20 V (Proc.devRef .tc main_c_41) =
    (constantI S_ 32 3#32) := by
  rw [endA18 V main_c_41 (by decide)]
  exact win_c_41 _

set_option maxRecDepth 8192 in
set_option maxHeartbeats 2000000 in
theorem win_v142 (V : Valuation τ sig (Elt F)) : after opsA18 V (Proc.devRef .tc main_v142) =
    (subi (addi (Host.divsi (V (Proc.devRef .tc main_v135)) (broadcastInDim S12256 ![] bcast_S_S12256 (V (Proc.devRef .tc main_c_41)))) (Host.remsi (V (Proc.devRef .tc main_v135)) (broadcastInDim S12256 ![] bcast_S_S12256 (constantI S_ 32 3#32)))) (broadcastInDim S12256 ![] bcast_S_S12256 (constantI S_ 32 1#32))) := by
  simp only [opsA18]
  after_results_simp
  all_goals rfl
theorem val_v142 (V : Valuation τ sig (Elt F)) : atA20 V (Proc.devRef .tc main_v142) =
    (subi (addi (Host.divsi (atA20 V (Proc.devRef .tc main_v135)) (broadcastInDim S12256 ![] bcast_S_S12256 (atA20 V (Proc.devRef .tc main_c_41)))) (Host.remsi (atA20 V (Proc.devRef .tc main_v135)) (broadcastInDim S12256 ![] bcast_S_S12256 (constantI S_ 32 3#32)))) (broadcastInDim S12256 ![] bcast_S_S12256 (constantI S_ 32 1#32))) := by
  rw [endA19 V main_v142 (by decide), endA18 V main_c_41 (by decide), endA18 V main_v135 (by decide)]
  exact win_v142 _

set_option maxRecDepth 8192 in
set_option maxHeartbeats 2000000 in
theorem win_v145 (V : Valuation τ sig (Elt F)) : after opsA18 V (Proc.devRef .tc main_v145) =
    (addi (muli (V (Proc.devRef .tc main_v131)) (broadcastInDim S12256 ![] bcast_S_S12256 (constantI S_ 32 256#32))) (Host.divsi (V (Proc.devRef .tc main_v135)) (broadcastInDim S12256 ![] bcast_S_S12256 (V (Proc.devRef .tc main_c_41))))) := by
  simp only [opsA18]
  after_results_simp
  all_goals rfl
theorem val_v145 (V : Valuation τ sig (Elt F)) : atA20 V (Proc.devRef .tc main_v145) =
    (addi (muli (atA20 V (Proc.devRef .tc main_v131)) (broadcastInDim S12256 ![] bcast_S_S12256 (constantI S_ 32 256#32))) (Host.divsi (atA20 V (Proc.devRef .tc main_v135)) (broadcastInDim S12256 ![] bcast_S_S12256 (atA20 V (Proc.devRef .tc main_c_41))))) := by
  rw [endA19 V main_v145 (by decide), endA18 V main_c_41 (by decide), endA18 V main_v131 (by decide), endA18 V main_v135 (by decide)]
  exact win_v145 _

set_option maxRecDepth 8192 in
set_option maxHeartbeats 2000000 in
theorem win_v148 (V : Valuation τ sig (Elt F)) : after opsA18 V (Proc.devRef .tc main_v148) =
    (addi (muli (V (Proc.devRef .tc main_v131)) (broadcastInDim S12256 ![] bcast_S_S12256 (constantI S_ 32 3#32))) (Host.remsi (V (Proc.devRef .tc main_v135)) (broadcastInDim S12256 ![] bcast_S_S12256 (constantI S_ 32 3#32)))) := by
  simp only [opsA18]
  after_results_simp
  all_goals rfl
theorem val_v148 (V : Valuation τ sig (Elt F)) : atA20 V (Proc.devRef .tc main_v148) =
    (addi (muli (atA20 V (Proc.devRef .tc main_v131)) (broadcastInDim S12256 ![] bcast_S_S12256 (constantI S_ 32 3#32))) (Host.remsi (atA20 V (Proc.devRef .tc main_v135)) (broadcastInDim S12256 ![] bcast_S_S12256 (constantI S_ 32 3#32)))) := by
  rw [endA19 V main_v148 (by decide), endA18 V main_v131 (by decide), endA18 V main_v135 (by decide)]
  exact win_v148 _

set_option maxRecDepth 8192 in
set_option maxHeartbeats 2000000 in
theorem win_v154 (V : Valuation τ sig (Elt F)) : after opsA19 V (Proc.devRef .tc main_v154) =
    (select (cmpi .ne (Host.remsi (iotaInDim S8192x1 32 0) (broadcastInDim S8192x1 ![] bcast_S_S8192x1 (constantI S_ 32 128#32))) (broadcastInDim S8192x1 ![] bcast_S_S8192x1 (constantI S_ 32 0#32))) (broadcastInDim S8192x1 ![] bcast_S_S8192x1 (constant S_ .f32 0x3F800000#32)) (broadcastInDim S8192x1 ![] bcast_S_S8192x1 (constant S_ .f32 0x00000000#32))) := by
  simp only [opsA19]
  after_results_simp
  all_goals rfl
theorem val_v154 (V : Valuation τ sig (Elt F)) : atA20 V (Proc.devRef .tc main_v154) =
    (select (cmpi .ne (Host.remsi (iotaInDim S8192x1 32 0) (broadcastInDim S8192x1 ![] bcast_S_S8192x1 (constantI S_ 32 128#32))) (broadcastInDim S8192x1 ![] bcast_S_S8192x1 (constantI S_ 32 0#32))) (broadcastInDim S8192x1 ![] bcast_S_S8192x1 (constant S_ .f32 0x3F800000#32)) (broadcastInDim S8192x1 ![] bcast_S_S8192x1 (constant S_ .f32 0x00000000#32))) := by
  exact win_v154 _

set_option maxRecDepth 8192 in
set_option maxHeartbeats 2000000 in
theorem win_v157 (V : Valuation τ sig (Elt F)) : after opsA19 V (Proc.devRef .tc main_v157) =
    (select (cmpi .ne (Host.remsi (iotaInDim S8192x1 32 0) (broadcastInDim S8192x1 ![] bcast_S_S8192x1 (constantI S_ 32 128#32))) (broadcastInDim S8192x1 ![] bcast_S_S8192x1 (constantI S_ 32 127#32))) (broadcastInDim S8192x1 ![] bcast_S_S8192x1 (constant S_ .f32 0x3F800000#32)) (broadcastInDim S8192x1 ![] bcast_S_S8192x1 (constant S_ .f32 0x00000000#32))) := by
  simp only [opsA19]
  after_results_simp
  all_goals rfl
theorem val_v157 (V : Valuation τ sig (Elt F)) : atA20 V (Proc.devRef .tc main_v157) =
    (select (cmpi .ne (Host.remsi (iotaInDim S8192x1 32 0) (broadcastInDim S8192x1 ![] bcast_S_S8192x1 (constantI S_ 32 128#32))) (broadcastInDim S8192x1 ![] bcast_S_S8192x1 (constantI S_ 32 127#32))) (broadcastInDim S8192x1 ![] bcast_S_S8192x1 (constant S_ .f32 0x3F800000#32)) (broadcastInDim S8192x1 ![] bcast_S_S8192x1 (constant S_ .f32 0x00000000#32))) := by
  exact win_v157 _

set_option maxRecDepth 8192 in
set_option maxHeartbeats 2000000 in
theorem win_v163 (V : Valuation τ sig (Elt F)) : after opsA19 V (Proc.devRef .tc main_v163) =
    (select (cmpi .ne (Host.remsi (iotaInDim S4096x1 32 0) (broadcastInDim S4096x1 ![] bcast_S_S4096x1 (constantI S_ 32 64#32))) (broadcastInDim S4096x1 ![] bcast_S_S4096x1 (constantI S_ 32 0#32))) (broadcastInDim S4096x1 ![] bcast_S_S4096x1 (constant S_ .f32 0x3F800000#32)) (broadcastInDim S4096x1 ![] bcast_S_S4096x1 (constant S_ .f32 0x00000000#32))) := by
  simp only [opsA19]
  after_results_simp
  all_goals rfl
theorem val_v163 (V : Valuation τ sig (Elt F)) : atA20 V (Proc.devRef .tc main_v163) =
    (select (cmpi .ne (Host.remsi (iotaInDim S4096x1 32 0) (broadcastInDim S4096x1 ![] bcast_S_S4096x1 (constantI S_ 32 64#32))) (broadcastInDim S4096x1 ![] bcast_S_S4096x1 (constantI S_ 32 0#32))) (broadcastInDim S4096x1 ![] bcast_S_S4096x1 (constant S_ .f32 0x3F800000#32)) (broadcastInDim S4096x1 ![] bcast_S_S4096x1 (constant S_ .f32 0x00000000#32))) := by
  exact win_v163 _

set_option maxRecDepth 8192 in
set_option maxHeartbeats 2000000 in
theorem win_v166 (V : Valuation τ sig (Elt F)) : after opsA19 V (Proc.devRef .tc main_v166) =
    (select (cmpi .ne (Host.remsi (iotaInDim S4096x1 32 0) (broadcastInDim S4096x1 ![] bcast_S_S4096x1 (constantI S_ 32 64#32))) (broadcastInDim S4096x1 ![] bcast_S_S4096x1 (constantI S_ 32 63#32))) (broadcastInDim S4096x1 ![] bcast_S_S4096x1 (constant S_ .f32 0x3F800000#32)) (broadcastInDim S4096x1 ![] bcast_S_S4096x1 (constant S_ .f32 0x00000000#32))) := by
  simp only [opsA19]
  after_results_simp
  all_goals rfl
theorem val_v166 (V : Valuation τ sig (Elt F)) : atA20 V (Proc.devRef .tc main_v166) =
    (select (cmpi .ne (Host.remsi (iotaInDim S4096x1 32 0) (broadcastInDim S4096x1 ![] bcast_S_S4096x1 (constantI S_ 32 64#32))) (broadcastInDim S4096x1 ![] bcast_S_S4096x1 (constantI S_ 32 63#32))) (broadcastInDim S4096x1 ![] bcast_S_S4096x1 (constant S_ .f32 0x3F800000#32)) (broadcastInDim S4096x1 ![] bcast_S_S4096x1 (constant S_ .f32 0x00000000#32))) := by
  exact win_v166 _

/-! ## Stretch B -/

set_option maxRecDepth 8192 in
set_option maxHeartbeats 2000000 in
theorem win_v169 (V : Valuation τ sig (Elt F)) : after opsB0 V (Proc.devRef .tc main_v169) =
    (broadcastInDim S256x4096 ![] bcast_S_S256x4096 (constant S_ .f32 0x00000000#32)) := by
  simp only [opsB0]
  after_results_simp
  all_goals rfl
theorem val_v169 (V : Valuation τ sig (Elt F)) : atB4 V (Proc.devRef .tc main_v169) =
    (broadcastInDim S256x4096 ![] bcast_S_S256x4096 (constant S_ .f32 0x00000000#32)) := by
  rw [endB1 V main_v169 (by decide)]
  exact win_v169 _

set_option maxRecDepth 8192 in
set_option maxHeartbeats 2000000 in
theorem win_v170 (V : Valuation τ sig (Elt F)) : after opsB0 V (Proc.devRef .tc main_v170) =
    (shapeCast _ (V (Proc.devRef .tc main_arg1)) shapeCasts_S16x1x3_S48) := by
  simp only [opsB0]
  after_results_simp
  all_goals rfl
theorem val_v170 (V : Valuation τ sig (Elt F)) : atB4 V (Proc.devRef .tc main_v170) =
    (shapeCast _ (atB4 V (Proc.devRef .tc main_arg1)) shapeCasts_S16x1x3_S48) := by
  rw [endB1 V main_v170 (by decide), endB0 V main_arg1 (by decide)]
  exact win_v170 _

set_option maxRecDepth 8192 in
set_option maxHeartbeats 2000000 in
theorem win_v172 (V : Valuation τ sig (Elt F)) : after opsB0 V (Proc.devRef .tc main_v172) =
    (cmpi .slt (V (Proc.devRef .tc main_v148)) (broadcastInDim S12256 ![] bcast_S_S12256 (constantI S_ 32 0#32))) := by
  simp only [opsB0]
  after_results_simp
  all_goals rfl
theorem val_v172 (V : Valuation τ sig (Elt F)) : atB4 V (Proc.devRef .tc main_v172) =
    (cmpi .slt (atB4 V (Proc.devRef .tc main_v148)) (broadcastInDim S12256 ![] bcast_S_S12256 (constantI S_ 32 0#32))) := by
  rw [endB1 V main_v172 (by decide), endB0 V main_v148 (by decide)]
  exact win_v172 _

set_option maxRecDepth 8192 in
set_option maxHeartbeats 2000000 in
theorem win_v174 (V : Valuation τ sig (Elt F)) : after opsB0 V (Proc.devRef .tc main_v174) =
    (addi (V (Proc.devRef .tc main_v148)) (broadcastInDim S12256 ![] bcast_S_S12256 (constantI S_ 32 48#32))) := by
  simp only [opsB0]
  after_results_simp
  all_goals rfl
theorem val_v174 (V : Valuation τ sig (Elt F)) : atB4 V (Proc.devRef .tc main_v174) =
    (addi (atB4 V (Proc.devRef .tc main_v148)) (broadcastInDim S12256 ![] bcast_S_S12256 (constantI S_ 32 48#32))) := by
  rw [endB1 V main_v174 (by decide), endB0 V main_v148 (by decide)]
  exact win_v174 _

set_option maxRecDepth 8192 in
set_option maxHeartbeats 2000000 in
theorem win_v177 (V : Valuation τ sig (Elt F)) : after opsB1 V (Proc.devRef .tc main_v177) =
    (Host.gather gather_S48_S12256x1_S12256_n_0_n_n_0_1_1 (V (Proc.devRef .tc main_v170)) (broadcastInDim S12256x1 ![0] bcast_S12256_S12256x1_0 (select (V (Proc.devRef .tc main_v172)) (V (Proc.devRef .tc main_v174)) (V (Proc.devRef .tc main_v148))))) := by
  simp only [opsB1]
  after_results_simp
  all_goals rfl
theorem val_v177 (V : Valuation τ sig (Elt F)) : atB4 V (Proc.devRef .tc main_v177) =
    (Host.gather gather_S48_S12256x1_S12256_n_0_n_n_0_1_1 (atB4 V (Proc.devRef .tc main_v170)) (broadcastInDim S12256x1 ![0] bcast_S12256_S12256x1_0 (select (atB4 V (Proc.devRef .tc main_v172)) (atB4 V (Proc.devRef .tc main_v174)) (atB4 V (Proc.devRef .tc main_v148))))) := by
  rw [endB2 V main_v177 (by decide), endB1 V main_v148 (by decide), endB1 V main_v170 (by decide), endB1 V main_v172 (by decide), endB1 V main_v174 (by decide)]
  exact win_v177 _

set_option maxRecDepth 8192 in
set_option maxHeartbeats 2000000 in
theorem win_v188 (V : Valuation τ sig (Elt F)) : after opsB2 V (Proc.devRef .tc main_v188) =
    (broadcastInDim S12256x1 ![0] bcast_S12256_S12256x1_0 (select (cmpi .slt (V (Proc.devRef .tc main_v142)) (broadcastInDim S12256 ![] bcast_S_S12256 (constantI S_ 32 0#32))) (addi (V (Proc.devRef .tc main_v142)) (broadcastInDim S12256 ![] bcast_S_S12256 (constantI S_ 32 256#32))) (V (Proc.devRef .tc main_v142)))) := by
  simp only [opsB2]
  after_results_simp
  all_goals rfl
theorem val_v188 (V : Valuation τ sig (Elt F)) : atB4 V (Proc.devRef .tc main_v188) =
    (broadcastInDim S12256x1 ![0] bcast_S12256_S12256x1_0 (select (cmpi .slt (atB4 V (Proc.devRef .tc main_v142)) (broadcastInDim S12256 ![] bcast_S_S12256 (constantI S_ 32 0#32))) (addi (atB4 V (Proc.devRef .tc main_v142)) (broadcastInDim S12256 ![] bcast_S_S12256 (constantI S_ 32 256#32))) (atB4 V (Proc.devRef .tc main_v142)))) := by
  rw [endB3 V main_v188 (by decide), endB2 V main_v142 (by decide)]
  exact win_v188 _

set_option maxRecDepth 8192 in
set_option maxHeartbeats 2000000 in
theorem win_v189 (V : Valuation τ sig (Elt F)) : after opsB2 V (Proc.devRef .tc main_v189) =
    (broadcastInDim S12256x1 ![0] bcast_S12256_S12256x1_0 (select (cmpi .slt (V (Proc.devRef .tc main_v145)) (broadcastInDim S12256 ![] bcast_S_S12256 (constantI S_ 32 0#32))) (addi (V (Proc.devRef .tc main_v145)) (broadcastInDim S12256 ![] bcast_S_S12256 (constantI S_ 32 4096#32))) (V (Proc.devRef .tc main_v145)))) := by
  simp only [opsB2]
  after_results_simp
  all_goals rfl
theorem val_v189 (V : Valuation τ sig (Elt F)) : atB4 V (Proc.devRef .tc main_v189) =
    (broadcastInDim S12256x1 ![0] bcast_S12256_S12256x1_0 (select (cmpi .slt (atB4 V (Proc.devRef .tc main_v145)) (broadcastInDim S12256 ![] bcast_S_S12256 (constantI S_ 32 0#32))) (addi (atB4 V (Proc.devRef .tc main_v145)) (broadcastInDim S12256 ![] bcast_S_S12256 (constantI S_ 32 4096#32))) (atB4 V (Proc.devRef .tc main_v145)))) := by
  rw [endB3 V main_v189 (by decide), endB2 V main_v145 (by decide)]
  exact win_v189 _

set_option maxRecDepth 8192 in
set_option maxHeartbeats 2000000 in
theorem win_v191 (V : Valuation τ sig (Elt F)) : after opsB3 V (Proc.devRef .tc main_v191) =
    (Host.scatter scatter_S256x4096_S12256x2_S12256_n_01_01_1 (fun _ b => b) (V (Proc.devRef .tc main_v169)) (concatenate S12256x2 1 [⟨S12256x1, (V (Proc.devRef .tc main_v188))⟩, ⟨S12256x1, (V (Proc.devRef .tc main_v189))⟩] concatenates_S12256x1_S12256x1_S12256x2_d1) (V (Proc.devRef .tc main_v177))) := by
  simp only [opsB3]
  after_results_simp
  all_goals rfl
theorem val_v191 (V : Valuation τ sig (Elt F)) : atB4 V (Proc.devRef .tc main_v191) =
    (Host.scatter scatter_S256x4096_S12256x2_S12256_n_01_01_1 (fun _ b => b) (atB4 V (Proc.devRef .tc main_v169)) (concatenate S12256x2 1 [⟨S12256x1, (atB4 V (Proc.devRef .tc main_v188))⟩, ⟨S12256x1, (atB4 V (Proc.devRef .tc main_v189))⟩] concatenates_S12256x1_S12256x1_S12256x2_d1) (atB4 V (Proc.devRef .tc main_v177))) := by
  rw [endB3 V main_v169 (by decide), endB3 V main_v177 (by decide), endB3 V main_v188 (by decide), endB3 V main_v189 (by decide)]
  exact win_v191 _

set_option maxRecDepth 8192 in
set_option maxHeartbeats 2000000 in
theorem win_v194 (V : Valuation τ sig (Elt F)) : after opsB3 V (Proc.devRef .tc main_v194) =
    (shapeCast _ (shapeCast _ (broadcastInDim S16x256 ![0] bcast_S16_S16x256_0 (V (Proc.devRef .tc main_arg2))) shapeCasts_S16x256_S4096) shapeCasts_S4096_S1x4096) := by
  simp only [opsB3]
  after_results_simp
  all_goals rfl
theorem val_v194 (V : Valuation τ sig (Elt F)) : atB4 V (Proc.devRef .tc main_v194) =
    (shapeCast _ (shapeCast _ (broadcastInDim S16x256 ![0] bcast_S16_S16x256_0 (atB4 V (Proc.devRef .tc main_arg2))) shapeCasts_S16x256_S4096) shapeCasts_S4096_S1x4096) := by
  rw [endB3 V main_arg2 (by decide)]
  exact win_v194 _

/-! ## Stretch C -/

set_option maxRecDepth 8192 in
set_option maxHeartbeats 2000000 in
theorem win_v199 (V : Valuation τ sig (Elt F)) : after opsC0 V (Proc.devRef .tc main_v199) =
    (pad S8194x32 ![1, 0] ![1, 0] ![0, 0] (shapeCast _ (transpose S64x128x2x16 [0, 2, 3, 1] (shapeCast _ (V (Proc.devRef .tc main_v195)) shapeCasts_S64x4096_S64x16x128x2) transposes_S64x16x128x2_S64x128x2x16_0_2_3_1) shapeCasts_S64x128x2x16_S8192x32) (sitofp .f32 (constantI S_ 32 0#32)) pads_S8192x32_S8194x32_110_000 h_S_) := by
  simp only [opsC0]
  after_results_simp
  all_goals rfl
theorem val_v199 (V : Valuation τ sig (Elt F)) : atC1 V (Proc.devRef .tc main_v199) =
    (pad S8194x32 ![1, 0] ![1, 0] ![0, 0] (shapeCast _ (transpose S64x128x2x16 [0, 2, 3, 1] (shapeCast _ (atC1 V (Proc.devRef .tc main_v195)) shapeCasts_S64x4096_S64x16x128x2) transposes_S64x16x128x2_S64x128x2x16_0_2_3_1) shapeCasts_S64x128x2x16_S8192x32) (sitofp .f32 (constantI S_ 32 0#32)) pads_S8192x32_S8194x32_110_000 h_S_) := by
  rw [endC0 V main_v195 (by decide)]
  exact win_v199 _

set_option maxRecDepth 8192 in
set_option maxHeartbeats 2000000 in
theorem win_v202 (V : Valuation τ sig (Elt F)) : after opsC0 V (Proc.devRef .tc main_v202) =
    (transpose S16x32 [1, 0] (shapeCast _ (extractStridedSlice S32x16x1 ![0, 0, 0] (V (Proc.devRef .tc main_arg3)) slices_S32x16x3_S32x16x1_0_0_0) shapeCasts_S32x16x1_S32x16) transposes_S32x16_S16x32_1_0) := by
  simp only [opsC0]
  after_results_simp
  all_goals rfl
theorem val_v202 (V : Valuation τ sig (Elt F)) : atC1 V (Proc.devRef .tc main_v202) =
    (transpose S16x32 [1, 0] (shapeCast _ (extractStridedSlice S32x16x1 ![0, 0, 0] (atC1 V (Proc.devRef .tc main_arg3)) slices_S32x16x3_S32x16x1_0_0_0) shapeCasts_S32x16x1_S32x16) transposes_S32x16_S16x32_1_0) := by
  rw [endC0 V main_arg3 (by decide)]
  exact win_v202 _

set_option maxRecDepth 8192 in
set_option maxHeartbeats 2000000 in
theorem win_v205 (V : Valuation τ sig (Elt F)) : after opsC0 V (Proc.devRef .tc main_v205) =
    (transpose S16x32 [1, 0] (shapeCast _ (extractStridedSlice S32x16x1 ![0, 0, 1] (V (Proc.devRef .tc main_arg3)) slices_S32x16x3_S32x16x1_0_0_1) shapeCasts_S32x16x1_S32x16) transposes_S32x16_S16x32_1_0) := by
  simp only [opsC0]
  after_results_simp
  all_goals rfl
theorem val_v205 (V : Valuation τ sig (Elt F)) : atC1 V (Proc.devRef .tc main_v205) =
    (transpose S16x32 [1, 0] (shapeCast _ (extractStridedSlice S32x16x1 ![0, 0, 1] (atC1 V (Proc.devRef .tc main_arg3)) slices_S32x16x3_S32x16x1_0_0_1) shapeCasts_S32x16x1_S32x16) transposes_S32x16_S16x32_1_0) := by
  rw [endC0 V main_arg3 (by decide)]
  exact win_v205 _

set_option maxRecDepth 8192 in
set_option maxHeartbeats 2000000 in
theorem win_v208 (V : Valuation τ sig (Elt F)) : after opsC0 V (Proc.devRef .tc main_v208) =
    (transpose S16x32 [1, 0] (shapeCast _ (extractStridedSlice S32x16x1 ![0, 0, 2] (V (Proc.devRef .tc main_arg3)) slices_S32x16x3_S32x16x1_0_0_2) shapeCasts_S32x16x1_S32x16) transposes_S32x16_S16x32_1_0) := by
  simp only [opsC0]
  after_results_simp
  all_goals rfl
theorem val_v208 (V : Valuation τ sig (Elt F)) : atC1 V (Proc.devRef .tc main_v208) =
    (transpose S16x32 [1, 0] (shapeCast _ (extractStridedSlice S32x16x1 ![0, 0, 2] (atC1 V (Proc.devRef .tc main_arg3)) slices_S32x16x3_S32x16x1_0_0_2) shapeCasts_S32x16x1_S32x16) transposes_S32x16_S16x32_1_0) := by
  rw [endC0 V main_arg3 (by decide)]
  exact win_v208 _

set_option maxRecDepth 8192 in
set_option maxHeartbeats 2000000 in
theorem win_v209 (V : Valuation τ sig (Elt F)) : after opsC0 V (Proc.devRef .tc main_v209) =
    (shapeCast _ (V (Proc.devRef .tc main_arg4)) shapeCasts_S32_S1x32) := by
  simp only [opsC0]
  after_results_simp
  all_goals rfl
theorem val_v209 (V : Valuation τ sig (Elt F)) : atC1 V (Proc.devRef .tc main_v209) =
    (shapeCast _ (atC1 V (Proc.devRef .tc main_arg4)) shapeCasts_S32_S1x32) := by
  rw [endC0 V main_arg4 (by decide)]
  exact win_v209 _

/-! ## Stretch D -/

set_option maxRecDepth 8192 in
set_option maxHeartbeats 2000000 in
theorem win_v213 (V : Valuation τ sig (Elt F)) : after opsD0 V (Proc.devRef .tc main_v213) =
    (pad S4098x64 ![1, 0] ![1, 0] ![0, 0] (shapeCast _ (shapeCast _ (V (Proc.devRef .tc main_v210)) shapeCasts_S8192x32_S64x64x2x32) shapeCasts_S64x64x2x32_S4096x64) (sitofp .f32 (constantI S_ 32 0#32)) pads_S4096x64_S4098x64_110_000 h_S_) := by
  simp only [opsD0]
  after_results_simp
  all_goals rfl
theorem val_v213 (V : Valuation τ sig (Elt F)) : atD3 V (Proc.devRef .tc main_v213) =
    (pad S4098x64 ![1, 0] ![1, 0] ![0, 0] (shapeCast _ (shapeCast _ (atD3 V (Proc.devRef .tc main_v210)) shapeCasts_S8192x32_S64x64x2x32) shapeCasts_S64x64x2x32_S4096x64) (sitofp .f32 (constantI S_ 32 0#32)) pads_S4096x64_S4098x64_110_000 h_S_) := by
  rw [endD1 V main_v213 (by decide), endD0 V main_v210 (by decide)]
  exact win_v213 _

set_option maxRecDepth 8192 in
set_option maxHeartbeats 2000000 in
theorem win_v216 (V : Valuation τ sig (Elt F)) : after opsD0 V (Proc.devRef .tc main_v216) =
    (transpose S32x64 [1, 0] (shapeCast _ (extractStridedSlice S64x32x1 ![0, 0, 0] (V (Proc.devRef .tc main_arg5)) slices_S64x32x3_S64x32x1_0_0_0) shapeCasts_S64x32x1_S64x32) transposes_S64x32_S32x64_1_0) := by
  simp only [opsD0]
  after_results_simp
  all_goals rfl
theorem val_v216 (V : Valuation τ sig (Elt F)) : atD3 V (Proc.devRef .tc main_v216) =
    (transpose S32x64 [1, 0] (shapeCast _ (extractStridedSlice S64x32x1 ![0, 0, 0] (atD3 V (Proc.devRef .tc main_arg5)) slices_S64x32x3_S64x32x1_0_0_0) shapeCasts_S64x32x1_S64x32) transposes_S64x32_S32x64_1_0) := by
  rw [endD1 V main_v216 (by decide), endD0 V main_arg5 (by decide)]
  exact win_v216 _

set_option maxRecDepth 8192 in
set_option maxHeartbeats 2000000 in
theorem win_v219 (V : Valuation τ sig (Elt F)) : after opsD0 V (Proc.devRef .tc main_v219) =
    (transpose S32x64 [1, 0] (shapeCast _ (extractStridedSlice S64x32x1 ![0, 0, 1] (V (Proc.devRef .tc main_arg5)) slices_S64x32x3_S64x32x1_0_0_1) shapeCasts_S64x32x1_S64x32) transposes_S64x32_S32x64_1_0) := by
  simp only [opsD0]
  after_results_simp
  all_goals rfl
theorem val_v219 (V : Valuation τ sig (Elt F)) : atD3 V (Proc.devRef .tc main_v219) =
    (transpose S32x64 [1, 0] (shapeCast _ (extractStridedSlice S64x32x1 ![0, 0, 1] (atD3 V (Proc.devRef .tc main_arg5)) slices_S64x32x3_S64x32x1_0_0_1) shapeCasts_S64x32x1_S64x32) transposes_S64x32_S32x64_1_0) := by
  rw [endD1 V main_v219 (by decide), endD0 V main_arg5 (by decide)]
  exact win_v219 _

set_option maxRecDepth 8192 in
set_option maxHeartbeats 2000000 in
theorem win_v222 (V : Valuation τ sig (Elt F)) : after opsD0 V (Proc.devRef .tc main_v222) =
    (transpose S32x64 [1, 0] (shapeCast _ (extractStridedSlice S64x32x1 ![0, 0, 2] (V (Proc.devRef .tc main_arg5)) slices_S64x32x3_S64x32x1_0_0_2) shapeCasts_S64x32x1_S64x32) transposes_S64x32_S32x64_1_0) := by
  simp only [opsD0]
  after_results_simp
  all_goals rfl
theorem val_v222 (V : Valuation τ sig (Elt F)) : atD3 V (Proc.devRef .tc main_v222) =
    (transpose S32x64 [1, 0] (shapeCast _ (extractStridedSlice S64x32x1 ![0, 0, 2] (atD3 V (Proc.devRef .tc main_arg5)) slices_S64x32x3_S64x32x1_0_0_2) shapeCasts_S64x32x1_S64x32) transposes_S64x32_S32x64_1_0) := by
  rw [endD1 V main_v222 (by decide), endD0 V main_arg5 (by decide)]
  exact win_v222 _

set_option maxRecDepth 8192 in
set_option maxHeartbeats 2000000 in
theorem win_v223 (V : Valuation τ sig (Elt F)) : after opsD0 V (Proc.devRef .tc main_v223) =
    (shapeCast _ (V (Proc.devRef .tc main_arg6)) shapeCasts_S64_S1x64) := by
  simp only [opsD0]
  after_results_simp
  all_goals rfl
theorem val_v223 (V : Valuation τ sig (Elt F)) : atD3 V (Proc.devRef .tc main_v223) =
    (shapeCast _ (atD3 V (Proc.devRef .tc main_arg6)) shapeCasts_S64_S1x64) := by
  rw [endD1 V main_v223 (by decide), endD0 V main_arg6 (by decide)]
  exact win_v223 _

set_option maxRecDepth 8192 in
set_option maxHeartbeats 2000000 in
theorem win_v226 (V : Valuation τ sig (Elt F)) : after opsD1 V (Proc.devRef .tc main_v226) =
    (Host.divsi (iotaInDim S64x4096 32 1) (broadcastInDim S64x4096 ![] bcast_S_S64x4096 (constantI S_ 32 64#32))) := by
  simp only [opsD1]
  after_results_simp
  all_goals rfl
theorem val_v226 (V : Valuation τ sig (Elt F)) : atD3 V (Proc.devRef .tc main_v226) =
    (Host.divsi (iotaInDim S64x4096 32 1) (broadcastInDim S64x4096 ![] bcast_S_S64x4096 (constantI S_ 32 64#32))) := by
  rw [endD2 V main_v226 (by decide)]
  exact win_v226 _

set_option maxRecDepth 8192 in
set_option maxHeartbeats 2000000 in
theorem win_v227 (V : Valuation τ sig (Elt F)) : after opsD1 V (Proc.devRef .tc main_v227) =
    (iotaInDim S64x4096 32 0) := by
  simp only [opsD1]
  after_results_simp
  all_goals rfl
theorem val_v227 (V : Valuation τ sig (Elt F)) : atD3 V (Proc.devRef .tc main_v227) =
    (iotaInDim S64x4096 32 0) := by
  rw [endD2 V main_v227 (by decide)]
  exact win_v227 _

set_option maxRecDepth 8192 in
set_option maxHeartbeats 2000000 in
theorem win_v229 (V : Valuation τ sig (Elt F)) : after opsD2 V (Proc.devRef .tc main_v229) =
    (select (cmpi .eq (V (Proc.devRef .tc main_v226)) (V (Proc.devRef .tc main_v227))) (broadcastInDim S64x4096 ![] bcast_S_S64x4096 (constant S_ .f32 0x3C800000#32)) (broadcastInDim S64x4096 ![] bcast_S_S64x4096 (constant S_ .f32 0x00000000#32))) := by
  simp only [opsD2]
  after_results_simp
  all_goals rfl
theorem val_v229 (V : Valuation τ sig (Elt F)) : atD3 V (Proc.devRef .tc main_v229) =
    (select (cmpi .eq (atD3 V (Proc.devRef .tc main_v226)) (atD3 V (Proc.devRef .tc main_v227))) (broadcastInDim S64x4096 ![] bcast_S_S64x4096 (constant S_ .f32 0x3C800000#32)) (broadcastInDim S64x4096 ![] bcast_S_S64x4096 (constant S_ .f32 0x00000000#32))) := by
  rw [endD2 V main_v226 (by decide), endD2 V main_v227 (by decide)]
  exact win_v229 _

set_option maxRecDepth 8192 in
set_option maxHeartbeats 2000000 in
theorem win_v230 (V : Valuation τ sig (Elt F)) : after opsD2 V (Proc.devRef .tc main_v230) =
    (transpose S64x1 [1, 0] (V (Proc.devRef .tc main_arg7)) transposes_S1x64_S64x1_1_0) := by
  simp only [opsD2]
  after_results_simp
  all_goals rfl
theorem val_v230 (V : Valuation τ sig (Elt F)) : atD3 V (Proc.devRef .tc main_v230) =
    (transpose S64x1 [1, 0] (atD3 V (Proc.devRef .tc main_arg7)) transposes_S1x64_S64x1_1_0) := by
  rw [endD2 V main_arg7 (by decide)]
  exact win_v230 _

set_option maxRecDepth 8192 in
set_option maxHeartbeats 2000000 in
theorem win_v231 (V : Valuation τ sig (Elt F)) : after opsD2 V (Proc.devRef .tc main_v231) =
    (shapeCast _ (V (Proc.devRef .tc main_arg8)) shapeCasts_S1_S1x1) := by
  simp only [opsD2]
  after_results_simp
  all_goals rfl
theorem val_v231 (V : Valuation τ sig (Elt F)) : atD3 V (Proc.devRef .tc main_v231) =
    (shapeCast _ (atD3 V (Proc.devRef .tc main_arg8)) shapeCasts_S1_S1x1) := by
  rw [endD2 V main_arg8 (by decide)]
  exact win_v231 _

end Cert.Proof.Host

end
-- ==== Proof.Contents.lean ====
/-
  What the buffers of a device hold as @main goes: the launch contents, the stretches of host operations, the results of the four
  TensorCore kernels and of the SparseCore call, in turn.
-/
module

public import proofs.«01_k».proof.Proof.Launch
public import proofs.«01_k».proof.Proof.Fft
public import proofs.«01_k».proof.Proof.Head1
public import proofs.«01_k».proof.Proof.Head2
public import proofs.«01_k».proof.Proof.Head3
public import proofs.«01_k».proof.Proof.HostVals

@[expose] public section

noncomputable section

namespace Cert.Proof.Ring

open Cert.KernelIdeal Cert.KernelIdeal.Gen Cert.Proof.Host

open Idealize.ShloMosaic Idealize.ShloMosaic.StableHlo
open Idealize.ShloMosaic.TcCoe
open Idealize.ShloMosaic.SparseCore.Cfg (HIx)
open Idealize.SL Idealize.SL.RA Idealize.SL.Sem

variable {F : FTy → Type} [FloatOps F] [∀ e, Nonempty (Elt F e)]

/-- A valuation's contents, as the TensorCore addresses the buffers. -/
abbrev seen (V : Dev nD → Valuation τ sig (Elt F)) : (c : Dev nD) → Conts F c := fun c b => V c (Proc.devRef .tc b)

variable (m : (ℓ : Loc nD τ sig) → Buf (Elt F) ℓ)

/-- After the first stretch of host operations. -/
def V1 (d : Dev nD) : Valuation τ sig (Elt F) := atA20 (launchContents m d)
/-- What the transform's kernel leaves in its result. -/
def mags (d : Dev nD) : S64x256x256.Idx → F .f32 := (fftDat (seen (V1 m)) 0 d).arrAt 10 cfg0.N
def V2 (d : Dev nD) : Valuation τ sig (Elt F) := Function.update (V1 m d) (Proc.devRef .tc main_v167) (mags m d)
/-- The radius map. -/
def radii (d : Dev nD) : S256x256.Idx → BitVec 32 := V2 m d (Proc.devRef .tc main_v52)
/-- The ring sums. -/
def sums (d : Dev nD) : S64x512.Idx → F .f32 := ringSums (mags m d) (radii m d)
def V3 (d : Dev nD) : Valuation τ sig (Elt F) := Function.update (V2 m d) (Proc.devRef .tc main_v168) (sums m d)
def V4 (d : Dev nD) : Valuation τ sig (Elt F) := atB4 (V3 m d)
def head1Res (d : Dev nD) : S64x4096.Idx → F .f32 := (head1Dat (seen (V4 m)) 1 d).arrAt 4 cfg2.N
def V5 (d : Dev nD) : Valuation τ sig (Elt F) := Function.update (V4 m d) (Proc.devRef .tc main_v195) (head1Res m d)
def V6 (d : Dev nD) : Valuation τ sig (Elt F) := atC1 (V5 m d)
def head2Res (d : Dev nD) : S8192x32.Idx → F .f32 := (head2Dat (seen (V6 m)) 1 d).arrAt 7 cfg3.N
def V7 (d : Dev nD) : Valuation τ sig (Elt F) := Function.update (V6 m d) (Proc.devRef .tc main_v210) (head2Res m d)
def V8 (d : Dev nD) : Valuation τ sig (Elt F) := atD3 (V7 m d)
def finalRes (d : Dev nD) : S64x1.Idx → F .f32 := (head3Dat (seen (V8 m)) 1 d).arrAt 10 cfg4.N
def V9 (d : Dev nD) : Valuation τ sig (Elt F) := Function.update (V8 m d) (Proc.devRef .tc main_v232) (finalRes m d)

theorem upd_other (V : Valuation τ sig (Elt F)) (r : Ref sig .tc) (X) (b : Ref sig .tc) (h : b ≠ r) :
    Function.update V (Proc.devRef .tc r) X (Proc.devRef .tc b) = V (Proc.devRef .tc b) :=
  Function.update_of_ne (fun e => h (Proc.devRef_injective _ e)) _ _

/-! ## What each region leaves in its arrays -/

theorem fft_arr (V : Dev nD → Valuation τ sig (Elt F)) (n : ℕ) (c : Dev nD) (w : Fin 11) :
    (fftDat (seen V) n c).arrAt w cfg0.N
      = Function.update (V c) (Proc.devRef .tc main_v167) ((fftDat (seen V) n c).arrAt 10 cfg0.N) (Proc.devRef .tc (Pipeline.arrRef spec0 w)) := by
  by_cases h : w = 10
  · subst h
    have e (X : S64x256x256.Idx → F .f32) : X = Function.update (V c) (Proc.devRef .tc main_v167) X (Proc.devRef .tc main_v167) :=
      (Function.update_self (Proc.devRef .tc main_v167 : DevRef τ sig) X (V c)).symm
    exact e _
  · rw [upd_other _ _ _ _ ((by decide : ∀ w : Fin 11, w ≠ 10 → Pipeline.arrRef spec0 w ≠ main_v167) w h)]
    exact (fftDat (seen V) n c).arrAt_in w ((by decide : ∀ w : Fin 11, w ≠ 10 → (spec0 w).isOut = false) w h) _

theorem head1_arr (V : Dev nD → Valuation τ sig (Elt F)) (n : ℕ) (c : Dev nD) (w : Fin 5) :
    (head1Dat (seen V) n c).arrAt w cfg2.N
      = Function.update (V c) (Proc.devRef .tc main_v195) ((head1Dat (seen V) n c).arrAt 4 cfg2.N) (Proc.devRef .tc (Pipeline.arrRef spec2 w)) := by
  by_cases h : w = 4
  · subst h
    have e (X : S64x4096.Idx → F .f32) : X = Function.update (V c) (Proc.devRef .tc main_v195) X (Proc.devRef .tc main_v195) :=
      (Function.update_self (Proc.devRef .tc main_v195 : DevRef τ sig) X (V c)).symm
    exact e _
  · rw [upd_other _ _ _ _ ((by decide : ∀ w : Fin 5, w ≠ 4 → Pipeline.arrRef spec2 w ≠ main_v195) w h)]
    exact (head1Dat (seen V) n c).arrAt_in w ((by decide : ∀ w : Fin 5, w ≠ 4 → (spec2 w).isOut = false) w h) _

theorem head2_arr (V : Dev nD → Valuation τ sig (Elt F)) (n : ℕ) (c : Dev nD) (w : Fin 8) :
    (head2Dat (seen V) n c).arrAt w cfg3.N
      = Function.update (V c) (Proc.devRef .tc main_v210) ((head2Dat (seen V) n c).arrAt 7 cfg3.N) (Proc.devRef .tc (Pipeline.arrRef spec3 w)) := by
  by_cases h : w = 7
  · subst h
    have e (X : S8192x32.Idx → F .f32) : X = Function.update (V c) (Proc.devRef .tc main_v210) X (Proc.devRef .tc main_v210) :=
      (Function.update_self (Proc.devRef .tc main_v210 : DevRef τ sig) X (V c)).symm
    exact e _
  · rw [upd_other _ _ _ _ ((by decide : ∀ w : Fin 8, w ≠ 7 → Pipeline.arrRef spec3 w ≠ main_v210) w h)]
    exact (head2Dat (seen V) n c).arrAt_in w ((by decide : ∀ w : Fin 8, w ≠ 7 → (spec3 w).isOut = false) w h) _

theorem head3_arr (V : Dev nD → Valuation τ sig (Elt F)) (n : ℕ) (c : Dev nD) (w : Fin 11) :
    (head3Dat (seen V) n c).arrAt w cfg4.N
      = Function.update (V c) (Proc.devRef .tc main_v232) ((head3Dat (seen V) n c).arrAt 10 cfg4.N) (Proc.devRef .tc (Pipeline.arrRef spec4 w)) := by
  by_cases h : w = 10
  · subst h
    have e (X : S64x1.Idx → F .f32) : X = Function.update (V c) (Proc.devRef .tc main_v232) X (Proc.devRef .tc main_v232) :=
      (Function.update_self (Proc.devRef .tc main_v232 : DevRef τ sig) X (V c)).symm
    exact e _
  · rw [upd_other _ _ _ _ ((by decide : ∀ w : Fin 11, w ≠ 10 → Pipeline.arrRef spec4 w ≠ main_v232) w h)]
    exact (head3Dat (seen V) n c).arrAt_in w ((by decide : ∀ w : Fin 11, w ≠ 10 → (spec4 w).isOut = false) w h) _

/-- A buffer that is none of a region's arrays is not the one the region writes. -/
theorem ne_of_notMem {W : ℕ} {arr : Fin W → Ref sig .tc} {r b : Ref sig .tc} (w : Fin W) (hw : arr w = r) (h : b ∉ Finset.univ.image arr) : b ≠ r :=
  fun e => h (Finset.mem_image.mpr ⟨w, Finset.mem_univ _, hw.trans e.symm⟩)

theorem fft_rest (c : Dev nD) (b : Ref sig .tc) (h : b ∉ Finset.univ.image (Pipeline.arrRef spec0)) : seen (V2 m) c b = seen (V1 m) c b :=
  upd_other _ main_v167 _ b (ne_of_notMem 10 rfl h)
theorem head1_rest (c : Dev nD) (b : Ref sig .tc) (h : b ∉ Finset.univ.image (Pipeline.arrRef spec2)) : seen (V5 m) c b = seen (V4 m) c b :=
  upd_other _ main_v195 _ b (ne_of_notMem 4 rfl h)
theorem head2_rest (c : Dev nD) (b : Ref sig .tc) (h : b ∉ Finset.univ.image (Pipeline.arrRef spec3)) : seen (V7 m) c b = seen (V6 m) c b :=
  upd_other _ main_v210 _ b (ne_of_notMem 7 rfl h)
theorem head3_rest (c : Dev nD) (b : Ref sig .tc) (h : b ∉ Finset.univ.image (Pipeline.arrRef spec4)) : seen (V9 m) c b = seen (V8 m) c b :=
  upd_other _ main_v232 _ b (ne_of_notMem 10 rfl h)

/-- An argument holds at the end what it held at the launch. -/
theorem kept (d : Dev nD) (r : Ref sig .tc) (hA : r ∉ restA0) (hB : r ∉ restB0) (hC : r ∉ restC0) (hD : r ∉ restD0)
    (h : r ∉ ([main_v167, main_v168, main_v195, main_v210, main_v232] : List (Ref sig .tc))) :
    V9 m d (Proc.devRef .tc r) = m ((d.tc : Thread nD τ).loc r) := by
  simp only [List.mem_cons, List.not_mem_nil, or_false, not_or] at h
  obtain ⟨h1, h2, h3, h4, h5⟩ := h
  unfold V9; rw [upd_other _ _ _ _ h5]
  unfold V8; rw [endD0 _ r hD]; unfold atD0
  unfold V7; rw [upd_other _ _ _ _ h4]
  unfold V6; rw [endC0 _ r hC]; unfold atC0
  unfold V5; rw [upd_other _ _ _ _ h3]
  unfold V4; rw [endB0 _ r hB]; unfold atB0
  unfold V3; rw [upd_other _ _ _ _ h2]
  unfold V2; rw [upd_other _ _ _ _ h1]
  unfold V1; rw [endA0 _ r hA]; rfl

/-! ## The radii lie below 512 -/

/-- One step of the digit-by-digit root raises a bound by its digit. -/
theorem digit_le {s : Shape} (q : s.Idx → BitVec 1) (x b : s.Idx → BitVec 32) (i : s.Idx) (B A C : ℕ) (hC : A + B = C)
    (hx : (x i).toNat ≤ A) (hb : (b i).toNat = B) : (select q (addi x b) x i).toNat ≤ C := by
  show (if q i = 1#1 then x i + b i else x i).toNat ≤ C
  split
  · rw [BitVec.toNat_add]; exact (Nat.mod_le _ _).trans (by omega)
  · omega

theorem radii_lt (d : Dev nD) (i : S256x256.Idx) : (radii m d i).toNat < 512 := by
  have e : radii m d = atA20 (launchContents m d) (Proc.devRef .tc main_v52) := upd_other (V1 m d) main_v167 (mags m d) main_v52 (by decide)
  rw [e]
  generalize launchContents m d = V
  have h7 : ((atA20 V (Proc.devRef .tc main_v7) : S256x256.Idx → BitVec 32) i).toNat ≤ 0 := by rw [val_v7]; exact Nat.le_refl 0
  have h12 : ((atA20 V (Proc.devRef .tc main_v12) : S256x256.Idx → BitVec 32) i).toNat ≤ 256 := by
    rw [val_v12]; exact digit_le _ _ _ i 256 0 256 rfl h7 rfl
  have h17 : ((atA20 V (Proc.devRef .tc main_v17) : S256x256.Idx → BitVec 32) i).toNat ≤ 384 := by
    rw [val_v17]; exact digit_le _ _ _ i 128 256 384 rfl h12 rfl
  have h22 : ((atA20 V (Proc.devRef .tc main_v22) : S256x256.Idx → BitVec 32) i).toNat ≤ 448 := by
    rw [val_v22]; exact digit_le _ _ _ i 64 384 448 rfl h17 rfl
  have h27 : ((atA20 V (Proc.devRef .tc main_v27) : S256x256.Idx → BitVec 32) i).toNat ≤ 480 := by
    rw [val_v27]; exact digit_le _ _ _ i 32 448 480 rfl h22 rfl
  have h32 : ((atA20 V (Proc.devRef .tc main_v32) : S256x256.Idx → BitVec 32) i).toNat ≤ 496 := by
    rw [val_v32]; exact digit_le _ _ _ i 16 480 496 rfl h27 rfl
  have h37 : ((atA20 V (Proc.devRef .tc main_v37) : S256x256.Idx → BitVec 32) i).toNat ≤ 504 := by
    rw [val_v37]; exact digit_le _ _ _ i 8 496 504 rfl h32 rfl
  have h42 : ((atA20 V (Proc.devRef .tc main_v42) : S256x256.Idx → BitVec 32) i).toNat ≤ 508 := by
    rw [val_v42]; exact digit_le _ _ _ i 4 504 508 rfl h37 rfl
  have h47 : ((atA20 V (Proc.devRef .tc main_v47) : S256x256.Idx → BitVec 32) i).toNat ≤ 510 := by
    rw [val_v47]; exact digit_le _ _ _ i 2 508 510 rfl h42 rfl
  have h52 : ((atA20 V (Proc.devRef .tc main_v52) : S256x256.Idx → BitVec 32) i).toNat ≤ 511 := by
    rw [val_v52]; exact digit_le _ _ _ i 1 510 511 rfl h47 rfl
  exact Nat.lt_succ_of_le h52

end Cert.Proof.Ring

end
-- ==== Proof.Main.lean ====
/-
  The run of @main on a device: the host stretches, the four TensorCore regions and the SparseCore call, one after the other, and
  what the launch theorem then says of the whole program.
-/
module

public import proofs.«01_k».proof.Proof.Contents

@[expose] public section

noncomputable section

namespace Cert.Proof.Ring

open Cert.KernelIdeal Cert.KernelIdeal.Gen Cert.Proof.Host

open Idealize.ShloMosaic Idealize.ShloMosaic.StableHlo
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The steps of @main -/

/-- A stretch of host operations. -/
theorem host_step (d : Dev nD) (ops : List (HloOp τ sig (Elt F))) (hs : ∀ op ∈ ops, op.bufs ⊆ tcRefs τ sig) (hf : ∀ op ∈ ops, op.fresh = ∅)
    (V V' : Valuation τ sig (Elt F)) (hV : after ops V = V') {β : Type}
    (k : PUnit → Prog (TpuEff nD τ sig (Elt F) (SparseCore.Sig (ΛP (F := F)) 1) .tc) β) {Φ : β → sProp 𝕄} :
    iprop(boundary (d.tc : Thread nD τ) ∗ unscopedBufs d (fun b => V (Proc.devRef .tc b))
        ∗ (iprop(boundary (d.tc : Thread nD τ) ∗ unscopedBufs d (fun b => V' (Proc.devRef .tc b)))
            -∗ wp frame (wpE ((K (F := F)).defs (D (F := F))) 𝒱 (T d) none) Set.univ (k ⟨⟩) Φ))
      ⊢ wp frame (wpE ((K (F := F)).defs (D (F := F))) 𝒱 (T d) none) Set.univ (seq ops >>= k) Φ := by
  subst hV
  rw [Pipeline.unscopedBufs_held d V, Pipeline.unscopedBufs_held d (after ops V)]
  iintro ⟨Hb, Hh, Hk⟩
  iapply (StableHlo.wp_seq 𝒱 none Set.univ d (Pipeline.ucRefs τ sig) k ops (fun op h => Pipeline.sub_ucRefs op (hs op h)) hf V) $$ [Hb Hh]
  · isplitl [Hb] <;> iassumption
  iexact Hk

/-- The call of a pipelined kernel. -/
theorem call_step (pd : Dats F) (p : Fin 4) (n : ℕ) (V V' : (c : Dev nD) → Conts F c)
    (R : Pipeline.RegionSeg (pcfgs (F := F)) adm pd none defs₀ 𝒱₀ (K (F := F)).L (K (F := F)).lev p) (d : Dev nD)
    (hpre : R.pre d = iprop(unscopedBufs d (V d) ∗ owing (F := F) n d)) (hpost : R.post d = iprop(unscopedBufs d (V' d) ∗ owing (F := F) n d))
    {β : Type} (k : PUnit → Prog (TpuEff nD τ sig (Elt F) (SparseCore.Sig (ΛP (F := F)) 1) .tc) β) {Φ : β → sProp 𝕄} :
    iprop(levAts (K (F := F)).L (K (F := F)).lev ∗ boundary (d.tc : Thread nD τ) ∗ unscopedBufs d (V d) ∗ owing (F := F) n d
        ∗ Pipeline.cellsGhost (Pipeline.pin (pcfgs (F := F)) adm) EP p d ∗ Pipeline.toksInit (Pipeline.pin (pcfgs (F := F)) adm) EP p d
        ∗ (iprop(boundary (d.tc : Thread nD τ) ∗ unscopedBufs d (V' d) ∗ owing (F := F) n d)
            -∗ wp frame (wpE ((K (F := F)).defs (D (F := F))) 𝒱 (T d) none) Set.univ (k ⟨⟩) Φ))
      ⊢ wp frame (wpE ((K (F := F)).defs (D (F := F))) 𝒱 (T d) none) Set.univ (Host.call p >>= k) Φ := by
  rw [wp_bind]
  refine .trans ?_ (region_call pd p R d (Entails.of_eq hpre.symm) (Entails.of_eq hpost))
  iintro ⟨Hl, Hb, Hu, Ho, Hg, Ht, Hk⟩
  isplitl [Hl]; · iexact Hl
  isplitl [Hb]; · iexact Hb
  isplitl [Hu Ho]
  · isplitl [Hu] <;> iassumption
  isplitl [Hg]; · iexact Hg
  isplitl [Ht]; · iexact Ht
  iexact Hk

/-- What the TensorCore keeps for the SparseCore calls, besides what it owes. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owing n d ∗ tcRest d n) := rfl

/-! ## The arrays of the SparseCore call, out of all the buffers -/

abbrev hbmRefs : Finset (Ref sig .tc) := Finset.univ.filter fun b : Ref sig .tc => ¬ b.isScoped

def others (d : Dev nD) (W : Conts F d) : sProp 𝕄 :=
  bigSep (((hbmRefs.erase main_v167).erase main_v52).erase main_v168) fun b => ((d.tc : Thread nD τ).loc b) ↦{fullShare} W b

theorem bufs_split (d : Dev nD) (W : Conts F d) : (unscopedBufs d W : sProp 𝕄)
    = iprop((magLoc d ↦{fullShare} W main_v167) ∗ (radLoc d ↦{fullShare} W main_v52) ∗ (sumLoc d ↦{fullShare} W main_v168) ∗ others d W) := by
  have h1 : main_v167 ∈ hbmRefs := Finset.mem_filter.mpr ⟨Finset.mem_univ _, by decide⟩
  have h2 : main_v52 ∈ hbmRefs.erase main_v167 := Finset.mem_erase.mpr ⟨by decide, Finset.mem_filter.mpr ⟨Finset.mem_univ _, by decide⟩⟩
  have h3 : main_v168 ∈ (hbmRefs.erase main_v167).erase main_v52 :=
    Finset.mem_erase.mpr ⟨by decide, Finset.mem_erase.mpr ⟨by decide, Finset.mem_filter.mpr ⟨Finset.mem_univ _, by decide⟩⟩⟩
  unfold unscopedBufs others
  rw [show (Finset.univ.filter fun b : Ref sig .tc => ¬ b.isScoped) = hbmRefs from rfl]
  rw [show bigSep hbmRefs (fun b => ((d.tc : Thread nD τ).loc b) ↦{fullShare} W b : Ref sig .tc → sProp 𝕄)
      = bigSep (insert main_v167 (insert main_v52 (insert main_v168 (((hbmRefs.erase main_v167).erase main_v52).erase main_v168)))) _ from by
    rw [Finset.insert_erase h3, Finset.insert_erase h2, Finset.insert_erase h1]]
  rw [SparseCore.bigSep_insert' (by rw [Finset.insert_erase h3, Finset.insert_erase h2]; exact Finset.notMem_erase _ _),
    SparseCore.bigSep_insert' (by rw [Finset.insert_erase h3]; exact Finset.notMem_erase _ _),
    SparseCore.bigSep_insert' (Finset.notMem_erase _ _)]

theorem others_congr (d : Dev nD) (W W' : Conts F d) (h : ∀ b, b ≠ main_v168 → W b = W' b) : (others d W : sProp 𝕄) = others d W' := by
  unfold others
  exact bigSep_congr fun b hb => by rw [h b (Finset.ne_of_mem_erase hb)]

/-! ## The launch element -/

abbrev uP : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

theorem own_EP : (BI.own (((Emb.inl : Emb UP (UP × Counters)).trans embR) (uP (F := F))) : sProp 𝕄) ⊢ BI.own (EP (uP (F := F))) :=
  Entails.of_eq rfl

/-- The rounds a device's core starts its four regions with. -/
def ghosts (d : Dev nD) : sProp 𝕄 :=
  iprop((bigSep Finset.univ fun p : Fin 4 => Pipeline.cellsGhost (Pipeline.pin (pcfgs (F := F)) adm) EP p d)
    ∗ bigSep Finset.univ fun p : Fin 4 => Pipeline.toksInit (Pipeline.pin (pcfgs (F := F)) adm) EP p d)

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem none_held {I : Type} (s : Finset I) : (bigSep s fun _ => iprop(emp)) = (iprop(emp) : sProp 𝕄) := bigSep_emp_const s

theorem hu₀ (Mf : Dev nD → S64x256x256.Idx → F .f32) (Rf : Dev nD → S256x256.Idx → BitVec 32) (f0 : Dev nD → S64x512.Idx → F .f32) :
    (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P Mf Rf f0).x q thr) := by
  unfold u₀
  iintro Hu
  ihave H := (ownU_pair _ _) $$ Hu
  icases H with ⟨HH, HR⟩
  ihave HR' := (own_pair_emb embR _ _) $$ HR
  icases HR' with ⟨HP0, -⟩
  ihave HP := (own_EP (F := F)) $$ HP0
  imod (Pipeline.fund_ghost (Pipeline.pin (pcfgs (F := F)) adm) EP cellOf_inj) $$ HP with ⟨Hg, Ht⟩
  imodintro
  isplitl [HH]; · iexact HH
  isplitl [Hg Ht]
  · unfold ghosts; rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => none_held _, none_held]]
  iempintro

/-! ## @main -/

variable (m : (ℓ : Loc nD τ sig) → Buf (Elt F) ℓ) (ρ : Dev nD → PrngReg)

/-- What the SparseCore call is handed and gives back. -/
abbrev PM : (K (F := F)).Pay (nD := nD) (Val := Elt F) (Name := ℕ) (U := UU) :=
  P (mags m) (radii m) (fun d => V2 m d (Proc.devRef .tc main_v168))

abbrev FIN (d : Dev nD) : sProp 𝕄 := unscopedBufs d (seen (V9 m) d)

theorem sc_in (d : Dev nD) : (unscopedBufs d (seen (V2 m) d) : sProp 𝕄)
    ⊢ iprop((bigSep Finset.univ fun c : Fin ((K (F := F)).nCore 0) => (PM m).st 0 d c) ∗ others d (seen (V2 m) d)) := by
  rw [bufs_split, st0_eq]
  rw [show seen (V2 m) d main_v167 = mags m d from Function.update_self (Proc.devRef .tc main_v167 : DevRef τ sig) _ _]
  iintro ⟨Ha, Hb, Hc, Hr⟩
  isplitr [Hr]; swap; · iexact Hr
  isplitl [Ha]; · iexact Ha
  isplitl [Hb]; · iexact Hb
  iexact Hc

theorem sc_out (d : Dev nD) :
    iprop((bigSep Finset.univ fun c : Fin ((K (F := F)).nCore 0) => (PM m).dn 0 d c) ∗ others d (seen (V2 m) d))
      ⊢ (unscopedBufs d (seen (V3 m) d) : sProp 𝕄) := by
  rw [bufs_split, dn0_eq]
  rw [show seen (V3 m) d main_v168 = ringSums (mags m d) (radii m d) from Function.update_self (Proc.devRef .tc main_v168 : DevRef τ sig) _ _,
    show seen (V3 m) d main_v167 = mags m d from
      (upd_other (V2 m d) main_v168 (sums m d) main_v167 (by decide)).trans (Function.update_self (Proc.devRef .tc main_v167 : DevRef τ sig) _ _),
    show seen (V3 m) d main_v52 = radii m d from upd_other (V2 m d) main_v168 (sums m d) main_v52 (by decide),
    others_congr d (seen (V3 m) d) (seen (V2 m) d) (fun b h => upd_other (V2 m d) main_v168 (sums m d) b h)]
  iintro ⟨⟨Ha, Hb, Hc⟩, Hr⟩
  isplitl [Ha]; · iexact Ha
  isplitl [Hb]; · iexact Hb
  isplitl [Hc] <;> iassumption

set_option maxHeartbeats 1000000 in
theorem hmain (κ : GSem nD τ sig → ℕ) (d : Dev nD) :
    iprop((K (F := F)).ctx EH (PM m) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [Host.main_eq, tcSt_eq]
  unfold SparseCore.Cfg.tcRes SparseCore.Cfg.tcEnd ghosts
  rw [fin4, fin4]
  iintro ⟨#Hctx, ⟨Ho, Hr⟩, ⟨Hb, Hu, Hts, -⟩, ⟨Hg0, Hg1, Hg2, Hg3⟩, Ht0, Ht1, Ht2, Ht3⟩
  ihave #Hlev := (SparseCore.Cfg.ctx_levAts κ) $$ Hctx
  iapply (host_step d opsA opsA_sub opsA_fresh (launchContents m d) (V1 m d) (after_opsA _) _)
  isplitl [Hb]; · iexact Hb
  isplitl [Hu]; · iexact Hu
  iintro ⟨Hb, Hu⟩
  iapply (call_step (fftDats (seen (V1 m)) 0) 0 0 (seen (V1 m)) (seen (V2 m)) (fftReg (seen (V1 m)) (seen (V2 m)) 0 (fft_arr (V1 m) 0) (fft_rest m)) d rfl rfl _)
  isplitr; · iexact Hlev
  isplitl [Hb]; · iexact Hb
  isplitl [Hu]; · iexact Hu
  isplitl [Ho]; · iexact Ho
  isplitl [Hg0]; · iexact Hg0
  isplitl [Ht0]; · iexact Ht0
  iintro ⟨Hb, Hu, Ho⟩
  rw [wp_bind]
  ihave Hst := (Entails.of_eq (tcSt_eq (F := F) d 0).symm) $$ [Ho Hr]
  · isplitl [Ho] <;> iassumption
  ihave Hs := (sc_in m d) $$ Hu
  icases Hs with ⟨Hs, Hrest⟩
  iapply ((K (F := F)).wp_run (D (F := F)) 𝒱 (EH := EH) (P := PM m) κ d 0)
  isplitr; · iexact Hctx
  isplitl [Hst]; · iexact Hst
  isplitl [Hs]; · iexact Hs
  iintro ⟨Hst, Hdn⟩
  ihave Hu := (sc_out m d) $$ [Hdn Hrest]
  · isplitl [Hdn] <;> iassumption
  ihave Hs := (Entails.of_eq (show ((K (F := F)).tcSt EH d ((0 : Fin 1).val + 1) : sProp 𝕄) = iprop(owing 1 d ∗ tcRest d 1) from rfl)) $$ Hst
  icases Hs with ⟨Ho, Hr⟩
  iapply (host_step d opsB opsB_sub opsB_fresh (V3 m d) (V4 m d) (after_opsB _) _)
  isplitl [Hb]; · iexact Hb
  isplitl [Hu]; · iexact Hu
  iintro ⟨Hb, Hu⟩
  iapply (call_step (head1Dats (seen (V4 m)) 1) 1 1 (seen (V4 m)) (seen (V5 m)) (head1Reg (seen (V4 m)) (seen (V5 m)) 1 (head1_arr (V4 m) 1) (head1_rest m)) d rfl rfl _)
  isplitr; · iexact Hlev
  isplitl [Hb]; · iexact Hb
  isplitl [Hu]; · iexact Hu
  isplitl [Ho]; · iexact Ho
  isplitl [Hg1]; · iexact Hg1
  isplitl [Ht1]; · iexact Ht1
  iintro ⟨Hb, Hu, Ho⟩
  iapply (host_step d opsC opsC_sub opsC_fresh (V5 m d) (V6 m d) (after_opsC _) _)
  isplitl [Hb]; · iexact Hb
  isplitl [Hu]; · iexact Hu
  iintro ⟨Hb, Hu⟩
  iapply (call_step (head2Dats (seen (V6 m)) 1) 2 1 (seen (V6 m)) (seen (V7 m)) (head2Reg (seen (V6 m)) (seen (V7 m)) 1 (head2_arr (V6 m) 1) (head2_rest m)) d rfl rfl _)
  isplitr; · iexact Hlev
  isplitl [Hb]; · iexact Hb
  isplitl [Hu]; · iexact Hu
  isplitl [Ho]; · iexact Ho
  isplitl [Hg2]; · iexact Hg2
  isplitl [Ht2]; · iexact Ht2
  iintro ⟨Hb, Hu, Ho⟩
  iapply (host_step d opsD opsD_sub opsD_fresh (V7 m d) (V8 m d) (after_opsD _) _)
  isplitl [Hb]; · iexact Hb
  isplitl [Hu]; · iexact Hu
  iintro ⟨Hb, Hu⟩
  iapply (call_step (head3Dats (seen (V8 m)) 1) 3 1 (seen (V8 m)) (seen (V9 m)) (head3Reg (seen (V8 m)) (seen (V9 m)) 1 (head3_arr (V8 m) 1) (head3_rest m)) d rfl rfl _)
  isplitr; · iexact Hlev
  isplitl [Hb]; · iexact Hb
  isplitl [Hu]; · iexact Hu
  isplitl [Ho]; · iexact Ho
  isplitl [Hg3]; · iexact Hg3
  isplitl [Ht3]; · iexact Ht3
  iintro ⟨Hb, Hu, Ho⟩
  rw [wp_pure]
  imodintro
  ihave Hst := (Entails.of_eq (tcSt_eq (F := F) d 1).symm) $$ [Ho Hr]
  · isplitl [Ho] <;> iassumption
  isplitl [Hst]; · iexact Hst
  isplitl [Hu]; · iexact Hu
  isplitl [Hb] <;> iassumption

/-- What the final memory holds: every buffer of the device what the last step leaves in it. -/
def fq (d : Dev nD) (s' : Phys nD τ sig (Elt F)) : Prop :=
  ∀ b : Ref sig .tc, b.isScoped = false → s'.mem.mem ((d.tc : Thread nD τ).loc b) = V9 m d (Proc.devRef .tc b)

theorem hfin (d : Dev nD) (s' : Phys nD τ sig (Elt F)) : iprop(FIN m d ∗ SI s') ⊢ (⌜fq m d s'⌝ : sProp 𝕄) := by
  refine .trans ?_ (pure_forall (PROP := sProp 𝕄)).2
  refine forall_intro fun b => ?_
  by_cases hb : b.isScoped = false
  · refine .trans ?_ (Laws.pure_mono fun h _ => h)
    refine .trans (sep_mono_left (bigSep_elim (Φ := fun b : Ref sig .tc => (((d.tc : Thread nD τ).loc b) ↦{fullShare} seen (V9 m) d b : sProp 𝕄))
      (show b ∈ hbmRefs from Finset.mem_filter.mpr ⟨Finset.mem_univ _, by simp [hb]⟩))) ?_
    iintro ⟨Hb, HSI⟩
    ihave H := (SI_pointsTo_agree (st := s') (ℓ := (d.tc : Thread nD τ).loc b) (I := Finset.univ) (q := fullShare) (f := seen (V9 m) d b)) $$ [HSI Hb]
    · isplitl [HSI] <;> iassumption
    icases H with %h
    ipureintro
    exact funext fun i => h i (Finset.mem_univ i)
  · exact BIClass.pure_intro fun h => absurd h hb

/-- The final memory of a run: the arguments as they were, the result what the last kernel leaves, nothing pending. -/
def QC : PUnit × MemSt nD τ sig (Elt F) → Prop := fun r =>
  (∀ c : Dev nD, ∀ b : Ref sig .tc, b.isScoped = false → r.2.mem ((c.tc : Thread nD τ).loc b) = V9 m c (Proc.devRef .tc b)) ∧ r.2.sem = fun _ => 0

/-- Every run ends, at the contents of the last step. -/
theorem run_main :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ facts (radii_lt m))
    (fun q _ => match q with | 0 => SparseCore.Cfg.VecSplit.of_plain (vecSplit _ _ _))
    m ρ main ghosts (FIN m) (u₀ (F := F)) (sep_elim_left.trans (hu₀ _ _ _)) (hmain m ρ) (fq m) (hfin m) (QC m) (fun _ h hz => ⟨h, hz⟩)

end Cert.Proof.Ring

end
-- ==== Proof.Layers.lean ====
/-
  A layer over a row of positions: three neighbouring positions weighted and added over the channels, a bias, the positive part; and
  the larger of each pair of neighbours.
-/
module

public import Idealize.ShloMosaic.PureOps.Ideal.Laws

@[expose] public section

noncomputable section

namespace Cert.Proof.Layers

open scoped BigOperators

/-- A row of `N` values with a zero on either side. -/
def padded (N : ℕ) (f : ℕ → EReal) (i : ℕ) : EReal := if 0 < i ∧ i ≤ N then f (i - 1) else 0

/-- The layer of `C` channels of `N` positions. -/
def layer (C N : ℕ) (W : ℕ → ℕ → ℕ → EReal) (β : ℕ → EReal) (x : ℕ → ℕ → EReal) (o t : ℕ) : EReal :=
  max ((((∑ c : Fin C, W o c.val 0 * padded N (x c.val) t) + ∑ c : Fin C, W o c.val 1 * padded N (x c.val) (t + 1))
    + ∑ c : Fin C, W o c.val 2 * padded N (x c.val) (t + 2)) + β o) 0

/-- The larger of each pair. -/
def pairs (x : ℕ → ℕ → EReal) (c t : ℕ) : EReal := max (x c (2 * t)) (x c (2 * t + 1))

theorem layer_nonneg (C N : ℕ) (W : ℕ → ℕ → ℕ → EReal) (β : ℕ → EReal) (x : ℕ → ℕ → EReal) (o t : ℕ) : 0 ≤ layer C N W β x o t := le_max_right _ _

/-- An array's entries by number. -/
def at1 {n : ℕ} (x : (⟨1, ![n]⟩ : Idealize.ShloMosaic.Shape).Idx → EReal) (i : ℕ) : EReal := if h : i < n then x (fun | 0 => ⟨i, h⟩) else 0
def at3 {n k l : ℕ} (x : (⟨3, ![n, k, l]⟩ : Idealize.ShloMosaic.Shape).Idx → EReal) (i j q : ℕ) : EReal :=
  if h : i < n ∧ j < k ∧ q < l then x (fun | 0 => ⟨i, h.1⟩ | 1 => ⟨j, h.2.1⟩ | 2 => ⟨q, h.2.2⟩) else 0

end Cert.Proof.Layers

end
-- ==== Proof.Reads.lean ====
/-
  Layout operations and products over two axes read at an index given by its coordinates, over the extended reals.
-/
module

public import Idealize.ShloMosaic.Lib.MatmulPlain
public import Idealize.ShloMosaic.Lib.StackMember
public import Idealize.ShloMosaic.Lib.ValueIdx
public import Idealize.ShloMosaic.Lib.Pipeline.Value
public import Idealize.ShloMosaic.PureOps.Ideal.Laws

@[expose] public section

noncomputable section

namespace Cert.Proof.Reads

open Idealize.ShloMosaic Idealize.ShloMosaic.ValueIdx
open scoped BigOperators

variable {α : Type} {m n k : ℕ}

/-- A product of two matrices into zeros. -/
theorem mm {d : DotDims ⟨2, ![m, k]⟩ ⟨2, ![k, n]⟩ ⟨2, ![m, n]⟩} (hd : d = DotDims.plain m k n) (prec : Option ContractPrecision)
    (A : FVec Ideal ⟨2, ![m, k]⟩ .f32) (B : FVec Ideal ⟨2, ![k, n]⟩ .f32) (r : Fin m) (c : Fin n) :
    (matmul d prec A B (constant _ .f32 0x00000000#32) : FVec Ideal ⟨2, ![m, n]⟩ .f32) (ix2 r c) = ∑ i : Fin k, A (ix2 r i) * B (ix2 i c) := by
  subst hd
  refine (Ideal.matmul_plain_apply prec A B _ r c).trans ?_
  show Ideal.ofBits .f32 0x00000000#32 + _ = _
  rw [Ideal.ofBits_zero_f32, zero_add]

/-- One column spread over many. -/
theorem col_spread (x : (⟨2, ![m, 1]⟩ : Shape).Idx → α) (h : (⟨2, ![m, 1]⟩ : Shape).Broadcasts ⟨2, ![m, n]⟩) (r : Fin m) (c : Fin n) :
    broadcastTo ⟨2, ![m, n]⟩ x h (ix2 r c) = x (ix2 r 0) := by
  refine broadcastTo_apply x h (ix2 r c) (ix2 r 0) fun a => ?_
  match a with
  | ⟨0, _⟩ =>
    show r.val = if m = 1 then 0 else r.val
    split
    · have := r.isLt; omega
    · rfl
  | ⟨1, _⟩ => rfl

/-- One row spread over many. -/
theorem row_spread (x : (⟨2, ![1, n]⟩ : Shape).Idx → α) (h : (⟨2, ![1, n]⟩ : Shape).Broadcasts ⟨2, ![m, n]⟩) (r : Fin m) (c : Fin n) :
    broadcastTo ⟨2, ![m, n]⟩ x h (ix2 r c) = x (ix2 0 c) := by
  refine broadcastTo_apply x h (ix2 r c) (ix2 0 c) fun a => ?_
  match a with
  | ⟨0, _⟩ => rfl
  | ⟨1, _⟩ =>
    show c.val = if n = 1 then 0 else c.val
    split
    · have := c.isLt; omega
    · rfl

/-- A block of a matrix. -/
theorem block2 {m' n' : ℕ} (o p : ℕ) (x : (⟨2, ![m, n]⟩ : Shape).Idx → α) (h : (⟨2, ![m, n]⟩ : Shape).Slices ![o, p] ⟨2, ![m', n']⟩)
    (r : Fin m') (c : Fin n') (R : Fin m) (C : Fin n) (hR : R.val = o + r.val) (hC : C.val = p + c.val) :
    extractStridedSlice ⟨2, ![m', n']⟩ ![o, p] x h (ix2 r c) = x (ix2 R C) := by
  refine extractStridedSlice_apply _ x h (ix2 r c) (ix2 R C) fun a => ?_
  match a with
  | ⟨0, _⟩ => exact hR
  | ⟨1, _⟩ => exact hC

/-- A load of a block of a matrix. -/
theorem ld2 {m' n' : ℕ} (o p : ℕ) (x : (⟨2, ![m, n]⟩ : Shape).Idx → EReal) (inb : ∀ a, (![o, p] : Fin 2 → ℕ) a + (![m', n'] : Fin 2 → ℕ) a ≤ (⟨2, ![m, n]⟩ : Shape).size a)
    (r : Fin m') (c : Fin n') (R : Fin m) (C : Fin n) (hR : R.val = o + r.val) (hC : C.val = p + c.val) :
    (View.ld (Val := Elt Ideal) (e' := .f32) x (Rect.unit (s := ⟨2, ![m, n]⟩) ![o, p] ![m', n'] inb)) (ix2 r c) = x (ix2 R C) := by
  refine (congrFun (View.ld_unit (Val := Elt Ideal) (e := .f32) x ![o, p] ![m', n'] inb) (ix2 r c)).trans ?_
  exact block2 o p x _ r c R C hR hC

/-- A load of the whole of a matrix. -/
theorem ld2_whole (x : (⟨2, ![m, n]⟩ : Shape).Idx → EReal) (inb : ∀ a, (![0, 0] : Fin 2 → ℕ) a + (![m, n] : Fin 2 → ℕ) a ≤ (⟨2, ![m, n]⟩ : Shape).size a) :
    View.ld (Val := Elt Ideal) (e' := .f32) x (Rect.unit (s := ⟨2, ![m, n]⟩) ![0, 0] ![m, n] inb) = x :=
  View.ld_unit_zero (Val := Elt Ideal) (e := .f32) (S := ⟨2, ![m, n]⟩) (off := ![0, 0]) (by funext a; match a with | ⟨0, _⟩ => rfl | ⟨1, _⟩ => rfl) inb x

/-- A vector as a column. -/
theorem cast_col (x : (⟨1, ![m]⟩ : Shape).Idx → α) (h : (⟨1, ![m]⟩ : Shape).ShapeCasts ⟨2, ![m, 1]⟩) (r : Fin m) :
    shapeCast ⟨2, ![m, 1]⟩ x h (ix2 r 0) = x (ix1 r) := by
  refine shapeCast_apply x h (ix2 r 0) (ix1 r) ?_
  rw [Shape.rowMajor_val_one, Shape.rowMajor_val_two]
  show r.val = r.val * 1 + 0
  omega

/-- A vector as a row. -/
theorem cast_row (x : (⟨1, ![n]⟩ : Shape).Idx → α) (h : (⟨1, ![n]⟩ : Shape).ShapeCasts ⟨2, ![1, n]⟩) (c : Fin n) :
    shapeCast ⟨2, ![1, n]⟩ x h (ix2 0 c) = x (ix1 c) := by
  refine shapeCast_apply x h (ix2 0 c) (ix1 c) ?_
  rw [Shape.rowMajor_val_one, Shape.rowMajor_val_two]
  show c.val = 0 * n + c.val
  omega

/-- A sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Proof.Reads

end
-- ==== Proof.Dft.lean ====
/-
  The roots of unity of order 512, the two-dimensional transform they make of a real picture, and the step by which the even and the
  odd frequencies along one axis are found from two transforms of half the length. Plain mathematics: nothing here reads the program.
-/
module

public import Idealize.ShloMosaic.PureOps.Ideal.Laws
public import Mathlib.Analysis.SpecialFunctions.Trigonometric.Basic

@[expose] public section

noncomputable section

namespace Cert.Proof.Dft

open scoped BigOperators
open Finset

/-- The angle of one step. -/
def step : ℝ := 2 * Real.pi / 512

/-- The root of unity of order 512 at the exponent `-n`. -/
def E (n : ℤ) : ℂ := ⟨Real.cos (step * n), -Real.sin (step * n)⟩

theorem E_re (n : ℤ) : (E n).re = Real.cos (step * n) := rfl
theorem E_im (n : ℤ) : (E n).im = -Real.sin (step * n) := rfl

theorem E_add (a b : ℤ) : E (a + b) = E a * E b := by
  apply Complex.ext
  · simp only [Complex.mul_re, E_re, E_im, Int.cast_add, mul_add, Real.cos_add]; ring
  · simp only [Complex.mul_im, E_re, E_im, Int.cast_add, mul_add, Real.sin_add]; ring

theorem E_neg (a : ℤ) : E (-a) = (starRingEnd ℂ) (E a) := by
  apply Complex.ext
  · simp [E_re]
  · simp [E_im]

/-- A whole turn changes nothing. -/
theorem E_turn (a k : ℤ) : E (a + 512 * k) = E a := by
  have h : step * ((a + 512 * k : ℤ) : ℝ) = step * a + k * (2 * Real.pi) := by
    simp only [step]; push_cast; ring
  apply Complex.ext
  · rw [E_re, E_re, h, Real.cos_add_int_mul_two_pi]
  · rw [E_im, E_im, h, Real.sin_add_int_mul_two_pi]

/-- Half a turn changes the sign. -/
theorem E_half (a : ℤ) : E (a + 256) = -E a := by
  have h : step * ((a + 256 : ℤ) : ℝ) = step * a + Real.pi := by
    simp only [step]; push_cast; ring
  apply Complex.ext
  · rw [E_re, h, Real.cos_add_pi]; rfl
  · rw [E_im, h, Real.sin_add_pi]; rfl

theorem E_mod (a : ℤ) : E (a % 512) = E a := by
  have := E_turn (a % 512) (a / 512)
  rw [← this, Int.emod_add_mul_ediv]

/-- The transform of a picture along its rows at the frequency `V`. -/
def rowT (g : ℕ → ℕ → ℝ) (V : ℤ) (j : ℕ) : ℂ := ∑ k ∈ range 512, (g j k : ℂ) * (E (k * V) / 512)

/-- The transform of a picture at the frequencies `(U, V)`. -/
def Y (g : ℕ → ℕ → ℝ) (U V : ℤ) : ℂ := ∑ j ∈ range 512, E (U * j) / 512 * rowT g V j

/-- Its size. -/
def mag (g : ℕ → ℕ → ℝ) (U V : ℤ) : ℝ := Real.sqrt ((Y g U V).re * (Y g U V).re + (Y g U V).im * (Y g U V).im)

theorem rowT_turn (g : ℕ → ℕ → ℝ) (V n : ℤ) (j : ℕ) : rowT g (V + 512 * n) j = rowT g V j := by
  unfold rowT
  refine sum_congr rfl fun k _ => ?_
  rw [show (k : ℤ) * (V + 512 * n) = k * V + 512 * (k * n) by ring, E_turn]

theorem Y_turn (g : ℕ → ℕ → ℝ) (U V m n : ℤ) : Y g (U + 512 * m) (V + 512 * n) = Y g U V := by
  unfold Y
  refine sum_congr rfl fun j _ => ?_
  rw [rowT_turn, show (U + 512 * m) * (j : ℤ) = U * j + 512 * (m * j) by ring, E_turn]

theorem mag_turn (g : ℕ → ℕ → ℝ) (U V m n : ℤ) : mag g (U + 512 * m) (V + 512 * n) = mag g U V := by
  unfold mag; rw [Y_turn]

theorem rowT_neg (g : ℕ → ℕ → ℝ) (V : ℤ) (j : ℕ) : rowT g (-V) j = (starRingEnd ℂ) (rowT g V j) := by
  unfold rowT
  rw [map_sum]
  refine sum_congr rfl fun k _ => ?_
  rw [show (k : ℤ) * -V = -(k * V) by ring, E_neg, map_mul, map_div₀, Complex.conj_ofReal]
  congr 2; exact (map_ofNat _ 512).symm

theorem Y_neg (g : ℕ → ℕ → ℝ) (U V : ℤ) : Y g (-U) (-V) = (starRingEnd ℂ) (Y g U V) := by
  unfold Y
  rw [map_sum]
  refine sum_congr rfl fun j _ => ?_
  rw [rowT_neg, show -U * (j : ℤ) = -(U * j) by ring, E_neg, map_mul, map_div₀]
  congr 2; exact (map_ofNat _ 512).symm

theorem mag_neg (g : ℕ → ℕ → ℝ) (U V : ℤ) : mag g (-U) (-V) = mag g U V := by
  unfold mag; rw [Y_neg, Complex.conj_re, Complex.conj_im]; ring_nf

/-- A sum over a row, split into its halves. -/
theorem sum_halves (f : ℕ → ℂ) : ∑ j ∈ range 512, f j = ∑ r ∈ range 256, (f r + f (r + 256)) := by
  rw [show (512 : ℕ) = 256 + 256 from rfl, sum_range_add, sum_add_distrib]
  refine congrArg _ (sum_congr rfl fun r _ => ?_)
  rw [Nat.add_comm]

/-- The even frequencies: one transform of half the length of the halves' sum. -/
theorem Y_even (g : ℕ → ℕ → ℝ) (i : ℕ) (V : ℤ) :
    Y g (2 * i) V = ∑ r ∈ range 256, E (2 * (i * r)) / 512 * (rowT g V r + rowT g V (r + 256)) := by
  unfold Y
  rw [sum_halves]
  refine sum_congr rfl fun r _ => ?_
  rw [show (2 * (i : ℤ)) * ((r + 256 : ℕ) : ℤ) = 2 * (i * r) + 512 * i by push_cast; ring, E_turn,
    show (2 * (i : ℤ)) * (r : ℤ) = 2 * (i * r) by ring]
  ring

/-- The odd frequencies: one transform of half the length of the halves' difference, turned. -/
theorem Y_odd (g : ℕ → ℕ → ℝ) (i : ℕ) (V : ℤ) :
    Y g (2 * i + 1) V = ∑ r ∈ range 256, E (2 * (i * r)) / 512 * (E r * (rowT g V r - rowT g V (r + 256))) := by
  unfold Y
  rw [sum_halves]
  refine sum_congr rfl fun r _ => ?_
  rw [show (2 * (i : ℤ) + 1) * ((r + 256 : ℕ) : ℤ) = (2 * (i * r) + r + 256) + 512 * i by push_cast; ring, E_turn, E_half, E_add,
    show (2 * (i : ℤ) + 1) * (r : ℤ) = 2 * (i * r) + r by ring, E_add]
  ring

/-! ## Sums over the frequencies, folded about the middle -/

/-- A sum over 512 frequencies of a function that vanishes in the middle is the sum over the first half of the pairs. -/
theorem sum_fold (f : ℕ → ℝ) (h : f 256 = 0) :
    ∑ n ∈ range 512, f n = ∑ d ∈ range 256, (f d + if d = 0 then 0 else f (512 - d)) := by
  rw [sum_add_distrib, show (512 : ℕ) = 256 + 256 from rfl, sum_range_add]
  refine congrArg _ ?_
  have e1 : ∑ x ∈ range 256, f (256 + x) = f 256 + ∑ x ∈ range 255, f (257 + x) := by
    rw [show (256 : ℕ) = 255 + 1 from rfl, sum_range_succ']
    rw [add_comm]
    refine congrArg₂ _ rfl (sum_congr rfl fun x _ => congrArg f (by omega))
  have e2 : ∑ d ∈ range 256, (if d = 0 then 0 else f (256 + 256 - d)) = ∑ x ∈ range 255, f (511 - x) := by
    rw [show (256 : ℕ) = 255 + 1 from rfl, sum_range_succ']
    simp only [Nat.add_eq_zero_iff, one_ne_zero, and_false, if_false, if_true, add_zero]
    refine sum_congr rfl fun x _ => congrArg f (by omega)
  rw [e1, h, zero_add, e2, ← sum_range_reflect]
  refine sum_congr rfl fun x hx => congrArg f ?_
  have := mem_range.mp hx; omega

/-- Moving the middle to the front: `n` becomes `n + 256`, around the circle. -/
theorem sum_shift (f : ℕ → ℝ) : ∑ n ∈ range 512, f ((n + 256) % 512) = ∑ n ∈ range 512, f n := by
  rw [show (512 : ℕ) = 256 + 256 from rfl, sum_range_add, sum_range_add, add_comm]
  refine congrArg₂ _ (sum_congr rfl fun x hx => congrArg f ?_) (sum_congr rfl fun x hx => congrArg f ?_)
  · have := mem_range.mp hx; omega
  · have := mem_range.mp hx; omega

end Cert.Proof.Dft

end
-- ==== Proof.FftVals.lean ====
/-
  What the body of the transform's region computes over the extended reals: on a picture of real numbers, the sizes of the transform at
  the even and at the odd frequencies along one axis, folded and weighted.
-/
module

public import proofs.«01_k».proof.Proof.Fft
public import proofs.«01_k».proof.Proof.Reads
public import proofs.«01_k».proof.Proof.Dft

@[expose] public section

noncomputable section

namespace Cert.Proof.FftVal

open Cert.KernelIdeal Cert.KernelIdeal.Gen Cert.Proof.Reads Cert.Proof.Dft
open Idealize.ShloMosaic Idealize.ShloMosaic.ValueIdx
open scoped BigOperators
open Finset (range)

/-! ## Matrices of real numbers -/

/-- The matrix holds the real numbers `f`. -/
def Holds {m n : ℕ} (A : (⟨2, ![m, n]⟩ : Shape).Idx → EReal) (f : ℕ → ℕ → ℝ) : Prop :=
  ∀ (r : Fin m) (c : Fin n), A (ix2 r c) = ((f r.val c.val : ℝ) : EReal)

section
variable {m n k : ℕ} {A B : FVec Ideal ⟨2, ![m, n]⟩ .f32} {f g : ℕ → ℕ → ℝ}

theorem Holds.congr (hA : Holds A f) (h : ∀ r c, r < m → c < n → f r c = g r c) : Holds A g := fun r c => by
  rw [hA r c, h r.val c.val r.isLt c.isLt]
theorem Holds.mul (hA : Holds A f) (hB : Holds B g) : Holds (mulf A B) (fun r c => f r c * g r c) := fun r c => by
  rw [mulf_apply, hA r c, hB r c, EReal.coe_mul]
theorem Holds.add (hA : Holds A f) (hB : Holds B g) : Holds (addf A B) (fun r c => f r c + g r c) := fun r c => by
  rw [addf_apply, hA r c, hB r c, EReal.coe_add]
theorem Holds.sub (hA : Holds A f) (hB : Holds B g) : Holds (subf A B) (fun r c => f r c - g r c) := fun r c => by
  rw [subf_apply, hA r c, hB r c, EReal.coe_sub]
theorem Holds.sqrt (hA : Holds A f) (h0 : ∀ r c, 0 ≤ f r c) : Holds (sqrt A) (fun r c => Real.sqrt (f r c)) := fun r c => by
  show Ideal.sqrt (A (ix2 r c)) = _
  rw [hA r c, Ideal.sqrt_coe, if_neg (not_lt.mpr (h0 _ _))]
theorem Holds.mm {d : DotDims ⟨2, ![m, k]⟩ ⟨2, ![k, n]⟩ ⟨2, ![m, n]⟩} (hd : d = DotDims.plain m k n) (prec : Option ContractPrecision)
    {A : FVec Ideal ⟨2, ![m, k]⟩ .f32} {B : FVec Ideal ⟨2, ![k, n]⟩ .f32} (hA : Holds A f) (hB : Holds B g) :
    Holds (matmul d prec A B (constant _ .f32 0x00000000#32)) (fun r c => ∑ i ∈ range k, f r i * g i c) := fun r c => by
  refine (Reads.mm hd prec A B r c).trans ?_
  show _ = ((∑ i ∈ range k, f r.val i * g i c.val : ℝ) : EReal)
  rw [Finset.sum_range, ← coe_sum]
  refine Finset.sum_congr rfl fun i _ => ?_
  rw [hA r i, hB i c, EReal.coe_mul]
theorem Holds.block {m' n' : ℕ} (o p : ℕ) (hA : Holds A f) (h : (⟨2, ![m, n]⟩ : Shape).Slices ![o, p] ⟨2, ![m', n']⟩) :
    Holds (extractStridedSlice ⟨2, ![m', n']⟩ ![o, p] A h) (fun r c => f (o + r) (p + c)) := fun r c => by
  have h0 := h.2 ⟨0, Nat.succ_pos 1⟩
  have h1 := h.2 ⟨1, Nat.lt_succ_self 1⟩
  change o + m' ≤ m at h0
  change p + n' ≤ n at h1
  rw [block2 o p A h r c ⟨o + r.val, by omega⟩ ⟨p + c.val, by omega⟩ rfl rfl, hA]
end

/-! ## The picture's brightness -/

/-- The three channels weighted. -/
def gray (X : S1x3x512x512.Idx → EReal) (j k : Fin 512) : EReal :=
  Ideal.ofBits .f32 0x3E99096C#32 * X (ix4 0 0 j k) + Ideal.ofBits .f32 0x3F1645A2#32 * X (ix4 0 1 j k) + Ideal.ofBits .f32 0x3DE978D5#32 * X (ix4 0 2 j k)

theorem plane (X : S1x3x512x512.Idx → EReal) (o : ℕ) (ch : Fin 3) (ho : ch.val = o)
    (inb : ∀ a, (![0, o, 0, 0] : Fin 4 → ℕ) a + S1x1x512x512.size a ≤ S1x3x512x512.size a) (h : S1x1x512x512.ShapeCasts S512x512) (j k : Fin 512) :
    shapeCast S512x512 (View.ld (Val := Elt Ideal) (e' := .f32) X (Rect.unit (s := S1x3x512x512) ![0, o, 0, 0] S1x1x512x512.size inb)) h (ix2 j k)
      = X (ix4 0 ch j k) := by
  refine (shapeCast_apply (s := S1x1x512x512) _ h (ix2 j k) (ix4 0 0 j k) ?_).trans ?_
  · rw [Shape.rowMajor_val_four, Shape.rowMajor_val_two]
    show ((0 * 1 + 0) * 512 + j.val) * 512 + k.val = j.val * 512 + k.val
    omega
  · refine (congrFun (View.ld_unit (Val := Elt Ideal) (e := .f32) X ![0, o, 0, 0] S1x1x512x512.size inb) (ix4 0 0 j k)).trans ?_
    refine extractStridedSlice_apply _ X _ (ix4 0 0 j k) (ix4 0 ch j k) fun a => ?_
    match a with
    | ⟨0, _⟩ => rfl
    | ⟨1, _⟩ => show ch.val = o + 0; omega
    | ⟨2, _⟩ => exact (Nat.zero_add _).symm
    | ⟨3, _⟩ => exact (Nat.zero_add _).symm

section
variable (X0 : S1x3x512x512.Idx → EReal)

/-- The three planes as loaded. -/
abbrev red := View.ld (Val := Elt Ideal) (e' := .f32) X0 (Rect.unit (s := S1x3x512x512) ![0, 0, 0, 0] S1x1x512x512.size inb_S1x3x512x512_S1x1x512x512_0_0_0_0)
abbrev green := View.ld (Val := Elt Ideal) (e' := .f32) X0 (Rect.unit (s := S1x3x512x512) ![0, 1, 0, 0] S1x1x512x512.size inb_S1x3x512x512_S1x1x512x512_0_1_0_0)
abbrev blue := View.ld (Val := Elt Ideal) (e' := .f32) X0 (Rect.unit (s := S1x3x512x512) ![0, 2, 0, 0] S1x1x512x512.size inb_S1x3x512x512_S1x1x512x512_0_2_0_0)

theorem gray_read (j k : Fin 512) : k0_pay3 (F := Ideal) (red X0) (green X0) (blue X0) (ix2 j k) = gray X0 j k := by
  unfold k0_pay3 gray
  simp only [addf_apply, mulf_apply, broadcast_apply]
  rw [plane X0 0 0 rfl, plane X0 1 1 rfl, plane X0 2 2 rfl]
  rfl

variable {X0} {g : ℕ → ℕ → ℝ} (hg : ∀ j k : Fin 512, gray X0 j k = ((g j.val k.val : ℝ) : EReal))
  {v : ℕ → ℕ} {X1 X2 : S512x256.Idx → EReal}
  (h1 : Holds X1 fun k p => (E (k * v p)).re / 512) (h2 : Holds X2 fun k p => (E (k * v p)).im / 512)

include hg in
theorem gray_holds : Holds (k0_pay3 (F := Ideal) (red X0) (green X0) (blue X0)) g := fun j k => (gray_read X0 j k).trans (hg j k)

theorem rowT_re (g : ℕ → ℕ → ℝ) (V : ℤ) (j : ℕ) : (rowT g V j).re = ∑ k ∈ range 512, g j k * ((E (k * V)).re / 512) := by
  unfold rowT
  rw [Complex.re_sum]
  refine Finset.sum_congr rfl fun k _ => ?_
  rw [show E (k * V) / 512 = E (k * V) / ((512 : ℝ) : ℂ) by norm_cast, Complex.re_ofReal_mul, Complex.div_ofReal_re]

theorem rowT_im (g : ℕ → ℕ → ℝ) (V : ℤ) (j : ℕ) : (rowT g V j).im = ∑ k ∈ range 512, g j k * ((E (k * V)).im / 512) := by
  unfold rowT
  rw [Complex.im_sum]
  refine Finset.sum_congr rfl fun k _ => ?_
  rw [show E (k * V) / 512 = E (k * V) / ((512 : ℝ) : ℂ) by norm_cast, Complex.im_ofReal_mul, Complex.div_ofReal_im]

include hg h1 in
theorem rows_re : Holds (k0_pay4 (F := Ideal) (red X0) (green X0) (blue X0) X1) (fun j p => (rowT g (v p) j).re) := by
  unfold k0_pay4
  simp only [shapeCast_self]
  refine ((gray_holds hg).mm (m := 512) (k := 512) (n := 256) rfl none h1).congr fun j p _ _ => ?_
  rw [rowT_re]

include hg h2 in
theorem rows_im : Holds (k0_pay5 (F := Ideal) (red X0) (green X0) (blue X0) X2) (fun j p => (rowT g (v p) j).im) := by
  unfold k0_pay5
  simp only [shapeCast_self]
  refine ((gray_holds hg).mm (m := 512) (k := 512) (n := 256) rfl none h2).congr fun j p _ _ => ?_
  rw [rowT_im]

/-- The sum and the difference of the two halves of the rows. -/
def sumT (g : ℕ → ℕ → ℝ) (V : ℤ) (r : ℕ) : ℂ := rowT g V r + rowT g V (r + 256)
def difT (g : ℕ → ℕ → ℝ) (V : ℤ) (r : ℕ) : ℂ := rowT g V r - rowT g V (r + 256)

include hg h1 in
theorem sum_re : Holds (k0_pay6 (F := Ideal) (red X0) (green X0) (blue X0) X1) (fun r p => (sumT g (v p) r).re) := by
  unfold k0_pay6
  refine (((rows_re hg h1).block 0 0 _).add ((rows_re hg h1).block 256 0 _)).congr fun r p _ _ => ?_
  simp only [sumT, Complex.add_re, Nat.zero_add, Nat.add_comm 256 r]
include hg h2 in
theorem sum_im : Holds (k0_pay7 (F := Ideal) (red X0) (green X0) (blue X0) X2) (fun r p => (sumT g (v p) r).im) := by
  unfold k0_pay7
  refine (((rows_im hg h2).block 0 0 _).add ((rows_im hg h2).block 256 0 _)).congr fun r p _ _ => ?_
  simp only [sumT, Complex.add_im, Nat.zero_add, Nat.add_comm 256 r]
include hg h1 in
theorem dif_re : Holds (k0_pay8 (F := Ideal) (red X0) (green X0) (blue X0) X1) (fun r p => (difT g (v p) r).re) := by
  unfold k0_pay8
  refine (((rows_re hg h1).block 0 0 _).sub ((rows_re hg h1).block 256 0 _)).congr fun r p _ _ => ?_
  simp only [difT, Complex.sub_re, Nat.zero_add, Nat.add_comm 256 r]
include hg h2 in
theorem dif_im : Holds (k0_pay9 (F := Ideal) (red X0) (green X0) (blue X0) X2) (fun r p => (difT g (v p) r).im) := by
  unfold k0_pay9
  refine (((rows_im hg h2).block 0 0 _).sub ((rows_im hg h2).block 256 0 _)).congr fun r p _ _ => ?_
  simp only [difT, Complex.sub_im, Nat.zero_add, Nat.add_comm 256 r]

end

/-! ## The transforms of half the length -/

theorem prod_re (f : ℕ → ℂ) (z : ℕ → ℂ) :
    (∑ r ∈ range 256, (f r).re / 512 * (z r).re) - ∑ r ∈ range 256, (f r).im / 512 * (z r).im = (∑ r ∈ range 256, f r / 512 * z r).re := by
  rw [Complex.re_sum, ← Finset.sum_sub_distrib]
  refine Finset.sum_congr rfl fun r _ => ?_
  rw [show f r / 512 = f r / ((512 : ℝ) : ℂ) by norm_cast, Complex.mul_re, Complex.div_ofReal_re, Complex.div_ofReal_im]

theorem prod_im (f : ℕ → ℂ) (z : ℕ → ℂ) :
    (∑ r ∈ range 256, (f r).re / 512 * (z r).im) + ∑ r ∈ range 256, (f r).im / 512 * (z r).re = (∑ r ∈ range 256, f r / 512 * z r).im := by
  rw [Complex.im_sum, ← Finset.sum_add_distrib]
  refine Finset.sum_congr rfl fun r _ => ?_
  rw [show f r / 512 = f r / ((512 : ℝ) : ℂ) by norm_cast, Complex.mul_im, Complex.div_ofReal_re, Complex.div_ofReal_im]

section
variable {g : ℕ → ℕ → ℝ} {v : ℕ → ℕ} {X3 X4 X5 X6 : S256x256.Idx → EReal} {X7 : S1x256.Idx → EReal} {w : ℕ → ℝ}
  (h3 : Holds X3 fun i r => (E (2 * (i * r))).re / 512) (h4 : Holds X4 fun i r => (E (2 * (i * r))).im / 512)
  (h5 : Holds X5 fun r _ => (E r).re) (h6 : Holds X6 fun r _ => (E r).im)
  (h7 : Holds X7 fun _ p => w p)

include h3 h4 h7 in
theorem even_out {A B : FVec Ideal S256x256 .f32} (hA : Holds A fun r p => (sumT g (v p) r).re) (hB : Holds B fun r p => (sumT g (v p) r).im)
    {X8 : S128x256.Idx → EReal} {e : ℕ → ℕ → ℝ} (h8 : Holds X8 e) :
    Holds (k0_pay15 (F := Ideal) A B X3 X4 X7 X8) (fun k p => (∑ i ∈ range 256, e k i * mag g (2 * i) (v p)) * w p) := by
  unfold k0_pay15 k0_pay11 k0_pay12 k0_pay13
  simp only [shapeCast_self]
  have re := (h3.mm (m := 256) (k := 256) (n := 256) (d := dot_S256x256_S256x256_S256x256_1_0_0_1_n_n) rfl none hA).sub
    (h4.mm (m := 256) (k := 256) (n := 256) (d := dot_S256x256_S256x256_S256x256_1_0_0_1_n_n) rfl none hB)
  have im := (h3.mm (m := 256) (k := 256) (n := 256) (d := dot_S256x256_S256x256_S256x256_1_0_0_1_n_n) rfl none hB).add
    (h4.mm (m := 256) (k := 256) (n := 256) (d := dot_S256x256_S256x256_S256x256_1_0_0_1_n_n) rfl none hA)
  have hm := ((re.mul re).add (im.mul im)).sqrt fun r c => add_nonneg (mul_self_nonneg _) (mul_self_nonneg _)
  have hw : Holds (broadcastTo S128x256 X7 broadcasts_S1x256_S128x256) fun _ p => w p := fun r c => (row_spread X7 _ r c).trans (h7 0 c)
  refine ((h8.mm (m := 128) (k := 256) (n := 256) rfl none hm).mul hw).congr fun k p _ _ => ?_
  refine congrArg (· * w p) (Finset.sum_congr rfl fun i _ => congrArg (e k i * ·) ?_)
  unfold mag
  rw [Y_even]
  simp only [← prod_re, ← prod_im, sumT]

include h3 h4 h5 h6 h7 in
theorem odd_out {A B : FVec Ideal S256x256 .f32} (hA : Holds A fun r p => (difT g (v p) r).re) (hB : Holds B fun r p => (difT g (v p) r).im)
    {X9 : S128x256.Idx → EReal} {e : ℕ → ℕ → ℝ} (h9 : Holds X9 e) (k : Fin 128) (p : Fin 256) :
    k0_pay2 (F := Ideal) (k0_pay13 X7) (k0_pay14 A B (k0_pay10 X5) X6 X3 X4) X9 (ix3 0 k p)
      = (((∑ i ∈ range 256, e k i * mag g (2 * i + 1) (v p)) * w p : ℝ) : EReal) := by
  unfold k0_pay2 k0_pay14 k0_pay11 k0_pay12 k0_pay13 k0_pay10
  simp only [shapeCast_self]
  have zr := (h5.mul hA).sub (h6.mul hB)
  have zi := (h5.mul hB).add (h6.mul hA)
  have re := (h3.mm (m := 256) (k := 256) (n := 256) (d := dot_S256x256_S256x256_S256x256_1_0_0_1_n_n) rfl none zr).sub
    (h4.mm (m := 256) (k := 256) (n := 256) (d := dot_S256x256_S256x256_S256x256_1_0_0_1_n_n) rfl none zi)
  have im := (h3.mm (m := 256) (k := 256) (n := 256) (d := dot_S256x256_S256x256_S256x256_1_0_0_1_n_n) rfl none zi).add
    (h4.mm (m := 256) (k := 256) (n := 256) (d := dot_S256x256_S256x256_S256x256_1_0_0_1_n_n) rfl none zr)
  have hm := ((re.mul re).add (im.mul im)).sqrt fun r c => add_nonneg (mul_self_nonneg _) (mul_self_nonneg _)
  have hw : Holds (broadcastTo S128x256 X7 broadcasts_S1x256_S128x256) fun _ p => w p := fun r c => (row_spread X7 _ r c).trans (h7 0 c)
  refine (shapeCast_apply (s := S128x256) _ _ (ix3 (0 : Fin 1) k p) (ix2 k p) ?_).trans ?_
  · rw [Shape.rowMajor_val_two, Shape.rowMajor_val_three]
    show k.val * 256 + p.val = (0 * 128 + k.val) * 256 + p.val
    omega
  refine (((h9.mm (m := 128) (k := 256) (n := 256) rfl none hm).mul hw) k p).trans (congrArg _ ?_)
  refine congrArg (· * w p) (Finset.sum_congr rfl fun i _ => congrArg (e k i * ·) ?_)
  unfold mag
  rw [Y_odd]
  simp only [← prod_re, ← prod_im, difT, Complex.mul_re, Complex.mul_im]

end

/-! ## The block -/

theorem fftOut_apply {X0 : S1x3x512x512.Idx → EReal} {g : ℕ → ℕ → ℝ} (hg : ∀ j k : Fin 512, gray X0 j k = ((g j.val k.val : ℝ) : EReal))
    {v : ℕ → ℕ} {X1 X2 : S512x256.Idx → EReal} (h1 : Holds X1 fun k p => (E (k * v p)).re / 512) (h2 : Holds X2 fun k p => (E (k * v p)).im / 512)
    {X3 X4 X5 X6 : S256x256.Idx → EReal} {X7 : S1x256.Idx → EReal} {w : ℕ → ℝ}
    (h3 : Holds X3 fun i r => (E (2 * (i * r))).re / 512) (h4 : Holds X4 fun i r => (E (2 * (i * r))).im / 512)
    (h5 : Holds X5 fun r _ => (E r).re) (h6 : Holds X6 fun r _ => (E r).im) (h7 : Holds X7 fun _ p => w p)
    {X8 X9 : S128x256.Idx → EReal} {ae ao : ℕ → ℕ → ℝ} (h8 : Holds X8 ae) (h9 : Holds X9 ao) (y : S1x256x256.Idx) :
    Ring.fftOut (F := Ideal) X0 X1 X2 X3 X4 X5 X6 X7 X8 X9 y
      = (((if (y 1).val < 128 then ∑ i ∈ range 256, ae (y 1).val i * mag g (2 * i) (v (y 2).val)
          else ∑ i ∈ range 256, ao ((y 1).val - 128) i * mag g (2 * i + 1) (v (y 2).val)) * w (y 2).val : ℝ) : EReal) := by
  unfold Ring.fftOut
  refine View.canon_apply_of_pieces (Val := Elt Ideal) (e := .f32) (fun y : S1x256x256.Idx => (((if (y 1).val < 128 then ∑ i ∈ range 256, ae (y 1).val i * mag g (2 * i) (v (y 2).val)
          else ∑ i ∈ range 256, ao ((y 1).val - 128) i * mag g (2 * i + 1) (v (y 2).val)) * w (y 2).val : ℝ) : EReal)) _ ?_ y (Ring.fft_cover _ _ y)
  intro pc hpc x
  rcases List.mem_cons.mp hpc with rfl | hpc
  · obtain ⟨z, k, p, rfl⟩ : ∃ (z : Fin 1) (k : Fin 128) (p : Fin 256), x = ix3 z k p := ⟨_, _, _, eq_ix3 x⟩
    obtain rfl : z = 0 := Subsingleton.elim _ _
    rw [ld2_whole, ld2_whole, ld2_whole, ld2_whole, ld2_whole, ld2_whole, ld2_whole, ld2_whole]
    refine (odd_out h3 h4 h5 h6 h7 (dif_re hg h1) (dif_im hg h2) h9 k p).trans ?_
    have key (Y : S1x256x256.Idx) (e1 : (Y 1).val = 128 + k.val) (e2 : (Y 2).val = p.val) :
        (((∑ i ∈ range 256, ao k.val i * mag g (2 * i + 1) (v p.val)) * w p.val : ℝ) : EReal) = (((if (Y 1).val < 128 then ∑ i ∈ range 256, ae (Y 1).val i * mag g (2 * i) (v (Y 2).val)
          else ∑ i ∈ range 256, ao ((Y 1).val - 128) i * mag g (2 * i + 1) (v (Y 2).val)) * w (Y 2).val : ℝ) : EReal) := by
      rw [e1, e2, if_neg (by omega), Nat.add_sub_cancel_left]
    exact key _ (by rw [Rect.emb_apply]; show 128 + 1 * k.val = _; omega) (by rw [Rect.emb_apply]; show 0 + 1 * p.val = _; omega)
  · obtain rfl := List.mem_singleton.mp hpc
    obtain ⟨z, k, p, rfl⟩ : ∃ (z : Fin 1) (k : Fin 128) (p : Fin 256), x = ix3 z k p := ⟨_, _, _, eq_ix3 x⟩
    obtain rfl : z = 0 := Subsingleton.elim _ _
    rw [ld2_whole, ld2_whole, ld2_whole, ld2_whole, ld2_whole, ld2_whole]
    unfold k0_pay1
    refine Eq.trans (b := shapeCast S1x128x256 (k0_pay15 (F := Ideal) _ _ X3 X4 X7 X8) shapeCasts_S128x256_S1x128x256 (ix3 (0 : Fin 1) k p)) rfl ?_
    refine (shapeCast_apply (s := S128x256) _ _ (ix3 (0 : Fin 1) k p) (ix2 k p) ?_).trans ?_
    · rw [Shape.rowMajor_val_two, Shape.rowMajor_val_three]
      show k.val * 256 + p.val = (0 * 128 + k.val) * 256 + p.val
      omega
    refine (even_out h3 h4 h7 (sum_re hg h1) (sum_im hg h2) h8 k p).trans ?_
    have hk := k.isLt
    have key (Y : S1x256x256.Idx) (e1 : (Y 1).val = k.val) (e2 : (Y 2).val = p.val) :
        (((∑ i ∈ range 256, ae k.val i * mag g (2 * i) (v p.val)) * w p.val : ℝ) : EReal) = (((if (Y 1).val < 128 then ∑ i ∈ range 256, ae (Y 1).val i * mag g (2 * i) (v (Y 2).val)
          else ∑ i ∈ range 256, ao ((Y 1).val - 128) i * mag g (2 * i + 1) (v (Y 2).val)) * w (Y 2).val : ℝ) : EReal) := by
      rw [e1, e2, if_pos hk]
    exact key _ (by rw [Rect.emb_apply]; show 0 + 1 * k.val = _; omega) (by rw [Rect.emb_apply]; show 0 + 1 * p.val = _; omega)

end Cert.Proof.FftVal

end
-- ==== Proof.Tables.lean ====
/-
  The tables that the host hands the transform's kernel, over the extended reals: cosines and sines of multiples of a fixed angle,
  weights, and the two folds.
-/
module

public import proofs.«01_k».proof.Proof.HostVals
public import proofs.«01_k».proof.Proof.FftVals
public import Idealize.ShloMosaic.Lib.IdealHost
public import Idealize.ShloMosaic.Lib.WordCmp

@[expose] public section

noncomputable section

namespace Cert.Proof.Tables

open Cert.KernelIdeal Cert.KernelIdeal.Gen Cert.Proof.Host Cert.Proof.Dft Cert.Proof.FftVal
open Idealize.ShloMosaic Idealize.ShloMosaic.StableHlo Idealize.ShloMosaic.ValueIdx
open Idealize.ShloMosaic.TcCoe Idealize.ShloMosaic.WordCmp
open Idealize.SL Idealize.SL.Sem
open scoped BigOperators
open Finset (range)

/-! ## Constants -/

theorem c2 : (FloatOps.ofBits (F := Ideal) (φ := .f32) 0x40000000#32 : EReal) = ((2 : ℝ) : EReal) := by
  show Ideal.ofBits .f32 0x40000000#32 = _
  simp [Ideal.ofBits, Ideal.ieee, -EReal.coe_mul]; norm_num
theorem c512 : (FloatOps.ofBits (F := Ideal) (φ := .f32) 0x44000000#32 : EReal) = ((512 : ℝ) : EReal) := by
  show Ideal.ofBits .f32 0x44000000#32 = _
  simp [Ideal.ofBits, Ideal.ieee, -EReal.coe_mul]; norm_num
theorem c256 : (FloatOps.ofBits (F := Ideal) (φ := .f32) 0x43800000#32 : EReal) = ((256 : ℝ) : EReal) := by
  show Ideal.ofBits .f32 0x43800000#32 = _
  simp [Ideal.ofBits, Ideal.ieee, -EReal.coe_mul]; norm_num
theorem cNeg1 : (FloatOps.ofBits (F := Ideal) (φ := .f32) 0xBF800000#32 : EReal) = ((-1 : ℝ) : EReal) := by
  show Ideal.ofBits .f32 0xBF800000#32 = _
  simp [Ideal.ofBits, Ideal.ieee, -EReal.coe_mul, -EReal.coe_neg]; norm_num
theorem c1 : (FloatOps.ofBits (F := Ideal) (φ := .f32) 0x3F800000#32 : EReal) = ((1 : ℝ) : EReal) := by
  show Ideal.ofBits .f32 0x3F800000#32 = _
  rw [Ideal.ofBits_one_f32]; rfl
theorem c0 : (FloatOps.ofBits (F := Ideal) (φ := .f32) 0x00000000#32 : EReal) = ((0 : ℝ) : EReal) := by
  show Ideal.ofBits .f32 0x00000000#32 = _
  rw [Ideal.ofBits_zero_f32]; rfl

/-- The angle of a point on the negative half axis. -/
theorem atan2_pi : Ideal.atan2 ((0 : ℝ) : EReal) ((-1 : ℝ) : EReal) = ((Real.pi : ℝ) : EReal) := by
  show ((_ : ℝ) : EReal) = _
  congr 1
  norm_num

theorem div_real {b : ℝ} (h : b ≠ 0) (a : ℝ) : Ideal.div (a : EReal) (b : EReal) = ((a / b : ℝ) : EReal) := by
  rw [Ideal.div_coe h, ← EReal.coe_mul]; congr 1; field_simp

/-! ## The words of the tables -/

/-- The order in which the frequencies of one axis are kept. -/
def perm (p : ℕ) : ℕ := if h : p < 256 then (lit0 ⟨p, h⟩).toNat else 0

theorem perm_fin (p : Fin 256) : (lit0 p).toNat = perm p.val := by
  unfold perm; rw [dif_pos p.isLt]

theorem perm_lt_fin : ∀ p : Fin 256, (lit0 p).toNat < 256 := by decide +kernel
theorem perm_lt (p : ℕ) : perm p < 256 := by
  unfold perm; split
  · exact perm_lt_fin _
  · omega

/-- The remainder of a product of two small numbers, as a word. -/
theorem rem_word (u : ArithUnit) (a b k : ℕ) (h : a * b < 2 ^ 30) (hk : 0 < k) (hk' : k < 2 ^ 30) (x y : BitVec 32) (hx : x.toNat = a) (hy : y.toNat = b) :
    (IntOp.remsi u (x * y) (BitVec.ofNat 32 k)).toInt = ((a * b % k : ℕ) : ℤ) := by
  have e : (x * y).toNat = a * b := by
    rw [BitVec.toNat_mul, hx, hy]; exact Nat.mod_eq_of_lt (by omega)
  have e2 := IntOp.toNat_remsi u (x := x * y) (by rw [e]; omega) k hk (by omega)
  rw [e] at e2
  have := Nat.mod_lt (a * b) hk
  rw [BitVec.toInt_eq_toNat_of_lt (by rw [e2]; omega), e2]

theorem toInt_small (n : ℕ) (h : n < 2 ^ 30) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

/-! ## Cosines and sines -/

variable (V : Valuation τ sig (Elt Ideal))

theorem pi_val (i : S_.Idx) : atA20 V (Proc.devRef .tc main_v57) i = ((Real.pi : ℝ) : EReal) := by
  rw [val_v57]
  show Ideal.atan2 (FloatOps.ofBits (F := Ideal) (φ := .f32) 0x00000000#32 : EReal) (FloatOps.ofBits (F := Ideal) (φ := .f32) 0xBF800000#32 : EReal) = _
  rw [c0, cNeg1, atan2_pi]

theorem perm_tab (i : S256.Idx) : atA20 V (Proc.devRef .tc main_c) i = lit0 (i 0) := by
  rw [val_c]
  show lit0 (S256.rowMajor i) = _
  congr 1
  apply Fin.ext
  rw [Shape.rowMajor_val_one]

/-- One entry of a table of cosines. -/
theorem cos_entry {q : EReal} (hq : q = ((Real.pi : ℝ) : EReal)) {N : ℝ} (hN : N ≠ 0) {c : EReal} (hc : c = (N : EReal)) (z : ℤ) :
    Ideal.cos (Ideal.div ((FloatOps.ofBits (F := Ideal) (φ := .f32) 0x40000000#32 : EReal) * q) c * (((z : ℝ)) : EReal))
      = ((Real.cos (2 * Real.pi / N * z) : ℝ) : EReal) := by
  rw [c2, hq, hc, ← EReal.coe_mul, div_real hN, ← EReal.coe_mul, Ideal.cos_coe]
theorem sin_entry {q : EReal} (hq : q = ((Real.pi : ℝ) : EReal)) {N : ℝ} (hN : N ≠ 0) {c : EReal} (hc : c = (N : EReal)) (z : ℤ) :
    Ideal.sin (Ideal.div ((FloatOps.ofBits (F := Ideal) (φ := .f32) 0x40000000#32 : EReal) * q) c * (((z : ℝ)) : EReal))
      = ((Real.sin (2 * Real.pi / N * z) : ℝ) : EReal) := by
  rw [c2, hq, hc, ← EReal.coe_mul, div_real hN, ← EReal.coe_mul, Ideal.sin_coe]

theorem E_re_mod (x : ℕ) : Real.cos (2 * Real.pi / 512 * ((x % 512 : ℕ) : ℤ)) = (E x).re := by
  rw [← E_mod, E_re, step]; push_cast; rfl
theorem E_im_mod (x : ℕ) : -Real.sin (2 * Real.pi / 512 * ((x % 512 : ℕ) : ℤ)) = (E x).im := by
  rw [← E_mod, E_im, step]; push_cast; rfl
theorem E_even_mod (x : ℕ) : E (2 * ((x % 256 : ℕ) : ℤ)) = E (2 * (x : ℤ)) := by
  rw [← E_mod, ← E_mod (2 * (x : ℤ))]; congr 1; omega
theorem E_re_even (x : ℕ) : Real.cos (2 * Real.pi / 256 * ((x % 256 : ℕ) : ℤ)) = (E (2 * (x : ℤ))).re := by
  rw [← E_even_mod, E_re, step]; congr 1; push_cast; ring
theorem E_im_even (x : ℕ) : -Real.sin (2 * Real.pi / 256 * ((x % 256 : ℕ) : ℤ)) = (E (2 * (x : ℤ))).im := by
  rw [← E_even_mod, E_im, step]; congr 2; push_cast; ring

theorem cos_row : Holds (atA20 V (Proc.devRef .tc main_v71)) fun k p => (E (k * perm p)).re / 512 := fun k p => by
  rw [val_v71]
  show Ideal.div (Ideal.cos (Ideal.div ((FloatOps.ofBits (F := Ideal) (φ := .f32) 0x40000000#32 : EReal) * atA20 V (Proc.devRef .tc main_v57) _) (FloatOps.ofBits (F := Ideal) (φ := .f32) 0x44000000#32 : EReal)
    * (((IntOp.remsi _ (BitVec.ofNat 32 k.val * atA20 V (Proc.devRef .tc main_c) (ix1 p)) (BitVec.ofNat 32 512)).toInt : ℝ) : EReal))) (FloatOps.ofBits (F := Ideal) (φ := .f32) 0x44000000#32 : EReal) = _
  have hp := perm_lt p.val
  have hk := k.isLt
  rw [cos_entry (pi_val V _) (by norm_num : (512 : ℝ) ≠ 0) c512, c512, div_real (by norm_num), perm_tab,
    rem_word _ k.val (perm p.val) 512 (by nlinarith) (by omega) (by omega) _ _ (by rw [BitVec.toNat_ofNat]; omega) (perm_fin p), E_re_mod]
  push_cast; rfl
theorem sin_row : Holds (atA20 V (Proc.devRef .tc main_v75)) fun k p => (E (k * perm p)).im / 512 := fun k p => by
  rw [val_v75]
  show Ideal.div (-(Ideal.sin (Ideal.div ((FloatOps.ofBits (F := Ideal) (φ := .f32) 0x40000000#32 : EReal) * atA20 V (Proc.devRef .tc main_v57) _) (FloatOps.ofBits (F := Ideal) (φ := .f32) 0x44000000#32 : EReal)
    * (((IntOp.remsi _ (BitVec.ofNat 32 k.val * atA20 V (Proc.devRef .tc main_c) (ix1 p)) (BitVec.ofNat 32 512)).toInt : ℝ) : EReal)))) (FloatOps.ofBits (F := Ideal) (φ := .f32) 0x44000000#32 : EReal) = _
  have hp := perm_lt p.val
  have hk := k.isLt
  rw [sin_entry (pi_val V _) (by norm_num : (512 : ℝ) ≠ 0) c512, c512, ← EReal.coe_neg, div_real (by norm_num), perm_tab,
    rem_word _ k.val (perm p.val) 512 (by nlinarith) (by omega) (by omega) _ _ (by rw [BitVec.toNat_ofNat]; omega) (perm_fin p), E_im_mod]
  push_cast; rfl
theorem cos_col : Holds (atA20 V (Proc.devRef .tc main_v88)) fun i r => (E (2 * (i * r))).re / 512 := fun i r => by
  rw [val_v88]
  show Ideal.div (Ideal.cos (Ideal.div ((FloatOps.ofBits (F := Ideal) (φ := .f32) 0x40000000#32 : EReal) * atA20 V (Proc.devRef .tc main_v57) _) (FloatOps.ofBits (F := Ideal) (φ := .f32) 0x43800000#32 : EReal)
    * (((IntOp.remsi _ (BitVec.ofNat 32 i.val * BitVec.ofNat 32 r.val) (BitVec.ofNat 32 256)).toInt : ℝ) : EReal))) (FloatOps.ofBits (F := Ideal) (φ := .f32) 0x44000000#32 : EReal) = _
  have hi := i.isLt
  have hr := r.isLt
  rw [cos_entry (pi_val V _) (by norm_num : (256 : ℝ) ≠ 0) c256, c512, div_real (by norm_num),
    rem_word _ i.val r.val 256 (by nlinarith) (by omega) (by omega) _ _ (by rw [BitVec.toNat_ofNat]; omega) (by rw [BitVec.toNat_ofNat]; omega), E_re_even]
  push_cast; rfl
theorem sin_col : Holds (atA20 V (Proc.devRef .tc main_v92)) fun i r => (E (2 * (i * r))).im / 512 := fun i r => by
  rw [val_v92]
  show Ideal.div (-(Ideal.sin (Ideal.div ((FloatOps.ofBits (F := Ideal) (φ := .f32) 0x40000000#32 : EReal) * atA20 V (Proc.devRef .tc main_v57) _) (FloatOps.ofBits (F := Ideal) (φ := .f32) 0x43800000#32 : EReal)
    * (((IntOp.remsi _ (BitVec.ofNat 32 i.val * BitVec.ofNat 32 r.val) (BitVec.ofNat 32 256)).toInt : ℝ) : EReal)))) (FloatOps.ofBits (F := Ideal) (φ := .f32) 0x44000000#32 : EReal) = _
  have hi := i.isLt
  have hr := r.isLt
  rw [sin_entry (pi_val V _) (by norm_num : (256 : ℝ) ≠ 0) c256, c512, ← EReal.coe_neg, div_real (by norm_num),
    rem_word _ i.val r.val 256 (by nlinarith) (by omega) (by omega) _ _ (by rw [BitVec.toNat_ofNat]; omega) (by rw [BitVec.toNat_ofNat]; omega), E_im_even]
  push_cast; rfl

theorem turn_angle (r : ℕ) (h : r < 256) {q : EReal} (hq : q = ((Real.pi : ℝ) : EReal)) :
    Ideal.div (((FloatOps.ofBits (F := Ideal) (φ := .f32) 0x40000000#32 : EReal) * q) * ((((BitVec.ofNat 32 r).toInt : ℝ)) : EReal)) (FloatOps.ofBits (F := Ideal) (φ := .f32) 0x44000000#32 : EReal)
      = ((step * (r : ℤ) : ℝ) : EReal) := by
  rw [c2, c512, hq, toInt_small r (by omega), ← EReal.coe_mul, ← EReal.coe_mul, div_real (by norm_num)]
  congr 1
  rw [step]; push_cast; ring
theorem cos_turn : Holds (atA20 V (Proc.devRef .tc main_v100)) fun r _ => (E r).re := fun r c => by
  rw [val_v100, val_v93]
  show Ideal.cos (Ideal.div (((FloatOps.ofBits (F := Ideal) (φ := .f32) 0x40000000#32 : EReal) * atA20 V (Proc.devRef .tc main_v57) _) * ((((BitVec.ofNat 32 r.val).toInt : ℝ)) : EReal)) (FloatOps.ofBits (F := Ideal) (φ := .f32) 0x44000000#32 : EReal)) = _
  rw [turn_angle r.val r.isLt (pi_val V _), Ideal.cos_coe]
  rfl
theorem sin_turn : Holds (atA20 V (Proc.devRef .tc main_v107)) fun r _ => (E r).im := fun r c => by
  rw [val_v107, val_v93]
  show -(Ideal.sin (Ideal.div (((FloatOps.ofBits (F := Ideal) (φ := .f32) 0x40000000#32 : EReal) * atA20 V (Proc.devRef .tc main_v57) _) * ((((BitVec.ofNat 32 r.val).toInt : ℝ)) : EReal)) (FloatOps.ofBits (F := Ideal) (φ := .f32) 0x44000000#32 : EReal))) = _
  rw [turn_angle r.val r.isLt (pi_val V _), Ideal.sin_coe, ← EReal.coe_neg]
  rfl

/-! ## Weights and folds -/

/-- A frequency and its mirror image have the same size: all but the first count twice. -/
def weight (p : ℕ) : ℝ := if perm p = 0 then 1 else 2
/-- The fold of the even frequencies. -/
def evenFold (k i : ℕ) : ℝ := if i = k ∨ 0 < k ∧ i = 256 - k then 1 else 0
/-- The fold of the odd frequencies. -/
def oddFold (k i : ℕ) : ℝ := if i = k ∨ i = 255 - k then 1 else 0

theorem weights : Holds (atA20 V (Proc.devRef .tc main_v111)) fun _ p => weight p := fun z p => by
  rw [val_v111]
  refine (shapeCast_apply (s := S256) _ _ (ix2 z p) (ix1 p) ?_).trans ?_
  · rw [Shape.rowMajor_val_two, Shape.rowMajor_val_one]
    show p.val = z.val * 256 + p.val
    omega
  show Scalar.select (IntOp.cmpi .eq (atA20 V (Proc.devRef .tc main_c) (ix1 p)) 0#32) (FloatOps.ofBits (F := Ideal) (φ := .f32) 0x3F800000#32 : EReal) (FloatOps.ofBits (F := Ideal) (φ := .f32) 0x40000000#32 : EReal) = _
  rw [perm_tab, c1, c2, cmpi_eq_eq_toNat, select_decide]
  show (if (lit0 p).toNat = 0 then _ else _) = ((weight p.val : ℝ) : EReal)
  rw [perm_fin, weight]
  split <;> rfl
theorem even_tab : Holds (atA20 V (Proc.devRef .tc main_v122)) evenFold := fun k i => by
  rw [val_v122]
  have hk := k.isLt
  have hi := i.isLt
  show Scalar.select (IntOp.ori (IntOp.cmpi .eq (BitVec.ofNat 32 i.val) (BitVec.ofNat 32 k.val))
      (IntOp.andi (IntOp.cmpi .sgt (BitVec.ofNat 32 k.val) (BitVec.ofNat 32 0)) (IntOp.cmpi .eq (BitVec.ofNat 32 i.val) (BitVec.ofNat 32 256 - BitVec.ofNat 32 k.val))))
    (FloatOps.ofBits (F := Ideal) (φ := .f32) 0x3F800000#32 : EReal) (FloatOps.ofBits (F := Ideal) (φ := .f32) 0x00000000#32 : EReal) = _
  rw [c1, c0, cmpi_eq_ofNat (by omega) (by omega), cmpi_sgt_ofNat (by omega) (by omega), cmpi_eq_eq_toNat, andi_ofBool, ori_ofBool, select_ofBool,
    BitVec.toNat_sub, BitVec.toNat_ofNat, BitVec.toNat_ofNat, BitVec.toNat_ofNat,
    show (2 ^ 32 - k.val % 2 ^ 32 + 256 % 2 ^ 32) % 2 ^ 32 = 256 - k.val by omega, show i.val % 2 ^ 32 = i.val by omega]
  unfold evenFold
  simp only [Bool.or_eq_true, Bool.and_eq_true, decide_eq_true_eq]
  split <;> rfl
theorem odd_tab : Holds (atA20 V (Proc.devRef .tc main_v128)) oddFold := fun k i => by
  rw [val_v128]
  have hk := k.isLt
  have hi := i.isLt
  show Scalar.select (IntOp.ori (IntOp.cmpi .eq (BitVec.ofNat 32 i.val) (BitVec.ofNat 32 k.val))
      (IntOp.cmpi .eq (BitVec.ofNat 32 i.val) (BitVec.ofNat 32 255 - BitVec.ofNat 32 k.val)))
    (FloatOps.ofBits (F := Ideal) (φ := .f32) 0x3F800000#32 : EReal) (FloatOps.ofBits (F := Ideal) (φ := .f32) 0x00000000#32 : EReal) = _
  rw [c1, c0, cmpi_eq_ofNat (by omega) (by omega), cmpi_eq_eq_toNat, ori_ofBool, select_ofBool,
    BitVec.toNat_sub, BitVec.toNat_ofNat, BitVec.toNat_ofNat, BitVec.toNat_ofNat,
    show (2 ^ 32 - k.val % 2 ^ 32 + 255 % 2 ^ 32) % 2 ^ 32 = 255 - k.val by omega, show i.val % 2 ^ 32 = i.val by omega]
  unfold oddFold
  simp only [Bool.or_eq_true, decide_eq_true_eq]
  split <;> rfl

/-- The frequency that row `r` of the folded table keeps: the even ones first, then the odd ones. -/
def rowFreq (r : ℕ) : ℕ := if r < 128 then 2 * r else 2 * (r - 128) + 1

theorem even_sum (k : ℕ) (hk : k < 128) (f : ℕ → ℝ) :
    ∑ i ∈ range 256, evenFold k i * f (2 * i) = f (2 * k) + if 2 * k = 0 then 0 else f (512 - 2 * k) := by
  unfold evenFold
  rcases Nat.eq_zero_or_pos k with rfl | h
  · rw [Finset.sum_eq_single 0 (fun b _ hb => by rw [if_neg (by omega), zero_mul]) (fun h => absurd (Finset.mem_range.mpr (by omega)) h)]
    simp
  · rw [Finset.sum_eq_add (s := range 256) k (256 - k) (by omega) (fun b _ hb => by rw [if_neg (by omega), zero_mul])
      (fun h => absurd (Finset.mem_range.mpr (by omega)) h) (fun h => absurd (Finset.mem_range.mpr (by omega)) h),
      if_pos (Or.inl rfl), if_pos (Or.inr ⟨h, rfl⟩), if_neg (by omega), show 2 * (256 - k) = 512 - 2 * k by omega]
    ring
theorem odd_sum (k : ℕ) (hk : k < 128) (f : ℕ → ℝ) :
    ∑ i ∈ range 256, oddFold k i * f (2 * i + 1) = f (2 * k + 1) + if 2 * k + 1 = 0 then 0 else f (512 - (2 * k + 1)) := by
  unfold oddFold
  rw [Finset.sum_eq_add (s := range 256) k (255 - k) (by omega) (fun b _ hb => by rw [if_neg (by omega), zero_mul])
      (fun h => absurd (Finset.mem_range.mpr (by omega)) h) (fun h => absurd (Finset.mem_range.mpr (by omega)) h),
      if_pos (Or.inl rfl), if_pos (Or.inr rfl), if_neg (by omega), show 2 * (255 - k) + 1 = 512 - (2 * k + 1) by omega]
  ring

/-- The two folds as one. -/
theorem fold_sum (r : ℕ) (hr : r < 256) (f : ℕ → ℝ) :
    (if r < 128 then ∑ i ∈ range 256, evenFold r i * f (2 * i) else ∑ i ∈ range 256, oddFold (r - 128) i * f (2 * i + 1))
      = f (rowFreq r) + if rowFreq r = 0 then 0 else f (512 - rowFreq r) := by
  unfold rowFreq
  split
  · exact even_sum r (by omega) f
  · exact odd_sum (r - 128) (by omega) f

/-! ## The radius map -/

/-- One digit of a root: the digit is kept where the square does not pass the number. -/
def digit (n b x : ℕ) : ℕ := if (x + b) * (x + b) ≤ n then x + b else x

theorem digit_inv {n b x : ℕ} (h0 : x * x ≤ n) (h1 : n < (x + 2 * b) * (x + 2 * b)) :
    digit n b x * digit n b x ≤ n ∧ n < (digit n b x + b) * (digit n b x + b) := by
  unfold digit
  split
  · next h => exact ⟨h, by rw [show x + b + b = x + 2 * b by ring]; exact h1⟩
  · next h => exact ⟨h0, by omega⟩

/-- The root, digit by digit. -/
def root (n : ℕ) : ℕ := digit n 1 (digit n 2 (digit n 4 (digit n 8 (digit n 16 (digit n 32 (digit n 64 (digit n 128 (digit n 256 0))))))))

theorem root_eq {n : ℕ} (h : n < 512 * 512) : root n = Nat.sqrt n := by
  have a := digit_inv (n := n) (b := 256) (x := 0) (by omega) (by omega)
  have a := digit_inv (n := n) (b := 128) a.1 a.2
  have a := digit_inv (n := n) (b := 64) a.1 a.2
  have a := digit_inv (n := n) (b := 32) a.1 a.2
  have a := digit_inv (n := n) (b := 16) a.1 a.2
  have a := digit_inv (n := n) (b := 8) a.1 a.2
  have a := digit_inv (n := n) (b := 4) a.1 a.2
  have a := digit_inv (n := n) (b := 2) a.1 a.2
  have a := digit_inv (n := n) (b := 1) a.1 a.2
  exact (Nat.eq_sqrt.mpr a)

/-- A digit, in words. -/
theorem digit_word {x n : BitVec 32} {a N : ℕ} (b A : ℕ) (hx : x.toNat = a) (hn : n.toNat = N) (ha : a ≤ A) (hA : A + b ≤ 512) (hN : N < 2 ^ 20) :
    (Scalar.select (IntOp.cmpi .sle ((x + BitVec.ofNat 32 b) * (x + BitVec.ofNat 32 b)) n) (x + BitVec.ofNat 32 b) x).toNat = digit N b a ∧ digit N b a ≤ A + b := by
  have e : (x + BitVec.ofNat 32 b).toNat = a + b := by
    rw [BitVec.toNat_add, hx, BitVec.toNat_ofNat]; omega
  have e2 : ((x + BitVec.ofNat 32 b) * (x + BitVec.ofNat 32 b)).toNat = (a + b) * (a + b) := by
    rw [BitVec.toNat_mul, e]; exact Nat.mod_eq_of_lt (by nlinarith)
  have hab : (a + b) * (a + b) ≤ 512 * 512 := Nat.mul_le_mul (by omega) (by omega)
  constructor
  · rw [cmpi_sle_of_lt (by rw [e2]; omega) (by rw [hn]; omega), select_decide, e2, hn]
    unfold digit
    split
    · exact e
    · exact hx
  · unfold digit; split <;> omega

theorem rowFreq_fin : ∀ r : Fin 256, (lit1 r).toNat = rowFreq r.val := by decide +kernel

/-- The squared distance of an element's frequencies. -/
theorem dist_val (r p : Fin 256) : (atA20 V (Proc.devRef .tc main_v6) (ix2 r p)).toNat = rowFreq r.val * rowFreq r.val + perm p.val * perm p.val := by
  rw [val_v6]
  show (lit1 (S256.rowMajor (ix1 r)) * lit1 (S256.rowMajor (ix1 r)) + lit0 (S256.rowMajor (ix1 p)) * lit0 (S256.rowMajor (ix1 p))).toNat = _
  have er (q : Fin 256) : S256.rowMajor (ix1 q) = q := Fin.ext (by rw [Shape.rowMajor_val_one])
  rw [er, er, BitVec.toNat_add, BitVec.toNat_mul, BitVec.toNat_mul, rowFreq_fin, perm_fin]
  have h1 : rowFreq r.val < 256 := by have := r.isLt; unfold rowFreq; split <;> omega
  have h2 := perm_lt p.val
  have h3 : rowFreq r.val * rowFreq r.val ≤ 255 * 255 := Nat.mul_le_mul (by omega) (by omega)
  have h4 : perm p.val * perm p.val ≤ 255 * 255 := Nat.mul_le_mul (by omega) (by omega)
  omega

theorem radius_val (r p : Fin 256) : (atA20 V (Proc.devRef .tc main_v52) (ix2 r p)).toNat = Nat.sqrt (rowFreq r.val * rowFreq r.val + perm p.val * perm p.val) := by
  have hn := dist_val V r p
  have h1 : rowFreq r.val < 256 := by have := r.isLt; unfold rowFreq; split <;> omega
  have h2 := perm_lt p.val
  have h3 : rowFreq r.val * rowFreq r.val ≤ 255 * 255 := Nat.mul_le_mul (by omega) (by omega)
  have h4 : perm p.val * perm p.val ≤ 255 * 255 := Nat.mul_le_mul (by omega) (by omega)
  have hN : rowFreq r.val * rowFreq r.val + perm p.val * perm p.val < 2 ^ 20 := by omega
  generalize hNN : rowFreq r.val * rowFreq r.val + perm p.val * perm p.val = N at hn hN ⊢
  have a0 : (atA20 V (Proc.devRef .tc main_v7) (ix2 r p)).toNat = 0 := by rw [val_v7]; exact BitVec.toNat_ofNat _ _
  obtain ⟨d0, b1⟩ := digit_word 256 0 a0 hn le_rfl (by omega) hN
  have a1 : (atA20 V (Proc.devRef .tc main_v12) (ix2 r p)).toNat = digit N 256 0 := by rw [val_v12]; exact d0
  clear d0
  generalize q1_def : digit N 256 0 = q1 at a1 b1
  obtain ⟨d1, b2⟩ := digit_word 128 256 a1 hn b1 (by omega) hN
  have a2 : (atA20 V (Proc.devRef .tc main_v17) (ix2 r p)).toNat = digit N 128 q1 := by rw [val_v17]; exact d1
  clear d1
  generalize q2_def : digit N 128 q1 = q2 at a2 b2
  obtain ⟨d2, b3⟩ := digit_word 64 384 a2 hn b2 (by omega) hN
  have a3 : (atA20 V (Proc.devRef .tc main_v22) (ix2 r p)).toNat = digit N 64 q2 := by rw [val_v22]; exact d2
  clear d2
  generalize q3_def : digit N 64 q2 = q3 at a3 b3
  obtain ⟨d3, b4⟩ := digit_word 32 448 a3 hn b3 (by omega) hN
  have a4 : (atA20 V (Proc.devRef .tc main_v27) (ix2 r p)).toNat = digit N 32 q3 := by rw [val_v27]; exact d3
  clear d3
  generalize q4_def : digit N 32 q3 = q4 at a4 b4
  obtain ⟨d4, b5⟩ := digit_word 16 480 a4 hn b4 (by omega) hN
  have a5 : (atA20 V (Proc.devRef .tc main_v32) (ix2 r p)).toNat = digit N 16 q4 := by rw [val_v32]; exact d4
  clear d4
  generalize q5_def : digit N 16 q4 = q5 at a5 b5
  obtain ⟨d5, b6⟩ := digit_word 8 496 a5 hn b5 (by omega) hN
  have a6 : (atA20 V (Proc.devRef .tc main_v37) (ix2 r p)).toNat = digit N 8 q5 := by rw [val_v37]; exact d5
  clear d5
  generalize q6_def : digit N 8 q5 = q6 at a6 b6
  obtain ⟨d6, b7⟩ := digit_word 4 504 a6 hn b6 (by omega) hN
  have a7 : (atA20 V (Proc.devRef .tc main_v42) (ix2 r p)).toNat = digit N 4 q6 := by rw [val_v42]; exact d6
  clear d6
  generalize q7_def : digit N 4 q6 = q7 at a7 b7
  obtain ⟨d7, b8⟩ := digit_word 2 508 a7 hn b7 (by omega) hN
  have a8 : (atA20 V (Proc.devRef .tc main_v47) (ix2 r p)).toNat = digit N 2 q7 := by rw [val_v47]; exact d7
  clear d7
  generalize q8_def : digit N 2 q7 = q8 at a8 b8
  obtain ⟨d8, b9⟩ := digit_word 1 510 a8 hn b8 (by omega) hN
  have a9 : (atA20 V (Proc.devRef .tc main_v52) (ix2 r p)).toNat = digit N 1 q8 := by rw [val_v52]; exact d8
  clear d8
  generalize q9_def : digit N 1 q8 = q9 at a9 b9
  rw [a9, ← root_eq (by omega), root, q1_def, q2_def, q3_def, q4_def, q5_def, q6_def, q7_def, q8_def, q9_def]

end Cert.Proof.Tables

end
-- ==== Proof.Fold.lean ====
/-
  The first dense kernel's matrix: at row `n` and column `256 c + t`, the weight of channel `c` at the tap that joins position `n` to
  position `t`, and zero where none does.
-/
module

public import proofs.«01_k».proof.Proof.Contents
public import proofs.«01_k».proof.Proof.Layers
public import proofs.«01_k».proof.Proof.Tables
public import Idealize.ShloMosaic.Lib.Routing.OpsSet
public import Idealize.ShloMosaic.Lib.Routing.OpsPair

@[expose] public section

noncomputable section

namespace Cert.Proof.Fold

open Cert.KernelIdeal Cert.KernelIdeal.Gen Cert.Proof.Host Cert.Proof.Tables Cert.Proof.Ring Cert.Proof.Layers
open Idealize.ShloMosaic Idealize.ShloMosaic.StableHlo Idealize.ShloMosaic.ValueIdx
open Idealize.ShloMosaic.TcCoe Idealize.ShloMosaic.WordCmp
open Idealize.SL Idealize.SL.Sem

/-! ## Words -/

theorem quo_word (u : ArithUnit) (x : BitVec 32) (a k : ℕ) (hx : x.toNat = a) (h : a < 2 ^ 30) (hk : 0 < k) (hk' : k < 2 ^ 30) :
    (IntOp.divsi u x (BitVec.ofNat 32 k)).toNat = a / k := by
  have hkN : (BitVec.ofNat 32 k).toNat = k := by rw [BitVec.toNat_ofNat]; omega
  have hm : x.msb = false := by rw [BitVec.msb_eq_false_iff_two_mul_lt]; omega
  have hkm : (BitVec.ofNat 32 k).msb = false := by rw [BitVec.msb_eq_false_iff_two_mul_lt]; omega
  have e : IntOp.divsi u x (BitVec.ofNat 32 k) = x.sdiv (BitVec.ofNat 32 k) :=
    if_neg (IntOp.not_corner_of_pos (by rw [BitVec.toInt_eq_toNat_of_lt (by omega)]; omega))
  rw [e, BitVec.sdiv_eq, hm, hkm]
  show (x / BitVec.ofNat 32 k).toNat = _
  rw [BitVec.toNat_udiv, hkN, hx]
theorem mod_word (u : ArithUnit) (x : BitVec 32) (a k : ℕ) (hx : x.toNat = a) (h : a < 2 ^ 30) (hk : 0 < k) (hk' : k < 2 ^ 30) :
    (IntOp.remsi u x (BitVec.ofNat 32 k)).toNat = a % k := by
  rw [IntOp.toNat_remsi u (by omega) k hk (by omega), hx]
theorem iota_word (u : Fin 12256) : ((iotaInDim S12256 32 0 : S12256.Idx → BitVec 32) (ix1 u)).toNat = u.val := by
  show (BitVec.ofNat 32 u.val).toNat = u.val
  rw [BitVec.toNat_ofNat]; have := u.isLt; omega

section
variable {F : FTy → Type} [FloatOps F] (V : Valuation τ sig (Elt F)) (u : Fin 12256)

theorem chan : ((atA20 V (Proc.devRef .tc main_v131) : S12256.Idx → BitVec 32) (ix1 u)).toNat = u.val / 766 := by
  rw [val_v131]
  exact quo_word _ _ _ 766 (iota_word u) (by have := u.isLt; omega) (by decide) (by decide)
theorem elem : ((atA20 V (Proc.devRef .tc main_v135) : S12256.Idx → BitVec 32) (ix1 u)).toNat = u.val % 766 + 1 := by
  rw [val_v135]
  have e := mod_word .host _ _ 766 (iota_word u) (by have := u.isLt; omega) (by decide) (by decide)
  refine (BitVec.toNat_add _ _).trans ?_
  refine (congrArg (fun z => (z + 1) % 2 ^ 32) e).trans ?_
  omega
theorem three : ∀ i : S_.Idx, (atA20 V (Proc.devRef .tc main_c_41) : S_.Idx → BitVec 32) i = BitVec.ofNat 32 3 := fun i => by
  rw [val_c_41]; rfl
theorem elem_quo : ((Host.divsi (atA20 V (Proc.devRef .tc main_v135)) (broadcastInDim S12256 ![] bcast_S_S12256 (atA20 V (Proc.devRef .tc main_c_41))) : S12256.Idx → BitVec 32) (ix1 u)).toNat = (u.val % 766 + 1) / 3 := by
  show (IntOp.divsi .host (atA20 V (Proc.devRef .tc main_v135) (ix1 u)) (atA20 V (Proc.devRef .tc main_c_41) _)).toNat = _
  rw [three]
  exact quo_word _ _ _ 3 (elem V u) (by omega) (by decide) (by decide)
theorem elem_mod : ((Host.remsi (atA20 V (Proc.devRef .tc main_v135)) (broadcastInDim S12256 ![] bcast_S_S12256 (constantI S_ 32 3#32)) : S12256.Idx → BitVec 32) (ix1 u)).toNat = (u.val % 766 + 1) % 3 :=
  mod_word _ _ _ 3 (elem V u) (by omega) (by decide) (by decide)
theorem row_word : ((atA20 V (Proc.devRef .tc main_v142) : S12256.Idx → BitVec 32) (ix1 u)).toNat = (u.val % 766 + 1) / 3 + (u.val % 766 + 1) % 3 - 1 := by
  rw [val_v142]
  have e1 := elem_quo V u
  have e2 := elem_mod V u
  revert e1 e2
  generalize (Host.divsi (atA20 V (Proc.devRef .tc main_v135)) (broadcastInDim S12256 ![] bcast_S_S12256 (atA20 V (Proc.devRef .tc main_c_41))) : S12256.Idx → BitVec 32) = q
  generalize (Host.remsi (atA20 V (Proc.devRef .tc main_v135)) (broadcastInDim S12256 ![] bcast_S_S12256 (constantI S_ 32 3#32)) : S12256.Idx → BitVec 32) = q2
  intro e1 e2
  show (q (ix1 u) + q2 (ix1 u) - 1#32).toNat = _
  rw [BitVec.toNat_sub, BitVec.toNat_add, e1, e2, show (1#32).toNat = 1 from rfl]
  omega
theorem col_word : ((atA20 V (Proc.devRef .tc main_v145) : S12256.Idx → BitVec 32) (ix1 u)).toNat = u.val / 766 * 256 + (u.val % 766 + 1) / 3 := by
  rw [val_v145]
  have e1 := elem_quo V u
  have e2 := chan V u
  revert e1 e2
  generalize (Host.divsi (atA20 V (Proc.devRef .tc main_v135)) (broadcastInDim S12256 ![] bcast_S_S12256 (atA20 V (Proc.devRef .tc main_c_41))) : S12256.Idx → BitVec 32) = q
  generalize (atA20 V (Proc.devRef .tc main_v131) : S12256.Idx → BitVec 32) = q2
  intro e1 e2
  have key : ∀ a b : BitVec 32, a.toNat = u.val / 766 → b.toNat = (u.val % 766 + 1) / 3 → (a * 256#32 + b).toNat = u.val / 766 * 256 + (u.val % 766 + 1) / 3 := fun a b ha hb => by
    rw [BitVec.toNat_add, BitVec.toNat_mul, ha, hb, show (256#32).toNat = 256 from rfl]
    have := u.isLt
    omega
  exact key _ _ e2 e1
theorem tap_word : ((atA20 V (Proc.devRef .tc main_v148) : S12256.Idx → BitVec 32) (ix1 u)).toNat = u.val / 766 * 3 + (u.val % 766 + 1) % 3 := by
  rw [val_v148]
  have e1 := elem_mod V u
  have e2 := chan V u
  revert e1 e2
  generalize (Host.remsi (atA20 V (Proc.devRef .tc main_v135)) (broadcastInDim S12256 ![] bcast_S_S12256 (constantI S_ 32 3#32)) : S12256.Idx → BitVec 32) = q
  generalize (atA20 V (Proc.devRef .tc main_v131) : S12256.Idx → BitVec 32) = q2
  intro e1 e2
  have key : ∀ a b : BitVec 32, a.toNat = u.val / 766 → b.toNat = (u.val % 766 + 1) % 3 → (a * 3#32 + b).toNat = u.val / 766 * 3 + (u.val % 766 + 1) % 3 := fun a b ha hb => by
    rw [BitVec.toNat_add, BitVec.toNat_mul, ha, hb, show (3#32).toNat = 3 from rfl]
    have := u.isLt
    omega
  exact key _ _ e2 e1
end

/-! ## Where an update lands -/

theorem lands (idx : IVec S12256x2 32) (u : Fin 12256) (r : Fin 256) (c : Fin 4096) :
    scatter_S256x4096_S12256x2_S12256_n_01_01_1.resultIdx? (ix1 u) idx = some (ix2 r c)
      ↔ (idx (ix2 u (0 : Fin 2))).toInt = r.val ∧ (idx (ix2 u (1 : Fin 2))).toInt = c.val := by
  rw [Routing.resultIdx?_eq_some]
  have hs : ∀ q : Fin 2, scatter_S256x4096_S12256x2_S12256_n_01_01_1.start (ix1 u) idx q = (idx (ix2 u q)).toInt := fun q => by
    unfold ScatterDims.start
    rw [dif_pos ((by decide : ∀ q : Fin 2, q ∈ scatter_S256x4096_S12256x2_S12256_n_01_01_1.scatterDimsToOperandDims) q)]
    congr 2
    funext b
    apply Fin.ext
    match q, b with
    | ⟨0, _⟩, ⟨0, _⟩ => rfl
    | ⟨0, _⟩, ⟨1, _⟩ => rfl
    | ⟨1, _⟩, ⟨0, _⟩ => rfl
    | ⟨1, _⟩, ⟨1, _⟩ => rfl
  have hw : ∀ q : Fin 2, scatter_S256x4096_S12256x2_S12256_n_01_01_1.window (ix1 u) q = 0 := fun q => by
    unfold ScatterDims.window
    rw [dif_neg ((by decide : ∀ q : Fin 2, q ∉ scatter_S256x4096_S12256x2_S12256_n_01_01_1.sKept) q)]
  constructor
  · intro h
    have h0 := h 0
    have h1 := h 1
    rw [hs, hw] at h0 h1
    exact ⟨by simpa using h0, by simpa using h1⟩
  · rintro ⟨h0, h1⟩ a
    rw [hs, hw]
    match a with
    | ⟨0, _⟩ => simpa using h0
    | ⟨1, _⟩ => simpa using h1

/-! ## The matrix -/

/-- A buffer that the first stretch of host operations fills is still so filled before the first dense kernel. -/
theorem early {F : FTy → Type} [FloatOps F] [∀ e, Nonempty (Elt F e)] (m : (ℓ : Loc nD τ sig) → Buf (Elt F) ℓ) (d : Dev nD) (r : Ref sig .tc) (h1 : r ≠ main_v167) (h2 : r ≠ main_v168) (hB : r ∉ restB0) :
    V4 m d (Proc.devRef .tc r) = atA20 (launchContents m d) (Proc.devRef .tc r) := by
  unfold V4; rw [endB0 _ r hB]; unfold atB0
  unfold V3; rw [upd_other _ _ _ _ h2]
  unfold V2; rw [upd_other _ _ _ _ h1]
  rfl

variable (m : (ℓ : Loc nD τ sig) → Buf (Elt Ideal) ℓ) (d : Dev nD)

theorem arg_val (r : Ref sig .tc) (h1 : r ≠ main_v167) (h2 : r ≠ main_v168) (hB : r ∉ restB0) (hA : r ∉ restA0) :
    V4 m d (Proc.devRef .tc r) = m ((d.tc : Thread nD τ).loc r) := by
  rw [early m d r h1 h2 hB, endA0 _ r hA]; rfl

/-- The wrap of an index leaves a small one. -/
theorem wrap_small {x a : BitVec 32} {n : ℕ} (h : x.toNat = n) (hn : n < 2 ^ 30) : Scalar.select (IntOp.cmpi .slt x 0#32) a x = x :=
  Routing.wrap_of_lt x a (by rw [h]; omega)

theorem wrap_at (x : S12256.Idx → BitVec 32) (a : BitVec 32) (u : Fin 12256) (n : ℕ) (h : (x (ix1 u)).toNat = n) (hn : n < 2 ^ 30) :
    (broadcastInDim S12256x1 ![0] bcast_S12256_S12256x1_0 (select (cmpi .slt x (broadcastInDim S12256 ![] bcast_S_S12256 (constantI S_ 32 0#32)))
      (addi x (broadcastInDim S12256 ![] bcast_S_S12256 (constantI S_ 32 a))) x) : S12256x1.Idx → BitVec 32) (ix2 u (0 : Fin 1)) = x (ix1 u) := by
  have ei : (broadcastInDim S12256x1 ![0] bcast_S12256_S12256x1_0 (select (cmpi .slt x (broadcastInDim S12256 ![] bcast_S_S12256 (constantI S_ 32 0#32)))
      (addi x (broadcastInDim S12256 ![] bcast_S_S12256 (constantI S_ 32 a))) x) : S12256x1.Idx → BitVec 32) (ix2 u (0 : Fin 1))
      = (select (cmpi .slt x (broadcastInDim S12256 ![] bcast_S_S12256 (constantI S_ 32 0#32))) (addi x (broadcastInDim S12256 ![] bcast_S_S12256 (constantI S_ 32 a))) x) (ix1 u) :=
    broadcastInDim_apply _ _ _ _ _ (fun q => match q with | ⟨0, _⟩ => rfl)
  rw [ei]
  exact wrap_small h hn

theorem pair_left (X Y : S12256x1.Idx → BitVec 32) (u : Fin 12256) :
    concatenate S12256x2 1 [⟨S12256x1, X⟩, ⟨S12256x1, Y⟩] concatenates_S12256x1_S12256x1_S12256x2_d1 (ix2 u (0 : Fin 2)) = X (ix2 u (0 : Fin 1)) :=
  concatenate_pair_apply_left (t := S12256x2) 1 X Y concatenates_S12256x1_S12256x1_S12256x2_d1 (ix2 u (0 : Fin 2)) rfl (ix2 u (0 : Fin 1)) (fun b => match b with | ⟨0, _⟩ => rfl | ⟨1, _⟩ => rfl)
theorem pair_right (X Y : S12256x1.Idx → BitVec 32) (u : Fin 12256) :
    concatenate S12256x2 1 [⟨S12256x1, X⟩, ⟨S12256x1, Y⟩] concatenates_S12256x1_S12256x1_S12256x2_d1 (ix2 u (1 : Fin 2)) = Y (ix2 u (0 : Fin 1)) :=
  concatenate_pair_apply_right (t := S12256x2) 1 X Y concatenates_S12256x1_S12256x1_S12256x2_d1 (ix2 u (1 : Fin 2)) rfl rfl (ix2 u (0 : Fin 1)) (fun b => match b with | ⟨0, _⟩ => fun _ => rfl | ⟨1, _⟩ => fun h => (h rfl).elim) rfl

theorem flat_read (W : S16x1x3.Idx → EReal) (a b : ℕ) (ha : a < 16) (hb : b < 3) (q : Fin 48) (hq : q.val = a * 3 + b) :
    shapeCast S48 W shapeCasts_S16x1x3_S48 (ix1 q) = at3 W a 0 b := by
  unfold at3
  rw [dif_pos ⟨ha, by decide, hb⟩]
  refine shapeCast_apply _ _ _ _ ?_
  rw [Shape.rowMajor_val_three, Shape.rowMajor_val_one]
  show (a * 1 + 0) * 3 + b = q.val
  omega

theorem V4_def : V4 m d = atB4 (V3 m d) := rfl

theorem idx_row (u : Fin 12256) : ((concatenate S12256x2 1 [⟨S12256x1, V4 m d (Proc.devRef .tc main_v188)⟩, ⟨S12256x1, V4 m d (Proc.devRef .tc main_v189)⟩] concatenates_S12256x1_S12256x1_S12256x2_d1 : S12256x2.Idx → BitVec 32) (ix2 u (0 : Fin 2))).toInt
    = (((u.val % 766 + 1) / 3 + (u.val % 766 + 1) % 3 - 1 : ℕ) : ℤ) := by
  have hw : (V4 m d (Proc.devRef .tc main_v142) (ix1 u) : BitVec 32).toNat = (u.val % 766 + 1) / 3 + (u.val % 766 + 1) % 3 - 1 := by
    rw [early m d main_v142 (by decide) (by decide) (by decide)]; exact row_word _ u
  have e : (V4 m d (Proc.devRef .tc main_v188) (ix2 u (0 : Fin 1)) : BitVec 32) = V4 m d (Proc.devRef .tc main_v142) (ix1 u) := by
    rw [V4_def] at hw ⊢
    rw [val_v188]
    exact wrap_at _ _ _ _ hw (by omega)
  rw [pair_left, e, BitVec.toInt_eq_toNat_of_lt (by rw [hw]; omega), hw]

theorem idx_col (u : Fin 12256) : ((concatenate S12256x2 1 [⟨S12256x1, V4 m d (Proc.devRef .tc main_v188)⟩, ⟨S12256x1, V4 m d (Proc.devRef .tc main_v189)⟩] concatenates_S12256x1_S12256x1_S12256x2_d1 : S12256x2.Idx → BitVec 32) (ix2 u (1 : Fin 2))).toInt
    = ((u.val / 766 * 256 + (u.val % 766 + 1) / 3 : ℕ) : ℤ) := by
  have hw : (V4 m d (Proc.devRef .tc main_v145) (ix1 u) : BitVec 32).toNat = u.val / 766 * 256 + (u.val % 766 + 1) / 3 := by
    rw [early m d main_v145 (by decide) (by decide) (by decide)]; exact col_word _ u
  have hu := u.isLt
  have e : (V4 m d (Proc.devRef .tc main_v189) (ix2 u (0 : Fin 1)) : BitVec 32) = V4 m d (Proc.devRef .tc main_v145) (ix1 u) := by
    rw [V4_def] at hw ⊢
    rw [val_v189]
    exact wrap_at _ _ _ _ hw (by omega)
  rw [pair_right, e, BitVec.toInt_eq_toNat_of_lt (by rw [hw]; omega), hw]

theorem upd_val (u : Fin 12256) : (V4 m d (Proc.devRef .tc main_v177) : S12256.Idx → EReal) (ix1 u)
    = at3 (m ((d.tc : Thread nD τ).loc main_arg1) : S16x1x3.Idx → EReal) (u.val / 766) 0 ((u.val % 766 + 1) % 3) := by
  have hw : (V4 m d (Proc.devRef .tc main_v148) (ix1 u) : BitVec 32).toNat = u.val / 766 * 3 + (u.val % 766 + 1) % 3 := by
    rw [early m d main_v148 (by decide) (by decide) (by decide)]; exact tap_word _ u
  have hu := u.isLt
  refine (congrFun (val_v177 (V3 m d)) _).trans ?_
  refine (Routing.gather_take1 _ rfl rfl rfl rfl _ _ u ⟨u.val / 766 * 3 + (u.val % 766 + 1) % 3, by omega⟩ ?_ (by decide)).trans ?_
  · have e : (broadcastInDim S12256x1 ![0] bcast_S12256_S12256x1_0 (select (V4 m d (Proc.devRef .tc main_v172)) (V4 m d (Proc.devRef .tc main_v174)) (V4 m d (Proc.devRef .tc main_v148))) : S12256x1.Idx → BitVec 32) (ix2 u (0 : Fin 1))
        = V4 m d (Proc.devRef .tc main_v148) (ix1 u) := by
      rw [V4_def] at hw ⊢
      rw [val_v172, val_v174]
      exact wrap_at _ _ _ _ hw (by omega)
    refine e.trans (BitVec.eq_of_toNat_eq ?_)
    refine hw.trans ?_
    rw [BitVec.toNat_ofNat]
    show _ = (u.val / 766 * 3 + (u.val % 766 + 1) % 3) % 2 ^ 32
    omega
  · refine (congrFun (val_v170 (V3 m d)) _).trans ?_
    have ea : (atB4 (V3 m d) (Proc.devRef .tc main_arg1) : S16x1x3.Idx → EReal) = m ((d.tc : Thread nD τ).loc main_arg1) := arg_val m d main_arg1 (by decide) (by decide) (by decide) (by decide)
    rw [ea]
    exact flat_read _ _ _ (by omega) (by omega) _ rfl

theorem fold_val (n : Fin 256) (c t : ℕ) (hc : c < 16) (ht : t < 256) (q : Fin 4096) (hq : q.val = c * 256 + t) :
    (V4 m d (Proc.devRef .tc main_v191) : S256x4096.Idx → EReal) (ix2 n q)
      = if t ≤ n.val + 1 ∧ n.val + 1 ≤ t + 2 then at3 (m ((d.tc : Thread nD τ).loc main_arg1) : S16x1x3.Idx → EReal) c 0 (n.val + 1 - t) else 0 := by
  have e := val_v191 (V3 m d)
  refine (congrFun e _).trans ?_
  have place : ∀ u : Fin 12256, scatter_S256x4096_S12256x2_S12256_n_01_01_1.resultIdx? (ix1 u) (concatenate S12256x2 1 [⟨S12256x1, V4 m d (Proc.devRef .tc main_v188)⟩, ⟨S12256x1, V4 m d (Proc.devRef .tc main_v189)⟩] concatenates_S12256x1_S12256x1_S12256x2_d1) = some (ix2 n q)
      ↔ ((u.val % 766 + 1) / 3 + (u.val % 766 + 1) % 3 - 1 = n.val ∧ u.val / 766 * 256 + (u.val % 766 + 1) / 3 = q.val) := fun u => by
    rw [lands, idx_row, idx_col]
    constructor
    · rintro ⟨a, b⟩; exact ⟨by exact_mod_cast a, by exact_mod_cast b⟩
    · rintro ⟨a, b⟩; exact ⟨by exact_mod_cast a, by exact_mod_cast b⟩
  have hn := n.isLt
  by_cases h : t ≤ n.val + 1 ∧ n.val + 1 ≤ t + 2
  · rw [if_pos h]
    obtain ⟨k, hk⟩ : ∃ k, n.val + 1 = t + k := ⟨n.val + 1 - t, by omega⟩
    have p1 : (c * 766 + (3 * t + k - 1)) / 766 = c := by omega
    have p2 : (c * 766 + (3 * t + k - 1)) % 766 + 1 = 3 * t + k := by omega
    refine Routing.scatter_set_hit _ _ _ _ _ _ (fun k hk => ?_) (ix1 ⟨c * 766 + (3 * t + k - 1), by omega⟩) ((place _).2 ⟨?_, ?_⟩)
    · obtain ⟨u, rfl⟩ : ∃ u : Fin 12256, k = ix1 u := ⟨k 0, eq_ix1 k⟩
      obtain ⟨h1, h2⟩ := (place u).1 hk
      refine (upd_val m d u).trans ?_
      have := u.isLt
      have ec : u.val / 766 = c := by omega
      have et : (u.val % 766 + 1) / 3 = t := by omega
      rw [ec, show (u.val % 766 + 1) % 3 = n.val + 1 - t by omega]
    · rw [show ((⟨c * 766 + (3 * t + k - 1), _⟩ : Fin 12256).val) = c * 766 + (3 * t + k - 1) from rfl, p2]; omega
    · rw [show ((⟨c * 766 + (3 * t + k - 1), _⟩ : Fin 12256).val) = c * 766 + (3 * t + k - 1) from rfl, p1, p2]; omega
  · rw [if_neg h]
    refine (Routing.scatter_set_miss _ _ _ _ _ fun k hk => ?_).trans ?_
    · obtain ⟨u, rfl⟩ : ∃ u : Fin 12256, k = ix1 u := ⟨k 0, eq_ix1 k⟩
      obtain ⟨h1, h2⟩ := (place u).1 hk
      have := u.isLt
      omega
    · rw [val_v169]
      exact Ideal.ofBits_zero_f32

end Cert.Proof.Fold

end
-- ==== Proof.HeadArrs.lean ====
/-
  What the three dense kernels leave in their results: each runs at one grid point, with the whole of every array at hand.
-/
module

public import proofs.«01_k».proof.Proof.Contents
public import Idealize.ShloMosaic.Lib.Pipeline.ValueKit.Geometry

@[expose] public section

noncomputable section

namespace Cert.Proof.HeadArrs

open Cert.KernelIdeal Cert.KernelIdeal.Gen Cert.Proof.Host Cert.Proof.Ring
open Idealize.ShloMosaic Idealize.ShloMosaic.StableHlo
open Idealize.ShloMosaic.TcCoe
open Idealize.ShloMosaic.SparseCore.Cfg (HIx)
open Idealize.SL Idealize.SL.Sem

variable {F : FTy → Type} [FloatOps F] [∀ e, Nonempty (Elt F e)]

section
variable (V : (c : Dev nD) → Conts F c) (d : Dev nD) (t : Fin cfg2.N)
theorem head1_in0 : head1Blk0 V d t = V d main_v168 := by
  funext y; show V d main_v168 _ = _; congr 1
  funext a; apply Fin.ext
  exact Pipeline.Window.rect_emb_val_of_index_zero (cfg2.win 0) t a ((by decide +kernel : ∀ (t : Fin cfg2.N) (a : Fin 2), (cfg2.win 0).index t a = 0) t a) y
theorem head1_in1 : head1Blk1 V d t = V d main_v56 := by
  funext y; show V d main_v56 _ = _; congr 1
  funext a; apply Fin.ext
  exact Pipeline.Window.rect_emb_val_of_index_zero (cfg2.win 1) t a ((by decide +kernel : ∀ (t : Fin cfg2.N) (a : Fin 2), (cfg2.win 1).index t a = 0) t a) y
theorem head1_in2 : head1Blk2 V d t = V d main_v191 := by
  funext y; show V d main_v191 _ = _; congr 1
  funext a; apply Fin.ext
  exact Pipeline.Window.rect_emb_val_of_index_zero (cfg2.win 2) t a ((by decide +kernel : ∀ (t : Fin cfg2.N) (a : Fin 2), (cfg2.win 2).index t a = 0) t a) y
theorem head1_in3 : head1Blk3 V d t = V d main_v194 := by
  funext y; show V d main_v194 _ = _; congr 1
  funext a; apply Fin.ext
  exact Pipeline.Window.rect_emb_val_of_index_zero (cfg2.win 3) t a ((by decide +kernel : ∀ (t : Fin cfg2.N) (a : Fin 2), (cfg2.win 3).index t a = 0) t a) y

theorem head1_left (n : ℕ) : (head1Dat V n d).after ⟨4, by decide⟩ t = head1Out (head1Blk0 V d t) (head1Blk1 V d t) (head1Blk2 V d t) (head1Blk3 V d t) := by
  unfold head1Dat
  dsimp only

theorem head1_covers : (cfg2.win 4).Covers := by decide +kernel

theorem head1_place (y : S64x4096.Idx) : ((cfg2.win 4).rect t).emb y = y := by
  funext a; apply Fin.ext
  exact Pipeline.Window.rect_emb_val_of_index_zero (cfg2.win 4) t a ((by decide +kernel : ∀ (t : Fin cfg2.N) (a : Fin 2), (cfg2.win 4).index t a = 0) t a) y

theorem head1_eq (n : ℕ) : (head1Dat V n d).arrAt 4 cfg2.N = head1Out (V d main_v168) (V d main_v56) (V d main_v191) (V d main_v194) := by
  have key : ∀ t : Fin cfg2.N, (cfg2.win 4).flush t = true → ∀ y : ((cfg2.win 4).xblock (cfg2.grid.coords t)).Idx,
      _root_.cast (congrArg (Elt F) ((cfg2.win 4).blk t).view.elt_eq.symm) ((head1Dat V n d).after 4 t ((cfg2.win 4).xinj (cfg2.grid.coords t) y))
        = head1Out (V d main_v168) (V d main_v56) (V d main_v191) (V d main_v194) (((cfg2.win 4).blk t).view.emb y) := fun t hf y => by
    refine Eq.trans (b := (head1Dat V n d).after 4 t y) rfl ?_
    refine (congrFun (head1_left V d t n) y).trans ?_
    rw [head1_in0, head1_in1, head1_in2, head1_in3]
    exact congrArg _ (head1_place t y).symm
  exact (head1Dat V n d).arrAt_eq_of_covers 4 _ head1_covers key

end

section
variable (V : (c : Dev nD) → Conts F c) (d : Dev nD) (t : Fin cfg3.N)
theorem head2_in0 : head2Blk0 V d t = V d main_v199 := by
  funext y; show V d main_v199 _ = _; congr 1
  funext a; apply Fin.ext
  exact Pipeline.Window.rect_emb_val_of_index_zero (cfg3.win 0) t a ((by decide +kernel : ∀ (t : Fin cfg3.N) (a : Fin 2), (cfg3.win 0).index t a = 0) t a) y
theorem head2_in1 : head2Blk1 V d t = V d main_v202 := by
  funext y; show V d main_v202 _ = _; congr 1
  funext a; apply Fin.ext
  exact Pipeline.Window.rect_emb_val_of_index_zero (cfg3.win 1) t a ((by decide +kernel : ∀ (t : Fin cfg3.N) (a : Fin 2), (cfg3.win 1).index t a = 0) t a) y
theorem head2_in2 : head2Blk2 V d t = V d main_v205 := by
  funext y; show V d main_v205 _ = _; congr 1
  funext a; apply Fin.ext
  exact Pipeline.Window.rect_emb_val_of_index_zero (cfg3.win 2) t a ((by decide +kernel : ∀ (t : Fin cfg3.N) (a : Fin 2), (cfg3.win 2).index t a = 0) t a) y
theorem head2_in3 : head2Blk3 V d t = V d main_v208 := by
  funext y; show V d main_v208 _ = _; congr 1
  funext a; apply Fin.ext
  exact Pipeline.Window.rect_emb_val_of_index_zero (cfg3.win 3) t a ((by decide +kernel : ∀ (t : Fin cfg3.N) (a : Fin 2), (cfg3.win 3).index t a = 0) t a) y
theorem head2_in4 : head2Blk4 V d t = V d main_v209 := by
  funext y; show V d main_v209 _ = _; congr 1
  funext a; apply Fin.ext
  exact Pipeline.Window.rect_emb_val_of_index_zero (cfg3.win 4) t a ((by decide +kernel : ∀ (t : Fin cfg3.N) (a : Fin 2), (cfg3.win 4).index t a = 0) t a) y
theorem head2_in5 : head2Blk5 V d t = V d main_v154 := by
  funext y; show V d main_v154 _ = _; congr 1
  funext a; apply Fin.ext
  exact Pipeline.Window.rect_emb_val_of_index_zero (cfg3.win 5) t a ((by decide +kernel : ∀ (t : Fin cfg3.N) (a : Fin 2), (cfg3.win 5).index t a = 0) t a) y
theorem head2_in6 : head2Blk6 V d t = V d main_v157 := by
  funext y; show V d main_v157 _ = _; congr 1
  funext a; apply Fin.ext
  exact Pipeline.Window.rect_emb_val_of_index_zero (cfg3.win 6) t a ((by decide +kernel : ∀ (t : Fin cfg3.N) (a : Fin 2), (cfg3.win 6).index t a = 0) t a) y

theorem head2_left (n : ℕ) : (head2Dat V n d).after ⟨7, by decide⟩ t = head2Out (head2Blk0 V d t) (head2Blk1 V d t) (head2Blk2 V d t) (head2Blk3 V d t) (head2Blk4 V d t) (head2Blk5 V d t) (head2Blk6 V d t) := by
  unfold head2Dat
  dsimp only

theorem head2_covers : (cfg3.win 7).Covers := by decide +kernel

theorem head2_place (y : S8192x32.Idx) : ((cfg3.win 7).rect t).emb y = y := by
  funext a; apply Fin.ext
  exact Pipeline.Window.rect_emb_val_of_index_zero (cfg3.win 7) t a ((by decide +kernel : ∀ (t : Fin cfg3.N) (a : Fin 2), (cfg3.win 7).index t a = 0) t a) y

theorem head2_eq (n : ℕ) : (head2Dat V n d).arrAt 7 cfg3.N = head2Out (V d main_v199) (V d main_v202) (V d main_v205) (V d main_v208) (V d main_v209) (V d main_v154) (V d main_v157) := by
  have key : ∀ t : Fin cfg3.N, (cfg3.win 7).flush t = true → ∀ y : ((cfg3.win 7).xblock (cfg3.grid.coords t)).Idx,
      _root_.cast (congrArg (Elt F) ((cfg3.win 7).blk t).view.elt_eq.symm) ((head2Dat V n d).after 7 t ((cfg3.win 7).xinj (cfg3.grid.coords t) y))
        = head2Out (V d main_v199) (V d main_v202) (V d main_v205) (V d main_v208) (V d main_v209) (V d main_v154) (V d main_v157) (((cfg3.win 7).blk t).view.emb y) := fun t hf y => by
    refine Eq.trans (b := (head2Dat V n d).after 7 t y) rfl ?_
    refine (congrFun (head2_left V d t n) y).trans ?_
    rw [head2_in0, head2_in1, head2_in2, head2_in3, head2_in4, head2_in5, head2_in6]
    exact congrArg _ (head2_place t y).symm
  exact (head2Dat V n d).arrAt_eq_of_covers 7 _ head2_covers key

end

section
variable (V : (c : Dev nD) → Conts F c) (d : Dev nD) (t : Fin cfg4.N)
theorem head3_in0 : head3Blk0 V d t = V d main_v213 := by
  funext y; show V d main_v213 _ = _; congr 1
  funext a; apply Fin.ext
  exact Pipeline.Window.rect_emb_val_of_index_zero (cfg4.win 0) t a ((by decide +kernel : ∀ (t : Fin cfg4.N) (a : Fin 2), (cfg4.win 0).index t a = 0) t a) y
theorem head3_in1 : head3Blk1 V d t = V d main_v216 := by
  funext y; show V d main_v216 _ = _; congr 1
  funext a; apply Fin.ext
  exact Pipeline.Window.rect_emb_val_of_index_zero (cfg4.win 1) t a ((by decide +kernel : ∀ (t : Fin cfg4.N) (a : Fin 2), (cfg4.win 1).index t a = 0) t a) y
theorem head3_in2 : head3Blk2 V d t = V d main_v219 := by
  funext y; show V d main_v219 _ = _; congr 1
  funext a; apply Fin.ext
  exact Pipeline.Window.rect_emb_val_of_index_zero (cfg4.win 2) t a ((by decide +kernel : ∀ (t : Fin cfg4.N) (a : Fin 2), (cfg4.win 2).index t a = 0) t a) y
theorem head3_in3 : head3Blk3 V d t = V d main_v222 := by
  funext y; show V d main_v222 _ = _; congr 1
  funext a; apply Fin.ext
  exact Pipeline.Window.rect_emb_val_of_index_zero (cfg4.win 3) t a ((by decide +kernel : ∀ (t : Fin cfg4.N) (a : Fin 2), (cfg4.win 3).index t a = 0) t a) y
theorem head3_in4 : head3Blk4 V d t = V d main_v223 := by
  funext y; show V d main_v223 _ = _; congr 1
  funext a; apply Fin.ext
  exact Pipeline.Window.rect_emb_val_of_index_zero (cfg4.win 4) t a ((by decide +kernel : ∀ (t : Fin cfg4.N) (a : Fin 2), (cfg4.win 4).index t a = 0) t a) y
theorem head3_in5 : head3Blk5 V d t = V d main_v163 := by
  funext y; show V d main_v163 _ = _; congr 1
  funext a; apply Fin.ext
  exact Pipeline.Window.rect_emb_val_of_index_zero (cfg4.win 5) t a ((by decide +kernel : ∀ (t : Fin cfg4.N) (a : Fin 2), (cfg4.win 5).index t a = 0) t a) y
theorem head3_in6 : head3Blk6 V d t = V d main_v166 := by
  funext y; show V d main_v166 _ = _; congr 1
  funext a; apply Fin.ext
  exact Pipeline.Window.rect_emb_val_of_index_zero (cfg4.win 6) t a ((by decide +kernel : ∀ (t : Fin cfg4.N) (a : Fin 2), (cfg4.win 6).index t a = 0) t a) y
theorem head3_in7 : head3Blk7 V d t = V d main_v229 := by
  funext y; show V d main_v229 _ = _; congr 1
  funext a; apply Fin.ext
  exact Pipeline.Window.rect_emb_val_of_index_zero (cfg4.win 7) t a ((by decide +kernel : ∀ (t : Fin cfg4.N) (a : Fin 2), (cfg4.win 7).index t a = 0) t a) y
theorem head3_in8 : head3Blk8 V d t = V d main_v230 := by
  funext y; show V d main_v230 _ = _; congr 1
  funext a; apply Fin.ext
  exact Pipeline.Window.rect_emb_val_of_index_zero (cfg4.win 8) t a ((by decide +kernel : ∀ (t : Fin cfg4.N) (a : Fin 2), (cfg4.win 8).index t a = 0) t a) y
theorem head3_in9 : head3Blk9 V d t = V d main_v231 := by
  funext y; show V d main_v231 _ = _; congr 1
  funext a; apply Fin.ext
  exact Pipeline.Window.rect_emb_val_of_index_zero (cfg4.win 9) t a ((by decide +kernel : ∀ (t : Fin cfg4.N) (a : Fin 2), (cfg4.win 9).index t a = 0) t a) y

theorem head3_left (n : ℕ) : (head3Dat V n d).after ⟨10, by decide⟩ t = head3Out (head3Blk0 V d t) (head3Blk1 V d t) (head3Blk2 V d t) (head3Blk3 V d t) (head3Blk4 V d t) (head3Blk5 V d t) (head3Blk6 V d t) (head3Blk7 V d t) (head3Blk8 V d t) (head3Blk9 V d t) := by
  unfold head3Dat
  dsimp only

theorem head3_covers : (cfg4.win 10).Covers := by decide +kernel

theorem head3_place (y : S64x1.Idx) : ((cfg4.win 10).rect t).emb y = y := by
  funext a; apply Fin.ext
  exact Pipeline.Window.rect_emb_val_of_index_zero (cfg4.win 10) t a ((by decide +kernel : ∀ (t : Fin cfg4.N) (a : Fin 2), (cfg4.win 10).index t a = 0) t a) y

theorem head3_eq (n : ℕ) : (head3Dat V n d).arrAt 10 cfg4.N = head3Out (V d main_v213) (V d main_v216) (V d main_v219) (V d main_v222) (V d main_v223) (V d main_v163) (V d main_v166) (V d main_v229) (V d main_v230) (V d main_v231) := by
  have key : ∀ t : Fin cfg4.N, (cfg4.win 10).flush t = true → ∀ y : ((cfg4.win 10).xblock (cfg4.grid.coords t)).Idx,
      _root_.cast (congrArg (Elt F) ((cfg4.win 10).blk t).view.elt_eq.symm) ((head3Dat V n d).after 10 t ((cfg4.win 10).xinj (cfg4.grid.coords t) y))
        = head3Out (V d main_v213) (V d main_v216) (V d main_v219) (V d main_v222) (V d main_v223) (V d main_v163) (V d main_v166) (V d main_v229) (V d main_v230) (V d main_v231) (((cfg4.win 10).blk t).view.emb y) := fun t hf y => by
    refine Eq.trans (b := (head3Dat V n d).after 10 t y) rfl ?_
    refine (congrFun (head3_left V d t n) y).trans ?_
    rw [head3_in0, head3_in1, head3_in2, head3_in3, head3_in4, head3_in5, head3_in6, head3_in7, head3_in8, head3_in9]
    exact congrArg _ (head3_place t y).symm
  exact (head3Dat V n d).arrAt_eq_of_covers 10 _ head3_covers key

end

end Cert.Proof.HeadArrs

end
-- ==== Proof.HeadVals.lean ====
/-
  What the bodies of the three head regions compute, entry by entry, over the extended reals.
-/
module

public import proofs.«01_k».proof.Proof.Head1
public import proofs.«01_k».proof.Proof.Head2
public import proofs.«01_k».proof.Proof.Head3
public import proofs.«01_k».proof.Proof.Reads

@[expose] public section

noncomputable section

namespace Cert.Proof.Head

open Cert.KernelIdeal Cert.KernelIdeal.Gen Cert.Proof.Reads
open Idealize.ShloMosaic Idealize.ShloMosaic.ValueIdx
open scoped BigOperators

/-- The greater of the two halves of a row of pairs. -/
def pairMax {n N w : ℕ} (h : w + w = N) (x : (⟨2, ![n, N]⟩ : Shape).Idx → EReal) (r : Fin n) (c : Fin w) : EReal :=
  max (x (ix2 r ⟨c.val, by omega⟩)) (x (ix2 r ⟨w + c.val, by omega⟩))

/-- The halves of a row of pairs as loaded and cut. -/
theorem pair_read {m n N w : ℕ} (hw : w + w = N) (o : ℕ) (x : (⟨2, ![n, N]⟩ : Shape).Idx → EReal)
    (inb : ∀ a, (![o, 0] : Fin 2 → ℕ) a + (![m, N] : Fin 2 → ℕ) a ≤ (⟨2, ![n, N]⟩ : Shape).size a)
    (h1 : (⟨2, ![m, N]⟩ : Shape).Slices ![0, 0] ⟨2, ![m, w]⟩) (h2 : (⟨2, ![m, N]⟩ : Shape).Slices ![0, w] ⟨2, ![m, w]⟩)
    (r : Fin m) (c : Fin w) (R : Fin n) (hR : R.val = o + r.val) :
    max (extractStridedSlice (s := ⟨2, ![m, N]⟩) (α := EReal) ⟨2, ![m, w]⟩ ![0, 0] (View.ld (Val := Elt Ideal) (e' := .f32) x (Rect.unit (s := ⟨2, ![n, N]⟩) ![o, 0] ![m, N] inb)) h1 (ix2 r c))
      (extractStridedSlice (s := ⟨2, ![m, N]⟩) (α := EReal) ⟨2, ![m, w]⟩ ![0, w] (View.ld (Val := Elt Ideal) (e' := .f32) x (Rect.unit (s := ⟨2, ![n, N]⟩) ![o, 0] ![m, N] inb)) h2 (ix2 r c))
      = pairMax hw x R c := by
  refine congrArg₂ max ?_ ?_
  · refine (block2 0 0 _ h1 r c r ⟨c.val, by omega⟩ (Nat.zero_add _).symm (Nat.zero_add _).symm).trans ?_
    exact ld2 o 0 x inb r ⟨c.val, by omega⟩ R ⟨c.val, by omega⟩ hR (Nat.zero_add _).symm
  · refine (block2 0 w _ h2 r c r ⟨w + c.val, by omega⟩ (Nat.zero_add _).symm rfl).trans ?_
    exact ld2 o 0 x inb r ⟨w + c.val, by omega⟩ R ⟨w + c.val, by omega⟩ hR (Nat.zero_add _).symm

/-- The second layer: three products of the pooled rows, the outer two masked at the ends of a row. -/
def conv2 (X0 : S8194x32.Idx → EReal) (X1 X2 X3 : S16x32.Idx → EReal) (X4 : S1x32.Idx → EReal) (X5 X6 : S8192x1.Idx → EReal)
    (r : Fin 8192) (o : Fin 32) : EReal :=
  max ((((∑ c : Fin 16, (pairMax (w := 16) (N := 32) rfl X0 ⟨0 + r.val, by omega⟩ c * X5 (ix2 r 0)) * X1 (ix2 c o))
      + ∑ c : Fin 16, pairMax (w := 16) (N := 32) rfl X0 ⟨1 + r.val, by omega⟩ c * X2 (ix2 c o))
      + ∑ c : Fin 16, (pairMax (w := 16) (N := 32) rfl X0 ⟨2 + r.val, by omega⟩ c * X6 (ix2 r 0)) * X3 (ix2 c o)) + X4 (ix2 0 o)) 0

theorem head2_apply (X0 : S8194x32.Idx → EReal) (X1 X2 X3 : S16x32.Idx → EReal) (X4 : S1x32.Idx → EReal) (X5 X6 : S8192x1.Idx → EReal)
    (r : Fin 8192) (o : Fin 32) : Ring.head2Out (F := Ideal) X0 X1 X2 X3 X4 X5 X6 (ix2 r o) = conv2 X0 X1 X2 X3 X4 X5 X6 r o := by
  unfold Ring.head2Out k3_pay1 k3_pay2 conv2
  simp only [shapeCast_self, maximumf_apply, addf_apply, mulf_apply]
  refine congrArg₂ max (congrArg₂ (· + ·) (congrArg₂ (· + ·) (congrArg₂ (· + ·) ?_ ?_) ?_) ?_) Ideal.ofBits_zero_f32
  · refine (mm (m := 8192) (k := 16) (n := 32) rfl none _ _ r o).trans (Finset.sum_congr rfl fun c _ => congrArg₂ (· * ·) (congrArg₂ (· * ·) ?_ ?_) (congrFun (ld2_whole X1 _) _))
    · exact pair_read (w := 16) (N := 32) rfl 0 X0 _ _ _ r c _ rfl
    · rw [ld2_whole]; exact col_spread X5 _ r c
  · refine (mm (m := 8192) (k := 16) (n := 32) rfl none _ _ r o).trans (Finset.sum_congr rfl fun c _ => congrArg₂ (· * ·) ?_ (congrFun (ld2_whole X2 _) _))
    exact pair_read (w := 16) (N := 32) rfl 1 X0 _ _ _ r c _ rfl
  · refine (mm (m := 8192) (k := 16) (n := 32) rfl none _ _ r o).trans (Finset.sum_congr rfl fun c _ => congrArg₂ (· * ·) (congrArg₂ (· * ·) ?_ ?_) (congrFun (ld2_whole X3 _) _))
    · exact pair_read (w := 16) (N := 32) rfl 2 X0 _ _ _ r c _ rfl
    · rw [ld2_whole]; exact col_spread X6 _ r c
  · rw [ld2_whole]; exact row_spread X4 _ r o

/-- The third layer, likewise. -/
def conv3 (X0 : S4098x64.Idx → EReal) (X1 X2 X3 : S32x64.Idx → EReal) (X4 : S1x64.Idx → EReal) (X5 X6 : S4096x1.Idx → EReal)
    (r : Fin 4096) (o : Fin 64) : EReal :=
  max ((((∑ c : Fin 32, (pairMax (w := 32) (N := 64) rfl X0 ⟨0 + r.val, by omega⟩ c * X5 (ix2 r 0)) * X1 (ix2 c o))
      + ∑ c : Fin 32, pairMax (w := 32) (N := 64) rfl X0 ⟨1 + r.val, by omega⟩ c * X2 (ix2 c o))
      + ∑ c : Fin 32, (pairMax (w := 32) (N := 64) rfl X0 ⟨2 + r.val, by omega⟩ c * X6 (ix2 r 0)) * X3 (ix2 c o)) + X4 (ix2 0 o)) 0

theorem head3_apply (X0 : S4098x64.Idx → EReal) (X1 X2 X3 : S32x64.Idx → EReal) (X4 : S1x64.Idx → EReal) (X5 X6 : S4096x1.Idx → EReal)
    (X7 : S64x4096.Idx → EReal) (X8 : S64x1.Idx → EReal) (X9 : S1x1.Idx → EReal) (b : Fin 64) :
    Ring.head3Out (F := Ideal) X0 X1 X2 X3 X4 X5 X6 X7 X8 X9 (ix2 b 0)
      = (∑ r : Fin 4096, X7 (ix2 b r) * ∑ o : Fin 64, conv3 X0 X1 X2 X3 X4 X5 X6 r o * X8 (ix2 o 0)) + X9 (ix2 0 0) := by
  unfold Ring.head3Out k4_pay1 k4_pay2
  simp only [shapeCast_self, addf_apply]
  refine congrArg₂ (· + ·) ?_ (by rw [ld2_whole]; exact row_spread X9 _ b 0)
  refine (mm (m := 64) (k := 4096) (n := 1) rfl none _ _ b 0).trans (Finset.sum_congr rfl fun r _ => congrArg₂ (· * ·) (congrFun (ld2_whole X7 _) _) ?_)
  refine (mm (m := 4096) (k := 64) (n := 1) rfl none _ _ r 0).trans (Finset.sum_congr rfl fun o _ => congrArg₂ (· * ·) ?_ (congrFun (ld2_whole X8 _) _))
  unfold conv3
  simp only [maximumf_apply, addf_apply, mulf_apply]
  refine congrArg₂ max (congrArg₂ (· + ·) (congrArg₂ (· + ·) (congrArg₂ (· + ·) ?_ ?_) ?_) ?_) Ideal.ofBits_zero_f32
  · refine (mm (m := 4096) (k := 32) (n := 64) rfl none _ _ r o).trans (Finset.sum_congr rfl fun c _ => congrArg₂ (· * ·) (congrArg₂ (· * ·) ?_ ?_) (congrFun (ld2_whole X1 _) _))
    · exact pair_read (w := 32) (N := 64) rfl 0 X0 _ _ _ r c _ rfl
    · rw [ld2_whole]; exact col_spread X5 _ r c
  · refine (mm (m := 4096) (k := 32) (n := 64) rfl none _ _ r o).trans (Finset.sum_congr rfl fun c _ => congrArg₂ (· * ·) ?_ (congrFun (ld2_whole X2 _) _))
    exact pair_read (w := 32) (N := 64) rfl 1 X0 _ _ _ r c _ rfl
  · refine (mm (m := 4096) (k := 32) (n := 64) rfl none _ _ r o).trans (Finset.sum_congr rfl fun c _ => congrArg₂ (· * ·) (congrArg₂ (· * ·) ?_ ?_) (congrFun (ld2_whole X3 _) _))
    · exact pair_read (w := 32) (N := 64) rfl 2 X0 _ _ _ r c _ rfl
    · rw [ld2_whole]; exact col_spread X6 _ r c
  · rw [ld2_whole]; exact row_spread X4 _ r o

/-- The least entry of a row. -/
def rowMin (p : ℕ → EReal) : EReal := (Finset.range 256).fold min (Ideal.ofBits .f32 0x7F800000#32) p
/-- The greatest entry of a row. -/
def rowMax (p : ℕ → EReal) : EReal := (Finset.range 256).fold max (Ideal.ofBits .f32 0xFF800000#32) p

/-- A row taken to the unit interval. -/
def unitRow (p : ℕ → EReal) (n : ℕ) : EReal :=
  Scalar.select (FloatOps.cmpf (F := Ideal) (φ := .f32) .ogt (rowMax p - rowMin p) 0) (Ideal.div (p n - rowMin p) (rowMax p - rowMin p)) 0

theorem fold_fin (op : EReal → EReal → EReal) [Std.Commutative op] [Std.Associative op] (a : EReal) (f : ℕ → EReal) :
    (Finset.univ : Finset (Fin 256)).fold op a (fun i => f i.val) = (Finset.range 256).fold op a f := by
  have h : Finset.range 256 = (Finset.univ : Finset (Fin 256)).map Fin.valEmbedding := by
    ext x; simp only [Finset.mem_range, Finset.mem_map, Finset.mem_univ, true_and, Fin.valEmbedding_apply]
    exact ⟨fun hx => ⟨⟨x, hx⟩, rfl⟩, fun ⟨y, hy⟩ => hy ▸ y.isLt⟩
  rw [h, Finset.fold_map]; rfl

theorem head1_apply (X0 : S64x512.Idx → EReal) (X1 : S1x256.Idx → EReal) (X2 : S256x4096.Idx → EReal) (X3 : S1x4096.Idx → EReal)
    (p : ℕ → EReal) (b : Fin 64) (o : Fin 4096)
    (hp : ∀ n : Fin 256, p n.val = Ideal.log1p (X0 (ix2 b ⟨n.val, by omega⟩) * X1 (ix2 0 n))) :
    Ring.head1Out (F := Ideal) X0 X1 X2 X3 (ix2 b o)
      = max ((∑ n : Fin 256, unitRow p n.val * X2 (ix2 n o)) + X3 (ix2 0 o)) 0 := by
  have e6 : ∀ n : Fin 256, (log1p (mulf (View.ld (Val := Elt Ideal) (e' := .f32) X0 (Rect.unit (s := S64x512) ![0, 0] ![64, 256] inb_S64x512_S64x256_0_0))
      (broadcastTo S64x256 (View.ld (Val := Elt Ideal) (e' := .f32) X1 (Rect.unit (s := S1x256) ![0, 0] ![1, 256] inb_S1x256_S1x256_0_0)) broadcasts_S1x256_S64x256)) : FVec Ideal S64x256 .f32) (ix2 b n)
      = p n.val := by
    intro n
    rw [hp n]
    refine congrArg Ideal.log1p (congrArg₂ (· * ·) ?_ ?_)
    · exact ld2 0 0 X0 _ b n b _ (Nat.zero_add _).symm (Nat.zero_add _).symm
    · rw [ld2_whole]; exact row_spread X1 _ b n
  unfold Ring.head1Out k2_pay1
  simp only [shapeCast_self, maximumf_apply, addf_apply]
  generalize hw : (log1p (mulf (View.ld (Val := Elt Ideal) (e' := .f32) X0 (Rect.unit (s := S64x512) ![0, 0] ![64, 256] inb_S64x512_S64x256_0_0))
      (broadcastTo S64x256 (View.ld (Val := Elt Ideal) (e' := .f32) X1 (Rect.unit (s := S1x256) ![0, 0] ![1, 256] inb_S1x256_S1x256_0_0)) broadcasts_S1x256_S64x256)) : FVec Ideal S64x256 .f32) = w at e6 ⊢
  have hl : ∀ n : Fin 256, reduces_S64x256_S64.lift (ix1 b) n = ix2 b n := fun n => by
    funext a; match a with | ⟨0, _⟩ => rfl | ⟨1, _⟩ => rfl
  have emin : multiReduction .minimumf [1] S64 w 0x7F800000#32 reduces_S64x256_S64 (.inl rfl) rfl (ix1 b) = rowMin p := by
    refine (multiReduction_minimumf_eq_fold _ _ _ _ _ _).trans ?_
    refine (Shape.Reduces.fold_filter_drop_single _ _ _ w (ix1 b)).trans ?_
    refine (Finset.fold_congr (g := fun n : Fin 256 => p n.val) fun n _ => ?_).trans (fold_fin min _ p)
    exact (congrArg w (hl n)).trans (e6 n)
  have emax : multiReduction .maximumf [1] S64 w 0xFF800000#32 reduces_S64x256_S64 (.inl rfl) rfl (ix1 b) = rowMax p := by
    refine (Ideal.multiReduction_maximumf_single _ _ _ _ _ _).trans ?_
    refine (Finset.fold_congr (g := fun n : Fin 256 => p n.val) fun n _ => ?_).trans (fold_fin max _ p)
    exact (congrArg w (hl n)).trans (e6 n)
  refine congrArg₂ max (congrArg₂ (· + ·) ?_ (by rw [ld2_whole]; exact row_spread X3 _ b o)) Ideal.ofBits_zero_f32
  refine (mm (m := 64) (k := 256) (n := 4096) rfl none _ _ b o).trans (Finset.sum_congr rfl fun n _ => congrArg₂ (· * ·) ?_ (congrFun (ld2_whole X2 _) _))
  rw [select_apply]
  unfold unitRow
  have c1 : shapeCast S64x1 (multiReduction .minimumf [1] S64 w 0x7F800000#32 reduces_S64x256_S64 (.inl rfl) rfl) shapeCasts_S64_S64x1 (ix2 b 0) = rowMin p :=
    (cast_col _ _ b).trans emin
  have c2 : shapeCast S64x1 (multiReduction .maximumf [1] S64 w 0xFF800000#32 reduces_S64x256_S64 (.inl rfl) rfl) shapeCasts_S64_S64x1 (ix2 b 0) = rowMax p :=
    (cast_col _ _ b).trans emax
  refine congr (congr (congrArg Scalar.select ?_) ?_) Ideal.ofBits_zero_f32
  · refine (col_spread _ _ b n).trans ?_
    rw [cmpf_apply, subf_apply, c1, c2]
    exact congrArg (FloatOps.cmpf (F := Ideal) (φ := .f32) .ogt _) Ideal.ofBits_zero_f32
  · rw [divf_apply, subf_apply, e6 n]
    refine congrArg₂ Ideal.div (congrArg₂ (· - ·) rfl ?_) ?_
    · exact (col_spread _ _ b n).trans c1
    · refine (col_spread _ _ b n).trans ?_
      rw [subf_apply, c1, c2]

end Cert.Proof.Head

end
-- ==== Proof.Image.lean ====
/-
  A batch of pictures over the extended reals: the luminance of a pixel, a real number where the picture is finite.
-/
module

public import proofs.«01_k».proof.Proof.Gen.Pre_finite_image
public import proofs.«01_k».proof.Pre_finite_image
public import Idealize.ShloMosaic.Lib.ReduceAll
public import Idealize.ShloMosaic.Lib.ValueIdx
public import Idealize.ShloMosaic.Lib.WordCmp
public import Idealize.ShloMosaic.PureOps.Ideal

@[expose] public section

noncomputable section

namespace Cert.Proof.Image

open Idealize.ShloMosaic Idealize.ShloMosaic.ValueIdx

abbrev Batch : Shape := ⟨4, ![64, 3, 512, 512]⟩

/-- The three channels weighted. -/
def lum (X : Batch.Idx → EReal) (b : Fin 64) (j k : Fin 512) : EReal :=
  Ideal.ofBits .f32 0x3E99096C#32 * X (ix4 b 0 j k) + Ideal.ofBits .f32 0x3F1645A2#32 * X (ix4 b 1 j k) + Ideal.ofBits .f32 0x3DE978D5#32 * X (ix4 b 2 j k)

/-- The luminances of picture `b` as real numbers. -/
def pic (X : Batch.Idx → EReal) (b : Fin 64) (j k : ℕ) : ℝ :=
  if h : j < 512 ∧ k < 512 then (lum X b ⟨j, h.1⟩ ⟨k, h.2⟩).toReal else 0

/-- Every element is a real number. -/
def Finite (X : Batch.Idx → EReal) : Prop := ∀ i, ∃ r : ℝ, X i = (r : EReal)

theorem wr : ∃ r : ℝ, Ideal.ofBits .f32 0x3E99096C#32 = (r : EReal) := ⟨10029420 * (2 ^ 25)⁻¹, by simp [Ideal.ofBits, Ideal.ieee, -EReal.coe_mul]⟩
theorem wg : ∃ r : ℝ, Ideal.ofBits .f32 0x3F1645A2#32 = (r : EReal) := ⟨9848226 * (2 ^ 24)⁻¹, by simp [Ideal.ofBits, Ideal.ieee, -EReal.coe_mul]⟩
theorem wb : ∃ r : ℝ, Ideal.ofBits .f32 0x3DE978D5#32 = (r : EReal) := ⟨15300821 * (2 ^ 27)⁻¹, by simp [Ideal.ofBits, Ideal.ieee, -EReal.coe_mul]⟩

theorem lum_pic {X : Batch.Idx → EReal} (h : Finite X) (b : Fin 64) (j k : Fin 512) : lum X b j k = ((pic X b j.val k.val : ℝ) : EReal) := by
  unfold pic
  rw [dif_pos ⟨j.isLt, k.isLt⟩]
  obtain ⟨r, hr⟩ := wr
  obtain ⟨g, hg⟩ := wg
  obtain ⟨u, hu⟩ := wb
  obtain ⟨x0, h0⟩ := h (ix4 b 0 j k)
  obtain ⟨x1, h1⟩ := h (ix4 b 1 j k)
  obtain ⟨x2, h2⟩ := h (ix4 b 2 j k)
  have e : lum X b j k = ((r * x0 + g * x1 + u * x2 : ℝ) : EReal) := by
    unfold lum
    rw [hr, hg, hu, h0, h1, h2, ← EReal.coe_mul, ← EReal.coe_mul, ← EReal.coe_mul, ← EReal.coe_add, ← EReal.coe_add]
  rw [show (⟨j.val, j.isLt⟩ : Fin 512) = j from rfl, show (⟨k.val, k.isLt⟩ : Fin 512) = k from rfl, e, EReal.toReal_coe]

/-- The precondition makes the picture finite. -/
theorem finite_of_pre [Cert.Pre_finite_image.Facts] {X : FVec Ideal Cert.Pre_finite_image.S64x3x512x512 .f32} {a1 a2 a3 a4 a5 a6 a7 a8}
    (h : Cert.Pre_finite_image.fn (F := Ideal) X a1 a2 a3 a4 a5 a6 a7 a8 = fun _ => 1#1) : Finite X := fun i => by
  unfold Cert.Pre_finite_image.fn at h
  haveI : Subsingleton Cert.Pre_finite_image.S_.Idx := ⟨fun a b => funext fun x => x.elim0⟩
  have e := Host.reduce_andi_all _ _ _ _ ix0 (congrFun h ix0) i
  change Ideal.cmp .olt (max (X i) (-(X i))) (Ideal.ofBits .f32 0x7F800000#32) = 1#1 at e
  have top : Ideal.ofBits .f32 0x7F800000#32 = ⊤ := by simp [Ideal.ofBits, Ideal.ieee]
  rw [top] at e
  have h2 : max (X i) (-(X i)) < ⊤ := by
    by_contra hc
    change BitVec.ofBool (decide (max (X i) (-(X i)) < ⊤)) = 1#1 at e
    rw [decide_eq_false hc] at e
    exact absurd e (by decide)
  refine ⟨(X i).toReal, (EReal.coe_toReal (fun hx => ?_) (fun hx => ?_)).symm⟩
  · rw [hx] at h2; exact absurd h2 (by simp)
  · rw [hx] at h2; exact absurd h2 (by simp)

end Cert.Proof.Image

end
-- ==== Proof.Mags.lean ====
/-
  What the transform's kernel leaves: for picture `b`, row `r` and column `p`, the sizes at the frequencies of the row and of its mirror
  image, times the column's weight.
-/
module

public import proofs.«01_k».proof.Proof.Contents
public import proofs.«01_k».proof.Proof.Tables
public import proofs.«01_k».proof.Proof.Image
public import Idealize.ShloMosaic.Lib.Pipeline.ValueKit.Geometry

@[expose] public section

noncomputable section

namespace Cert.Proof.Mags

open Cert.KernelIdeal Cert.KernelIdeal.Gen Cert.Proof.Host Cert.Proof.Dft Cert.Proof.FftVal Cert.Proof.Tables Cert.Proof.Image Cert.Proof.Ring
open Idealize.ShloMosaic Idealize.ShloMosaic.StableHlo Idealize.ShloMosaic.ValueIdx
open Idealize.ShloMosaic.TcCoe
open Idealize.ShloMosaic.SparseCore.Cfg (HIx)
open Idealize.SL Idealize.SL.Sem
open scoped BigOperators
open Finset (range)

/-- The folded and weighted sizes of a picture. -/
def folded (g : ℕ → ℕ → ℝ) (r p : ℕ) : ℝ :=
  (mag g (rowFreq r) (perm p) + if rowFreq r = 0 then 0 else mag g ((512 - rowFreq r : ℕ) : ℤ) (perm p)) * weight p

variable (m : (ℓ : Loc nD τ sig) → Buf (Elt Ideal) ℓ)

/-- The pictures. -/
abbrev pics (d : Dev nD) : Batch.Idx → EReal := m ((d.tc : Thread nD τ).loc main_arg0)

theorem arg0_val (d : Dev nD) : V1 m d (Proc.devRef .tc main_arg0) = pics m d := by
  unfold V1; rw [endA0 _ main_arg0 (by decide)]; rfl

section
variable (V : (c : Dev nD) → Conts Ideal c) (d : Dev nD) (t : Fin cfg0.N)
theorem blk1_whole : fftBlk1 V d t = V d main_v71 := by
  funext y; show V d main_v71 _ = _; congr 1
  funext a; apply Fin.ext
  exact Pipeline.Window.rect_emb_val_of_index_zero (cfg0.win 1) t a ((by decide +kernel : ∀ (t : Fin cfg0.N) (a : Fin 2), (cfg0.win 1).index t a = 0) t a) y
theorem blk2_whole : fftBlk2 V d t = V d main_v75 := by
  funext y; show V d main_v75 _ = _; congr 1
  funext a; apply Fin.ext
  exact Pipeline.Window.rect_emb_val_of_index_zero (cfg0.win 2) t a ((by decide +kernel : ∀ (t : Fin cfg0.N) (a : Fin 2), (cfg0.win 2).index t a = 0) t a) y
theorem blk3_whole : fftBlk3 V d t = V d main_v88 := by
  funext y; show V d main_v88 _ = _; congr 1
  funext a; apply Fin.ext
  exact Pipeline.Window.rect_emb_val_of_index_zero (cfg0.win 3) t a ((by decide +kernel : ∀ (t : Fin cfg0.N) (a : Fin 2), (cfg0.win 3).index t a = 0) t a) y
theorem blk4_whole : fftBlk4 V d t = V d main_v92 := by
  funext y; show V d main_v92 _ = _; congr 1
  funext a; apply Fin.ext
  exact Pipeline.Window.rect_emb_val_of_index_zero (cfg0.win 4) t a ((by decide +kernel : ∀ (t : Fin cfg0.N) (a : Fin 2), (cfg0.win 4).index t a = 0) t a) y
theorem blk5_whole : fftBlk5 V d t = V d main_v100 := by
  funext y; show V d main_v100 _ = _; congr 1
  funext a; apply Fin.ext
  exact Pipeline.Window.rect_emb_val_of_index_zero (cfg0.win 5) t a ((by decide +kernel : ∀ (t : Fin cfg0.N) (a : Fin 2), (cfg0.win 5).index t a = 0) t a) y
theorem blk6_whole : fftBlk6 V d t = V d main_v107 := by
  funext y; show V d main_v107 _ = _; congr 1
  funext a; apply Fin.ext
  exact Pipeline.Window.rect_emb_val_of_index_zero (cfg0.win 6) t a ((by decide +kernel : ∀ (t : Fin cfg0.N) (a : Fin 2), (cfg0.win 6).index t a = 0) t a) y
theorem blk7_whole : fftBlk7 V d t = V d main_v111 := by
  funext y; show V d main_v111 _ = _; congr 1
  funext a; apply Fin.ext
  exact Pipeline.Window.rect_emb_val_of_index_zero (cfg0.win 7) t a ((by decide +kernel : ∀ (t : Fin cfg0.N) (a : Fin 2), (cfg0.win 7).index t a = 0) t a) y
theorem blk8_whole : fftBlk8 V d t = V d main_v122 := by
  funext y; show V d main_v122 _ = _; congr 1
  funext a; apply Fin.ext
  exact Pipeline.Window.rect_emb_val_of_index_zero (cfg0.win 8) t a ((by decide +kernel : ∀ (t : Fin cfg0.N) (a : Fin 2), (cfg0.win 8).index t a = 0) t a) y
theorem blk9_whole : fftBlk9 V d t = V d main_v128 := by
  funext y; show V d main_v128 _ = _; congr 1
  funext a; apply Fin.ext
  exact Pipeline.Window.rect_emb_val_of_index_zero (cfg0.win 9) t a ((by decide +kernel : ∀ (t : Fin cfg0.N) (a : Fin 2), (cfg0.win 9).index t a = 0) t a) y

/-- Block `t` of the pictures is picture `t`. -/
theorem blk0_read (y : S1x3x512x512.Idx) : fftBlk0 V d t y = V d main_arg0 (ix4 (⟨t.val, t.isLt⟩ : Fin 64) (y 1) (y 2) (y 3)) := by
  show V d main_arg0 _ = _
  congr 1
  have h0 : (y 0).val = 0 := by have : (y 0).val < 1 := (y 0).isLt; omega
  funext a; apply Fin.ext
  refine (Pipeline.Window.rect_emb_val (cfg0.win 0) t y a rfl).trans ?_
  rw [(by decide +kernel : ∀ (t : Fin cfg0.N) (a : Fin 4), (cfg0.win 0).index t a = if a = 0 then t.val else 0) t a]
  match a with
  | ⟨0, _⟩ => show t.val * 1 + (y 0).val = t.val; omega
  | ⟨1, _⟩ => show 0 * 3 + (y 1).val = (y 1).val; omega
  | ⟨2, _⟩ => show 0 * 512 + (y 2).val = (y 2).val; omega
  | ⟨3, _⟩ => show 0 * 512 + (y 3).val = (y 3).val; omega

end

/-- What the body leaves at point `t`. -/
theorem block_val (d : Dev nD) (h : Finite (pics m d)) (t : Fin cfg0.N) (y : S1x256x256.Idx) :
    fftOut (F := Ideal) (fftBlk0 (seen (V1 m)) d t) (fftBlk1 (seen (V1 m)) d t) (fftBlk2 (seen (V1 m)) d t) (fftBlk3 (seen (V1 m)) d t) (fftBlk4 (seen (V1 m)) d t)
      (fftBlk5 (seen (V1 m)) d t) (fftBlk6 (seen (V1 m)) d t) (fftBlk7 (seen (V1 m)) d t) (fftBlk8 (seen (V1 m)) d t) (fftBlk9 (seen (V1 m)) d t) y
      = ((folded (pic (pics m d) ⟨t.val, t.isLt⟩) (y 1).val (y 2).val : ℝ) : EReal) := by
  rw [blk1_whole, blk2_whole, blk3_whole, blk4_whole, blk5_whole, blk6_whole, blk7_whole, blk8_whole, blk9_whole]
  have hg : ∀ j k : Fin 512, gray (fftBlk0 (seen (V1 m)) d t) j k = ((pic (pics m d) ⟨t.val, t.isLt⟩ j.val k.val : ℝ) : EReal) := fun j k => by
    rw [← lum_pic h]
    unfold gray lum
    rw [blk0_read, blk0_read, blk0_read]
    show _ * V1 m d (Proc.devRef .tc main_arg0) _ + _ * V1 m d (Proc.devRef .tc main_arg0) _ + _ * V1 m d (Proc.devRef .tc main_arg0) _ = _
    rw [arg0_val]
  refine (fftOut_apply hg (cos_row _) (sin_row _) (cos_col _) (sin_col _) (cos_turn _) (sin_turn _) (weights _) (even_tab _) (odd_tab _) y).trans ?_
  unfold folded
  refine congrArg _ (congrArg (· * _) ?_)
  have := fold_sum (y 1).val (y 1).isLt fun u => mag (pic (pics m d) ⟨t.val, t.isLt⟩) u (perm (y 2).val)
  push_cast at this ⊢
  exact this

theorem place0 (t : Fin cfg0.N) (y : S1x256x256.Idx) : (((cfg0.win 10).rect t).emb y 0 : ℕ) = t.val := by
  have h0 : (y 0).val = 0 := by have : (y 0).val < 1 := (y 0).isLt; omega
  refine (Pipeline.Window.rect_emb_val (cfg0.win 10) t y 0 rfl).trans ?_
  rw [(by decide +kernel : ∀ (t : Fin cfg0.N), (cfg0.win 10).index t 0 = t.val) t]
  show t.val * 1 + (y 0).val = t.val
  omega
theorem place1 (t : Fin cfg0.N) (y : S1x256x256.Idx) : (((cfg0.win 10).rect t).emb y 1 : ℕ) = (y 1).val :=
  Pipeline.Window.rect_emb_val_of_index_zero (cfg0.win 10) t 1 ((by decide +kernel : ∀ (t : Fin cfg0.N), (cfg0.win 10).index t 1 = 0) t) y
theorem place2 (t : Fin cfg0.N) (y : S1x256x256.Idx) : (((cfg0.win 10).rect t).emb y 2 : ℕ) = (y 2).val :=
  Pipeline.Window.rect_emb_val_of_index_zero (cfg0.win 10) t 2 ((by decide +kernel : ∀ (t : Fin cfg0.N), (cfg0.win 10).index t 2 = 0) t) y

/-- The whole array. -/
def foldedAll (X : Batch.Idx → EReal) : S64x256x256.Idx → EReal := fun i => ((folded (pic X (i 0)) (i 1).val (i 2).val : ℝ) : EReal)

theorem foldedAll_at (X : Batch.Idx → EReal) (Y : S64x256x256.Idx) (b : Fin 64) (r p : ℕ) (e0 : (Y 0).val = b.val) (e1 : (Y 1).val = r) (e2 : (Y 2).val = p) :
    ((folded (pic X b) r p : ℝ) : EReal) = foldedAll X Y := by
  obtain rfl : Y 0 = b := Fin.ext e0
  subst e1 e2
  rfl

theorem covers : (cfg0.win 10).Covers := by decide +kernel

theorem left_at {F : FTy → Type} [FloatOps F] [∀ e, Nonempty (Elt F e)] (V : (c : Dev nD) → Conts F c) (n : ℕ) (d : Dev nD) (t : Fin cfg0.N) :
    (fftDat V n d).after ⟨10, by decide⟩ t = fftOut (fftBlk0 V d t) (fftBlk1 V d t) (fftBlk2 V d t) (fftBlk3 V d t) (fftBlk4 V d t)
      (fftBlk5 V d t) (fftBlk6 V d t) (fftBlk7 V d t) (fftBlk8 V d t) (fftBlk9 V d t) := by
  unfold fftDat
  dsimp only

theorem mags_eq (d : Dev nD) (h : Finite (pics m d)) : mags m d = foldedAll (pics m d) := by
  unfold mags
  have key : ∀ t : Fin cfg0.N, (cfg0.win 10).flush t = true → ∀ y : ((cfg0.win 10).xblock (cfg0.grid.coords t)).Idx,
      _root_.cast (congrArg (Elt Ideal) ((cfg0.win 10).blk t).view.elt_eq.symm) ((fftDat (seen (V1 m)) 0 d).after 10 t ((cfg0.win 10).xinj (cfg0.grid.coords t) y))
        = foldedAll (pics m d) (((cfg0.win 10).blk t).view.emb y) := fun t hf y => by
    refine Eq.trans (b := (fftDat (seen (V1 m)) 0 d).after 10 t y) rfl ?_
    refine (congrFun (left_at (seen (V1 m)) 0 d t) y).trans ?_
    refine (block_val m d h t y).trans ?_
    exact foldedAll_at _ (((cfg0.win 10).rect t).emb y) ⟨t.val, t.isLt⟩ _ _ (place0 t y) (place1 t y) (place2 t y)
  exact (fftDat (seen (V1 m)) 0 d).arrAt_eq_of_covers 10 (foldedAll (pics m d)) covers key

end Cert.Proof.Mags

end
-- ==== Proof.Rings.lean ====
/-
  The sum of the sizes over a ring of frequencies, two ways: over all frequencies with the zero frequency in the middle, and over one
  quarter of them, each standing for its mirror images.
-/
module

public import proofs.«01_k».proof.Proof.Mags

@[expose] public section

noncomputable section

namespace Cert.Proof.Rings

open Cert.Proof.Dft Cert.Proof.Tables Cert.Proof.Mags
open scoped BigOperators
open Finset (range)

/-- The distance of a frequency from zero, around the circle of 512. -/
def dist (n : ℕ) : ℕ := if n ≤ 256 then n else 512 - n

/-- What a frequency adds to ring `ρ`. -/
def part (g : ℕ → ℕ → ℝ) (ρ u v : ℕ) : ℝ := if Nat.sqrt (dist u * dist u + dist v * dist v) = ρ then mag g u v else 0

/-- The sum over the ring, zero frequency in the middle. -/
def ring (g : ℕ → ℕ → ℝ) (ρ : ℕ) : ℝ := ∑ y ∈ range 512, ∑ z ∈ range 512, part g ρ ((y + 256) % 512) ((z + 256) % 512)

/-- The sum over the folded quarter. -/
def quarter (g : ℕ → ℕ → ℝ) (ρ : ℕ) : ℝ :=
  ∑ r ∈ range 256, ∑ p ∈ range 256, if Nat.sqrt (rowFreq r * rowFreq r + perm p * perm p) = ρ then folded g r p else 0

theorem dist_mirror {n : ℕ} (h0 : 0 < n) (h : n < 512) : dist (512 - n) = dist n := by unfold dist; split <;> split <;> omega
theorem dist_small {n : ℕ} (h : n ≤ 256) : dist n = n := if_pos h

theorem mag_mirror (g : ℕ → ℕ → ℝ) {u v : ℕ} (hu : u ≤ 512) (hv : v ≤ 512) : mag g ((512 - u : ℕ) : ℤ) ((512 - v : ℕ) : ℤ) = mag g u v := by
  rw [← mag_neg g u v, ← mag_turn g (-u) (-v) 1 1]
  congr 1 <;> omega
theorem mag_mirror0 (g : ℕ → ℕ → ℝ) {v : ℕ} (hv : v ≤ 512) : mag g ((0 : ℕ) : ℤ) ((512 - v : ℕ) : ℤ) = mag g ((0 : ℕ) : ℤ) v := by
  rw [← mag_neg g ((0 : ℕ) : ℤ) v, ← mag_turn g (-((0 : ℕ) : ℤ)) (-v) 0 1]
  congr 1; omega

theorem part_mirror (g : ℕ → ℕ → ℝ) (ρ : ℕ) {u v : ℕ} (hu : 0 < u) (hu' : u < 512) (hv : 0 < v) (hv' : v < 512) : part g ρ (512 - u) (512 - v) = part g ρ u v := by
  unfold part; rw [dist_mirror hu hu', dist_mirror hv hv', mag_mirror g hu'.le hv'.le]
theorem part_mirror0 (g : ℕ → ℕ → ℝ) (ρ : ℕ) {v : ℕ} (hv : 0 < v) (hv' : v < 512) : part g ρ 0 (512 - v) = part g ρ 0 v := by
  unfold part; rw [dist_mirror hv hv', mag_mirror0 g hv'.le]

theorem sqrt_ge (a b : ℕ) : a ≤ Nat.sqrt (a * a + b) := by
  rw [Nat.le_sqrt]; omega
theorem part_far (g : ℕ → ℕ → ℝ) {ρ : ℕ} (h : ρ < 256) (u : ℕ) : part g ρ u 256 = 0 ∧ part g ρ 256 u = 0 := by
  unfold part
  rw [dist_small (le_refl 256)]
  have a := sqrt_ge 256 (dist u * dist u)
  constructor
  · rw [if_neg]; rw [Nat.add_comm]; omega
  · rw [if_neg]; omega

/-- A permutation of the 256 columns. -/
theorem perm_perm : ∀ p : Fin 256, perm (perm p.val) = p.val := by
  have h : ∀ p : Fin 256, (Cert.KernelIdeal.lit0 ⟨(Cert.KernelIdeal.lit0 p).toNat, perm_lt_fin p⟩).toNat = p.val := by decide +kernel
  intro p
  rw [← perm_fin p]
  exact (perm_fin ⟨(Cert.KernelIdeal.lit0 p).toNat, perm_lt_fin p⟩).symm.trans (h p)

theorem sum_perm (f : ℕ → ℝ) : ∑ p ∈ range 256, f (perm p) = ∑ d ∈ range 256, f d := by
  refine Finset.sum_nbij' perm perm ?_ ?_ ?_ ?_ ?_
  · intro a _; exact Finset.mem_range.mpr (perm_lt a)
  · intro a _; exact Finset.mem_range.mpr (perm_lt a)
  · intro a ha; exact perm_perm ⟨a, Finset.mem_range.mp ha⟩
  · intro a ha; exact perm_perm ⟨a, Finset.mem_range.mp ha⟩
  · intro a _; rfl

theorem sum_rows (f : ℕ → ℝ) : ∑ r ∈ range 256, f (rowFreq r) = ∑ d ∈ range 256, f d := by
  refine Finset.sum_nbij' rowFreq (fun d => if d % 2 = 0 then d / 2 else 128 + d / 2) ?_ ?_ ?_ ?_ ?_
  · intro a ha; rw [Finset.mem_range] at *; unfold rowFreq; split <;> omega
  · intro a ha; rw [Finset.mem_range] at *; split <;> omega
  · intro a ha; rw [Finset.mem_range] at ha; unfold rowFreq; split <;> split <;> omega
  · intro a ha; rw [Finset.mem_range] at ha; unfold rowFreq; split <;> split <;> omega
  · intro a _; rfl

/-- What the quarter's frequency `(u, v)` stands for. -/
def four (g : ℕ → ℕ → ℝ) (ρ u v : ℕ) : ℝ := (part g ρ u v + if u = 0 then 0 else part g ρ (512 - u) v) * if v = 0 then 1 else 2

theorem four_eq (g : ℕ → ℕ → ℝ) (ρ : ℕ) {u v : ℕ} (hu : u < 256) (hv : v < 256) :
    four g ρ u v = (part g ρ u v + if u = 0 then 0 else part g ρ (512 - u) v) + if v = 0 then 0 else part g ρ u (512 - v) + if u = 0 then 0 else part g ρ (512 - u) (512 - v) := by
  unfold four
  rcases Nat.eq_zero_or_pos v with rfl | h
  · simp
  · rw [if_neg (by omega : ¬ v = 0), if_neg (by omega : ¬ v = 0)]
    rcases Nat.eq_zero_or_pos u with rfl | h'
    · rw [if_pos rfl, if_pos rfl, part_mirror0 g ρ h (by omega)]; ring
    · rw [if_neg (by omega : ¬ u = 0), if_neg (by omega : ¬ u = 0), part_mirror g ρ h' (by omega) h (by omega)]
      have e := part_mirror g ρ (u := 512 - u) (v := v) (by omega) (by omega) h (by omega)
      rw [show 512 - (512 - u) = u by omega] at e
      rw [e]; ring

theorem quarter_four (g : ℕ → ℕ → ℝ) (ρ : ℕ) : quarter g ρ = ∑ u ∈ range 256, ∑ v ∈ range 256, four g ρ u v := by
  rw [← sum_rows]
  refine Finset.sum_congr rfl fun r hr => ?_
  rw [← sum_perm fun v => four g ρ (rowFreq r) v]
  refine Finset.sum_congr rfl fun p hp => ?_
  have h1 : rowFreq r < 256 := by rw [Finset.mem_range] at hr; unfold rowFreq; split <;> omega
  have h2 := perm_lt p
  unfold four part folded weight
  rw [dist_small h1.le, dist_small h2.le]
  by_cases h0 : rowFreq r = 0
  · simp only [h0, if_true]; split <;> simp
  · rw [dist_mirror (by omega) (by omega), dist_small h1.le, if_neg h0, if_neg h0]
    split <;> simp

theorem ring_eq (g : ℕ → ℕ → ℝ) {ρ : ℕ} (h : ρ < 256) : ring g ρ = quarter g ρ := by
  unfold ring
  rw [sum_shift fun u => ∑ z ∈ range 512, part g ρ u ((z + 256) % 512), quarter_four]
  rw [sum_fold _ (Finset.sum_eq_zero fun z _ => (part_far g h _).2)]
  refine Finset.sum_congr rfl fun u hu => ?_
  rw [Finset.mem_range] at hu
  have one (w : ℕ) : ∑ z ∈ range 512, part g ρ w ((z + 256) % 512) = ∑ v ∈ range 256, (part g ρ w v + if v = 0 then 0 else part g ρ w (512 - v)) := by
    rw [sum_shift fun v => part g ρ w v, sum_fold _ (part_far g h w).1]
  rw [one, one]
  rcases Nat.eq_zero_or_pos u with rfl | h0
  · rw [if_pos rfl, add_zero]
    refine Finset.sum_congr rfl fun v hv => ?_
    rw [four_eq g ρ hu (Finset.mem_range.mp hv)]; simp
  · rw [if_neg (by omega), ← Finset.sum_add_distrib]
    refine Finset.sum_congr rfl fun v hv => ?_
    rw [four_eq g ρ hu (Finset.mem_range.mp hv), if_neg (by omega : ¬ u = 0), if_neg (by omega : ¬ u = 0)]
    split <;> ring

end Cert.Proof.Rings

end
-- ==== Proof.KernelSums.lean ====
/-
  The ring sums that the kernel computes: the sums of the sizes over the quarter of the frequencies, each standing for its mirror images.
-/
module

public import proofs.«01_k».proof.Proof.Rings

@[expose] public section

noncomputable section

namespace Cert.Proof.KernelSums

open Cert.KernelIdeal Cert.KernelIdeal.Gen Cert.Proof.Host Cert.Proof.Dft Cert.Proof.Tables Cert.Proof.Image Cert.Proof.Ring Cert.Proof.Mags Cert.Proof.Rings
open Idealize.ShloMosaic Idealize.ShloMosaic.StableHlo Idealize.ShloMosaic.ValueIdx
open Idealize.ShloMosaic.TcCoe
open Idealize.SL Idealize.SL.Sem
open scoped BigOperators
open Finset (range)

/-- The running table over the extended reals: entry `j` after `n` pixels is the sum of the values at the pixels of ring `j`. -/
theorem accN_ideal (M : ℕ → EReal) (R : ℕ → ℕ) (n j : ℕ) :
    Hist.accN (F := Ideal) M R n j = ∑ p ∈ range n, if R p = j then M p else 0 := by
  induction n with
  | zero => exact Ideal.ofBits_zero_f32
  | succ n ih =>
    rw [Finset.sum_range_succ, ← ih]
    show (if j = R n then _ else _) = _
    by_cases h : j = R n
    · rw [if_pos h, if_pos h.symm]; rfl
    · rw [if_neg h, if_neg fun e => h e.symm, add_zero]

/-- A sum over pixels, row by row. -/
theorem sum_rowwise (f : ℕ → ℝ) (n : ℕ) : ∑ p ∈ range (n * 256), f p = ∑ r ∈ range n, ∑ c ∈ range 256, f (r * 256 + c) := by
  induction n with
  | zero => simp
  | succ n ih => rw [Nat.succ_mul, Finset.sum_range_add, ih, Finset.sum_range_succ (fun r => ∑ c ∈ range 256, f (r * 256 + c)) n]

variable (m : (ℓ : Loc nD τ sig) → Buf (Elt Ideal) ℓ)

theorem radii_val (d : Dev nD) (r p : Fin 256) : (radii m d (ix2 r p)).toNat = Nat.sqrt (rowFreq r.val * rowFreq r.val + perm p.val * perm p.val) := by
  unfold radii V2
  rw [upd_other _ _ _ _ (by decide)]
  exact radius_val _ r p

theorem sums_eq (d : Dev nD) (h : Finite (pics m d)) (b : Fin 64) (ρ : Fin 512) :
    sums m d (ix2 b ρ) = ((quarter (pic (pics m d) b) ρ.val : ℝ) : EReal) := by
  unfold sums ringSums
  refine (accN_ideal _ _ _ _).trans ?_
  rw [mags_eq m d h]
  have e (p : ℕ) : (if (radSeq (radii m d) p).toNat = ρ.val then magSeq (F := Ideal) (foldedAll (pics m d)) b p else 0)
      = (((fun p => if Nat.sqrt (rowFreq (p / 256 % 256) * rowFreq (p / 256 % 256) + perm (p % 256) * perm (p % 256)) = ρ.val then folded (pic (pics m d) b) (p / 256 % 256) (p % 256) else 0) p : ℝ) : EReal) := by
    have e1 : (radSeq (radii m d) p).toNat = Nat.sqrt (rowFreq (p / 256 % 256) * rowFreq (p / 256 % 256) + perm (p % 256) * perm (p % 256)) := by
      refine Eq.trans ?_ (radii_val m d ⟨p / 256 % 256, Nat.mod_lt _ (by decide)⟩ ⟨p % 256, Nat.mod_lt _ (by decide)⟩)
      unfold radSeq
      congr 2
      funext a; match a with | ⟨0, _⟩ => rfl | ⟨1, _⟩ => rfl
    rw [e1]
    show _ = ((if _ then _ else _ : ℝ) : EReal)
    split
    · rfl
    · rfl
  refine (Finset.sum_congr rfl fun p _ => e p).trans ?_
  rw [show 65536 = 256 * 256 from rfl, Reads.coe_sum, sum_rowwise]
  unfold quarter
  refine congrArg _ (Finset.sum_congr rfl fun r hr => Finset.sum_congr rfl fun c hc => ?_)
  rw [Finset.mem_range] at hr hc
  show (if Nat.sqrt (rowFreq ((r * 256 + c) / 256 % 256) * rowFreq ((r * 256 + c) / 256 % 256) + perm ((r * 256 + c) % 256) * perm ((r * 256 + c) % 256)) = ρ.val then
    folded (pic (pics m d) b) ((r * 256 + c) / 256 % 256) ((r * 256 + c) % 256) else 0) = _
  rw [show (r * 256 + c) / 256 % 256 = r by omega, show (r * 256 + c) % 256 = c by omega]

end Cert.Proof.KernelSums

end
-- ==== Proof.RefMags.lean ====
/-
  The reference's transform: its values are the two-dimensional transform of the luminances, entry by entry, and the sizes it adds up
  over the rings are the sizes of that transform with the zero frequency in the middle.
-/
module

public import proofs.«01_k».proof.Proof.Gen.ReferenceIdeal.Run
public import proofs.«01_k».proof.Proof.Rings
public import Idealize.ShloMosaic.Lib.Pointwise

@[expose] public section

noncomputable section

namespace Cert.Proof.Ref

open Idealize.ShloMosaic Idealize.ShloMosaic.TcCoe Idealize.SL
open Cert.ReferenceIdeal Cert.ReferenceIdeal.Gen Cert.ReferenceIdeal.Value
open Cert.Proof.Dft Cert.Proof.Tables Cert.Proof.Image
open scoped BigOperators

variable (V : Valuation τ sig (Elt Ideal))

/-- The pictures the reference is given. -/
abbrev given : Batch.Idx → EReal := V (Proc.devRef .tc main_arg0)

theorem gray_val (b : Fin 64) (j k : Fin 512) : (res_main_v13 V : S64x512x512.Idx → EReal) (ix3 b j k) = lum (given V) b j k := by
  unfold res_main_v13
  pointwise
  rfl

theorem angle_val (j k : Fin 512) : (res_main_v24 V : S512x512.Idx → EReal) (ix2 j k) = ((step * ((j.val * k.val % 512 : ℕ) : ℤ) : ℝ) : EReal) := by
  unfold res_main_v24 res_main_v14 res_main_v15
  show Ideal.div ((FloatOps.ofBits (F := Ideal) (φ := .f32) 0x40000000#32 : EReal) * Ideal.atan2 (FloatOps.ofBits (F := Ideal) (φ := .f32) 0x00000000#32 : EReal) (FloatOps.ofBits (F := Ideal) (φ := .f32) 0xBF800000#32 : EReal)) (FloatOps.ofBits (F := Ideal) (φ := .f32) 0x44000000#32 : EReal)
    * (((IntOp.remsi _ (BitVec.ofNat 32 j.val * BitVec.ofNat 32 k.val) (BitVec.ofNat 32 512)).toInt : ℝ) : EReal) = _
  have hj := j.isLt
  have hk := k.isLt
  rw [rem_word _ j.val k.val 512 (by nlinarith) (by omega) (by omega) _ _ (by rw [BitVec.toNat_ofNat]; omega) (by rw [BitVec.toNat_ofNat]; omega),
    c0, cNeg1, atan2_pi, c2, c512, ← EReal.coe_mul, div_real (by norm_num), ← EReal.coe_mul]
  rfl

theorem cos_val (j k : Fin 512) : (res_main_v25 V : S512x512.Idx → EReal) (ix2 j k) = (((E (j.val * k.val : ℕ)).re : ℝ) : EReal) := by
  unfold res_main_v25
  show Ideal.cos ((res_main_v24 V : S512x512.Idx → EReal) (ix2 j k)) = _
  rw [angle_val, Ideal.cos_coe, ← E_re_mod]; rfl
theorem sin_val (j k : Fin 512) : (res_main_v27 V : S512x512.Idx → EReal) (ix2 j k) = (((E (j.val * k.val : ℕ)).im : ℝ) : EReal) := by
  unfold res_main_v27
  show -(Ideal.sin ((res_main_v24 V : S512x512.Idx → EReal) (ix2 j k))) = _
  rw [angle_val, Ideal.sin_coe, ← E_im_mod, EReal.coe_neg]; rfl

/-- A sum of products of real numbers. -/
theorem dot_real {n : ℕ} {x y : Fin n → EReal} {f g : ℕ → ℝ} (hx : ∀ i : Fin n, x i = ((f i.val : ℝ) : EReal)) (hy : ∀ i : Fin n, y i = ((g i.val : ℝ) : EReal)) :
    ∑ i, x i * y i = ((∑ i ∈ Finset.range n, f i * g i : ℝ) : EReal) := by
  rw [← Fin.sum_univ_eq_sum_range (fun i => f i * g i) n, ← Reads.coe_sum]
  refine Finset.sum_congr rfl fun i _ => ?_
  rw [hx, hy, EReal.coe_mul]

theorem cScale : (FloatOps.ofBits (F := Ideal) (φ := .f32) 0x48800000#32 : EReal) = ((262144 : ℝ) : EReal) := by
  show Ideal.ofBits .f32 0x48800000#32 = _; simp [Ideal.ofBits, Ideal.ieee, -EReal.coe_mul]; norm_num

/-- The row transform in its parts. -/
theorem rowT_re (g : ℕ → ℕ → ℝ) (v j : ℕ) : (∑ k ∈ Finset.range 512, g j k * (E (k * v : ℕ)).re) = 512 * (rowT g v j).re := by
  unfold rowT
  rw [Complex.re_sum, Finset.mul_sum]
  refine Finset.sum_congr rfl fun k _ => ?_
  rw [Complex.re_ofReal_mul, show (512 : ℂ) = ((512 : ℝ) : ℂ) by norm_num, Complex.div_ofReal_re]
  push_cast; ring
theorem rowT_im (g : ℕ → ℕ → ℝ) (v j : ℕ) : (∑ k ∈ Finset.range 512, g j k * (E (k * v : ℕ)).im) = 512 * (rowT g v j).im := by
  unfold rowT
  rw [Complex.im_sum, Finset.mul_sum]
  refine Finset.sum_congr rfl fun k _ => ?_
  rw [Complex.im_ofReal_mul, show (512 : ℂ) = ((512 : ℝ) : ℂ) by norm_num, Complex.div_ofReal_im]
  push_cast; ring
theorem Y_re (g : ℕ → ℕ → ℝ) (u v : ℕ) :
    ((∑ j ∈ Finset.range 512, 512 * (rowT g v j).re * (E (u * j : ℕ)).re) - ∑ j ∈ Finset.range 512, 512 * (rowT g v j).im * (E (u * j : ℕ)).im) / 262144 = (Y g u v).re := by
  unfold Y
  rw [Complex.re_sum, ← Finset.sum_sub_distrib, Finset.sum_div]
  refine Finset.sum_congr rfl fun j _ => ?_
  rw [Complex.mul_re, show (512 : ℂ) = ((512 : ℝ) : ℂ) by norm_num, Complex.div_ofReal_re, Complex.div_ofReal_im]
  push_cast; ring
theorem Y_im (g : ℕ → ℕ → ℝ) (u v : ℕ) :
    ((∑ j ∈ Finset.range 512, 512 * (rowT g v j).im * (E (u * j : ℕ)).re) + ∑ j ∈ Finset.range 512, 512 * (rowT g v j).re * (E (u * j : ℕ)).im) / 262144 = (Y g u v).im := by
  unfold Y
  rw [Complex.im_sum, ← Finset.sum_add_distrib, Finset.sum_div]
  refine Finset.sum_congr rfl fun j _ => ?_
  rw [Complex.mul_im, show (512 : ℂ) = ((512 : ℝ) : ℂ) by norm_num, Complex.div_ofReal_re, Complex.div_ofReal_im]
  push_cast; ring

variable (hX : Finite (given V))
include hX

theorem row_re (b : Fin 64) (j v : Fin 512) : (res_main_v28 V : S64x512x512.Idx → EReal) (ix3 b j v)
    = ((∑ k ∈ Finset.range 512, pic (given V) b j k * (E (k * v.val : ℕ)).re : ℝ) : EReal) := by
  unfold res_main_v28
  pointwise
  exact dot_real (f := fun k => pic (given V) b j k) (g := fun k => (E (k * v.val : ℕ)).re) (fun k => (gray_val V b j k).trans (lum_pic hX b j k)) (fun k => cos_val V k v)
theorem row_im (b : Fin 64) (j v : Fin 512) : (res_main_v29 V : S64x512x512.Idx → EReal) (ix3 b j v)
    = ((∑ k ∈ Finset.range 512, pic (given V) b j k * (E (k * v.val : ℕ)).im : ℝ) : EReal) := by
  unfold res_main_v29
  pointwise
  exact dot_real (f := fun k => pic (given V) b j k) (g := fun k => (E (k * v.val : ℕ)).im) (fun k => (gray_val V b j k).trans (lum_pic hX b j k)) (fun k => sin_val V k v)

theorem re_val (b : Fin 64) (u v : Fin 512) : (res_main_v36 V : S64x512x512.Idx → EReal) (ix3 b u v) = (((Y (pic (given V) b) (u.val : ℕ) (v.val : ℕ)).re : ℝ) : EReal) := by
  have a := dot_real (x := fun j : Fin 512 => (res_main_v28 V : S64x512x512.Idx → EReal) (ix3 b j v)) (y := fun j => (res_main_v25 V : S512x512.Idx → EReal) (ix2 u j)) (f := fun j => 512 * (rowT (pic (given V) b) (v.val : ℕ) j).re) (g := fun j => (E (u.val * j : ℕ)).re)
    (fun j => (row_re V hX b j v).trans (congrArg _ (rowT_re _ _ _))) (fun j => cos_val V u j)
  have c := dot_real (x := fun j : Fin 512 => (res_main_v29 V : S64x512x512.Idx → EReal) (ix3 b j v)) (y := fun j => (res_main_v27 V : S512x512.Idx → EReal) (ix2 u j)) (f := fun j => 512 * (rowT (pic (given V) b) (v.val : ℕ) j).im) (g := fun j => (E (u.val * j : ℕ)).im)
    (fun j => (row_im V hX b j v).trans (congrArg _ (rowT_im _ _ _))) (fun j => sin_val V u j)
  rw [← Y_re, ← div_real (by norm_num : (262144 : ℝ) ≠ 0), EReal.coe_sub, ← cScale, ← a, ← c]
  unfold res_main_v36
  pointwise
  try rfl
theorem im_val (b : Fin 64) (u v : Fin 512) : (res_main_v43 V : S64x512x512.Idx → EReal) (ix3 b u v) = (((Y (pic (given V) b) (u.val : ℕ) (v.val : ℕ)).im : ℝ) : EReal) := by
  have a := dot_real (x := fun j : Fin 512 => (res_main_v29 V : S64x512x512.Idx → EReal) (ix3 b j v)) (y := fun j => (res_main_v25 V : S512x512.Idx → EReal) (ix2 u j)) (f := fun j => 512 * (rowT (pic (given V) b) (v.val : ℕ) j).im) (g := fun j => (E (u.val * j : ℕ)).re)
    (fun j => (row_im V hX b j v).trans (congrArg _ (rowT_im _ _ _))) (fun j => cos_val V u j)
  have c := dot_real (x := fun j : Fin 512 => (res_main_v28 V : S64x512x512.Idx → EReal) (ix3 b j v)) (y := fun j => (res_main_v27 V : S512x512.Idx → EReal) (ix2 u j)) (f := fun j => 512 * (rowT (pic (given V) b) (v.val : ℕ) j).re) (g := fun j => (E (u.val * j : ℕ)).im)
    (fun j => (row_re V hX b j v).trans (congrArg _ (rowT_re _ _ _))) (fun j => sin_val V u j)
  rw [← Y_im, ← div_real (by norm_num : (262144 : ℝ) ≠ 0), EReal.coe_add, ← cScale, ← a, ← c]
  unfold res_main_v43
  pointwise
  try rfl

/-- The halves exchanged along both axes. -/
theorem re_shift (b : Fin 64) (y z : Fin 512) : (res_main_v44 V : S64x512x512.Idx → EReal) (ix3 b y z)
    = (((Y (pic (given V) b) ((y.val + 256) % 512 : ℕ) ((z.val + 256) % 512 : ℕ)).re : ℝ) : EReal) := by
  have key : ∀ (u v : Fin 512), u.val = (y.val + 256) % 512 → v.val = (z.val + 256) % 512 → (res_main_v36 V : S64x512x512.Idx → EReal) (ix3 b u v)
      = (((Y (pic (given V) b) ((y.val + 256) % 512 : ℕ) ((z.val + 256) % 512 : ℕ)).re : ℝ) : EReal) := fun u v hu hv => by
    rw [re_val V hX, hu, hv]
  unfold res_main_v44 res_main_call0_v2
  pointwise
  split <;> split
  · exact key _ _ (by show 256 + y.val = _; omega) (by show 256 + z.val = _; omega)
  · exact key _ _ (by show y.val - 256 = _; omega) (by show 256 + z.val = _; omega)
  · exact key _ _ (by show 256 + y.val = _; omega) (by show z.val - 256 = _; omega)
  · exact key _ _ (by show y.val - 256 = _; omega) (by show z.val - 256 = _; omega)
theorem im_shift (b : Fin 64) (y z : Fin 512) : (res_main_v45 V : S64x512x512.Idx → EReal) (ix3 b y z)
    = (((Y (pic (given V) b) ((y.val + 256) % 512 : ℕ) ((z.val + 256) % 512 : ℕ)).im : ℝ) : EReal) := by
  have key : ∀ (u v : Fin 512), u.val = (y.val + 256) % 512 → v.val = (z.val + 256) % 512 → (res_main_v43 V : S64x512x512.Idx → EReal) (ix3 b u v)
      = (((Y (pic (given V) b) ((y.val + 256) % 512 : ℕ) ((z.val + 256) % 512 : ℕ)).im : ℝ) : EReal) := fun u v hu hv => by
    rw [im_val V hX, hu, hv]
  unfold res_main_v45 res_main_call1_v2
  pointwise
  split <;> split
  · exact key _ _ (by show 256 + y.val = _; omega) (by show 256 + z.val = _; omega)
  · exact key _ _ (by show y.val - 256 = _; omega) (by show 256 + z.val = _; omega)
  · exact key _ _ (by show 256 + y.val = _; omega) (by show z.val - 256 = _; omega)
  · exact key _ _ (by show y.val - 256 = _; omega) (by show z.val - 256 = _; omega)

/-- The sizes. -/
theorem size_val (b : Fin 64) (y z : Fin 512) :
    (Host.sqrt (addf (mulf (res_main_v44 V) (res_main_v44 V)) (mulf (res_main_v45 V) (res_main_v45 V))) : FVec Ideal S64x512x512 .f32) (ix3 b y z)
      = ((mag (pic (given V) b) ((y.val + 256) % 512 : ℕ) ((z.val + 256) % 512 : ℕ) : ℝ) : EReal) := by
  suffices key : ∀ p q : EReal, p = _ → q = _ → Ideal.sqrt (p * p + q * q) = ((mag (pic (given V) b) ((y.val + 256) % 512 : ℕ) ((z.val + 256) % 512 : ℕ) : ℝ) : EReal) from
    key _ _ (re_shift V hX b y z) (im_shift V hX b y z)
  intro p q hp hq
  rw [hp, hq, ← EReal.coe_mul, ← EReal.coe_mul, ← EReal.coe_add, Ideal.sqrt_coe, if_neg (not_lt.2 (add_nonneg (mul_self_nonneg _) (mul_self_nonneg _)))]
  rfl

end Cert.Proof.Ref
-- ==== Proof.RefRings.lean ====
/-
  The reference's ring sums: entry `(b, ρ)` of its table is the sum of the sizes of picture `b` over the frequencies at distance `ρ`
  from zero, and the mean of the ring is that sum over the number of its frequencies.
-/
module

public import proofs.«01_k».proof.Proof.RefMags

@[expose] public section

noncomputable section

namespace Cert.Proof.Ref

open Idealize.ShloMosaic Idealize.ShloMosaic.TcCoe Idealize.SL
open Cert.ReferenceIdeal Cert.ReferenceIdeal.Gen Cert.ReferenceIdeal.Value
open Cert.Proof.Dft Cert.Proof.Tables Cert.Proof.Image Cert.Proof.Rings
open scoped BigOperators
open Finset (range)

section scatter

/-- The values of 64 pictures in a row each, the ring numbers as a column, the table of sums. -/
abbrev SU : Shape := ⟨2, ![64, 262144]⟩
abbrev SI : Shape := ⟨2, ![262144, 1]⟩
abbrev ST : Shape := ⟨2, ![64, 363]⟩

variable (d : ScatterDims ST SI SU) (hu : d.updateWindowDims = [0]) (hi : d.insertedWindowDims = [1])
  (hs : d.scatterDimsToOperandDims = [1]) (hv : d.indexVectorDim = 1)

/-- The place of pixel `p`'s segment number. -/
abbrev cell (p : Fin 262144) : SI.Idx := fun | 0 => p | 1 => (0 : Fin 1)

include hu hi hs hv in
/-- An update of image `n'` at pixel `p` lands at `(n, r)` exactly when `n' = n` and the segment number of `p` is `r`. -/
theorem lands (idx : IVec SI 32) (j : SU.Idx) (i : ST.Idx) :
    d.resultIdx? j idx = some i ↔ (j 0).val = (i 0).val ∧ (idx (cell (j 1))).toInt = ((i 1).val : ℤ) := by
  have hm : (1 : Fin 2) ∈ d.scatterDimsToOperandDims := by rw [hs]; exact List.mem_singleton.2 rfl
  have hkept : d.sKept = [0] := by show ST.kept d.insertedWindowDims = _; rw [hi]; rfl
  have hw1 : d.window j 1 = 0 := by
    unfold ScatterDims.window
    exact dif_neg fun h => (of_decide_eq_true (List.mem_filter.1 h).2) (by rw [hi]; exact List.mem_singleton.2 rfl)
  have hw0 : d.window j 0 = (j 0).val := by
    unfold ScatterDims.window
    rw [dif_pos (by rw [hkept]; exact List.mem_singleton.2 rfl)]
    have q : ∀ X ∈ d.updateWindowDims, (j X).val = (j 0).val := by
      intro X hX; rw [hu, List.mem_singleton] at hX; rw [hX]
    exact q _ (List.getElem_mem _)
  have hs0 : d.start j idx 0 = 0 := by
    unfold ScatterDims.start
    exact dif_neg fun h => by rw [hs] at h; exact absurd (List.mem_singleton.1 h) (by decide : (0 : Fin 2) ≠ 1)
  have hs1 : d.start j idx 1 = (idx (cell (j 1))).toInt := by
    unfold ScatterDims.start
    rw [dif_pos hm]
    refine congrArg (fun c => (idx c).toInt) (funext fun b => ?_)
    match b with
    | ⟨1, _⟩ => exact Subsingleton.elim (α := Fin 1) _ _
    | ⟨0, h0⟩ =>
      refine Fin.ext ?_
      have hne : ¬ (⟨0, h0⟩ : Fin SI.rank).val = d.indexVectorDim := by rw [hv]; exact Nat.zero_ne_one
      have e1 : d.siIdx j ⟨d.scatterDimsToOperandDims.idxOf 1, List.idxOf_lt_length_iff.2 hm⟩ ⟨0, h0⟩
          = d.siCoord j ⟨0, h0⟩ (List.mem_filter.2 ⟨List.mem_finRange _, by simpa using hne⟩) := dif_neg hne
      rw [e1]
      show (j _).val = (j 1).val
      have q : ∀ X ∈ d.uScatter, (j X).val = (j 1).val := by
        intro X hX
        have : d.uScatter = [1] := by show SU.kept d.updateWindowDims = _; rw [hu]; rfl
        rw [this, List.mem_singleton] at hX; rw [hX]
      exact q _ (List.getElem_mem _)
  have hj0 : (j 0).val < 64 := (j 0).isLt
  have hi0 : (i 0).val < 64 := (i 0).isLt
  have hi1 : (i 1).val < 363 := (i 1).isLt
  unfold ScatterDims.resultIdx?
  constructor
  · intro h
    split at h
    · rename_i hb
      have h0 := congrArg (fun t : ST.Idx => (t 0).val) (Option.some.inj h)
      have h1 := congrArg (fun t : ST.Idx => (t 1).val) (Option.some.inj h)
      have b1 := (hb 1).1
      simp only [hs0, hw0, hs1, hw1] at h0 h1 b1
      constructor <;> omega
    · exact absurd h (by simp)
  · rintro ⟨h0, h1⟩
    rw [dif_pos]
    · refine congrArg some (funext fun a => Fin.ext ?_)
      match a with
      | ⟨0, _⟩ => show (d.start j idx 0 + d.window j 0).toNat = (i 0).val; rw [hs0, hw0]; omega
      | ⟨1, _⟩ => show (d.start j idx 1 + d.window j 1).toNat = (i 1).val; rw [hs1, hw1, h1]; omega
    · intro a
      match a with
      | ⟨0, _⟩ => show 0 ≤ d.start j idx 0 + d.window j 0 ∧ d.start j idx 0 + d.window j 0 < 64; rw [hs0, hw0]; omega
      | ⟨1, _⟩ => show 0 ≤ d.start j idx 1 + d.window j 1 ∧ d.start j idx 1 + d.window j 1 < 363; rw [hs1, hw1, h1]; omega

/-- The image of an entry of the table. -/
abbrev row (i : ST.Idx) : Fin 64 := ⟨(i 0).val, (i 0).isLt⟩

include hu hi hs hv in
/-- The segment sums: onto the operand, the values of the image at the pixels of the segment. -/
theorem scatter_apply (x : ST.Idx → EReal) (idx : IVec SI 32) (upd : SU.Idx → EReal) (i : ST.Idx) :
    Ideal.hostScatterAdd d x idx upd i
      = x i + ∑ p : Fin 262144, if (idx (cell p)).toInt = ((i 1).val : ℤ) then upd (ix2 (row i) p) else 0 := by
  unfold Ideal.hostScatterAdd
  refine congrArg (x i + ·) ?_
  rw [Finset.sum_filter, Idealize.ShloMosaic.sum_idx2 (n0 := 64) (n1 := 262144)]
  refine (Finset.sum_eq_single (row i) ?_ ?_).trans ?_
  rotate_left 2
  · refine Finset.sum_congr rfl fun p _ => ?_
    by_cases h : (idx (cell p)).toInt = ((i 1).val : ℤ)
    · rw [if_pos h, if_pos ((lands d hu hi hs hv idx _ i).mpr ⟨rfl, h⟩)]
    · rw [if_neg h, if_neg fun e => h ((lands d hu hi hs hv idx _ i).mp e).2]
  · intro n _ hn
    refine Finset.sum_eq_zero fun p _ => if_neg fun e => hn ?_
    exact Fin.ext ((lands d hu hi hs hv idx _ i).mp e).1
  · intro h; exact absurd (Finset.mem_univ _) h

end scatter

variable (V : Valuation τ sig (Elt Ideal))

/-- The ring numbers of the pixels, one after the other. -/
def radCol : IVec S262144x1 32 :=
  broadcastInDim S262144x1 ![0] bcast_S262144_S262144x1_0 (shapeCast _ (fptosi 32 (Host.sqrt (sitofp .f32 (addi (muli (subi (res_main_v15 V) (broadcastInDim S512x512 ![] bcast_S_S512x512 (constantI S_ 32 256#32))) (subi (res_main_v15 V) (broadcastInDim S512x512 ![] bcast_S_S512x512 (constantI S_ 32 256#32)))) (muli (subi (res_main_v14 V) (broadcastInDim S512x512 ![] bcast_S_S512x512 (constantI S_ 32 256#32))) (subi (res_main_v14 V) (broadcastInDim S512x512 ![] bcast_S_S512x512 (constantI S_ 32 256#32)))))) : FVec Ideal S512x512 .f32)) shapeCasts_S512x512_S262144)

/-- The sizes of the pixels, one after the other. -/
def sizeRows : FVec Ideal S64x262144 .f32 :=
  shapeCast _ (Host.sqrt (addf (mulf (res_main_v44 V) (res_main_v44 V)) (mulf (res_main_v45 V) (res_main_v45 V)))) shapeCasts_S64x512x512_S64x262144

/-- The table of sums. -/
def table : FVec Ideal S64x363 .f32 :=
  Host.scatterAdd scatter_S64x363_S262144x1_S64x262144_0_1_1_1 (broadcastInDim S64x363 ![1] bcast_S363_S64x363_1 (broadcastInDim S363 ![] bcast_S_S363 (constant S_ .f32 0x00000000#32))) (radCol V) (sizeRows V)

theorem square_word : ∀ y : Fin 512, (BitVec.ofNat 32 y.val - 256#32) * (BitVec.ofNat 32 y.val - 256#32)
    = BitVec.ofNat 32 (Rings.dist ((y.val + 256) % 512) * Rings.dist ((y.val + 256) % 512)) := by unfold Rings.dist; decide +kernel
theorem dist_le (n : ℕ) (h : n < 512) : Rings.dist n ≤ 256 := by unfold Rings.dist; split <;> omega

theorem root_word (w : BitVec 32) (n : ℕ) (hn : n < 2 ^ 20) (hw : w.toInt = (n : ℤ)) :
    (Ideal.fptosi 32 (Ideal.sqrt ((w.toInt : ℝ) : EReal))).toInt = ((Nat.sqrt n : ℕ) : ℤ) := by
  have hs : Nat.sqrt n < 2 ^ 20 := lt_of_le_of_lt (Nat.sqrt_le_self n) hn
  rw [hw, Ideal.sqrt_coe, if_neg (not_lt.2 (by positivity)), show (((n : ℤ) : ℝ)) = ((n : ℕ) : ℝ) by push_cast; rfl]
  unfold Ideal.fptosi
  rw [Ideal.toIntClamped_coe, if_pos (Real.sqrt_nonneg _), Real.floor_real_sqrt_eq_nat_sqrt]
  have e : max (-((2 ^ (32 - 1) : ℕ) : ℤ)) (min (((2 ^ (32 - 1) : ℕ) : ℤ) - 1) ((Nat.sqrt n : ℕ) : ℤ)) = ((Nat.sqrt n : ℕ) : ℤ) := by
    rw [min_eq_right (by omega), max_eq_right (by omega)]
  refine (congrArg (fun z => (BitVec.ofInt 32 z).toInt) e).trans ?_
  rw [BitVec.toInt_ofInt, Int.bmod_def]
  omega

theorem rad_val (p : Fin 262144) : (radCol V (cell p)).toInt
    = ((Nat.sqrt (Rings.dist ((p.val / 512 + 256) % 512) * Rings.dist ((p.val / 512 + 256) % 512) + Rings.dist ((p.val % 512 + 256) % 512) * Rings.dist ((p.val % 512 + 256) % 512)) : ℕ) : ℤ) := by
  have hp := p.isLt
  have d1 := dist_le ((p.val / 512 + 256) % 512) (Nat.mod_lt _ (by omega))
  have d2 := dist_le ((p.val % 512 + 256) % 512) (Nat.mod_lt _ (by omega))
  have key : ∀ y z : Fin 512, y.val = p.val / 512 → z.val = p.val % 512 →
      (Ideal.fptosi 32 (Ideal.sqrt (((((BitVec.ofNat 32 z.val - 256#32) * (BitVec.ofNat 32 z.val - 256#32) + (BitVec.ofNat 32 y.val - 256#32) * (BitVec.ofNat 32 y.val - 256#32) : BitVec 32).toInt : ℝ)) : EReal))).toInt
      = ((Nat.sqrt (Rings.dist ((p.val / 512 + 256) % 512) * Rings.dist ((p.val / 512 + 256) % 512) + Rings.dist ((p.val % 512 + 256) % 512) * Rings.dist ((p.val % 512 + 256) % 512)) : ℕ) : ℤ) := by
    intro y z hy hz
    have b1 := Nat.mul_le_mul d1 d1
    have b2 := Nat.mul_le_mul d2 d2
    refine root_word _ _ (by omega) ?_
    rw [square_word, square_word, hy, hz, ← BitVec.ofNat_add, toInt_small _ (by omega)]
    push_cast; ring
  unfold radCol res_main_v14 res_main_v15
  pointwise
  exact key ⟨p.val / 512, by omega⟩ ⟨p.val % 512, by omega⟩ rfl rfl

theorem size_row (hX : Finite (given V)) (b : Fin 64) (p : Fin 262144) : (sizeRows V : SU.Idx → EReal) (ix2 b p)
    = ((mag (pic (given V) b) ((p.val / 512 + 256) % 512 : ℕ) ((p.val % 512 + 256) % 512 : ℕ) : ℝ) : EReal) := by
  have hp := p.isLt
  unfold sizeRows
  refine Eq.trans ?_ (size_val V hX b ⟨p.val / 512, by omega⟩ ⟨p.val % 512, by omega⟩)
  generalize (Host.sqrt (addf (mulf (res_main_v44 V) (res_main_v44 V)) (mulf (res_main_v45 V) (res_main_v45 V))) : FVec Ideal S64x512x512 .f32) = q
  pointwise

theorem sum_rowwise (f : ℕ → ℝ) (n : ℕ) : ∑ p ∈ range (n * 512), f p = ∑ r ∈ range n, ∑ c ∈ range 512, f (r * 512 + c) := by
  induction n with
  | zero => simp
  | succ n ih => rw [Nat.succ_mul, Finset.sum_range_add, ih, Finset.sum_range_succ (fun r => ∑ c ∈ range 512, f (r * 512 + c)) n]

theorem table_val (hX : Finite (given V)) (b : Fin 64) (ρ : Fin 363) : (table V : ST.Idx → EReal) (ix2 b ρ) = ((ring (pic (given V) b) ρ.val : ℝ) : EReal) := by
  refine (scatter_apply scatter_S64x363_S262144x1_S64x262144_0_1_1_1 rfl rfl rfl rfl _ (radCol V) (sizeRows V) (ix2 b ρ)).trans ?_
  have e (p : Fin 262144) : (if (radCol V (cell p)).toInt = ((((ix2 b ρ : ST.Idx) 1).val : ℕ) : ℤ) then (sizeRows V : SU.Idx → EReal) (ix2 (row (ix2 b ρ)) p) else 0)
      = (((fun p => part (pic (given V) b) ρ.val ((p / 512 + 256) % 512) ((p % 512 + 256) % 512)) p.val : ℝ) : EReal) := by
    rw [rad_val]
    show _ = ((part _ _ _ _ : ℝ) : EReal)
    unfold part
    by_cases h : Nat.sqrt (Rings.dist ((p.val / 512 + 256) % 512) * Rings.dist ((p.val / 512 + 256) % 512) + Rings.dist ((p.val % 512 + 256) % 512) * Rings.dist ((p.val % 512 + 256) % 512)) = ρ.val
    · rw [if_pos (by exact_mod_cast h), if_pos h]; exact size_row V hX b p
    · rw [if_neg (fun e => h (by exact_mod_cast e)), if_neg h]; rfl
  have z : (broadcastInDim S64x363 ![1] bcast_S363_S64x363_1 (broadcastInDim S363 ![] bcast_S_S363 (constant (F := Ideal) S_ .f32 0x00000000#32)) : ST.Idx → EReal) (ix2 b ρ) = 0 := Ideal.ofBits_zero_f32
  rw [z, zero_add]
  refine (Finset.sum_congr rfl fun p _ => e p).trans ?_
  rw [Reads.coe_sum, Fin.sum_univ_eq_sum_range (fun p => part (pic (given V) b) ρ.val ((p / 512 + 256) % 512) ((p % 512 + 256) % 512)) 262144,
    show 262144 = 512 * 512 from rfl, sum_rowwise]
  unfold ring
  refine congrArg _ (Finset.sum_congr rfl fun r hr => Finset.sum_congr rfl fun c hc => ?_)
  rw [Finset.mem_range] at hr hc
  rw [show (r * 512 + c) / 512 = r by omega, show (r * 512 + c) % 512 = c by omega]

/-- The counts. -/
def count (n : ℕ) : ℤ := if h : n < 363 then (lit0 ⟨n, h⟩).toInt else 0
theorem count_pos : ∀ n : Fin 256, 0 < (lit0 ⟨n.val, by omega⟩).toInt := by decide +kernel

/-- The logarithm of the ring's mean. -/
def level (g : ℕ → ℕ → ℝ) (n : ℕ) : EReal := Ideal.log1p ((ring g n / count n : ℝ) : EReal)

theorem level_val (hX : Finite (given V)) (b : Fin 64) (n : Fin 256) : (res_main_v81 V : S64x1x256.Idx → EReal) (ix3 b 0 n) = level (pic (given V) b) n.val := by
  unfold res_main_v81 res_main_v65
  have hT := table_val V hX b ⟨n.val, by omega⟩
  unfold table radCol sizeRows at hT
  revert hT
  generalize (Host.scatterAdd scatter_S64x363_S262144x1_S64x262144_0_1_1_1 _ _ _ : FVec Ideal S64x363 .f32) = q
  intro hT
  pointwise
  have e : S363.rowMajor (ix1 ⟨n.val, by omega⟩) = (⟨n.val, by omega⟩ : Fin 363) := Fin.ext (Shape.rowMajor_val_one _)
  rw [e, hT]
  have c := count_pos n
  show Ideal.log1p (if (0 : EReal) < (((lit0 ⟨n.val, by omega⟩).toInt : ℝ) : EReal) then Ideal.div ((ring (pic (given V) b) n.val : ℝ) : EReal) (((lit0 ⟨n.val, by omega⟩).toInt : ℝ) : EReal) else 0) = _
  have c' : (0 : ℝ) < ((lit0 ⟨n.val, by omega⟩).toInt : ℝ) := by exact_mod_cast c
  rw [if_pos (by exact_mod_cast c'), div_real c'.ne']
  unfold level count
  rw [dif_pos (by omega)]
end Cert.Proof.Ref

end
-- ==== Proof.RefHeads.lean ====
/-
  The reference's three layers, entry by entry.
-/
module

public import proofs.«01_k».proof.Proof.RefRings
public import proofs.«01_k».proof.Proof.HeadVals
public import proofs.«01_k».proof.Proof.Layers

@[expose] public section

noncomputable section

namespace Cert.Proof.Ref

open Idealize.ShloMosaic Idealize.ShloMosaic.TcCoe Idealize.SL
open Cert.ReferenceIdeal Cert.ReferenceIdeal.Gen Cert.ReferenceIdeal.Value
open Cert.Proof.Image Cert.Proof.Rings Cert.Proof.Layers
open Cert.Proof.Head (rowMin rowMax unitRow fold_fin)
open scoped BigOperators
open Finset (range)

/-- The larger of each pair along the last axis. -/
theorem pool_apply {n k T T2 : ℕ} (hT : T2 = 2 * T) (x : (⟨3, ![n, k, T2]⟩ : Shape).Idx → EReal) (init : (⟨0, ![]⟩ : Shape).Idx → EReal) (hi : ∀ i, init i = ⊥)
    (h : (⟨3, ![n, k, T2]⟩ : Shape).ReduceWindows (![1, 1, 2] : Fin 3 → ℕ) ![1, 1, 2] ![0, 0, 0] ![0, 0, 0] ⟨3, ![n, k, T]⟩) (hu : 0 < (⟨0, ![]⟩ : Shape).numel)
    (b : Fin n) (c : Fin k) (t : Fin T) :
    Host.reduceWindow (max : EReal → EReal → EReal) ![1, 1, 2] ![1, 1, 2] ![0, 0, 0] ![0, 0, 0] x init h hu (ix3 b c t)
      = max (x (ix3 b c ⟨2 * t.val, by omega⟩)) (x (ix3 b c ⟨2 * t.val + 1, by omega⟩)) := by
  unfold Host.reduceWindow
  have hl : List.finRange (⟨3, ![1, 1, 2]⟩ : Shape).numel = [⟨0, by decide⟩, ⟨1, by decide⟩] := by decide
  have h0 : ∀ a : Fin 3, ((⟨3, ![1, 1, 2]⟩ : Shape).rowMajor.symm ⟨0, by decide⟩ a).val = 0 := by decide
  have h1 : ∀ a : Fin 3, ((⟨3, ![1, 1, 2]⟩ : Shape).rowMajor.symm ⟨1, by decide⟩ a).val = (![0, 0, 1] : Fin 3 → ℕ) a := by decide
  have hb := b.isLt
  have hc := c.isLt
  have ht := t.isLt
  have place : ∀ (w : Fin (⟨3, ![1, 1, 2]⟩ : Shape).numel) (e : ℕ), (∀ a : Fin 3, ((⟨3, ![1, 1, 2]⟩ : Shape).rowMajor.symm w a).val = (![0, 0, e] : Fin 3 → ℕ) a) → ∀ (he : 2 * t.val + e < T2) (a : Fin 3),
      ((ix3 b c t : (⟨3, ![n, k, T]⟩ : Shape).Idx) (a.cast h.1.symm)).val * (![1, 1, 2] : Fin 3 → ℕ) a + ((⟨3, ![1, 1, 2]⟩ : Shape).rowMajor.symm w a).val - (![0, 0, 0] : Fin 3 → ℕ) a
        = ((ix3 b c ⟨2 * t.val + e, he⟩ : (⟨3, ![n, k, T2]⟩ : Shape).Idx) a).val := by
    intro w e hw he a
    rw [hw]
    match a with
    | ⟨0, _⟩ => show b.val * 1 + 0 - 0 = b.val; omega
    | ⟨1, _⟩ => show c.val * 1 + 0 - 0 = c.val; omega
    | ⟨2, _⟩ => show t.val * 2 + e - 0 = 2 * t.val + e; omega
  have low : ∀ (a : Fin 3) (z : ℕ), (![0, 0, 0] : Fin 3 → ℕ) a ≤ z := fun a z => by
    match a with | ⟨0, _⟩ => exact Nat.zero_le _ | ⟨1, _⟩ => exact Nat.zero_le _ | ⟨2, _⟩ => exact Nat.zero_le _
  have h0' : ∀ a : Fin 3, ((⟨3, ![1, 1, 2]⟩ : Shape).rowMajor.symm ⟨0, by decide⟩ a).val = (![0, 0, 0] : Fin 3 → ℕ) a := fun a => (h0 a).trans (by
    match a with | ⟨0, _⟩ => rfl | ⟨1, _⟩ => rfl | ⟨2, _⟩ => rfl)
  show List.foldl _ (init _) (List.finRange (⟨3, ![1, 1, 2]⟩ : Shape).numel) = _
  rw [hl]
  show max (max (init _) _) _ = _
  rw [hi]
  refine congrArg₂ max ((max_eq_right bot_le).trans ((dif_pos ?_).trans ?_)) ((dif_pos ?_).trans ?_)
  · exact fun a => ⟨low a _, lt_of_eq_of_lt (place _ 0 h0' (by omega) a) (Fin.isLt _)⟩
  · exact congrArg x (funext fun a => Fin.ext (place _ 0 h0' (by omega) a))
  · exact fun a => ⟨low a _, lt_of_eq_of_lt (place _ 1 h1 (by omega) a) (Fin.isLt _)⟩
  · exact congrArg x (funext fun a => Fin.ext (place _ 1 h1 (by omega) a))

/-- A fold over the one row of a picture. -/
theorem fold_row (op : EReal → EReal → EReal) [Std.Commutative op] [Std.Associative op] (x : S64x1x256.Idx → EReal) (init : S_.Idx → EReal) (b : Fin 64)
    (p : ℕ → EReal) (hp : ∀ n : Fin 256, x (ix3 b 0 n) = p n.val) (z : EReal) (hz : ∀ i, init i = z) :
    Host.reduce op x init reducesTo_S64x1x256_S64_d1_2 h_S_ (ix1 b) = (range 256).fold op z p := by
  rw [Host.reduce_eq_fold, hz]
  have e : (Finset.univ.filter fun i : S64x1x256.Idx => reducesTo_S64x1x256_S64_d1_2.drop i = ix1 b)
      = (Finset.univ : Finset (Fin 256)).map ⟨fun n => (ix3 b (0 : Fin 1) n : S64x1x256.Idx), fun n n' h => congrFun (show (ix3 b (0 : Fin 1) n : S64x1x256.Idx) = ix3 b (0 : Fin 1) n' from h) (2 : Fin 3)⟩ := by
    ext i
    rw [Finset.mem_filter, Finset.mem_map]
    constructor
    · rintro ⟨_, h⟩
      refine ⟨i 2, Finset.mem_univ _, ?_⟩
      have h0 : (i 0).val = b.val := congrArg (fun j : S64.Idx => (j 0).val) h
      funext a
      match a with
      | ⟨0, _⟩ => exact Fin.ext h0.symm
      | ⟨1, _⟩ => exact Subsingleton.elim (α := Fin 1) _ _
      | ⟨2, _⟩ => rfl
    · rintro ⟨n, _, rfl⟩
      refine ⟨Finset.mem_univ _, ?_⟩
      funext a
      match a with | ⟨0, _⟩ => rfl
  rw [e, Finset.fold_map]
  refine (Finset.fold_congr (g := fun n : Fin 256 => p n.val) fun n _ => hp n).trans (fold_fin op _ p)

variable (V : Valuation τ sig (Elt Ideal)) (hX : Finite (given V))
include hX

theorem low_val (b : Fin 64) : (res_main_v83 V : S64x1x1.Idx → EReal) (ix3 b (0 : Fin 1) (0 : Fin 1)) = rowMin (level (pic (given V) b)) := by
  unfold res_main_v83
  refine Eq.trans ?_ (fold_row min (res_main_v81 V) _ b (level (pic (given V) b)) (level_val V hX b) (Ideal.ofBits .f32 0x7F800000#32) (fun _ => rfl))
  show Host.reduce _ _ _ _ _ _ = _
  congr 1
  funext a; match a with | ⟨0, _⟩ => rfl
theorem width_val (b : Fin 64) : (res_main_v86 V : S64x1x1.Idx → EReal) (ix3 b (0 : Fin 1) (0 : Fin 1)) = rowMax (level (pic (given V) b)) - rowMin (level (pic (given V) b)) := by
  unfold res_main_v86
  refine congrArg₂ (fun p q : EReal => p - q) ?_ (low_val V hX b)
  refine Eq.trans ?_ (fold_row max (res_main_v81 V) _ b (level (pic (given V) b)) (level_val V hX b) (Ideal.ofBits .f32 0xFF800000#32) (fun _ => rfl))
  show Host.reduce _ _ _ _ _ _ = _
  congr 1
  funext a; match a with | ⟨0, _⟩ => rfl

omit hX in
theorem zero_word : (FloatOps.sitofp (F := Ideal) .f32 0#32 : EReal) = 0 := by
  show (((0#32).toInt : ℝ) : EReal) = 0
  simp

theorem pad1_val (b : Fin 64) (i : Fin 258) : (res_main_v95 V : S64x1x258.Idx → EReal) (ix3 b 0 i) = padded 256 (unitRow (level (pic (given V) b))) i.val := by
  have e := level_val V hX b
  have e2 := low_val V hX b
  have e3 := width_val V hX b
  revert e e2 e3
  unfold res_main_v95
  generalize (res_main_v81 V : S64x1x256.Idx → EReal) = q
  generalize (res_main_v86 V : S64x1x1.Idx → EReal) = q2
  generalize (res_main_v83 V : S64x1x1.Idx → EReal) = q3
  intro e e2 e3
  pointwise
  rw [e2, e3]
  by_cases h : 1 ≤ i.val ∧ i.val - 1 < 256
  · have hp : padded 256 (unitRow (level (pic (given V) b))) i.val = unitRow (level (pic (given V) b)) (i.val - 1) := if_pos (by omega)
    rw [dif_pos h, hp, e]
    unfold unitRow
    show _ = Scalar.select (BitVec.ofBool (decide ((0 : EReal) < _))) _ _
    rw [WordCmp.select_decide]
  · have hp : padded 256 (unitRow (level (pic (given V) b))) i.val = 0 := if_neg (by omega)
    rw [dif_neg h, hp, zero_word]

omit hX in
theorem layer_of {C N : ℕ} (W : ℕ → ℕ → ℕ → EReal) (β : ℕ → EReal) (x : ℕ → ℕ → EReal) (o t : ℕ) (a0 a1 a2 : Fin C → EReal) (z : EReal)
    (h0 : ∀ c : Fin C, a0 c = W o c.val 0 * padded N (x c.val) t) (h1 : ∀ c : Fin C, a1 c = W o c.val 1 * padded N (x c.val) (t + 1))
    (h2 : ∀ c : Fin C, a2 c = W o c.val 2 * padded N (x c.val) (t + 2)) (hz : z = β o) :
    max ((((∑ c, a0 c) + ∑ c, a1 c) + ∑ c, a2 c) + z) 0 = layer C N W β x o t := by
  unfold layer
  rw [hz, Finset.sum_congr rfl fun c _ => h0 c, Finset.sum_congr rfl fun c _ => h1 c, Finset.sum_congr rfl fun c _ => h2 c]
omit hX in
theorem at3_val {n k l : ℕ} (x : (⟨3, ![n, k, l]⟩ : Shape).Idx → EReal) (i : Fin n) (j : Fin k) (q : Fin l) (I J Q : ℕ) (hI : i.val = I) (hJ : j.val = J) (hQ : q.val = Q) :
    x (ix3 i j q) = at3 x I J Q := by
  subst hI hJ hQ
  unfold at3
  rw [dif_pos ⟨i.isLt, j.isLt, q.isLt⟩]
  congr 1
  funext a; match a with | ⟨0, _⟩ => rfl | ⟨1, _⟩ => rfl | ⟨2, _⟩ => rfl
omit hX in
theorem at1_val {n : ℕ} (x : (⟨1, ![n]⟩ : Shape).Idx → EReal) (i : Fin n) : x (ix1 i) = at1 x i.val := by
  unfold at1
  rw [dif_pos i.isLt]
  congr 1
  funext a; match a with | ⟨0, _⟩ => rfl

theorem pad2_val (b : Fin 64) (c : Fin 16) (i : Fin 130) : (res_main_v122 V : S64x16x130.Idx → EReal) (ix3 b c i) =
   padded 128 (pairs (layer 1 256 (at3 (V (Proc.devRef .tc main_arg1))) (at1 (V (Proc.devRef .tc main_arg2))) (fun _ => unitRow (level (pic (given V) b)))) c.val) i.val := by
  have e := pad1_val V hX b
  revert e
  unfold res_main_v122
  generalize (res_main_v95 V : S64x1x258.Idx → EReal) = q
  intro e
  have tap : ∀ (u : Fin 258) (j : ℕ), u.val = j → q (ix3 b 0 u) = padded 256 (unitRow (level (pic (given V) b))) j := fun u j hu => hu ▸ e u
  pointwise
  rw [zero_word]
  by_cases h : 1 ≤ i.val ∧ i.val - 1 < 128
  · rw [dif_pos h]
    refine Eq.trans ?_ (show pairs _ _ _ = _ from (if_pos (show 0 < i.val ∧ i.val ≤ 128 by omega)).symm)
    refine (pool_apply (n := 64) (k := 16) (T := 128) (T2 := 256) rfl _ _ (fun _ => by simp [constant, broadcastInDim, Ideal.ofBits, Ideal.ieee]) _ _ b c ⟨i.val - 1, _⟩).trans ?_
    pointwise
    exact congrArg₂ max (layer_of _ _ _ _ _ _ _ _ _ (fun x => congrArg₂ (· * ·) (at3_val _ _ _ _ _ _ _ rfl (by have := x.isLt; show 0 = x.val; omega) rfl) (tap _ _ (by first | rfl | (dsimp only; omega)))) (fun x => congrArg₂ (· * ·) (at3_val _ _ _ _ _ _ _ rfl (by have := x.isLt; show 0 = x.val; omega) rfl) (tap _ _ (by first | rfl | (dsimp only; omega)))) (fun x => congrArg₂ (· * ·) (at3_val _ _ _ _ _ _ _ rfl (by have := x.isLt; show 0 = x.val; omega) rfl) (tap _ _ (by first | rfl | (dsimp only; omega)))) (at1_val _ c))
      (layer_of _ _ _ _ _ _ _ _ _ (fun x => congrArg₂ (· * ·) (at3_val _ _ _ _ _ _ _ rfl (by have := x.isLt; show 0 = x.val; omega) rfl) (tap _ _ (by first | rfl | (dsimp only; omega)))) (fun x => congrArg₂ (· * ·) (at3_val _ _ _ _ _ _ _ rfl (by have := x.isLt; show 0 = x.val; omega) rfl) (tap _ _ (by first | rfl | (dsimp only; omega)))) (fun x => congrArg₂ (· * ·) (at3_val _ _ _ _ _ _ _ rfl (by have := x.isLt; show 0 = x.val; omega) rfl) (tap _ _ (by first | rfl | (dsimp only; omega)))) (at1_val _ c))
  · rw [dif_neg h]
    exact (if_neg (show ¬ (0 < i.val ∧ i.val ≤ 128) by omega)).symm

theorem pad3_val (b : Fin 64) (c : Fin 32) (i : Fin 66) : (res_main_v149 V : S64x32x66.Idx → EReal) (ix3 b c i) =
   padded 64 (pairs (layer 16 128 (at3 (V (Proc.devRef .tc main_arg3))) (at1 (V (Proc.devRef .tc main_arg4))) (pairs (layer 1 256 (at3 (V (Proc.devRef .tc main_arg1))) (at1 (V (Proc.devRef .tc main_arg2))) (fun _ => unitRow (level (pic (given V) b)))))) c.val) i.val := by
  have e := pad2_val V hX b
  revert e
  unfold res_main_v149
  generalize (res_main_v122 V : S64x16x130.Idx → EReal) = q
  intro e
  have tap : ∀ (x : Fin 16) (u : Fin 130) (j : ℕ), u.val = j → q (ix3 b x u) = padded 128 (pairs (layer 1 256 (at3 (V (Proc.devRef .tc main_arg1))) (at1 (V (Proc.devRef .tc main_arg2))) (fun _ => unitRow (level (pic (given V) b)))) x.val) j := fun x u j hu => hu ▸ e x u
  pointwise
  rw [zero_word]
  by_cases h : 1 ≤ i.val ∧ i.val - 1 < 64
  · rw [dif_pos h]
    refine Eq.trans ?_ (show pairs _ _ _ = _ from (if_pos (show 0 < i.val ∧ i.val ≤ 64 by omega)).symm)
    refine (pool_apply (n := 64) (k := 32) (T := 64) (T2 := 128) rfl _ _ (fun _ => by simp [constant, broadcastInDim, Ideal.ofBits, Ideal.ieee]) _ _ b c ⟨i.val - 1, _⟩).trans ?_
    pointwise
    exact congrArg₂ max (layer_of _ _ _ _ _ _ _ _ _ (fun x => congrArg₂ (· * ·) (at3_val _ _ _ _ _ _ _ rfl rfl rfl) (tap x _ _ (by first | rfl | (dsimp only; omega)))) (fun x => congrArg₂ (· * ·) (at3_val _ _ _ _ _ _ _ rfl rfl rfl) (tap x _ _ (by first | rfl | (dsimp only; omega)))) (fun x => congrArg₂ (· * ·) (at3_val _ _ _ _ _ _ _ rfl rfl rfl) (tap x _ _ (by first | rfl | (dsimp only; omega)))) (at1_val _ c))
      (layer_of _ _ _ _ _ _ _ _ _ (fun x => congrArg₂ (· * ·) (at3_val _ _ _ _ _ _ _ rfl rfl rfl) (tap x _ _ (by first | rfl | (dsimp only; omega)))) (fun x => congrArg₂ (· * ·) (at3_val _ _ _ _ _ _ _ rfl rfl rfl) (tap x _ _ (by first | rfl | (dsimp only; omega)))) (fun x => congrArg₂ (· * ·) (at3_val _ _ _ _ _ _ _ rfl rfl rfl) (tap x _ _ (by first | rfl | (dsimp only; omega)))) (at1_val _ c))
  · rw [dif_neg h]
    exact (if_neg (show ¬ (0 < i.val ∧ i.val ≤ 64) by omega)).symm

theorem out_val (b : Fin 64) : (val4 V (Proc.devRef .tc main_v181) : S64x1.Idx → EReal) (ix2 b (0 : Fin 1)) =
   (∑ o : Fin 64, Ideal.div (∑ t : Fin 64, layer 32 64 (at3 (V (Proc.devRef .tc main_arg5))) (at1 (V (Proc.devRef .tc main_arg6))) (pairs (layer 16 128 (at3 (V (Proc.devRef .tc main_arg3))) (at1 (V (Proc.devRef .tc main_arg4))) (pairs (layer 1 256 (at3 (V (Proc.devRef .tc main_arg1))) (at1 (V (Proc.devRef .tc main_arg2))) (fun _ => unitRow (level (pic (given V) b))))))) o.val t.val) (Ideal.ofBits .f32 0x42800000#32) * (V (Proc.devRef .tc main_arg7) : S1x64.Idx → EReal) (ix2 (0 : Fin 1) o))
    + (V (Proc.devRef .tc main_arg8) : S1.Idx → EReal) (ix1 (0 : Fin 1)) := by
  have e := pad3_val V hX b
  revert e
  rw [val4_main_v181]
  generalize (res_main_v149 V : S64x32x66.Idx → EReal) = q
  intro e
  have tap : ∀ (x : Fin 32) (u : Fin 66) (j : ℕ), u.val = j → q (ix3 b x u) = padded 64 (pairs (layer 16 128 (at3 (V (Proc.devRef .tc main_arg3))) (at1 (V (Proc.devRef .tc main_arg4))) (pairs (layer 1 256 (at3 (V (Proc.devRef .tc main_arg1))) (at1 (V (Proc.devRef .tc main_arg2))) (fun _ => unitRow (level (pic (given V) b)))))) x.val) j := fun x u j hu => hu ▸ e x u
  pointwise
  refine congrArg (· + (V (Proc.devRef .tc main_arg8) : S1.Idx → EReal) (ix1 (0 : Fin 1))) (Finset.sum_congr rfl fun o _ => ?_)
  refine congrArg (fun s => Ideal.div s (Ideal.ofBits .f32 0x42800000#32) * (V (Proc.devRef .tc main_arg7) : S1x64.Idx → EReal) (ix2 (0 : Fin 1) o)) (Finset.sum_congr rfl fun t _ => ?_)
  exact layer_of _ _ _ _ _ _ _ _ _ (fun x => congrArg₂ (· * ·) (at3_val _ _ _ _ _ _ _ rfl rfl rfl) (tap x _ _ (by first | rfl | (dsimp only; omega)))) (fun x => congrArg₂ (· * ·) (at3_val _ _ _ _ _ _ _ rfl rfl rfl) (tap x _ _ (by first | rfl | (dsimp only; omega)))) (fun x => congrArg₂ (· * ·) (at3_val _ _ _ _ _ _ _ rfl rfl rfl) (tap x _ _ (by first | rfl | (dsimp only; omega)))) (at1_val _ o)

end Cert.Proof.Ref

end
-- ==== Proof.KerHead1.lean ====
/-
  The first dense kernel's result: the first layer over the row of ring means, channel after channel.
-/
module

public import proofs.«01_k».proof.Proof.Fold
public import proofs.«01_k».proof.Proof.HeadArrs
public import proofs.«01_k».proof.Proof.HeadVals
public import proofs.«01_k».proof.Proof.KernelSums
public import proofs.«01_k».proof.Proof.RefHeads

@[expose] public section

noncomputable section

namespace Cert.Proof.KerHead

open Cert.KernelIdeal Cert.KernelIdeal.Gen Cert.Proof.Host Cert.Proof.Tables Cert.Proof.Ring Cert.Proof.Layers Cert.Proof.Fold
open Cert.Proof.Head (unitRow)
open Cert.Proof.Mags (pics)
open Cert.Proof.Image (Finite pic)
open Cert.Proof.Ref (level count at3_val at1_val)
open Idealize.ShloMosaic hiding ix0 ix1 ix2 ix3 ix4 ix5 ix6 ix7 ix8 ix9
open Idealize.ShloMosaic.StableHlo Idealize.ShloMosaic.ValueIdx
open Idealize.ShloMosaic.TcCoe
open Idealize.SL Idealize.SL.Sem
open scoped BigOperators

/-- A row against the matrix's column: three taps. -/
theorem taps (f w : ℕ → EReal) (t : ℕ) (ht : t < 256) :
    (∑ n : Fin 256, f n.val * (if t ≤ n.val + 1 ∧ n.val + 1 ≤ t + 2 then w (n.val + 1 - t) else 0))
      = (w 0 * padded 256 f t + w 1 * padded 256 f (t + 1)) + w 2 * padded 256 f (t + 2) := by
  have one : ∀ k, (∑ n : Fin 256, if n.val + 1 = t + k then w k * f n.val else 0) = w k * padded 256 f (t + k) := fun k => by
    unfold padded
    by_cases h : 0 < t + k ∧ t + k ≤ 256
    · rw [if_pos h, Finset.sum_eq_single (⟨t + k - 1, by omega⟩ : Fin 256)]
      · exact if_pos (by dsimp only; omega)
      · intro n _ hn
        exact if_neg fun e => hn (Fin.ext (by dsimp only; omega))
      · exact fun h => (h (Finset.mem_univ _)).elim
    · rw [if_neg h, mul_zero]
      exact Finset.sum_eq_zero fun n _ => if_neg fun e => h (by have := n.isLt; omega)
  have e0 := one 0
  simp only [Nat.add_zero] at e0
  rw [← e0, ← one 1, ← one 2, ← Finset.sum_add_distrib, ← Finset.sum_add_distrib]
  refine Finset.sum_congr rfl fun n _ => ?_
  have w0 : n.val + 1 = t ∨ n.val + 1 = t + 1 ∨ n.val + 1 = t + 2 ∨ ¬ (t ≤ n.val + 1 ∧ n.val + 1 ≤ t + 2) := by omega
  rcases w0 with h | h | h | h
  · rw [if_pos (show t ≤ n.val + 1 ∧ n.val + 1 ≤ t + 2 by omega), if_pos h, if_neg (show ¬ n.val + 1 = t + 1 by omega), if_neg (show ¬ n.val + 1 = t + 2 by omega),
      add_zero, add_zero, show n.val + 1 - t = 0 by omega, mul_comm]
  · rw [if_pos (show t ≤ n.val + 1 ∧ n.val + 1 ≤ t + 2 by omega), if_pos h, if_neg (show ¬ n.val + 1 = t by omega), if_neg (show ¬ n.val + 1 = t + 2 by omega),
      add_zero, zero_add, show n.val + 1 - t = 1 by omega, mul_comm]
  · rw [if_pos (show t ≤ n.val + 1 ∧ n.val + 1 ≤ t + 2 by omega), if_pos h, if_neg (show ¬ n.val + 1 = t by omega), if_neg (show ¬ n.val + 1 = t + 1 by omega),
      add_zero, zero_add, show n.val + 1 - t = 2 by omega, mul_comm]
  · rw [if_neg h, if_neg (show ¬ n.val + 1 = t by omega), if_neg (show ¬ n.val + 1 = t + 1 by omega), if_neg (show ¬ n.val + 1 = t + 2 by omega),
      add_zero, add_zero, mul_zero]

/-- A vector laid out as a row. -/
theorem as_row {N : ℕ} (x : (⟨1, ![N]⟩ : Shape).Idx → EReal) (h : (⟨1, ![N]⟩ : Shape).ShapeCasts ⟨2, ![1, N]⟩) (q : Fin N) :
    shapeCast ⟨2, ![1, N]⟩ x h (ix2 (0 : Fin 1) q) = x (ix1 q) := by
  refine shapeCast_apply _ _ _ (ix1 q) ?_
  rw [Shape.rowMajor_val_one, Shape.rowMajor_val_two]
  show q.val = 0 * N + q.val
  omega

theorem head1_of (X0 : S64x512.Idx → EReal) (X1 : S1x256.Idx → EReal) (X2 : S256x4096.Idx → EReal) (X3 : S1x4096.Idx → EReal)
    (p : ℕ → EReal) (W : ℕ → ℕ → ℕ → EReal) (β : ℕ → EReal) (b : Fin 64) (c t : ℕ) (ht : t < 256) (q : Fin 4096)
    (hp : ∀ n : Fin 256, p n.val = Ideal.log1p (X0 (ix2 b ⟨n.val, by omega⟩) * X1 (ix2 (0 : Fin 1) n)))
    (hf : ∀ n : Fin 256, X2 (ix2 n q) = if t ≤ n.val + 1 ∧ n.val + 1 ≤ t + 2 then W c 0 (n.val + 1 - t) else 0) (hb : X3 (ix2 (0 : Fin 1) q) = β c) :
    head1Out (F := Ideal) X0 X1 X2 X3 (ix2 b q) = layer 1 256 W β (fun _ => unitRow p) c t := by
  refine (Head.head1_apply X0 X1 X2 X3 p b q hp).trans ?_
  unfold layer
  refine congrArg (max · 0) (congrArg₂ (· + ·) ?_ hb)
  refine (Finset.sum_congr rfl fun n _ => congrArg (unitRow p n.val * ·) (hf n)).trans ?_
  rw [taps (unitRow p) (W c 0) t ht]
  simp only [Fin.sum_univ_one, Fin.val_zero]

variable (m : (ℓ : Loc nD τ sig) → Buf (Elt Ideal) ℓ) (d : Dev nD)

theorem in_sums : (V4 m d (Proc.devRef .tc main_v168) : S64x512.Idx → EReal) = sums m d := by
  unfold V4; rw [endB0 _ main_v168 (by decide)]; unfold atB0 V3
  exact Function.update_self (Proc.devRef .tc main_v168 : DevRef τ sig) _ _

theorem counts : ∀ n : Fin 256, lit2 n = Cert.ReferenceIdeal.lit0 ⟨n.val, by omega⟩ := by decide +kernel

theorem in_count (n : Fin 256) : (V4 m d (Proc.devRef .tc main_v56) : S1x256.Idx → EReal) (ix2 (0 : Fin 1) n) = ((1 / (count n.val : ℝ) : ℝ) : EReal) := by
  rw [early m d main_v56 (by decide) (by decide) (by decide), val_v56]
  refine (as_row _ _ n).trans ?_
  have e : (atA20 (launchContents m d) (Proc.devRef .tc main_c_1) : S256.Idx → BitVec 32) (ix1 n) = lit2 n := by
    rw [val_c_1]
    exact congrArg lit2 (Fin.ext (Shape.rowMajor_val_one _))
  have key : ∀ p : EReal, p = ((1 : ℝ) : EReal) → ∀ x : BitVec 32, x = lit2 n → Ideal.div p ((x.toInt : ℝ) : EReal) = ((1 / (count n.val : ℝ) : ℝ) : EReal) := fun p hp x hx => by
    have hc : count n.val = (lit2 n).toInt := by rw [counts]; exact dif_pos (by omega)
    have h0 : ((lit2 n).toInt : ℝ) ≠ 0 := by
      have := Ref.count_pos n
      rw [counts]
      exact_mod_cast this.ne'
    rw [hp, hx, div_real h0, hc]
  exact key _ c1 _ e

theorem in_level (h : Finite (pics m d)) (b : Fin 64) (n : Fin 256) :
    level (pic (pics m d) b) n.val = Ideal.log1p (@HMul.hMul EReal EReal EReal _ ((V4 m d (Proc.devRef .tc main_v168) : S64x512.Idx → EReal) (ix2 b ⟨n.val, by omega⟩))
      ((V4 m d (Proc.devRef .tc main_v56) : S1x256.Idx → EReal) (ix2 (0 : Fin 1) n))) := by
  rw [in_sums, in_count, KernelSums.sums_eq m d h, ← EReal.coe_mul]
  unfold level
  rw [Rings.ring_eq _ n.isLt, div_eq_mul_one_div]

theorem in_bias (c t : ℕ) (hc : c < 16) (ht : t < 256) (q : Fin 4096) (hq : q.val = c * 256 + t) :
    (V4 m d (Proc.devRef .tc main_v194) : S1x4096.Idx → EReal) (ix2 (0 : Fin 1) q) = at1 (m ((d.tc : Thread nD τ).loc main_arg2) : S16.Idx → EReal) c := by
  have ea : (atB4 (V3 m d) (Proc.devRef .tc main_arg2) : S16.Idx → EReal) = m ((d.tc : Thread nD τ).loc main_arg2) := arg_val m d main_arg2 (by decide) (by decide) (by decide) (by decide)
  rw [V4_def, val_v194, ea]
  refine (as_row _ _ q).trans ?_
  refine (shapeCast_apply _ _ _ (ix2 (⟨c, hc⟩ : Fin 16) (⟨t, ht⟩ : Fin 256)) ?_).trans ?_
  · rw [Shape.rowMajor_val_one, Shape.rowMajor_val_two]
    show c * 256 + t = q.val
    omega
  refine (broadcastInDim_apply _ _ _ _ (ix1 (⟨c, hc⟩ : Fin 16)) (fun a => match a with | ⟨0, _⟩ => rfl)).trans ?_
  exact at1_val _ _

/-- The first layer's values. -/
def first (b : Fin 64) : ℕ → ℕ → EReal :=
  layer 1 256 (at3 (m ((d.tc : Thread nD τ).loc main_arg1) : S16x1x3.Idx → EReal)) (at1 (m ((d.tc : Thread nD τ).loc main_arg2) : S16.Idx → EReal)) (fun _ => unitRow (level (pic (pics m d) b)))

theorem head1_val (h : Finite (pics m d)) (b : Fin 64) (c t : ℕ) (hc : c < 16) (ht : t < 256) (q : Fin 4096) (hq : q.val = c * 256 + t) :
    head1Res m d (ix2 b q) = first m d b c t := by
  unfold head1Res
  rw [HeadArrs.head1_eq]
  exact head1_of _ _ _ _ _ _ _ b c t ht q (in_level m d h b) (fun n => fold_val m d n c t hc ht q hq) (in_bias m d c t hc ht q hq)

end Cert.Proof.KerHead

end
-- ==== Proof.KerTabs.lean ====
/-
  The arrays that the host hands the second and the third dense kernel, entry by entry: the rows laid side by side with a zero row on
  either end, the taps, the biases, the marks of the rows that begin or end a picture, the weights of the mean.
-/
module

public import proofs.«01_k».proof.Proof.Fold
public import Idealize.ShloMosaic.Lib.Pointwise

@[expose] public section

noncomputable section

namespace Cert.Proof.KerTabs

open Cert.KernelIdeal Cert.KernelIdeal.Gen Cert.Proof.Host Cert.Proof.Tables Cert.Proof.Fold
open Idealize.ShloMosaic Idealize.ShloMosaic.StableHlo
open Idealize.ShloMosaic.TcCoe Idealize.ShloMosaic.WordCmp
open Idealize.SL Idealize.SL.Sem

theorem rows2 (X : S64x4096.Idx → EReal) (r : ℕ) (hr : r < 8192) (i : Fin 8194) (hi : i.val = r + 1) (j : Fin 32) (b : Fin 64) (q : Fin 4096)
    (hb : b.val = r / 128) (hq : q.val = j.val % 16 * 256 + r % 128 * 2 + j.val / 16) :
    (pad S8194x32 ![1, 0] ![1, 0] ![0, 0] (shapeCast S8192x32 (transpose S64x128x2x16 [0, 2, 3, 1] (shapeCast S64x16x128x2 X shapeCasts_S64x4096_S64x16x128x2) transposes_S64x16x128x2_S64x128x2x16_0_2_3_1) shapeCasts_S64x128x2x16_S8192x32) (sitofp (F := Ideal) .f32 (constantI S_ 32 0#32)) pads_S8192x32_S8194x32_110_000 h_S_ : S8194x32.Idx → EReal) (ix2 i j)
      = X (ix2 b q) := by
  pointwise
  rw [dif_pos ⟨by omega, by omega⟩]
  congr 1
  funext a
  match a with
  | ⟨0, _⟩ => exact Fin.ext (by show (i.val - 1) / 128 = b.val; omega)
  | ⟨1, _⟩ => exact Fin.ext (by show j.val % 16 * 256 + (i.val - 1) % 128 * 2 + j.val / 16 = q.val; rw [hi, Nat.add_sub_cancel]; omega)

theorem rows3 (X : S8192x32.Idx → EReal) (r : ℕ) (hr : r < 4096) (i : Fin 4098) (hi : i.val = r + 1) (j : Fin 64) (b : Fin 8192) (q : Fin 32)
    (hb : b.val = r * 2 + j.val / 32) (hq : q.val = j.val % 32) :
    (pad S4098x64 ![1, 0] ![1, 0] ![0, 0] (shapeCast S4096x64 (shapeCast S64x64x2x32 X shapeCasts_S8192x32_S64x64x2x32) shapeCasts_S64x64x2x32_S4096x64) (sitofp (F := Ideal) .f32 (constantI S_ 32 0#32)) pads_S4096x64_S4098x64_110_000 h_S_ : S4098x64.Idx → EReal) (ix2 i j)
      = X (ix2 b q) := by
  pointwise
  rw [dif_pos ⟨by omega, by omega⟩]
  congr 1
  funext a
  match a with
  | ⟨0, _⟩ => exact Fin.ext (by show (i.val - 1) * 2 + j.val / 32 = b.val; omega)
  | ⟨1, _⟩ => exact Fin.ext (by show j.val % 32 = q.val; omega)

theorem tap2_0 (X : S32x16x3.Idx → EReal) (i : Fin 16) (j : Fin 32) :
    (transpose S16x32 [1, 0] (shapeCast S32x16 (extractStridedSlice S32x16x1 ![0, 0, 0] X slices_S32x16x3_S32x16x1_0_0_0) shapeCasts_S32x16x1_S32x16) transposes_S32x16_S16x32_1_0 : S16x32.Idx → EReal) (ix2 i j)
      = X (ix3 j i 0) := by pointwise
theorem tap2_1 (X : S32x16x3.Idx → EReal) (i : Fin 16) (j : Fin 32) :
    (transpose S16x32 [1, 0] (shapeCast S32x16 (extractStridedSlice S32x16x1 ![0, 0, 1] X slices_S32x16x3_S32x16x1_0_0_1) shapeCasts_S32x16x1_S32x16) transposes_S32x16_S16x32_1_0 : S16x32.Idx → EReal) (ix2 i j)
      = X (ix3 j i 1) := by pointwise
theorem tap2_2 (X : S32x16x3.Idx → EReal) (i : Fin 16) (j : Fin 32) :
    (transpose S16x32 [1, 0] (shapeCast S32x16 (extractStridedSlice S32x16x1 ![0, 0, 2] X slices_S32x16x3_S32x16x1_0_0_2) shapeCasts_S32x16x1_S32x16) transposes_S32x16_S16x32_1_0 : S16x32.Idx → EReal) (ix2 i j)
      = X (ix3 j i 2) := by pointwise
theorem tap3_0 (X : S64x32x3.Idx → EReal) (i : Fin 32) (j : Fin 64) :
    (transpose S32x64 [1, 0] (shapeCast S64x32 (extractStridedSlice S64x32x1 ![0, 0, 0] X slices_S64x32x3_S64x32x1_0_0_0) shapeCasts_S64x32x1_S64x32) transposes_S64x32_S32x64_1_0 : S32x64.Idx → EReal) (ix2 i j)
      = X (ix3 j i 0) := by pointwise
theorem tap3_1 (X : S64x32x3.Idx → EReal) (i : Fin 32) (j : Fin 64) :
    (transpose S32x64 [1, 0] (shapeCast S64x32 (extractStridedSlice S64x32x1 ![0, 0, 1] X slices_S64x32x3_S64x32x1_0_0_1) shapeCasts_S64x32x1_S64x32) transposes_S64x32_S32x64_1_0 : S32x64.Idx → EReal) (ix2 i j)
      = X (ix3 j i 1) := by pointwise
theorem tap3_2 (X : S64x32x3.Idx → EReal) (i : Fin 32) (j : Fin 64) :
    (transpose S32x64 [1, 0] (shapeCast S64x32 (extractStridedSlice S64x32x1 ![0, 0, 2] X slices_S64x32x3_S64x32x1_0_0_2) shapeCasts_S64x32x1_S64x32) transposes_S64x32_S32x64_1_0 : S32x64.Idx → EReal) (ix2 i j)
      = X (ix3 j i 2) := by pointwise
theorem row32 (X : S32.Idx → EReal) (j : Fin 32) : (shapeCast S1x32 X shapeCasts_S32_S1x32) (ix2 (0 : Fin 1) j) = X (ix1 j) := by pointwise
theorem row64 (X : S64.Idx → EReal) (j : Fin 64) : (shapeCast S1x64 X shapeCasts_S64_S1x64) (ix2 (0 : Fin 1) j) = X (ix1 j) := by pointwise
theorem one1 (X : S1.Idx → EReal) : (shapeCast S1x1 X shapeCasts_S1_S1x1) (ix2 (0 : Fin 1) (0 : Fin 1)) = X (ix1 (0 : Fin 1)) := by pointwise
theorem col64 (X : S1x64.Idx → EReal) (j : Fin 64) : (transpose S64x1 [1, 0] X transposes_S1x64_S64x1_1_0) (ix2 j (0 : Fin 1)) = X (ix2 (0 : Fin 1) j) := by pointwise

/-- A mark: one where the remainder is another, zero where it is this one. -/
theorem mark (u : ArithUnit) (n N k : ℕ) (hn : n < 2 ^ 30) (hN : 0 < N) (hN' : N < 2 ^ 30) (hk : k < 2 ^ 30) (p q : EReal) (hp : p = ((1 : ℝ) : EReal)) (hq : q = ((0 : ℝ) : EReal)) :
    Scalar.select (IntOp.cmpi .ne (IntOp.remsi u (BitVec.ofNat 32 n) (BitVec.ofNat 32 N)) (BitVec.ofNat 32 k)) p q = if n % N = k then (0 : EReal) else 1 := by
  have e := mod_word u (BitVec.ofNat 32 n) n N (by rw [BitVec.toNat_ofNat]; omega) hn hN hN'
  have hc : IntOp.cmpi .ne (IntOp.remsi u (BitVec.ofNat 32 n) (BitVec.ofNat 32 N)) (BitVec.ofNat 32 k) = BitVec.ofBool (decide (¬ n % N = k)) := by
    show BitVec.ofBool (_ != _) = _
    refine congrArg BitVec.ofBool ?_
    rw [Bool.eq_iff_iff]
    simp only [bne_iff_ne, ne_eq, decide_eq_true_eq]
    refine not_congr ⟨fun h => ?_, fun h => BitVec.eq_of_toNat_eq ?_⟩
    · have := congrArg BitVec.toNat h
      rw [e, BitVec.toNat_ofNat] at this
      omega
    · rw [e, BitVec.toNat_ofNat]; omega
  rw [hc, select_decide, hp, hq]
  by_cases h : n % N = k
  · rw [if_neg (not_not.mpr h), if_pos h, EReal.coe_zero]
  · rw [if_pos h, if_neg h, EReal.coe_one]

variable (V : Valuation τ sig (Elt Ideal))

theorem first128 (r : Fin 8192) : (atA20 V (Proc.devRef .tc main_v154) : S8192x1.Idx → EReal) (ix2 r (0 : Fin 1)) = if r.val % 128 = 0 then (0 : EReal) else (1 : EReal) := by
  rw [val_v154]
  exact mark _ r.val 128 0 (by have := r.isLt; omega) (by decide) (by decide) (by decide) _ _ c1 c0
theorem last128 (r : Fin 8192) : (atA20 V (Proc.devRef .tc main_v157) : S8192x1.Idx → EReal) (ix2 r (0 : Fin 1)) = if r.val % 128 = 127 then (0 : EReal) else (1 : EReal) := by
  rw [val_v157]
  exact mark _ r.val 128 127 (by have := r.isLt; omega) (by decide) (by decide) (by decide) _ _ c1 c0
theorem first64 (r : Fin 4096) : (atA20 V (Proc.devRef .tc main_v163) : S4096x1.Idx → EReal) (ix2 r (0 : Fin 1)) = if r.val % 64 = 0 then (0 : EReal) else (1 : EReal) := by
  rw [val_v163]
  exact mark _ r.val 64 0 (by have := r.isLt; omega) (by decide) (by decide) (by decide) _ _ c1 c0
theorem last64 (r : Fin 4096) : (atA20 V (Proc.devRef .tc main_v166) : S4096x1.Idx → EReal) (ix2 r (0 : Fin 1)) = if r.val % 64 = 63 then (0 : EReal) else (1 : EReal) := by
  rw [val_v166]
  exact mark _ r.val 64 63 (by have := r.isLt; omega) (by decide) (by decide) (by decide) _ _ c1 c0

theorem c64th : (FloatOps.ofBits (F := Ideal) (φ := .f32) 0x3C800000#32 : EReal) = ((1 / 64 : ℝ) : EReal) := by
  show Ideal.ofBits .f32 0x3C800000#32 = _
  simp [Ideal.ofBits, Ideal.ieee, -EReal.coe_mul]; norm_num
theorem c64 : Ideal.ofBits .f32 0x42800000#32 = ((64 : ℝ) : EReal) := by
  simp [Ideal.ofBits, Ideal.ieee, -EReal.coe_mul]; norm_num

/-- The mean's weights: a 64th for the rows of the picture. -/
theorem mean_weight (b : Fin 64) (r : Fin 4096) : (atD3 V (Proc.devRef .tc main_v229) : S64x4096.Idx → EReal) (ix2 b r) = if r.val / 64 = b.val then ((1 / 64 : ℝ) : EReal) else (0 : EReal) := by
  rw [val_v229, val_v226, val_v227]
  have key : ∀ p q : EReal, p = ((1 / 64 : ℝ) : EReal) → q = ((0 : ℝ) : EReal) →
      Scalar.select (IntOp.cmpi .eq (IntOp.divsi .host (BitVec.ofNat 32 r.val) (BitVec.ofNat 32 64)) (BitVec.ofNat 32 b.val)) p q = if r.val / 64 = b.val then ((1 / 64 : ℝ) : EReal) else (0 : EReal) := fun p q hp hq => by
    have e := quo_word .host (BitVec.ofNat 32 r.val) r.val 64 (by rw [BitVec.toNat_ofNat]; have := r.isLt; omega) (by have := r.isLt; omega) (by decide) (by decide)
    rw [cmpi_eq_eq_toNat, select_decide, e, BitVec.toNat_ofNat, Nat.mod_eq_of_lt (by have := b.isLt; omega), hp, hq, EReal.coe_zero]
  exact key _ _ c64th c0

end Cert.Proof.KerTabs

end
-- ==== Proof.KerHeads.lean ====
/-
  The second and the third dense kernel's results: the second layer over the first, and the last layer's means weighed together.
-/
module

public import proofs.«01_k».proof.Proof.KerHead1
public import proofs.«01_k».proof.Proof.KerTabs

@[expose] public section

noncomputable section

namespace Cert.Proof.KerHead

open Cert.KernelIdeal Cert.KernelIdeal.Gen Cert.Proof.Host Cert.Proof.Tables Cert.Proof.Ring Cert.Proof.Layers Cert.Proof.Fold
open Cert.Proof.Head (unitRow pairMax conv2 conv3)
open Cert.Proof.Mags (pics)
open Cert.Proof.Image (Finite pic)
open Cert.Proof.Ref (level count at3_val at1_val)
open Idealize.ShloMosaic hiding ix0 ix1 ix2 ix3 ix4 ix5 ix6 ix7 ix8 ix9
open Idealize.ShloMosaic.StableHlo Idealize.ShloMosaic.ValueIdx
open Idealize.ShloMosaic.TcCoe
open Idealize.SL Idealize.SL.Sem
open scoped BigOperators

/-! ## A layer whose outer taps are masked at the ends -/

theorem masked {C N : ℕ} (W : ℕ → ℕ → ℕ → EReal) (β : ℕ → EReal) (x : ℕ → ℕ → EReal) (o t : ℕ) (ht : t < N)
    (q0 q1 q2 w0 w1 w2 : Fin C → EReal) (k0 k2 z : EReal)
    (h0 : 0 < t → ∀ c, q0 c = x c.val (t - 1)) (h1 : ∀ c, q1 c = x c.val t) (h2 : t + 1 < N → ∀ c, q2 c = x c.val (t + 1))
    (hk0 : k0 = if t = 0 then 0 else 1) (hk2 : k2 = if t + 1 = N then 0 else 1)
    (hw0 : ∀ c, w0 c = W o c.val 0) (hw1 : ∀ c, w1 c = W o c.val 1) (hw2 : ∀ c, w2 c = W o c.val 2) (hz : z = β o) :
    max ((((∑ c, (q0 c * k0) * w0 c) + ∑ c, q1 c * w1 c) + ∑ c, (q2 c * k2) * w2 c) + z) 0 = layer C N W β x o t := by
  unfold layer
  refine congrArg (max · 0) (congrArg₂ (· + ·) (congrArg₂ (· + ·) (congrArg₂ (· + ·) ?_ ?_) ?_) hz)
  · refine Finset.sum_congr rfl fun c _ => ?_
    rw [hw0, mul_comm]
    refine congrArg (W o c.val 0 * ·) ?_
    unfold padded
    by_cases h : t = 0
    · rw [hk0, if_pos h, mul_zero, if_neg (by omega)]
    · rw [hk0, if_neg h, mul_one, if_pos (show 0 < t ∧ t ≤ N by omega), h0 (by omega)]
  · refine Finset.sum_congr rfl fun c _ => ?_
    rw [hw1, mul_comm, h1]
    refine congrArg (W o c.val 1 * ·) ?_
    unfold padded
    rw [if_pos (show 0 < t + 1 ∧ t + 1 ≤ N by omega), Nat.add_sub_cancel]
  · refine Finset.sum_congr rfl fun c _ => ?_
    rw [hw2, mul_comm]
    refine congrArg (W o c.val 2 * ·) ?_
    unfold padded
    by_cases h : t + 1 = N
    · rw [hk2, if_pos h, mul_zero, if_neg (by omega)]
    · rw [hk2, if_neg h, mul_one, if_pos (show 0 < t + 2 ∧ t + 2 ≤ N by omega), h2 (by omega), show t + 2 - 1 = t + 1 by omega]

theorem conv2_of (x : ℕ → ℕ → ℕ → EReal) (W : ℕ → ℕ → ℕ → EReal) (β : ℕ → EReal) (X0 : S8194x32.Idx → EReal) (X1 X2 X3 : S16x32.Idx → EReal) (X4 : S1x32.Idx → EReal) (X5 X6 : S8192x1.Idx → EReal)
    (hx : ∀ (r : ℕ) (hr : r < 8192) (i : Fin 8194) (hi : i.val = r + 1) (j : Fin 32), X0 (ix2 i j) = x (r / 128) (j.val % 16) (r % 128 * 2 + j.val / 16))
    (h1 : ∀ c o, X1 (ix2 c o) = W o.val c.val 0) (h2 : ∀ c o, X2 (ix2 c o) = W o.val c.val 1) (h3 : ∀ c o, X3 (ix2 c o) = W o.val c.val 2)
    (h4 : ∀ o, X4 (ix2 (0 : Fin 1) o) = β o.val) (h5 : ∀ r, X5 (ix2 r (0 : Fin 1)) = if r.val % 128 = 0 then 0 else 1) (h6 : ∀ r, X6 (ix2 r (0 : Fin 1)) = if r.val % 128 = 127 then 0 else 1)
    (b : ℕ) (t : ℕ) (ht : t < 128) (r : Fin 8192) (hr : r.val = b * 128 + t) (o : Fin 32) :
    conv2 X0 X1 X2 X3 X4 X5 X6 r o = layer 16 128 W β (pairs (x b)) o.val t := by
  have hp : ∀ (R : Fin 8194) (u : ℕ), u < 128 → R.val = b * 128 + u + 1 → R.val < 8193 → ∀ c : Fin 16, pairMax (w := 16) (N := 32) rfl X0 R c = pairs (x b) c.val u := fun R u hu hR hlt c => by
    unfold pairMax pairs
    have hc := c.isLt
    rw [hx (b * 128 + u) (by omega) R hR, hx (b * 128 + u) (by omega) R hR, show (b * 128 + u) / 128 = b by omega, show (b * 128 + u) % 128 = u by omega]
    dsimp only
    rw [show c.val % 16 = c.val by omega, show (16 + c.val) % 16 = c.val by omega, show c.val / 16 = 0 by omega, show (16 + c.val) / 16 = 1 by omega, Nat.add_zero, Nat.mul_comm]
  have hr' := r.isLt
  unfold conv2
  refine masked W β (pairs (x b)) o.val t ht _ _ _ _ _ _ _ _ _ (fun h c => ?_) (fun c => ?_) (fun h c => ?_) ?_ ?_ (fun c => h1 c o) (fun c => h2 c o) (fun c => h3 c o) (h4 o)
  · exact hp _ (t - 1) (by omega) (by show 0 + r.val = _; omega) (by show 0 + r.val < _; omega) c
  · exact hp _ t (by omega) (by show 1 + r.val = _; omega) (by show 1 + r.val < _; omega) c
  · exact hp _ (t + 1) (by omega) (by show 2 + r.val = _; omega) (by show 2 + r.val < _; omega) c
  · rw [h5, hr, show (b * 128 + t) % 128 = t by omega]
  · rw [h6, hr, show (b * 128 + t) % 128 = t by omega]
    by_cases h : t = 127
    · rw [if_pos h, if_pos (by omega)]
    · rw [if_neg h, if_neg (by omega)]

theorem conv3_of (x : ℕ → ℕ → ℕ → EReal) (W : ℕ → ℕ → ℕ → EReal) (β : ℕ → EReal) (X0 : S4098x64.Idx → EReal) (X1 X2 X3 : S32x64.Idx → EReal) (X4 : S1x64.Idx → EReal) (X5 X6 : S4096x1.Idx → EReal)
    (hx : ∀ (r : ℕ) (hr : r < 4096) (i : Fin 4098) (hi : i.val = r + 1) (j : Fin 64), X0 (ix2 i j) = x (r / 64) (j.val % 32) (r % 64 * 2 + j.val / 32))
    (h1 : ∀ c o, X1 (ix2 c o) = W o.val c.val 0) (h2 : ∀ c o, X2 (ix2 c o) = W o.val c.val 1) (h3 : ∀ c o, X3 (ix2 c o) = W o.val c.val 2)
    (h4 : ∀ o, X4 (ix2 (0 : Fin 1) o) = β o.val) (h5 : ∀ r, X5 (ix2 r (0 : Fin 1)) = if r.val % 64 = 0 then 0 else 1) (h6 : ∀ r, X6 (ix2 r (0 : Fin 1)) = if r.val % 64 = 63 then 0 else 1)
    (b : ℕ) (t : ℕ) (ht : t < 64) (r : Fin 4096) (hr : r.val = b * 64 + t) (o : Fin 64) :
    conv3 X0 X1 X2 X3 X4 X5 X6 r o = layer 32 64 W β (pairs (x b)) o.val t := by
  have hp : ∀ (R : Fin 4098) (u : ℕ), u < 64 → R.val = b * 64 + u + 1 → R.val < 4097 → ∀ c : Fin 32, pairMax (w := 32) (N := 64) rfl X0 R c = pairs (x b) c.val u := fun R u hu hR hlt c => by
    unfold pairMax pairs
    have hc := c.isLt
    rw [hx (b * 64 + u) (by omega) R hR, hx (b * 64 + u) (by omega) R hR, show (b * 64 + u) / 64 = b by omega, show (b * 64 + u) % 64 = u by omega]
    dsimp only
    rw [show c.val % 32 = c.val by omega, show (32 + c.val) % 32 = c.val by omega, show c.val / 32 = 0 by omega, show (32 + c.val) / 32 = 1 by omega, Nat.add_zero, Nat.mul_comm]
  have hr' := r.isLt
  unfold conv3
  refine masked W β (pairs (x b)) o.val t ht _ _ _ _ _ _ _ _ _ (fun h c => ?_) (fun c => ?_) (fun h c => ?_) ?_ ?_ (fun c => h1 c o) (fun c => h2 c o) (fun c => h3 c o) (h4 o)
  · exact hp _ (t - 1) (by omega) (by show 0 + r.val = _; omega) (by show 0 + r.val < _; omega) c
  · exact hp _ t (by omega) (by show 1 + r.val = _; omega) (by show 1 + r.val < _; omega) c
  · exact hp _ (t + 1) (by omega) (by show 2 + r.val = _; omega) (by show 2 + r.val < _; omega) c
  · rw [h5, hr, show (b * 64 + t) % 64 = t by omega]
  · rw [h6, hr, show (b * 64 + t) % 64 = t by omega]
    by_cases h : t = 63
    · rw [if_pos h, if_pos (by omega)]
    · rw [if_neg h, if_neg (by omega)]

/-! ## The mean -/

theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s h ih =>
    rw [Finset.sum_insert h, Finset.sum_insert h, EReal.left_distrib_of_nonneg_of_ne_top (EReal.coe_nonneg.mpr hc) (EReal.coe_ne_top c), ih]
theorem sum_mul {ι : Type} (s : Finset ι) (f : ι → EReal) (hf : ∀ i, 0 ≤ f i) (w : EReal) : (∑ i ∈ s, f i) * w = ∑ i ∈ s, f i * w := by
  classical
  induction s using Finset.induction_on with
  | empty => simp
  | insert a s h ih =>
    rw [Finset.sum_insert h, Finset.sum_insert h, EReal.right_distrib_of_nonneg (hf a) (Finset.sum_nonneg fun i _ => hf i), ih]

/-- The rows of one picture among all. -/
theorem rows_of (b : Fin 64) (G : ℕ → EReal) : (∑ r : Fin 4096, if r.val / 64 = b.val then G r.val else 0) = ∑ t : Fin 64, G (b.val * 64 + t.val) := by
  refine (Equiv.sum_comp (finProdFinEquiv : Fin 64 × Fin 64 ≃ Fin (64 * 64)) (fun r => if r.val / 64 = b.val then G r.val else 0)).symm.trans ?_
  rw [Fintype.sum_prod_type]
  have hv : ∀ a t : Fin 64, (finProdFinEquiv (a, t)).val = a.val * 64 + t.val := fun a t => by
    show t.val + 64 * a.val = _
    omega
  rw [Finset.sum_eq_single b]
  · refine Finset.sum_congr rfl fun t _ => ?_
    rw [hv, if_pos (by omega)]
  · intro a _ ha
    refine Finset.sum_eq_zero fun t _ => ?_
    rw [hv, if_neg fun e => ha (Fin.ext (by omega))]
  · exact fun h => (h (Finset.mem_univ _)).elim

theorem mean_of (b : Fin 64) (u : ℕ → ℕ → ℕ → EReal) (hu : ∀ b o t, 0 ≤ u b o t) (w : Fin 64 → EReal) (s : EReal) (hs : s = ((64 : ℝ) : EReal)) :
    (∑ r : Fin 4096, (if r.val / 64 = b.val then ((1 / 64 : ℝ) : EReal) else 0) * ∑ o : Fin 64, u (r.val / 64) o.val (r.val % 64) * w o)
      = ∑ o : Fin 64, Ideal.div (∑ t : Fin 64, u b.val o.val t.val) s * w o := by
  have e1 : ∀ r : Fin 4096, (if r.val / 64 = b.val then ((1 / 64 : ℝ) : EReal) else 0) * (∑ o : Fin 64, u (r.val / 64) o.val (r.val % 64) * w o)
      = if r.val / 64 = b.val then ((1 / 64 : ℝ) : EReal) * (∑ o : Fin 64, u (r.val / 64) o.val (r.val % 64) * w o) else 0 := fun r => by
    split
    · rfl
    · exact zero_mul _
  rw [Finset.sum_congr rfl fun r _ => e1 r, rows_of b fun r => ((1 / 64 : ℝ) : EReal) * ∑ o : Fin 64, u (r / 64) o.val (r % 64) * w o]
  have e2 : ∀ t : Fin 64, ((1 / 64 : ℝ) : EReal) * (∑ o : Fin 64, u ((b.val * 64 + t.val) / 64) o.val ((b.val * 64 + t.val) % 64) * w o)
      = ∑ o : Fin 64, (((1 / 64 : ℝ) : EReal) * u b.val o.val t.val) * w o := fun t => by
    rw [show (b.val * 64 + t.val) / 64 = b.val by omega, show (b.val * 64 + t.val) % 64 = t.val by omega, mul_sum _ _ (by norm_num)]
    exact Finset.sum_congr rfl fun o _ => (mul_assoc _ _ _).symm
  rw [Finset.sum_congr rfl fun t _ => e2 t, Finset.sum_comm]
  refine Finset.sum_congr rfl fun o _ => ?_
  rw [← sum_mul _ (fun t : Fin 64 => ((1 / 64 : ℝ) : EReal) * u b.val o.val t.val) (fun t => mul_nonneg (EReal.coe_nonneg.mpr (by norm_num)) (hu _ _ _)) (w o),
    ← mul_sum _ _ (by norm_num), hs, Ideal.div_coe (by norm_num), mul_comm ((1 / 64 : ℝ) : EReal)]

/-! ## The second kernel -/

variable (m : (ℓ : Loc nD τ sig) → Buf (Elt Ideal) ℓ) (d : Dev nD)

theorem V6_def : V6 m d = atC1 (V5 m d) := rfl
theorem V8_def : V8 m d = atD3 (V7 m d) := rfl

theorem kept6 (r : Ref sig .tc) (hC : r ∉ restC0) (h : r ≠ main_v195) : V6 m d (Proc.devRef .tc r) = V4 m d (Proc.devRef .tc r) := by
  rw [V6_def, endC0 _ r hC]; unfold atC0 V5; exact upd_other _ _ _ _ h
theorem kept8 (r : Ref sig .tc) (hD : r ∉ restD0) (h : r ≠ main_v210) : V8 m d (Proc.devRef .tc r) = V6 m d (Proc.devRef .tc r) := by
  rw [V8_def, endD0 _ r hD]; unfold atD0 V7; exact upd_other _ _ _ _ h

theorem in_first : (V6 m d (Proc.devRef .tc main_v195) : S64x4096.Idx → EReal) = head1Res m d := by
  rw [V6_def, endC0 _ main_v195 (by decide)]; unfold atC0 V5
  exact Function.update_self (Proc.devRef .tc main_v195 : DevRef τ sig) _ _
theorem in_second : (V8 m d (Proc.devRef .tc main_v210) : S8192x32.Idx → EReal) = head2Res m d := by
  rw [V8_def, endD0 _ main_v210 (by decide)]; unfold atD0 V7
  exact Function.update_self (Proc.devRef .tc main_v210 : DevRef τ sig) _ _

/-- The second layer's values. -/
def second (b : Fin 64) : ℕ → ℕ → EReal :=
  layer 16 128 (at3 (m ((d.tc : Thread nD τ).loc main_arg3) : S32x16x3.Idx → EReal)) (at1 (m ((d.tc : Thread nD τ).loc main_arg4) : S32.Idx → EReal)) (pairs (first m d b))
/-- The third layer's values. -/
def third (b : Fin 64) : ℕ → ℕ → EReal :=
  layer 32 64 (at3 (m ((d.tc : Thread nD τ).loc main_arg5) : S64x32x3.Idx → EReal)) (at1 (m ((d.tc : Thread nD τ).loc main_arg6) : S64.Idx → EReal)) (pairs (second m d b))

/-- A picture by its number. -/
def nth (x : Fin 64 → ℕ → ℕ → EReal) (b : ℕ) : ℕ → ℕ → EReal := if h : b < 64 then x ⟨b, h⟩ else fun _ _ => 0

theorem nth_val (x : Fin 64 → ℕ → ℕ → EReal) (b : Fin 64) : nth x b.val = x b := dif_pos b.isLt

theorem arg3_at6 : (atC1 (V5 m d) (Proc.devRef .tc main_arg3) : S32x16x3.Idx → EReal) = m ((d.tc : Thread nD τ).loc main_arg3) :=
  (kept6 m d main_arg3 (by decide) (by decide)).trans (arg_val m d main_arg3 (by decide) (by decide) (by decide) (by decide))
theorem arg4_at6 : (atC1 (V5 m d) (Proc.devRef .tc main_arg4) : S32.Idx → EReal) = m ((d.tc : Thread nD τ).loc main_arg4) :=
  (kept6 m d main_arg4 (by decide) (by decide)).trans (arg_val m d main_arg4 (by decide) (by decide) (by decide) (by decide))
theorem arg_at8 (r : Ref sig .tc) (hA : r ∉ restA0) (hB : r ∉ restB0) (hC : r ∉ restC0) (hD : r ∉ restD0)
    (h1 : r ≠ main_v167) (h2 : r ≠ main_v168) (h3 : r ≠ main_v195) (h4 : r ≠ main_v210) :
    atD3 (V7 m d) (Proc.devRef .tc r) = m ((d.tc : Thread nD τ).loc r) :=
  (kept8 m d r hD h4).trans ((kept6 m d r hC h3).trans (arg_val m d r h1 h2 hB hA))

section
variable (h : Finite (pics m d))
include h

theorem rows_first (r : ℕ) (hr : r < 8192) (i : Fin 8194) (hi : i.val = r + 1) (j : Fin 32) :
    (V6 m d (Proc.devRef .tc main_v199) : S8194x32.Idx → EReal) (ix2 i j) = nth (first m d) (r / 128) (j.val % 16) (r % 128 * 2 + j.val / 16) := by
  have hj := j.isLt
  refine (congrFun (val_v199 (V5 m d)) _).trans ?_
  refine (KerTabs.rows2 _ r hr i hi j ⟨r / 128, by omega⟩ ⟨j.val % 16 * 256 + r % 128 * 2 + j.val / 16, by omega⟩ rfl rfl).trans ?_
  refine (congrFun (in_first m d) _).trans ?_
  refine (head1_val m d h ⟨r / 128, by omega⟩ (j.val % 16) (r % 128 * 2 + j.val / 16) (by omega) (by omega) _ (Nat.add_assoc _ _ _)).trans ?_
  exact congrFun (congrFun (nth_val (first m d) ⟨r / 128, by omega⟩).symm _) _

theorem head2_val (b : Fin 64) (t : ℕ) (ht : t < 128) (r : Fin 8192) (hr : r.val = b.val * 128 + t) (o : Fin 32) :
    head2Res m d (ix2 r o) = second m d b o.val t := by
  unfold head2Res
  rw [HeadArrs.head2_eq]
  refine (Head.head2_apply _ _ _ _ _ _ _ r o).trans ?_
  refine (conv2_of (nth (first m d)) (at3 (m ((d.tc : Thread nD τ).loc main_arg3) : S32x16x3.Idx → EReal)) (at1 (m ((d.tc : Thread nD τ).loc main_arg4) : S32.Idx → EReal)) _ _ _ _ _ _ _
    (rows_first m d h) (fun c o => ?_) (fun c o => ?_) (fun c o => ?_) (fun o => ?_) (fun r => ?_) (fun r => ?_) b.val t ht r hr o).trans ?_
  · refine (congrFun (val_v202 (V5 m d)) _).trans ((KerTabs.tap2_0 _ c o).trans ?_)
    rw [arg3_at6]; exact at3_val _ _ _ _ _ _ _ rfl rfl rfl
  · refine (congrFun (val_v205 (V5 m d)) _).trans ((KerTabs.tap2_1 _ c o).trans ?_)
    rw [arg3_at6]; exact at3_val _ _ _ _ _ _ _ rfl rfl rfl
  · refine (congrFun (val_v208 (V5 m d)) _).trans ((KerTabs.tap2_2 _ c o).trans ?_)
    rw [arg3_at6]; exact at3_val _ _ _ _ _ _ _ rfl rfl rfl
  · refine (congrFun (val_v209 (V5 m d)) _).trans ((KerTabs.row32 _ o).trans ?_)
    rw [arg4_at6]; exact at1_val _ _
  · refine (congrFun ((kept6 m d main_v154 (by decide) (by decide)).trans (early m d main_v154 (by decide) (by decide) (by decide))) _).trans ?_
    exact KerTabs.first128 _ r
  · refine (congrFun ((kept6 m d main_v157 (by decide) (by decide)).trans (early m d main_v157 (by decide) (by decide) (by decide))) _).trans ?_
    exact KerTabs.last128 _ r
  · rw [nth_val]; rfl

theorem rows_second (r : ℕ) (hr : r < 4096) (i : Fin 4098) (hi : i.val = r + 1) (j : Fin 64) :
    (V8 m d (Proc.devRef .tc main_v213) : S4098x64.Idx → EReal) (ix2 i j) = nth (second m d) (r / 64) (j.val % 32) (r % 64 * 2 + j.val / 32) := by
  have hj := j.isLt
  refine (congrFun (val_v213 (V7 m d)) _).trans ?_
  refine (KerTabs.rows3 _ r hr i hi j ⟨r * 2 + j.val / 32, by omega⟩ ⟨j.val % 32, by omega⟩ rfl rfl).trans ?_
  refine (congrFun (in_second m d) _).trans ?_
  refine (head2_val m d h ⟨r / 64, by omega⟩ (r % 64 * 2 + j.val / 32) (by omega) _ (by dsimp only; omega) _).trans ?_
  exact congrFun (congrFun (nth_val (second m d) ⟨r / 64, by omega⟩).symm _) _

/-- The result of the whole kernel. -/
theorem final_val (b : Fin 64) : finalRes m d (ix2 b (0 : Fin 1))
    = (∑ o : Fin 64, Ideal.div (∑ t : Fin 64, third m d b o.val t.val) (Ideal.ofBits .f32 0x42800000#32) * (m ((d.tc : Thread nD τ).loc main_arg7) : S1x64.Idx → EReal) (ix2 (0 : Fin 1) o))
      + (m ((d.tc : Thread nD τ).loc main_arg8) : S1.Idx → EReal) (ix1 (0 : Fin 1)) := by
  unfold finalRes
  rw [HeadArrs.head3_eq]
  refine (Head.head3_apply _ _ _ _ _ _ _ _ _ _ b).trans ?_
  have hw : ∀ o : Fin 64, (V8 m d (Proc.devRef .tc main_v230) : S64x1.Idx → EReal) (ix2 o (0 : Fin 1)) = (m ((d.tc : Thread nD τ).loc main_arg7) : S1x64.Idx → EReal) (ix2 (0 : Fin 1) o) := fun o => by
    refine (congrFun (val_v230 (V7 m d)) _).trans ((KerTabs.col64 _ o).trans ?_)
    rw [arg_at8 m d main_arg7 (by decide) (by decide) (by decide) (by decide) (by decide) (by decide) (by decide) (by decide)]; rfl
  have hb : (V8 m d (Proc.devRef .tc main_v231) : S1x1.Idx → EReal) (ix2 (0 : Fin 1) (0 : Fin 1)) = (m ((d.tc : Thread nD τ).loc main_arg8) : S1.Idx → EReal) (ix1 (0 : Fin 1)) := by
    refine (congrFun (val_v231 (V7 m d)) _).trans ((KerTabs.one1 _).trans ?_)
    rw [arg_at8 m d main_arg8 (by decide) (by decide) (by decide) (by decide) (by decide) (by decide) (by decide) (by decide)]; rfl
  have hm : ∀ r : Fin 4096, (V8 m d (Proc.devRef .tc main_v229) : S64x4096.Idx → EReal) (ix2 b r) = if r.val / 64 = b.val then ((1 / 64 : ℝ) : EReal) else (0 : EReal) := fun r =>
    KerTabs.mean_weight (V7 m d) b r
  have hc : ∀ (r : Fin 4096) (o : Fin 64), conv3 (V8 m d (Proc.devRef .tc main_v213)) (V8 m d (Proc.devRef .tc main_v216)) (V8 m d (Proc.devRef .tc main_v219)) (V8 m d (Proc.devRef .tc main_v222))
      (V8 m d (Proc.devRef .tc main_v223)) (V8 m d (Proc.devRef .tc main_v163)) (V8 m d (Proc.devRef .tc main_v166)) r o = nth (third m d) (r.val / 64) o.val (r.val % 64) := fun r o => by
    have hr := r.isLt
    refine (conv3_of (nth (second m d)) (at3 (m ((d.tc : Thread nD τ).loc main_arg5) : S64x32x3.Idx → EReal)) (at1 (m ((d.tc : Thread nD τ).loc main_arg6) : S64.Idx → EReal)) _ _ _ _ _ _ _
      (rows_second m d h) (fun c o => ?_) (fun c o => ?_) (fun c o => ?_) (fun o => ?_) (fun r => ?_) (fun r => ?_) (r.val / 64) (r.val % 64) (by omega) r (by omega) o).trans ?_
    · refine (congrFun (val_v216 (V7 m d)) _).trans ((KerTabs.tap3_0 _ c o).trans ?_)
      rw [arg_at8 m d main_arg5 (by decide) (by decide) (by decide) (by decide) (by decide) (by decide) (by decide) (by decide)]; exact at3_val _ _ _ _ _ _ _ rfl rfl rfl
    · refine (congrFun (val_v219 (V7 m d)) _).trans ((KerTabs.tap3_1 _ c o).trans ?_)
      rw [arg_at8 m d main_arg5 (by decide) (by decide) (by decide) (by decide) (by decide) (by decide) (by decide) (by decide)]; exact at3_val _ _ _ _ _ _ _ rfl rfl rfl
    · refine (congrFun (val_v222 (V7 m d)) _).trans ((KerTabs.tap3_2 _ c o).trans ?_)
      rw [arg_at8 m d main_arg5 (by decide) (by decide) (by decide) (by decide) (by decide) (by decide) (by decide) (by decide)]; exact at3_val _ _ _ _ _ _ _ rfl rfl rfl
    · refine (congrFun (val_v223 (V7 m d)) _).trans ((KerTabs.row64 _ o).trans ?_)
      rw [arg_at8 m d main_arg6 (by decide) (by decide) (by decide) (by decide) (by decide) (by decide) (by decide) (by decide)]; exact at1_val _ _
    · refine (congrFun ((kept8 m d main_v163 (by decide) (by decide)).trans ((kept6 m d main_v163 (by decide) (by decide)).trans (early m d main_v163 (by decide) (by decide) (by decide)))) _).trans ?_
      exact KerTabs.first64 _ r
    · refine (congrFun ((kept8 m d main_v166 (by decide) (by decide)).trans ((kept6 m d main_v166 (by decide) (by decide)).trans (early m d main_v166 (by decide) (by decide) (by decide)))) _).trans ?_
      exact KerTabs.last64 _ r
    · have e1 := nth_val (second m d) ⟨r.val / 64, by omega⟩
      have e2 := nth_val (third m d) ⟨r.val / 64, by omega⟩
      dsimp only at e1 e2
      rw [e1, e2]; rfl
  refine congrArg₂ (· + ·) ?_ hb
  refine (Finset.sum_congr rfl fun r _ => congrArg₂ (HMul.hMul (α := EReal) (β := EReal) (γ := EReal)) (hm r) (Finset.sum_congr rfl fun o _ => congrArg₂ (HMul.hMul (α := EReal) (β := EReal) (γ := EReal)) (hc r o) (hw o))).trans ?_
  refine (mean_of b (nth (third m d)) (fun b o t => ?_) _ _ KerTabs.c64).trans ?_
  · unfold nth
    split
    · exact layer_nonneg _ _ _ _ _ _ _
    · exact le_rfl
  · rw [nth_val]

end

end Cert.Proof.KerHead

end
-- ==== Proof.Same.lean ====
/-
  The idealised kernel's text is the kernel's own: the body tables and the threads of the two modules are equal, at any float values.
-/
module

public import proofs.«01_k».proof.Proof.Gen.Kernel
public import proofs.«01_k».proof.Proof.Gen.KernelIdeal

@[expose] public section

noncomputable section

namespace Cert.Proof.Same

open Idealize.ShloMosaic Idealize.SL Idealize.SL.Sem
open Cert.Kernel.Gen Cert.KernelIdeal.Gen

variable {F : FTy → Type} [FloatOps F]

set_option maxHeartbeats 2000000 in
/-- The bodies, label by label. -/
theorem bodies_eq : @Cert.Kernel.defs₀ F _ _ = @Cert.KernelIdeal.defs₀ F _ _ := by
  funext p l a
  match p, l, a with
  | .tc, 0, (t, s) => rfl
  | .tc, 1, _ => rfl
  | .tc, 2, (t, s) => rfl
  | .tc, 3, (t, s) => rfl
  | .tc, 4, (t, s) => rfl
  | .scVector c s, 0, _ => rfl
  | .scVector c s, 1, _ => rfl
  | .scVector c s, 2, _ => rfl
  | .scVector c s, 3, _ => rfl
  | .scVector c s, 4, _ => rfl
  | .scScalar c, 0, _ => rfl
  | .scScalar c, 1, _ => rfl
  | .scScalar c, 2, _ => rfl
  | .scScalar c, 3, _ => rfl
  | .scScalar c, 4, _ => rfl

set_option maxHeartbeats 2000000 in
/-- The whole tables. -/
theorem defs_eq : @Cert.Kernel.defs F _ _ = @Cert.KernelIdeal.defs F _ _ :=
  (congrArg (fun D => Cert.Kernel.sc.defs (Pipeline.defs Cert.Kernel.pcfgs D)) bodies_eq).trans rfl

set_option maxHeartbeats 2000000 in
/-- The host function. -/
theorem main_same : @Cert.Kernel.main F _ _ = @Cert.KernelIdeal.main F _ _ := by rfl

set_option maxHeartbeats 2000000 in
/-- The threads. -/
theorem threads_eq : Cert.Kernel.threads (F := F) = Cert.KernelIdeal.threads (F := F) :=
  (congrArg (fun P => Cert.Kernel.sc.threads P) main_same).trans rfl

end Cert.Proof.Same

end
-- ==== Proof.lean ====
/-
  The proof of the claims: both programs and the reference run from every memory and leave nothing pending, the idealised kernel
  is the kernel's own text, and on a finite picture the kernel's 64 results are the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite_image
public import proofs.«01_k».proof.Proof.Main
public import proofs.«01_k».proof.Proof.KerHeads
public import proofs.«01_k».proof.Proof.RefHeads
public import proofs.«01_k».proof.Proof.Same
public import Idealize.ShloMosaic.Adequacy
public import Idealize.ShloMosaic.Init

@[expose] public section

noncomputable section

namespace Cert.Proof

open Idealize.ShloMosaic Idealize.SL Idealize.SL.Sem

section

open Cert.KernelIdeal Cert.Proof.Host

variable {F : FTy → Type} [FloatOps F] [∀ e, Nonempty (Elt F e)]

/-- What the run says of one device's buffers. -/
abbrev Ends (m : (ℓ : Loc nD τ sig) → Buf (Elt F) ℓ) (c : Dev nD) (μ : (ℓ : Loc nD τ sig) → Buf (Elt F) ℓ) : Prop :=
  ∀ b : Ref sig .tc, b.isScoped = false → μ ((c.tc : Thread nD τ).loc b) = Ring.V9 m c (Proc.devRef .tc b)

/-- A buffer that no step writes ends as it began. -/
theorem stays {m : (ℓ : Loc nD τ sig) → Buf (Elt F) ℓ} {c : Dev nD} {μ : (ℓ : Loc nD τ sig) → Buf (Elt F) ℓ} (h : Ends m c μ)
    (r : Ref sig .tc) (hs : r.isScoped = false) (hA : r ∉ restA0) (hB : r ∉ restB0) (hC : r ∉ restC0) (hD : r ∉ restD0)
    (hw : r ∉ ([main_v167, main_v168, main_v195, main_v210, main_v232] : List (Ref sig .tc))) :
    μ ((c.tc : Thread nD τ).loc r) = m ((c.tc : Thread nD τ).loc r) :=
  (h r hs).trans (Ring.kept m c r hA hB hC hD hw)

/-- All nine arguments end as they began. -/
theorem args_stay {m : (ℓ : Loc nD τ sig) → Buf (Elt F) ℓ} {c : Dev nD} {μ : (ℓ : Loc nD τ sig) → Buf (Elt F) ℓ} (h : Ends m c μ) :
    μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8) :=
  ⟨stays h main_arg0 rfl (by decide) (by decide) (by decide) (by decide) (by decide),
    stays h main_arg1 rfl (by decide) (by decide) (by decide) (by decide) (by decide),
    stays h main_arg2 rfl (by decide) (by decide) (by decide) (by decide) (by decide),
    stays h main_arg3 rfl (by decide) (by decide) (by decide) (by decide) (by decide),
    stays h main_arg4 rfl (by decide) (by decide) (by decide) (by decide) (by decide),
    stays h main_arg5 rfl (by decide) (by decide) (by decide) (by decide) (by decide),
    stays h main_arg6 rfl (by decide) (by decide) (by decide) (by decide) (by decide),
    stays h main_arg7 rfl (by decide) (by decide) (by decide) (by decide) (by decide),
    stays h main_arg8 rfl (by decide) (by decide) (by decide) (by decide) (by decide)⟩

/-- The result ends as the last call's. -/
theorem result_is {m : (ℓ : Loc nD τ sig) → Buf (Elt F) ℓ} {c : Dev nD} {μ : (ℓ : Loc nD τ sig) → Buf (Elt F) ℓ} (h : Ends m c μ) :
    μ ((c.tc : Thread nD τ).loc main_v232) = Ring.finalRes m c :=
  (h main_v232 rfl).trans (Function.update_self ..)

/-- From any memory the run ends with the arguments as they began and no semaphore raised. -/
theorem run_frame (m : (ℓ : Loc nD τ sig) → Buf (Elt F) ℓ) (ρ : Dev nD → PrngReg) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_stay (h.1 c), h.2⟩) (Ring.run_main m ρ)

end

set_option maxHeartbeats 4000000 in
theorem frame_kernel : Cert.quiescent_Kernel := by
  intro m ρ _
  have e := run_frame (F := Bits) m ρ
  rw [← Same.defs_eq, ← Same.threads_eq] at e
  exact e

theorem frame_kernelIdeal : Cert.quiescent_KernelIdeal := fun m ρ _ => run_frame (F := Ideal) m ρ

theorem frame_kernelIdeal_pre : Cert.quiescent_KernelIdeal_pre_finite_image := fun m ρ _ => frame_kernelIdeal m ρ trivial

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_image := fun m ρ _ => frame_reference m ρ trivial

/-- On equal arguments the two results are one array. -/
theorem results_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h : Image.Finite (Mags.pics m c))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6))
    (h7 : V (Proc.devRef .tc Cert.ReferenceIdeal.main_arg7) = m ((c.tc : Thread Cert.KernelIdeal.nD Cert.KernelIdeal.τ).loc Cert.KernelIdeal.main_arg7))
    (h8 : V (Proc.devRef .tc Cert.ReferenceIdeal.main_arg8) = m ((c.tc : Thread Cert.KernelIdeal.nD Cert.KernelIdeal.τ).loc Cert.KernelIdeal.main_arg8)) :
    (Cert.ReferenceIdeal.Value.val4 V (Proc.devRef .tc Cert.ReferenceIdeal.main_v181) : Cert.ReferenceIdeal.S64x1.Idx → EReal) = Ring.finalRes m c := by
  funext i
  have hi : i = ix2 (i 0) 0 := by
    funext x
    match x with
    | 0 => rfl
    | 1 => exact Subsingleton.elim (α := Fin 1) _ _
  rw [hi]
  have hX : Image.Finite (Ref.given V) := by
    have e : Ref.given V = Mags.pics m c := h0
    rw [e]; exact h
  refine (Ref.out_val V hX (i 0)).trans (Eq.trans ?_ (KerHead.final_val m c h (i 0)).symm)
  have e : Ref.given V = Mags.pics m c := h0
  rw [e, h1, h2, h3, h4, h5, h6, h7, h8]
  rfl

theorem algebraic : Cert.algebraic_KernelIdeal_ReferenceIdeal_pre_finite_image := by
  intro m ρ m' ρ' hpre hag
  refine ⟨fun d => Ring.finalRes m d, ?_, ?_⟩
  · exact (θ_run Cert.KernelIdeal.defs _ _).mono (fun _ h c => ⟨result_is (h.1 c), args_stay (h.1 c)⟩) (Ring.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hag c
    exact (Cert.ReferenceIdeal.Value.val4_main_v181 (StableHlo.launchContents m' c)).symm.trans
      (results_eq m c (StableHlo.launchContents m' c) (Image.finite_of_pre (hpre c)) h0 h1 h2 h3 h4 h5 h6 h7 h8)

theorem claim : Cert.Claim := ⟨Cert.Kernel.Gen.facts, Cert.KernelIdeal.Gen.facts, Cert.ReferenceIdeal.Gen.facts, Cert.Pre_finite_image.Gen.facts,
  frame_kernel, frame_kernelIdeal, frame_kernelIdeal_pre, frame_reference, frame_reference_pre, trivial, algebraic⟩

end Cert.Proof

end
